-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_bounded : Cert.Pre_bounded.Facts] (m : (ℓ : Loc Cert.Kernel5.nD Cert.Kernel5.τ Cert.Kernel5.sig) → Buf (Elt Bits) ℓ) : Prop :=
  ∀ c : Dev Cert.Kernel5.nD,
    (Cert.Pre_bounded.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))) = (fun _ => 1#1)

def Pre_Kernel5Ideal [hPre_bounded : Cert.Pre_bounded.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Kernel5Ideal_routed [hPre_routed : Cert.Pre_routed.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_routed.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_routed [hPre_routed : Cert.Pre_routed.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_routed.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] [hPre_bounded : Cert.Pre_bounded.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] [hPre_bounded : Cert.Pre_bounded.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_routed [hKernel5Ideal : Cert.Kernel5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_routed m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_routed [hReference5Ideal : Cert.Reference5Ideal.Facts] [hPre_routed : Cert.Pre_routed.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_routed m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v12_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v149) = v2 c
          ∧ r.2.mem ((c.tc : Thread Cert.ReferenceIdeal.nD Cert.ReferenceIdeal.τ).loc Cert.ReferenceIdeal.main_v146) = v3 c
          ∧ r.2.mem ((c.tc : Thread Cert.ReferenceIdeal.nD Cert.ReferenceIdeal.τ).loc Cert.ReferenceIdeal.main_v150) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_v59) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal_on_occupied_pre_routed [hKernel5Ideal : Cert.Kernel5Ideal.Facts] [hReference5Ideal : Cert.Reference5Ideal.Facts] [hPre_routed : Cert.Pre_routed.Facts] [hOn_occupied : Cert.On_occupied.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_routed m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨2, ![41984, 1024]⟩ : Shape).Idx, (Cert.On_occupied.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) i = 1#1 → r.2.mem ((c.tc : Thread Cert.Kernel5Ideal.nD Cert.Kernel5Ideal.τ).loc Cert.Kernel5Ideal.main_v0) i = v0 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨2, ![41984, 1024]⟩ : Shape).Idx, (Cert.On_occupied.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) i = 1#1 → r.2.mem ((c.tc : Thread Cert.Reference5Ideal.nD Cert.Reference5Ideal.τ).loc Cert.Reference5Ideal.main_v116) i = v0 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v32_1)) (v1 : (c : Dev Cert.Kernel6Ideal.nD) → Buf (Elt Ideal) ((c.tc : Thread Cert.Kernel6Ideal.nD Cert.Kernel6Ideal.τ).loc Cert.Kernel6Ideal.main_v32_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v32_1) = v0 c
          ∧ r.2.mem ((c.tc : Thread Cert.Kernel6Ideal.nD Cert.Kernel6Ideal.τ).loc Cert.Kernel6Ideal.main_v32_2) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v16_0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v16_0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v52) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_bounded : Cert.Pre_bounded.Facts) (hPre_routed : Cert.Pre_routed.Facts) (hOn_occupied : Cert.On_occupied.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_bounded := hPre_bounded)
    ∧ quiescent_Kernel5Ideal (hKernel5Ideal := hKernel5Ideal) (hPre_bounded := hPre_bounded)
    ∧ quiescent_Kernel5Ideal_pre_routed (hKernel5Ideal := hKernel5Ideal) (hPre_routed := hPre_routed)
    ∧ quiescent_Reference5Ideal (hReference5Ideal := hReference5Ideal)
    ∧ quiescent_Reference5Ideal_pre_routed (hReference5Ideal := hReference5Ideal) (hPre_routed := hPre_routed)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_on_occupied_pre_routed (hKernel5Ideal := hKernel5Ideal) (hReference5Ideal := hReference5Ideal) (hPre_routed := hPre_routed) (hOn_occupied := hOn_occupied)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== On_occupied.lean ====
abbrev S44032x1024 : Shape := ⟨2, ![44032, 1024]⟩
abbrev S41 : Shape := ⟨1, ![41]⟩
abbrev S1 : Shape := ⟨1, ![1]⟩
abbrev S8x1024x3584 : Shape := ⟨3, ![8, 1024, 3584]⟩
abbrev S8x3584x1024 : Shape := ⟨3, ![8, 3584, 1024]⟩
abbrev S41x1 : Shape := ⟨2, ![41, 1]⟩
abbrev S1024 : Shape := ⟨1, ![1024]⟩
abbrev S1x1024 : Shape := ⟨2, ![1, 1024]⟩
abbrev S_ : Shape := ⟨0, ![]⟩
abbrev S41x1024 : Shape := ⟨2, ![41, 1024]⟩
abbrev S41984x1 : Shape := ⟨2, ![41984, 1]⟩
abbrev S41984x1024 : Shape := ⟨2, ![41984, 1024]⟩

class Facts : Prop where
  bcast_S41_S41x1_0 : S41.BroadcastsInDim S41x1 (![0] : Fin 1 → Fin S41x1.rank)
  bcast_S1024_S1x1024_1 : S1024.BroadcastsInDim S1x1024 (![1] : Fin 1 → Fin S1x1024.rank)
  shapeCasts_S1_S_ : S1.ShapeCasts S_
  bcast_S_S41x1 : S_.BroadcastsInDim S41x1 (![] : Fin 0 → Fin S41x1.rank)
  bcast_S1x1024_S41x1024_0_1 : S1x1024.BroadcastsInDim S41x1024 (![0, 1] : Fin 2 → Fin S41x1024.rank)
  bcast_S41x1_S41x1024_0_1 : S41x1.BroadcastsInDim S41x1024 (![0, 1] : Fin 2 → Fin S41x1024.rank)
  shapeCasts_S41x1024_S41984x1 : S41x1024.ShapeCasts S41984x1
  bcast_S41984x1_S41984x1024_0_1 : S41984x1.BroadcastsInDim S41984x1024 (![0, 1] : Fin 2 → Fin S41984x1024.rank)

variable [Facts]

def fn {F : FTy → Type} [FloatOps F] (main_arg0 : FVec F S44032x1024 .f32) (main_arg1 : IVec S41 32) (main_arg2 : IVec S41 32) (main_arg3 : IVec S1 32) (main_arg4 : FVec F S8x1024x3584 .f32) (main_arg5 : FVec F S8x1024x3584 .f32) (main_arg6 : FVec F S8x3584x1024 .f32) : IVec S41984x1024 1 :=
  let main_v0 : IVec S41 32 := iotaInDim S41 32 0
  let main_v1 : IVec S41x1 32 := broadcastInDim S41x1 ![0] bcast_S41_S41x1_0 main_v0
  let main_v2 : IVec S1024 32 := iotaInDim S1024 32 0
  let main_v3 : IVec S1x1024 32 := broadcastInDim S1x1024 ![1] bcast_S1024_S1x1024_1 main_v2
  let main_v4 : IVec S_ 32 := shapeCast S_ main_arg3 shapeCasts_S1_S_
  let main_v5 : IVec S41x1 32 := broadcastInDim S41x1 ![] bcast_S_S41x1 main_v4
  let main_v6 : IVec S41x1 1 := cmpi .slt main_v1 main_v5
  let main_v7 : IVec S41x1 32 := broadcastInDim S41x1 ![0] bcast_S41_S41x1_0 main_arg2
  let main_v8 : IVec S41x1024 32 := broadcastInDim S41x1024 ![0, 1] bcast_S1x1024_S41x1024_0_1 main_v3
  let main_v9 : IVec S41x1024 32 := broadcastInDim S41x1024 ![0, 1] bcast_S41x1_S41x1024_0_1 main_v7
  let main_v10 : IVec S41x1024 1 := cmpi .slt main_v8 main_v9
  let main_v11 : IVec S41x1024 1 := broadcastInDim S41x1024 ![0, 1] bcast_S41x1_S41x1024_0_1 main_v6
  let main_v12 : IVec S41x1024 1 := andi main_v11 main_v10
  let main_v13 : IVec S41984x1 1 := shapeCast S41984x1 main_v12 shapeCasts_S41x1024_S41984x1
  let main_v14 : IVec S41984x1024 1 := broadcastInDim S41984x1024 ![0, 1] bcast_S41984x1_S41984x1024_0_1 main_v13
  main_v14
-- ==== Pre_bounded.lean ====
abbrev S44032x1024 : Shape := ⟨2, ![44032, 1024]⟩
abbrev S41 : Shape := ⟨1, ![41]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S41 : S_.BroadcastsInDim S41 (![] : Fin 0 → Fin S41.rank)
  reducesTo_S41_S_d0 : S41.ReducesTo [0] S_
  h_S_ : 0 < S_.numel
  shapeCasts_S1_S_ : S1.ShapeCasts S_

variable [Facts]

def fn {F : FTy → Type} [FloatOps F] (main_arg0 : FVec F S44032x1024 .f32) (main_arg1 : IVec S41 32) (main_arg2 : IVec S41 32) (main_arg3 : IVec S1 32) (main_arg4 : FVec F S8x1024x3584 .f32) (main_arg5 : FVec F S8x1024x3584 .f32) (main_arg6 : FVec F S8x3584x1024 .f32) : IVec S_ 1 :=
  let main_c : IVec S_ 32 := constantI S_ 32 0#32
  let main_v0 : IVec S41 32 := broadcastInDim S41 ![] bcast_S_S41 main_c
  let main_v1 : IVec S41 1 := cmpi .sge main_arg1 main_v0
  let main_c_0 : IVec S_ 32 := constantI S_ 32 8#32
  let main_v2 : IVec S41 32 := broadcastInDim S41 ![] bcast_S_S41 main_c_0
  let main_v3 : IVec S41 1 := cmpi .slt main_arg1 main_v2
  let main_v4 : IVec S41 1 := andi main_v1 main_v3
  let main_c_1 : IVec S_ 1 := constantI S_ 1 1#1
  let main_v5 : IVec S_ 1 := (fun x v => Host.reduce IntOp.andi x v reducesTo_S41_S_d0 h_S_) main_v4 main_c_1
  let main_v6 : IVec S_ 32 := shapeCast S_ main_arg3 shapeCasts_S1_S_
  let main_c_2 : IVec S_ 32 := constantI S_ 32 1#32
  let main_v7 : IVec S_ 1 := cmpi .sge main_v6 main_c_2
  let main_v8 : IVec S_ 1 := andi main_v5 main_v7
  main_v8
-- ==== Pre_routed.lean ====
abbrev S44032x1024 : Shape := ⟨2, ![44032, 1024]⟩
abbrev S41 : Shape := ⟨1, ![41]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S41 : S_.BroadcastsInDim S41 (![] : Fin 0 → Fin S41.rank)
  reducesTo_S41_S_d0 : S41.ReducesTo [0] S_
  h_S_ : 0 < S_.numel
  shapeCasts_S1_S_ : S1.ShapeCasts S_

variable [Facts]

def fn_part1 {F : FTy → Type} [FloatOps F] (main_arg2 : IVec S41 32) (main_v12 : IVec S_ 1) (main_v16 : IVec S41 1) (main_c_5 : IVec S_ 32) : IVec S_ 1 :=
  let main_v17 : IVec S41 32 := broadcastInDim S41 ![] bcast_S_S41 main_c_5
  let main_v18 : IVec S41 1 := cmpi .sle main_arg2 main_v17
  let main_v19 : IVec S41 1 := ori main_v16 main_v18
  let main_c_6 : IVec S_ 1 := constantI S_ 1 1#1
  let main_v20 : IVec S_ 1 := (fun x v => Host.reduce IntOp.andi x v reducesTo_S41_S_d0 h_S_) main_v19 main_c_6
  let main_v21 : IVec S_ 1 := andi main_v12 main_v20
  main_v21

def fn {F : FTy → Type} [FloatOps F] (main_arg0 : FVec F S44032x1024 .f32) (main_arg1 : IVec S41 32) (main_arg2 : IVec S41 32) (main_arg3 : IVec S1 32) (main_arg4 : FVec F S8x1024x3584 .f32) (main_arg5 : FVec F S8x1024x3584 .f32) (main_arg6 : FVec F S8x3584x1024 .f32) : IVec S_ 1 :=
  let main_c : IVec S_ 32 := constantI S_ 32 0#32
  let main_v0 : IVec S41 32 := broadcastInDim S41 ![] bcast_S_S41 main_c
  let main_v1 : IVec S41 1 := cmpi .sge main_arg1 main_v0
  let main_c_0 : IVec S_ 32 := constantI S_ 32 8#32
  let main_v2 : IVec S41 32 := broadcastInDim S41 ![] bcast_S_S41 main_c_0
  let main_v3 : IVec S41 1 := cmpi .slt main_arg1 main_v2
  let main_v4 : IVec S41 1 := andi main_v1 main_v3
  let main_c_1 : IVec S_ 1 := constantI S_ 1 1#1
  let main_v5 : IVec S_ 1 := (fun x v => Host.reduce IntOp.andi x v reducesTo_S41_S_d0 h_S_) main_v4 main_c_1
  let main_v6 : IVec S_ 32 := shapeCast S_ main_arg3 shapeCasts_S1_S_
  let main_c_2 : IVec S_ 32 := constantI S_ 32 1#32
  let main_v7 : IVec S_ 1 := cmpi .sge main_v6 main_c_2
  let main_v8 : IVec S_ 1 := andi main_v5 main_v7
  let main_c_3 : IVec S_ 32 := constantI S_ 32 1024#32
  let main_v9 : IVec S41 32 := broadcastInDim S41 ![] bcast_S_S41 main_c_3
  let main_v10 : IVec S41 1 := cmpi .sle main_arg2 main_v9
  let main_c_4 : IVec S_ 1 := constantI S_ 1 1#1
  let main_v11 : IVec S_ 1 := (fun x v => Host.reduce IntOp.andi x v reducesTo_S41_S_d0 h_S_) main_v10 main_c_4
  let main_v12 : IVec S_ 1 := andi main_v8 main_v11
  let main_v13 : IVec S41 32 := iotaInDim S41 32 0
  let main_v14 : IVec S_ 32 := shapeCast S_ main_arg3 shapeCasts_S1_S_
  let main_v15 : IVec S41 32 := broadcastInDim S41 ![] bcast_S_S41 main_v14
  let main_v16 : IVec S41 1 := cmpi .slt main_v13 main_v15
  let main_c_5 : IVec S_ 32 := constantI S_ 32 0#32
  fn_part1 (F := F) main_arg2 main_v12 main_v16 main_c_5
-- ==== Kernel.lean ====
abbrev S16896x3328 : Shape := ⟨2, ![16896, 3328]⟩
abbrev S16896x5120 : Shape := ⟨2, ![16896, 5120]⟩
abbrev S8x16896 : Shape := ⟨2, ![8, 16896]⟩
abbrev S8x3x1024 : Shape := ⟨3, ![8, 3, 1024]⟩
abbrev S4x1024 : Shape := ⟨2, ![4, 1024]⟩
abbrev S1024 : Shape := ⟨1, ![1024]⟩
abbrev S8 : Shape := ⟨1, ![8]⟩
abbrev S8x4x128x256 : Shape := ⟨4, ![8, 4, 128, 256]⟩
abbrev S8x4x128 : Shape := ⟨3, ![8, 4, 128]⟩
abbrev S8x4 : Shape := ⟨2, ![8, 4]⟩
abbrev S16896x1024 : Shape := ⟨2, ![16896, 1024]⟩
abbrev S8x512 : Shape := ⟨2, ![8, 512]⟩
abbrev S8x8x64 : Shape := ⟨3, ![8, 8, 64]⟩
abbrev S_ : Shape := ⟨0, ![]⟩
abbrev S8x8x128 : Shape := ⟨3, ![8, 8, 128]⟩
abbrev S8x8x1024 : Shape := ⟨3, ![8, 8, 1024]⟩
abbrev S8x4x1x128 : Shape := ⟨4, ![8, 4, 1, 128]⟩
abbrev S8x4x1x1 : Shape := ⟨4, ![8, 4, 1, 1]⟩
abbrev S8x1 : Shape := ⟨2, ![8, 1]⟩
abbrev S8x128 : Shape := ⟨2, ![8, 128]⟩
abbrev S1x1024 : Shape := ⟨2, ![1, 1024]⟩
abbrev S64x1024 : Shape := ⟨2, ![64, 1024]⟩
abbrev S1x8x128 : Shape := ⟨3, ![1, 8, 128]⟩
abbrev S1x8x1024 : Shape := ⟨3, ![1, 8, 1024]⟩
abbrev S1x4x128x256 : Shape := ⟨4, ![1, 4, 128, 256]⟩
abbrev S1x4x1x128 : Shape := ⟨4, ![1, 4, 1, 128]⟩
abbrev S72x1024 : Shape := ⟨2, ![72, 1024]⟩
abbrev S4x128x256 : Shape := ⟨3, ![4, 128, 256]⟩
abbrev S4x1x128 : Shape := ⟨3, ![4, 1, 128]⟩
abbrev S8x1024 : Shape := ⟨2, ![8, 1024]⟩
abbrev S4x128 : Shape := ⟨2, ![4, 128]⟩
abbrev S120x128 : Shape := ⟨2, ![120, 128]⟩
abbrev S128x128 : Shape := ⟨2, ![128, 128]⟩
abbrev S64x64 : Shape := ⟨2, ![64, 64]⟩
abbrev S64x128 : Shape := ⟨2, ![64, 128]⟩
abbrev S64x256 : Shape := ⟨2, ![64, 256]⟩
abbrev S1x128x256 : Shape := ⟨3, ![1, 128, 256]⟩
abbrev S128x256 : Shape := ⟨2, ![128, 256]⟩
abbrev S1x1x128 : Shape := ⟨3, ![1, 1, 128]⟩
abbrev S1x128 : Shape := ⟨2, ![1, 128]⟩
abbrev S1x64 : Shape := ⟨2, ![1, 64]⟩
abbrev S64x1 : Shape := ⟨2, ![64, 1]⟩
abbrev S1x1 : Shape := ⟨2, ![1, 1]⟩
abbrev S64 : Shape := ⟨1, ![64]⟩
abbrev S1x256 : Shape := ⟨2, ![1, 256]⟩
abbrev S128 : Shape := ⟨1, ![128]⟩

abbrev nBuf : Space → Nat
  | .hbm => 33
  | .vmem => 34
  | .smem => 0
  | _ => 0

abbrev bufTy : (tb : Table) → Fin (tcTables nBuf tb) → BufTy
  | .hbm, ⟨0, _⟩ => ⟨S16896x3328, .f32⟩
  | .hbm, ⟨1, _⟩ => ⟨S16896x5120, .bf16⟩
  | .hbm, ⟨2, _⟩ => ⟨S8x16896, .f32⟩
  | .hbm, ⟨3, _⟩ => ⟨S8x3x1024, .f32⟩
  | .hbm, ⟨4, _⟩ => ⟨S4x1024, .f32⟩
  | .hbm, ⟨5, _⟩ => ⟨S1024, .f32⟩
  | .hbm, ⟨6, _⟩ => ⟨S8, .f32⟩
  | .hbm, ⟨7, _⟩ => ⟨S1024, .f32⟩
  | .hbm, ⟨8, _⟩ => ⟨S8x4x128x256, .f32⟩
  | .hbm, ⟨9, _⟩ => ⟨S8x4x128, .f32⟩
  | .hbm, ⟨10, _⟩ => ⟨S8x4, .f32⟩
  | .hbm, ⟨11, _⟩ => ⟨S16896x1024, .bf16⟩
  | .hbm, ⟨12, _⟩ => ⟨S8x512, .f32⟩
  | .hbm, ⟨13, _⟩ => ⟨S8x8x64, .f32⟩
  | .hbm, ⟨14, _⟩ => ⟨S8x8x64, .f32⟩
  | .hbm, ⟨15, _⟩ => ⟨S_, .i32⟩
  | .hbm, ⟨16, _⟩ => ⟨S_, .f32⟩
  | .hbm, ⟨17, _⟩ => ⟨S8x8x128, .f32⟩
  | .hbm, ⟨18, _⟩ => ⟨S_, .i32⟩
  | .hbm, ⟨19, _⟩ => ⟨S_, .f32⟩
  | .hbm, ⟨20, _⟩ => ⟨S8x8x1024, .f32⟩
  | .hbm, ⟨21, _⟩ => ⟨S8x4x1x128, .f32⟩
  | .hbm, ⟨22, _⟩ => ⟨S8x4x1x1, .f32⟩
  | .hbm, ⟨23, _⟩ => ⟨S8x4x1x128, .f32⟩
  | .hbm, ⟨24, _⟩ => ⟨S8x1, .f32⟩
  | .hbm, ⟨25, _⟩ => ⟨S8x128, .f32⟩
  | .hbm, ⟨26, _⟩ => ⟨S1x1024, .f32⟩
  | .hbm, ⟨27, _⟩ => ⟨S1x1024, .f32⟩
  | .hbm, ⟨28, _⟩ => ⟨S16896x1024, .bf16⟩
  | .hbm, ⟨29, _⟩ => ⟨S8x4x128x256, .f32⟩
  | .hbm, ⟨30, _⟩ => ⟨S8x4x1x128, .f32⟩
  | .hbm, ⟨31, _⟩ => ⟨S8x4x1x128, .f32⟩
  | .hbm, ⟨32, _⟩ => ⟨S8x8x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S1x8x128, .f32⟩
  | .local _ .vmem, ⟨7, _⟩ => ⟨S1x8x128, .f32⟩
  | .local _ .vmem, ⟨8, _⟩ => ⟨S1x8x1024, .f32⟩
  | .local _ .vmem, ⟨9, _⟩ => ⟨S1x8x1024, .f32⟩
  | .local _ .vmem, ⟨10, _⟩ => ⟨S4x1024, .f32⟩
  | .local _ .vmem, ⟨11, _⟩ => ⟨S1x1024, .f32⟩
  | .local _ .vmem, ⟨12, _⟩ => ⟨S8x128, .f32⟩
  | .local _ .vmem, ⟨13, _⟩ => ⟨S1x1024, .f32⟩
  | .local _ .vmem, ⟨14, _⟩ => ⟨S1x4x128x256, .f32⟩
  | .local _ .vmem, ⟨15, _⟩ => ⟨S1x4x128x256, .f32⟩
  | .local _ .vmem, ⟨16, _⟩ => ⟨S1x4x1x128, .f32⟩
  | .local _ .vmem, ⟨17, _⟩ => ⟨S1x4x1x128, .f32⟩
  | .local _ .vmem, ⟨18, _⟩ => ⟨S1x4x1x128, .f32⟩
  | .local _ .vmem, ⟨19, _⟩ => ⟨S1x4x1x128, .f32⟩
  | .local _ .vmem, ⟨20, _⟩ => ⟨S64x1024, .bf16⟩
  | .local _ .vmem, ⟨21, _⟩ => ⟨S64x1024, .bf16⟩
  | .local _ .vmem, ⟨22, _⟩ => ⟨S1x4x128x256, .f32⟩
  | .local _ .vmem, ⟨23, _⟩ => ⟨S1x4x128x256, .f32⟩
  | .local _ .vmem, ⟨24, _⟩ => ⟨S1x4x1x128, .f32⟩
  | .local _ .vmem, ⟨25, _⟩ => ⟨S1x4x1x128, .f32⟩
  | .local _ .vmem, ⟨26, _⟩ => ⟨S1x4x1x128, .f32⟩
  | .local _ .vmem, ⟨27, _⟩ => ⟨S1x4x1x128, .f32⟩
  | .local _ .vmem, ⟨28, _⟩ => ⟨S1x8x1024, .f32⟩
  | .local _ .vmem, ⟨29, _⟩ => ⟨S1x8x1024, .f32⟩
  | .local _ .vmem, ⟨30, _⟩ => ⟨S72x1024, .f32⟩
  | .local _ .vmem, ⟨31, _⟩ => ⟨S4x128x256, .f32⟩
  | .local _ .vmem, ⟨32, _⟩ => ⟨S4x1x128, .f32⟩
  | .local _ .vmem, ⟨33, _⟩ => ⟨S4x1x128, .f32⟩
  | _, _ => ⟨S16896x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_c_0 : Ref sig .tc := ⟨.hbm, 18, rfl⟩
abbrev main_call1_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev main_v12_3 : Ref sig .tc := ⟨.hbm, 31, rfl⟩
abbrev main_v12_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_211 : BitVec 32 := 0#32
  let v576 : BitVec 1 := Scalar.cmpi .eq arg1 c0_i32_211
  let v577 : BitVec 32 := Scalar.extui v576
  let c0_i32_212 : BitVec 32 := 0#32
  let v578 : BitVec 1 := Scalar.cmpi .ne v577 c0_i32_212
  v578

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c2_i32 : BitVec 32 := 2#32
  let c0_i32 : BitVec 32 := 0#32
  ![v2.toNat, c2_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c3_i32 : BitVec 32 := 3#32
  let c0_i32 : BitVec 32 := 0#32
  ![v2.toNat, c3_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c4_i32 : BitVec 32 := 4#32
  let c0_i32 : BitVec 32 := 0#32
  ![v2.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c0_i32 : BitVec 32 := 0#32
  let c0_i32_0 : BitVec 32 := 0#32
  ![v2.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x4x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S16896x3328 : Shape := ⟨2, ![16896, 3328]⟩
abbrev S16896x5120 : Shape := ⟨2, ![16896, 5120]⟩
abbrev S8x16896 : Shape := ⟨2, ![8, 16896]⟩
abbrev S8x3x1024 : Shape := ⟨3, ![8, 3, 1024]⟩
abbrev S4x1024 : Shape := ⟨2, ![4, 1024]⟩
abbrev S1024 : Shape := ⟨1, ![1024]⟩
abbrev S8 : Shape := ⟨1, ![8]⟩
abbrev S8x4x128x256 : Shape := ⟨4, ![8, 4, 128, 256]⟩
abbrev S8x4x128 : Shape := ⟨3, ![8, 4, 128]⟩
abbrev S8x4 : Shape := ⟨2, ![8, 4]⟩
abbrev S16896x1024 : Shape := ⟨2, ![16896, 1024]⟩
abbrev S512x1024 : Shape := ⟨2, ![512, 1024]⟩
abbrev S8x64x1024 : Shape := ⟨3, ![8, 64, 1024]⟩
abbrev S8x512 : Shape := ⟨2, ![8, 512]⟩
abbrev S512x8 : Shape := ⟨2, ![512, 8]⟩
abbrev S8x64x8 : Shape := ⟨3, ![8, 64, 8]⟩
abbrev S8x67x1024 : Shape := ⟨3, ![8, 67, 1024]⟩
abbrev S1x1024 : Shape := ⟨2, ![1, 1024]⟩
abbrev S1x1x1024 : Shape := ⟨3, ![1, 1, 1024]⟩
abbrev S_ : Shape := ⟨0, ![]⟩
abbrev S8x64x512 : Shape := ⟨3, ![8, 64, 512]⟩
abbrev S8x64x4x128 : Shape := ⟨4, ![8, 64, 4, 128]⟩
abbrev S8x64x4x256 : Shape := ⟨4, ![8, 64, 4, 256]⟩
abbrev S1x1x8 : Shape := ⟨3, ![1, 1, 8]⟩
abbrev S8x64x4 : Shape := ⟨3, ![8, 64, 4]⟩
abbrev S64x64 : Shape := ⟨2, ![64, 64]⟩
abbrev S1x64x64x1 : Shape := ⟨4, ![1, 64, 64, 1]⟩
abbrev S8x64x1x4 : Shape := ⟨4, ![8, 64, 1, 4]⟩
abbrev S8x1x64x4 : Shape := ⟨4, ![8, 1, 64, 4]⟩
abbrev S8x64x64x4 : Shape := ⟨4, ![8, 64, 64, 4]⟩
abbrev S8x1x4 : Shape := ⟨3, ![8, 1, 4]⟩
abbrev S8x4x64x64 : Shape := ⟨4, ![8, 4, 64, 64]⟩
abbrev S8x4x256x64 : Shape := ⟨4, ![8, 4, 256, 64]⟩
abbrev S8x64x4x1 : Shape := ⟨4, ![8, 64, 4, 1]⟩
abbrev S8x4x64 : Shape := ⟨3, ![8, 4, 64]⟩
abbrev S8x4x1x1 : Shape := ⟨4, ![8, 4, 1, 1]⟩
abbrev S8x4x1 : Shape := ⟨3, ![8, 4, 1]⟩
abbrev S4x256 : Shape := ⟨2, ![4, 256]⟩
abbrev S1x1x4x256 : Shape := ⟨4, ![1, 1, 4, 256]⟩
abbrev S8x4x1x128 : Shape := ⟨4, ![8, 4, 1, 128]⟩
abbrev S16384x1024 : Shape := ⟨2, ![16384, 1024]⟩
abbrev S8x8x1024 : Shape := ⟨3, ![8, 8, 1024]⟩

abbrev nBuf : Space → Nat
  | .hbm => 210
  | .vmem => 0
  | .smem => 0
  | _ => 0

abbrev hbmTy0_0 (i : Nat) : BufTy := match i % 128 with
  | 0 => ⟨S16896x3328, .f32⟩
  | 1 => ⟨S16896x5120, .bf16⟩
  | 2 => ⟨S8x16896, .f32⟩
  | 3 => ⟨S8x3x1024, .f32⟩
  | 4 => ⟨S4x1024, .f32⟩
  | 5 => ⟨S1024, .f32⟩
  | 6 => ⟨S8, .f32⟩
  | 7 => ⟨S1024, .f32⟩
  | 8 => ⟨S8x4x128x256, .f32⟩
  | 9 => ⟨S8x4x128, .f32⟩
  | 10 => ⟨S8x4, .f32⟩
  | 11 => ⟨S16896x1024, .bf16⟩
  | 12 => ⟨S512x1024, .f32⟩
  | 13 => ⟨S8x64x1024, .f32⟩
  | 14 => ⟨S512x1024, .bf16⟩
  | 15 => ⟨S512x1024, .f32⟩
  | 16 => ⟨S512x1024, .bf16⟩
  | 17 => ⟨S512x1024, .f32⟩
  | 18 => ⟨S8x64x1024, .f32⟩
  | 19 => ⟨S8x512, .f32⟩
  | 20 => ⟨S512x8, .f32⟩
  | 21 => ⟨S8x64x8, .f32⟩
  | 22 => ⟨S8x67x1024, .f32⟩
  | 23 => ⟨S8x64x1024, .f32⟩
  | 24 => ⟨S1x1024, .f32⟩
  | 25 => ⟨S1024, .f32⟩
  | 26 => ⟨S1x1x1024, .f32⟩
  | 27 => ⟨S8x64x1024, .f32⟩
  | 28 => ⟨S8x64x1024, .f32⟩
  | 29 => ⟨S1x1x1024, .f32⟩
  | 30 => ⟨S8x64x1024, .f32⟩
  | 31 => ⟨S8x64x1024, .f32⟩
  | 32 => ⟨S8x64x1024, .f32⟩
  | 33 => ⟨S1x1024, .f32⟩
  | 34 => ⟨S1024, .f32⟩
  | 35 => ⟨S1x1x1024, .f32⟩
  | 36 => ⟨S8x64x1024, .f32⟩
  | 37 => ⟨S8x64x1024, .f32⟩
  | 38 => ⟨S8x64x1024, .f32⟩
  | 39 => ⟨S8x64x1024, .f32⟩
  | 40 => ⟨S1x1024, .f32⟩
  | 41 => ⟨S1024, .f32⟩
  | 42 => ⟨S1x1x1024, .f32⟩
  | 43 => ⟨S8x64x1024, .f32⟩
  | 44 => ⟨S8x64x1024, .f32⟩
  | 45 => ⟨S8x64x1024, .f32⟩
  | 46 => ⟨S8x64x1024, .f32⟩
  | 47 => ⟨S1x1024, .f32⟩
  | 48 => ⟨S1024, .f32⟩
  | 49 => ⟨S1x1x1024, .f32⟩
  | 50 => ⟨S8x64x1024, .f32⟩
  | 51 => ⟨S8x64x1024, .f32⟩
  | 52 => ⟨S8x64x1024, .f32⟩
  | 53 => ⟨S8x64x1024, .f32⟩
  | 54 => ⟨S8x64x1024, .f32⟩
  | 55 => ⟨S_, .f32⟩
  | 56 => ⟨S8x64x1024, .f32⟩
  | 57 => ⟨S8x64x1024, .f32⟩
  | 58 => ⟨S_, .f32⟩
  | 59 => ⟨S8x64x1024, .f32⟩
  | 60 => ⟨S8x64x1024, .f32⟩
  | 61 => ⟨S8x64x1024, .f32⟩
  | 62 => ⟨S8x64x512, .f32⟩
  | 63 => ⟨S8x64x4x128, .f32⟩
  | 64 => ⟨S8x64x512, .f32⟩
  | 65 => ⟨S8x64x4x128, .f32⟩
  | 66 => ⟨S_, .f32⟩
  | 67 => ⟨S8x64x4x128, .f32⟩
  | 68 => ⟨S8x64x4x128, .f32⟩
  | 69 => ⟨S8x64x4x256, .f32⟩
  | 70 => ⟨S1x1x8, .f32⟩
  | 71 => ⟨S8x64x8, .f32⟩
  | 72 => ⟨S8x64x8, .f32⟩
  | 73 => ⟨S8x64x4, .f32⟩
  | 74 => ⟨S8x64x4, .f32⟩
  | 75 => ⟨S8x64x4, .f32⟩
  | 76 => ⟨S_, .f32⟩
  | 77 => ⟨S8x64x4, .f32⟩
  | 78 => ⟨S8x64x4, .f32⟩
  | 79 => ⟨S8x64x4, .f32⟩
  | 80 => ⟨S8x64x4, .f32⟩
  | 81 => ⟨S8x64x4, .i1⟩
  | 82 => ⟨S8x64x4, .f32⟩
  | 83 => ⟨S8x64x4, .f32⟩
  | 84 => ⟨S8x64x4, .f32⟩
  | 85 => ⟨S8x64x4, .f32⟩
  | 86 => ⟨S8x64x4, .f32⟩
  | 87 => ⟨S8x64x4, .f32⟩
  | 88 => ⟨S8x64x4, .f32⟩
  | 89 => ⟨S8x64x4, .f32⟩
  | 90 => ⟨S8x64x4, .f32⟩
  | 91 => ⟨S_, .f32⟩
  | 92 => ⟨S_, .f32⟩
  | 93 => ⟨S8x64x4, .f32⟩
  | 94 => ⟨S_, .i1⟩
  | 95 => ⟨S64x64, .i1⟩
  | 96 => ⟨S64x64, .i32⟩
  | 97 => ⟨S_, .i32⟩
  | 98 => ⟨S64x64, .i32⟩
  | 99 => ⟨S64x64, .i32⟩
  | 100 => ⟨S64x64, .i32⟩
  | 101 => ⟨S64x64, .i1⟩
  | 102 => ⟨S_, .i1⟩
  | 103 => ⟨S64x64, .i1⟩
  | 104 => ⟨S64x64, .i1⟩
  | 105 => ⟨S1x64x64x1, .i1⟩
  | 106 => ⟨S8x64x1x4, .f32⟩
  | 107 => ⟨S8x1x64x4, .f32⟩
  | 108 => ⟨S8x64x64x4, .f32⟩
  | 109 => ⟨S8x64x64x4, .f32⟩
  | 110 => ⟨S8x64x64x4, .f32⟩
  | 111 => ⟨S8x1x64x4, .f32⟩
  | 112 => ⟨S8x64x64x4, .f32⟩
  | 113 => ⟨S8x64x64x4, .f32⟩
  | 114 => ⟨S_, .f32⟩
  | 115 => ⟨S_, .f32⟩
  | 116 => ⟨S8x64x64x4, .i1⟩
  | 117 => ⟨S8x64x64x4, .f32⟩
  | 118 => ⟨S8x64x64x4, .f32⟩
  | 119 => ⟨S8x1x4, .f32⟩
  | 120 => ⟨S8x64x4, .f32⟩
  | 121 => ⟨S8x64x4, .f32⟩
  | 122 => ⟨S_, .f32⟩
  | 123 => ⟨S8x64x4, .f32⟩
  | 124 => ⟨S8x64x4, .f32⟩
  | 125 => ⟨S8x64x1x4, .f32⟩
  | 126 => ⟨S8x64x64x4, .f32⟩
  | 127 => ⟨S8x64x64x4, .f32⟩
  | _ => ⟨S16896x3328, .f32⟩

abbrev hbmTy0_1 (i : Nat) : BufTy := match i % 128 with
  | 0 => ⟨S8x64x64x4, .f32⟩
  | 1 => ⟨S8x64x4, .f32⟩
  | 2 => ⟨S8x64x4, .f32⟩
  | 3 => ⟨S8x4x64x64, .f32⟩
  | 4 => ⟨S8x64x64x4, .f32⟩
  | 5 => ⟨S8x64x64x4, .f32⟩
  | 6 => ⟨S8x4x256x64, .f32⟩
  | 7 => ⟨S8x64x4x256, .f32⟩
  | 8 => ⟨S8x64x4x1, .f32⟩
  | 9 => ⟨S8x4x256x64, .f32⟩
  | 10 => ⟨S8x64x4x256, .f32⟩
  | 11 => ⟨S8x64x4x256, .f32⟩
  | 12 => ⟨S8x64x4x256, .f32⟩
  | 13 => ⟨S8x64x4x256, .f32⟩
  | 14 => ⟨S_, .f32⟩
  | 15 => ⟨S8x64x4, .f32⟩
  | 16 => ⟨S8x4x64, .f32⟩
  | 17 => ⟨S8x64x4, .f32⟩
  | 18 => ⟨S8x64x4, .f32⟩
  | 19 => ⟨S8x64x4, .f32⟩
  | 20 => ⟨S8x64x4, .f32⟩
  | 21 => ⟨S8x64x4, .f32⟩
  | 22 => ⟨S8x64x4, .f32⟩
  | 23 => ⟨S8x64x4, .f32⟩
  | 24 => ⟨S8x64x4x1, .f32⟩
  | 25 => ⟨S8x64x4x256, .f32⟩
  | 26 => ⟨S8x64x4x256, .f32⟩
  | 27 => ⟨S8x1x64x4, .f32⟩
  | 28 => ⟨S8x64x4, .f32⟩
  | 29 => ⟨S8x1x4, .f32⟩
  | 30 => ⟨S8x4, .f32⟩
  | 31 => ⟨S8x64x4x1, .f32⟩
  | 32 => ⟨S8x64x4x128, .f32⟩
  | 33 => ⟨S8x64x4x128, .f32⟩
  | 34 => ⟨S8x4x1x1, .f32⟩
  | 35 => ⟨S8x4x128x256, .f32⟩
  | 36 => ⟨S8x4x128x256, .f32⟩
  | 37 => ⟨S8x4x128x256, .f32⟩
  | 38 => ⟨S8x4x128x256, .f32⟩
  | 39 => ⟨S8x4x1, .f32⟩
  | 40 => ⟨S8x4x128, .f32⟩
  | 41 => ⟨S8x4x128, .f32⟩
  | 42 => ⟨S_, .f32⟩
  | 43 => ⟨S8x4x128, .f32⟩
  | 44 => ⟨S8x4x128, .f32⟩
  | 45 => ⟨S8x64x4x256, .f32⟩
  | 46 => ⟨S_, .f32⟩
  | 47 => ⟨S8x64x4, .f32⟩
  | 48 => ⟨S8x64x4x1, .f32⟩
  | 49 => ⟨S_, .f32⟩
  | 50 => ⟨S8x64x4x1, .f32⟩
  | 51 => ⟨S8x64x4x1, .f32⟩
  | 52 => ⟨S_, .f32⟩
  | 53 => ⟨S8x64x4x1, .f32⟩
  | 54 => ⟨S8x64x4x1, .f32⟩
  | 55 => ⟨S8x64x4x1, .f32⟩
  | 56 => ⟨S8x64x4x256, .f32⟩
  | 57 => ⟨S8x64x4x256, .f32⟩
  | 58 => ⟨S4x256, .f32⟩
  | 59 => ⟨S1x1x4x256, .f32⟩
  | 60 => ⟨S8x64x4x256, .f32⟩
  | 61 => ⟨S8x64x4x256, .f32⟩
  | 62 => ⟨S8x64x1024, .f32⟩
  | 63 => ⟨S8x64x1024, .f32⟩
  | 64 => ⟨S8x64x1024, .f32⟩
  | 65 => ⟨S_, .f32⟩
  | 66 => ⟨S8x64x1024, .f32⟩
  | 67 => ⟨S8x64x1024, .f32⟩
  | 68 => ⟨S_, .f32⟩
  | 69 => ⟨S8x64x1024, .f32⟩
  | 70 => ⟨S8x64x1024, .f32⟩
  | 71 => ⟨S8x64x1024, .f32⟩
  | 72 => ⟨S512x1024, .f32⟩
  | 73 => ⟨S512x1024, .bf16⟩
  | 74 => ⟨S8x1x4, .f32⟩
  | 75 => ⟨S8x4, .f32⟩
  | 76 => ⟨S8x4x1x1, .f32⟩
  | 77 => ⟨S8x4x1x128, .f32⟩
  | 78 => ⟨S16384x1024, .bf16⟩
  | 79 => ⟨S16896x1024, .bf16⟩
  | 80 => ⟨S8x4x1x128, .f32⟩
  | 81 => ⟨S8x8x1024, .f32⟩
  | _ => ⟨S16896x3328, .f32⟩

abbrev hbmTy (i : Nat) : BufTy := match i / 128 with
  | 0 => hbmTy0_0 i
  | 1 => hbmTy0_1 i
  | _ => ⟨S16896x3328, .f32⟩

abbrev bufTy : (tb : Table) → Fin (tcTables nBuf tb) → BufTy
  | .hbm, ⟨i, _⟩ => hbmTy i
  | _, _ => ⟨S16896x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call1_v0 : Ref sig .tc := ⟨.hbm, 75, rfl⟩
abbrev main_call1_call0_cst : Ref sig .tc := ⟨.hbm, 76, rfl⟩
abbrev main_call1_call0_v0 : Ref sig .tc := ⟨.hbm, 77, rfl⟩
abbrev main_call1_call0_v1 : Ref sig .tc := ⟨.hbm, 78, rfl⟩
abbrev main_call1_call0_v2 : Ref sig .tc := ⟨.hbm, 79, rfl⟩
abbrev main_call1_call0_v3 : Ref sig .tc := ⟨.hbm, 80, rfl⟩
abbrev main_call1_call0_v4 : Ref sig .tc := ⟨.hbm, 81, rfl⟩
abbrev main_call1_call0_v5 : Ref sig .tc := ⟨.hbm, 82, rfl⟩
abbrev main_call1_call0_v6 : Ref sig .tc := ⟨.hbm, 83, rfl⟩
abbrev main_call1_call0_v7 : Ref sig .tc := ⟨.hbm, 84, rfl⟩
abbrev main_call1_call0_v8 : Ref sig .tc := ⟨.hbm, 85, rfl⟩
abbrev main_call1_call0_v9 : Ref sig .tc := ⟨.hbm, 86, rfl⟩
abbrev main_call1_call0_v10 : Ref sig .tc := ⟨.hbm, 87, rfl⟩
abbrev main_call1_call0_v11 : Ref sig .tc := ⟨.hbm, 88, rfl⟩
abbrev main_call1_v1 : Ref sig .tc := ⟨.hbm, 89, rfl⟩
abbrev main_v54 : Ref sig .tc := ⟨.hbm, 90, rfl⟩
abbrev main_call2_call0_cst : Ref sig .tc := ⟨.hbm, 91, rfl⟩
abbrev main_call2_call0_v0 : Ref sig .tc := ⟨.hbm, 92, rfl⟩
abbrev main_v55 : Ref sig .tc := ⟨.hbm, 93, rfl⟩
abbrev main_c : Ref sig .tc := ⟨.hbm, 94, rfl⟩
abbrev main_v56 : Ref sig .tc := ⟨.hbm, 95, rfl⟩
abbrev main_call3_v0 : Ref sig .tc := ⟨.hbm, 96, rfl⟩
abbrev main_call3_c : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_c_0 : Ref sig .tc := ⟨.hbm, 102, rfl⟩
abbrev main_call3_v5 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_0 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_1 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_cst_2 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_3 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_4 : Ref sig .tc := ⟨.hbm, 174, rfl⟩
abbrev main_v120 : Ref sig .tc := ⟨.hbm, 175, rfl⟩
abbrev main_v121 : Ref sig .tc := ⟨.hbm, 176, rfl⟩
abbrev main_cst_5 : Ref sig .tc := ⟨.hbm, 177, rfl⟩
abbrev main_v122 : Ref sig .tc := ⟨.hbm, 178, rfl⟩
abbrev main_v123 : Ref sig .tc := ⟨.hbm, 179, rfl⟩
abbrev main_cst_6 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_7 : Ref sig .tc := ⟨.hbm, 193, rfl⟩
abbrev main_v136 : Ref sig .tc := ⟨.hbm, 194, rfl⟩
abbrev main_v137 : Ref sig .tc := ⟨.hbm, 195, rfl⟩
abbrev main_cst_8 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩

abbrev nD : Nat := 1
abbrev τ : Topo := Topo.v7x

variable {F : FTy → Type} [FloatOps F]
-- ==== Kernel2.lean ====
abbrev S16896x1024 : Shape := ⟨2, ![16896, 1024]⟩
abbrev S16x6144 : Shape := ⟨2, ![16, 6144]⟩
abbrev S1024 : Shape := ⟨1, ![1024]⟩
abbrev S1024x3584 : Shape := ⟨2, ![1024, 3584]⟩
abbrev S1024x4864 : Shape := ⟨2, ![1024, 4864]⟩
abbrev S8x1024 : Shape := ⟨2, ![8, 1024]⟩
abbrev S264 : Shape := ⟨1, ![264]⟩
abbrev S_ : Shape := ⟨0, ![]⟩
abbrev S264x1 : Shape := ⟨2, ![264, 1]⟩
abbrev S264x6144 : Shape := ⟨2, ![264, 6144]⟩
abbrev S264x1x6144 : Shape := ⟨3, ![264, 1, 6144]⟩
abbrev S1x1024 : Shape := ⟨2, ![1, 1024]⟩
abbrev S16896x3328 : Shape := ⟨2, ![16896, 3328]⟩
abbrev S16896x5120 : Shape := ⟨2, ![16896, 5120]⟩
abbrev S8x16896 : Shape := ⟨2, ![8, 16896]⟩
abbrev S512x1024 : Shape := ⟨2, ![512, 1024]⟩
abbrev S8x1x1024 : Shape := ⟨3, ![8, 1, 1024]⟩
abbrev S512x3328 : Shape := ⟨2, ![512, 3328]⟩
abbrev S512x5120 : Shape := ⟨2, ![512, 5120]⟩
abbrev S8x512 : Shape := ⟨2, ![8, 512]⟩
abbrev S512 : Shape := ⟨1, ![512]⟩
abbrev S512x1 : Shape := ⟨2, ![512, 1]⟩
abbrev S8x64x1024 : Shape := ⟨3, ![8, 64, 1024]⟩
abbrev S1024x768 : Shape := ⟨2, ![1024, 768]⟩
abbrev S512x768 : Shape := ⟨2, ![512, 768]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 19
  | .vmem => 17
  | .smem => 0
  | _ => 0

abbrev bufTy : (tb : Table) → Fin (tcTables nBuf tb) → BufTy
  | .hbm, ⟨0, _⟩ => ⟨S16896x1024, .f32⟩
  | .hbm, ⟨1, _⟩ => ⟨S16x6144, .f32⟩
  | .hbm, ⟨2, _⟩ => ⟨S1024, .f32⟩
  | .hbm, ⟨3, _⟩ => ⟨S1024x3584, .bf16⟩
  | .hbm, ⟨4, _⟩ => ⟨S1024x4864, .bf16⟩
  | .hbm, ⟨5, _⟩ => ⟨S8x1024, .bf16⟩
  | .hbm, ⟨6, _⟩ => ⟨S264, .i32⟩
  | .hbm, ⟨7, _⟩ => ⟨S264, .i1⟩
  | .hbm, ⟨8, _⟩ => ⟨S_, .i32⟩
  | .hbm, ⟨9, _⟩ => ⟨S264, .i32⟩
  | .hbm, ⟨10, _⟩ => ⟨S264, .i32⟩
  | .hbm, ⟨11, _⟩ => ⟨S264, .i32⟩
  | .hbm, ⟨12, _⟩ => ⟨S264x1, .i32⟩
  | .hbm, ⟨13, _⟩ => ⟨S264x6144, .f32⟩
  | .hbm, ⟨14, _⟩ => ⟨S264x1x6144, .f32⟩
  | .hbm, ⟨15, _⟩ => ⟨S1x1024, .f32⟩
  | .hbm, ⟨16, _⟩ => ⟨S16896x3328, .f32⟩
  | .hbm, ⟨17, _⟩ => ⟨S16896x5120, .bf16⟩
  | .hbm, ⟨18, _⟩ => ⟨S8x16896, .f32⟩
  | .local _ .vmem, ⟨0, _⟩ => ⟨S512x1024, .f32⟩
  | .local _ .vmem, ⟨1, _⟩ => ⟨S512x1024, .f32⟩
  | .local _ .vmem, ⟨2, _⟩ => ⟨S8x1x1024, .f32⟩
  | .local _ .vmem, ⟨3, _⟩ => ⟨S8x1x1024, .f32⟩
  | .local _ .vmem, ⟨4, _⟩ => ⟨S8x1x1024, .f32⟩
  | .local _ .vmem, ⟨5, _⟩ => ⟨S8x1x1024, .f32⟩
  | .local _ .vmem, ⟨6, _⟩ => ⟨S1x1024, .f32⟩
  | .local _ .vmem, ⟨7, _⟩ => ⟨S1024x3584, .bf16⟩
  | .local _ .vmem, ⟨8, _⟩ => ⟨S1024x4864, .bf16⟩
  | .local _ .vmem, ⟨9, _⟩ => ⟨S8x1024, .bf16⟩
  | .local _ .vmem, ⟨10, _⟩ => ⟨S512x3328, .f32⟩
  | .local _ .vmem, ⟨11, _⟩ => ⟨S512x3328, .f32⟩
  | .local _ .vmem, ⟨12, _⟩ => ⟨S512x5120, .bf16⟩
  | .local _ .vmem, ⟨13, _⟩ => ⟨S512x5120, .bf16⟩
  | .local _ .vmem, ⟨14, _⟩ => ⟨S8x512, .f32⟩
  | .local _ .vmem, ⟨15, _⟩ => ⟨S8x512, .f32⟩
  | .local _ .vmem, ⟨16, _⟩ => ⟨S512x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4864 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3328 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x5120 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16896x1024 : Shape := ⟨2, ![16896, 1024]⟩
abbrev S16x6144 : Shape := ⟨2, ![16, 6144]⟩
abbrev S1024 : Shape := ⟨1, ![1024]⟩
abbrev S1024x3584 : Shape := ⟨2, ![1024, 3584]⟩
abbrev S1024x4864 : Shape := ⟨2, ![1024, 4864]⟩
abbrev S8x1024 : Shape := ⟨2, ![8, 1024]⟩
abbrev S16384x1024 : Shape := ⟨2, ![16384, 1024]⟩
abbrev S8x2048x1024 : Shape := ⟨3, ![8, 2048, 1024]⟩
abbrev S512x1024 : Shape := ⟨2, ![512, 1024]⟩
abbrev S8x64x1024 : Shape := ⟨3, ![8, 64, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x64 : Shape := ⟨2, ![8, 64]⟩
abbrev S8x64x1 : Shape := ⟨3, ![8, 64, 1]⟩
abbrev S16896x3584 : Shape := ⟨2, ![16896, 3584]⟩
abbrev S16896x4864 : Shape := ⟨2, ![16896, 4864]⟩
abbrev S1024x16896 : Shape := ⟨2, ![1024, 16896]⟩
abbrev S8x16896 : Shape := ⟨2, ![8, 16896]⟩
abbrev S16896x1536 : Shape := ⟨2, ![16896, 1536]⟩
abbrev S16896x512 : Shape := ⟨2, ![16896, 512]⟩
abbrev S16896x256 : Shape := ⟨2, ![16896, 256]⟩
abbrev S16896x3328 : Shape := ⟨2, ![16896, 3328]⟩
abbrev S16896x3072 : Shape := ⟨2, ![16896, 3072]⟩
abbrev S16896x5120 : Shape := ⟨2, ![16896, 5120]⟩

abbrev nBuf : Space → Nat
  | .hbm => 84
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16x6144, .f32⟩
  | .hbm, ⟨2, _⟩ => ⟨S1024, .f32⟩
  | .hbm, ⟨3, _⟩ => ⟨S1024x3584, .bf16⟩
  | .hbm, ⟨4, _⟩ => ⟨S1024x4864, .bf16⟩
  | .hbm, ⟨5, _⟩ => ⟨S8x1024, .bf16⟩
  | .hbm, ⟨6, _⟩ => ⟨S16384x1024, .f32⟩
  | .hbm, ⟨7, _⟩ => ⟨S8x2048x1024, .f32⟩
  | .hbm, ⟨8, _⟩ => ⟨S512x1024, .f32⟩
  | .hbm, ⟨9, _⟩ => ⟨S8x64x1024, .f32⟩
  | .hbm, ⟨10, _⟩ => ⟨S8x1024, .f32⟩
  | .hbm, ⟨11, _⟩ => ⟨S8x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x1x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S16384x1024, .f32⟩
  | .hbm, ⟨38, _⟩ => ⟨S8x1024, .f32⟩
  | .hbm, ⟨39, _⟩ => ⟨S8x1024, .f32⟩
  | .hbm, ⟨40, _⟩ => ⟨S8x64x1024, .f32⟩
  | .hbm, ⟨41, _⟩ => ⟨S_, .f32⟩
  | .hbm, ⟨42, _⟩ => ⟨S8x64, .f32⟩
  | .hbm, ⟨43, _⟩ => ⟨S8x64x1, .f32⟩
  | .hbm, ⟨44, _⟩ => ⟨S_, .f32⟩
  | .hbm, ⟨45, _⟩ => ⟨S8x64x1, .f32⟩
  | .hbm, ⟨46, _⟩ => ⟨S8x64x1, .f32⟩
  | .hbm, ⟨47, _⟩ => ⟨S_, .f32⟩
  | .hbm, ⟨48, _⟩ => ⟨S8x64x1, .f32⟩
  | .hbm, ⟨49, _⟩ => ⟨S8x64x1, .f32⟩
  | .hbm, ⟨50, _⟩ => ⟨S8x64x1, .f32⟩
  | .hbm, ⟨51, _⟩ => ⟨S8x64x1024, .f32⟩
  | .hbm, ⟨52, _⟩ => ⟨S8x64x1024, .f32⟩
  | .hbm, ⟨53, _⟩ => ⟨S1x1x1024, .f32⟩
  | .hbm, ⟨54, _⟩ => ⟨S8x64x1024, .f32⟩
  | .hbm, ⟨55, _⟩ => ⟨S8x64x1024, .f32⟩
  | .hbm, ⟨56, _⟩ => ⟨S8x1x1024, .f32⟩
  | .hbm, ⟨57, _⟩ => ⟨S_, .f32⟩
  | .hbm, ⟨58, _⟩ => ⟨S8x1x1024, .f32⟩
  | .hbm, ⟨59, _⟩ => ⟨S8x1x1024, .f32⟩
  | .hbm, ⟨60, _⟩ => ⟨S8x64x1024, .f32⟩
  | .hbm, ⟨61, _⟩ => ⟨S8x64x1024, .f32⟩
  | .hbm, ⟨62, _⟩ => ⟨S8x1x1024, .f32⟩
  | .hbm, ⟨63, _⟩ => ⟨S8x64x1024, .f32⟩
  | .hbm, ⟨64, _⟩ => ⟨S8x64x1024, .f32⟩
  | .hbm, ⟨65, _⟩ => ⟨S512x1024, .f32⟩
  | .hbm, ⟨66, _⟩ => ⟨S16896x1024, .f32⟩
  | .hbm, ⟨67, _⟩ => ⟨S1024x3584, .f32⟩
  | .hbm, ⟨68, _⟩ => ⟨S16896x3584, .f32⟩
  | .hbm, ⟨69, _⟩ => ⟨S1024x4864, .f32⟩
  | .hbm, ⟨70, _⟩ => ⟨S16896x4864, .f32⟩
  | .hbm, ⟨71, _⟩ => ⟨S8x1024, .f32⟩
  | .hbm, ⟨72, _⟩ => ⟨S1024x16896, .f32⟩
  | .hbm, ⟨73, _⟩ => ⟨S8x16896, .f32⟩
  | .hbm, ⟨74, _⟩ => ⟨S16896x1536, .f32⟩
  | .hbm, ⟨75, _⟩ => ⟨S16896x512, .f32⟩
  | .hbm, ⟨76, _⟩ => ⟨S16896x1024, .f32⟩
  | .hbm, ⟨77, _⟩ => ⟨S16896x256, .f32⟩
  | .hbm, ⟨78, _⟩ => ⟨S16896x3328, .f32⟩
  | .hbm, ⟨79, _⟩ => ⟨S16896x3072, .f32⟩
  | .hbm, ⟨80, _⟩ => ⟨S16896x1024, .f32⟩
  | .hbm, ⟨81, _⟩ => ⟨S16896x1024, .f32⟩
  | .hbm, ⟨82, _⟩ => ⟨S16896x5120, .f32⟩
  | .hbm, ⟨83, _⟩ => ⟨S16896x5120, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩

abbrev nD : Nat := 1
abbrev τ : Topo := Topo.v7x

variable {F : FTy → Type} [FloatOps F]
-- ==== Kernel3.lean ====
abbrev S16896x1024 : Shape := ⟨2, ![16896, 1024]⟩
abbrev S16x6144 : Shape := ⟨2, ![16, 6144]⟩
abbrev S1024 : Shape := ⟨1, ![1024]⟩
abbrev S1024x2816 : Shape := ⟨2, ![1024, 2816]⟩
abbrev S2816x1024 : Shape := ⟨2, ![2816, 1024]⟩
abbrev S264 : Shape := ⟨1, ![264]⟩
abbrev S_ : Shape := ⟨0, ![]⟩
abbrev S264x1 : Shape := ⟨2, ![264, 1]⟩
abbrev S264x6144 : Shape := ⟨2, ![264, 6144]⟩
abbrev S264x1x6144 : Shape := ⟨3, ![264, 1, 6144]⟩
abbrev S1x1024 : Shape := ⟨2, ![1, 1024]⟩
abbrev S512x1024 : Shape := ⟨2, ![512, 1024]⟩
abbrev S8x1x1024 : Shape := ⟨3, ![8, 1, 1024]⟩
abbrev S512 : Shape := ⟨1, ![512]⟩
abbrev S512x1 : Shape := ⟨2, ![512, 1]⟩
abbrev S8x64x1024 : Shape := ⟨3, ![8, 64, 1024]⟩
abbrev S1024x768 : Shape := ⟨2, ![1024, 768]⟩
abbrev S512x768 : Shape := ⟨2, ![512, 768]⟩
abbrev S768x1024 : Shape := ⟨2, ![768, 1024]⟩
abbrev S1024x512 : Shape := ⟨2, ![1024, 512]⟩
abbrev S512x512 : Shape := ⟨2, ![512, 512]⟩

abbrev nBuf : Space → Nat
  | .hbm => 20
  | .vmem => 15
  | .smem => 0
  | _ => 0

abbrev bufTy : (tb : Table) → Fin (tcTables nBuf tb) → BufTy
  | .hbm, ⟨0, _⟩ => ⟨S16896x1024, .f32⟩
  | .hbm, ⟨1, _⟩ => ⟨S16x6144, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S264, .i32⟩
  | .hbm, ⟨7, _⟩ => ⟨S264, .i1⟩
  | .hbm, ⟨8, _⟩ => ⟨S_, .i32⟩
  | .hbm, ⟨9, _⟩ => ⟨S264, .i32⟩
  | .hbm, ⟨10, _⟩ => ⟨S264, .i32⟩
  | .hbm, ⟨11, _⟩ => ⟨S264, .i32⟩
  | .hbm, ⟨12, _⟩ => ⟨S264x1, .i32⟩
  | .hbm, ⟨13, _⟩ => ⟨S264x6144, .f32⟩
  | .hbm, ⟨14, _⟩ => ⟨S264x1x6144, .f32⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1x1024, .f32⟩
  | .hbm, ⟨19, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S8x1x1024, .f32⟩
  | .local _ .vmem, ⟨3, _⟩ => ⟨S8x1x1024, .f32⟩
  | .local _ .vmem, ⟨4, _⟩ => ⟨S8x1x1024, .f32⟩
  | .local _ .vmem, ⟨5, _⟩ => ⟨S8x1x1024, .f32⟩
  | .local _ .vmem, ⟨6, _⟩ => ⟨S1x1024, .f32⟩
  | .local _ .vmem, ⟨7, _⟩ => ⟨S8x1x1024, .f32⟩
  | .local _ .vmem, ⟨8, _⟩ => ⟨S8x1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16896x1024 : Shape := ⟨2, ![16896, 1024]⟩
abbrev S16x6144 : Shape := ⟨2, ![16, 6144]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S8x2048x1024 : Shape := ⟨3, ![8, 2048, 1024]⟩
abbrev S512x1024 : Shape := ⟨2, ![512, 1024]⟩
abbrev S8x64x1024 : Shape := ⟨3, ![8, 64, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x2816 : Shape := ⟨3, ![8, 2048, 2816]⟩
abbrev S8x64 : Shape := ⟨2, ![8, 64]⟩
abbrev S8x64x1 : Shape := ⟨3, ![8, 64, 1]⟩
abbrev S8x64x2816 : Shape := ⟨3, ![8, 64, 2816]⟩

abbrev nBuf : Space → Nat
  | .hbm => 103
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16x6144, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S8x2048x1024, .f32⟩
  | .hbm, ⟨8, _⟩ => ⟨S512x1024, .f32⟩
  | .hbm, ⟨9, _⟩ => ⟨S8x64x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S8x1x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x1x1024, .f32⟩
  | .hbm, ⟨36, _⟩ => ⟨S8x2048x1024, .f32⟩
  | .hbm, ⟨37, _⟩ => ⟨S8x2048x1024, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S_, .f32⟩
  | .hbm, ⟨42, _⟩ => ⟨S8x2048x2816, .f32⟩
  | .hbm, ⟨43, _⟩ => ⟨S8x2048x2816, .f32⟩
  | .hbm, ⟨44, _⟩ => ⟨S_, .f32⟩
  | .hbm, ⟨45, _⟩ => ⟨S8x2048x2816, .f32⟩
  | .hbm, ⟨46, _⟩ => ⟨S8x2048x2816, .f32⟩
  | .hbm, ⟨47, _⟩ => ⟨S8x2048x2816, .f32⟩
  | .hbm, ⟨48, _⟩ => ⟨S8x2048x2816, .f32⟩
  | .hbm, ⟨49, _⟩ => ⟨S8x2048x2816, .f32⟩
  | .hbm, ⟨50, _⟩ => ⟨S8x2048x1024, .f32⟩
  | .hbm, ⟨51, _⟩ => ⟨S8x1x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x1024, .f32⟩
  | .hbm, ⟨56, _⟩ => ⟨S8x1024, .f32⟩
  | .hbm, ⟨57, _⟩ => ⟨S8x1024, .f32⟩
  | .hbm, ⟨58, _⟩ => ⟨S8x64x1024, .f32⟩
  | .hbm, ⟨59, _⟩ => ⟨S_, .f32⟩
  | .hbm, ⟨60, _⟩ => ⟨S8x64, .f32⟩
  | .hbm, ⟨61, _⟩ => ⟨S8x64x1, .f32⟩
  | .hbm, ⟨62, _⟩ => ⟨S_, .f32⟩
  | .hbm, ⟨63, _⟩ => ⟨S8x64x1, .f32⟩
  | .hbm, ⟨64, _⟩ => ⟨S8x64x1, .f32⟩
  | .hbm, ⟨65, _⟩ => ⟨S_, .f32⟩
  | .hbm, ⟨66, _⟩ => ⟨S8x64x1, .f32⟩
  | .hbm, ⟨67, _⟩ => ⟨S8x64x1, .f32⟩
  | .hbm, ⟨68, _⟩ => ⟨S8x64x1, .f32⟩
  | .hbm, ⟨69, _⟩ => ⟨S8x64x1024, .f32⟩
  | .hbm, ⟨70, _⟩ => ⟨S8x64x1024, .f32⟩
  | .hbm, ⟨71, _⟩ => ⟨S1x1x1024, .f32⟩
  | .hbm, ⟨72, _⟩ => ⟨S8x64x1024, .f32⟩
  | .hbm, ⟨73, _⟩ => ⟨S8x64x1024, .f32⟩
  | .hbm, ⟨74, _⟩ => ⟨S8x1x1024, .f32⟩
  | .hbm, ⟨75, _⟩ => ⟨S_, .f32⟩
  | .hbm, ⟨76, _⟩ => ⟨S8x1x1024, .f32⟩
  | .hbm, ⟨77, _⟩ => ⟨S8x1x1024, .f32⟩
  | .hbm, ⟨78, _⟩ => ⟨S8x64x1024, .f32⟩
  | .hbm, ⟨79, _⟩ => ⟨S8x64x1024, .f32⟩
  | .hbm, ⟨80, _⟩ => ⟨S8x1x1024, .f32⟩
  | .hbm, ⟨81, _⟩ => ⟨S8x64x1024, .f32⟩
  | .hbm, ⟨82, _⟩ => ⟨S8x64x1024, .f32⟩
  | .hbm, ⟨83, _⟩ => ⟨S8x64x2816, .f32⟩
  | .hbm, ⟨84, _⟩ => ⟨S8x64x2816, .f32⟩
  | .hbm, ⟨85, _⟩ => ⟨S8x64x2816, .f32⟩
  | .hbm, ⟨86, _⟩ => ⟨S_, .f32⟩
  | .hbm, ⟨87, _⟩ => ⟨S8x64x2816, .f32⟩
  | .hbm, ⟨88, _⟩ => ⟨S8x64x2816, .f32⟩
  | .hbm, ⟨89, _⟩ => ⟨S_, .f32⟩
  | .hbm, ⟨90, _⟩ => ⟨S8x64x2816, .f32⟩
  | .hbm, ⟨91, _⟩ => ⟨S8x64x2816, .f32⟩
  | .hbm, ⟨92, _⟩ => ⟨S8x64x2816, .f32⟩
  | .hbm, ⟨93, _⟩ => ⟨S8x64x2816, .f32⟩
  | .hbm, ⟨94, _⟩ => ⟨S8x64x2816, .f32⟩
  | .hbm, ⟨95, _⟩ => ⟨S8x64x1024, .f32⟩
  | .hbm, ⟨96, _⟩ => ⟨S8x1x1024, .f32⟩
  | .hbm, ⟨97, _⟩ => ⟨S8x64x1024, .f32⟩
  | .hbm, ⟨98, _⟩ => ⟨S8x64x1024, .f32⟩
  | .hbm, ⟨99, _⟩ => ⟨S8x64x1024, .f32⟩
  | .hbm, ⟨100, _⟩ => ⟨S16384x1024, .f32⟩
  | .hbm, ⟨101, _⟩ => ⟨S512x1024, .f32⟩
  | .hbm, ⟨102, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_6 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩

abbrev nD : Nat := 1
abbrev τ : Topo := Topo.v7x

variable {F : FTy → Type} [FloatOps F]
-- ==== Kernel4.lean ====
abbrev S16896x512 : Shape := ⟨2, ![16896, 512]⟩
abbrev S16896x1024 : Shape := ⟨2, ![16896, 1024]⟩
abbrev S16896x5120 : Shape := ⟨2, ![16896, 5120]⟩
abbrev S16x6144 : Shape := ⟨2, ![16, 6144]⟩
abbrev S512x1024 : Shape := ⟨2, ![512, 1024]⟩
abbrev S1024x1024 : Shape := ⟨2, ![1024, 1024]⟩
abbrev S264 : Shape := ⟨1, ![264]⟩
abbrev S_ : Shape := ⟨0, ![]⟩
abbrev S264x1 : Shape := ⟨2, ![264, 1]⟩
abbrev S264x6144 : Shape := ⟨2, ![264, 6144]⟩
abbrev S264x1x6144 : Shape := ⟨3, ![264, 1, 6144]⟩
abbrev S512x512 : Shape := ⟨2, ![512, 512]⟩
abbrev S512x3072 : Shape := ⟨2, ![512, 3072]⟩
abbrev S8x1x1024 : Shape := ⟨3, ![8, 1, 1024]⟩
abbrev S8x64x1024 : Shape := ⟨3, ![8, 64, 1024]⟩

abbrev nBuf : Space → Nat
  | .hbm => 24
  | .vmem => 18
  | .smem => 0
  | _ => 0

abbrev bufTy : (tb : Table) → Fin (tcTables nBuf tb) → BufTy
  | .hbm, ⟨0, _⟩ => ⟨S16896x512, .bf16⟩
  | .hbm, ⟨1, _⟩ => ⟨S16896x1024, .bf16⟩
  | .hbm, ⟨2, _⟩ => ⟨S16896x512, .bf16⟩
  | .hbm, ⟨3, _⟩ => ⟨S16896x5120, .bf16⟩
  | .hbm, ⟨4, _⟩ => ⟨S16896x1024, .f32⟩
  | .hbm, ⟨5, _⟩ => ⟨S16x6144, .f32⟩
  | .hbm, ⟨6, _⟩ => ⟨S512x1024, .f32⟩
  | .hbm, ⟨7, _⟩ => ⟨S1024x1024, .f32⟩
  | .hbm, ⟨8, _⟩ => ⟨S512x1024, .f32⟩
  | .hbm, ⟨9, _⟩ => ⟨S1024x1024, .f32⟩
  | .hbm, ⟨10, _⟩ => ⟨S264, .i32⟩
  | .hbm, ⟨11, _⟩ => ⟨S264, .i1⟩
  | .hbm, ⟨12, _⟩ => ⟨S_, .i32⟩
  | .hbm, ⟨13, _⟩ => ⟨S264, .i32⟩
  | .hbm, ⟨14, _⟩ => ⟨S264, .i32⟩
  | .hbm, ⟨15, _⟩ => ⟨S264, .i32⟩
  | .hbm, ⟨16, _⟩ => ⟨S264x1, .i32⟩
  | .hbm, ⟨17, _⟩ => ⟨S264x6144, .f32⟩
  | .hbm, ⟨18, _⟩ => ⟨S264x1x6144, .f32⟩
  | .hbm, ⟨19, _⟩ => ⟨S512x1024, .bf16⟩
  | .hbm, ⟨20, _⟩ => ⟨S1024x1024, .bf16⟩
  | .hbm, ⟨21, _⟩ => ⟨S512x1024, .bf16⟩
  | .hbm, ⟨22, _⟩ => ⟨S1024x1024, .bf16⟩
  | .hbm, ⟨23, _⟩ => ⟨S16896x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S8x1x1024, .f32⟩
  | .local _ .vmem, ⟨11, _⟩ => ⟨S8x1x1024, .f32⟩
  | .local _ .vmem, ⟨12, _⟩ => ⟨S512x1024, .bf16⟩
  | .local _ .vmem, ⟨13, _⟩ => ⟨S1024x1024, .bf16⟩
  | .local _ .vmem, ⟨14, _⟩ => ⟨S512x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S16896x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16896x512 : Shape := ⟨2, ![16896, 512]⟩
abbrev S16896x1024 : Shape := ⟨2, ![16896, 1024]⟩
abbrev S16896x5120 : Shape := ⟨2, ![16896, 5120]⟩
abbrev S16x6144 : Shape := ⟨2, ![16, 6144]⟩
abbrev S512x1024 : Shape := ⟨2, ![512, 1024]⟩
abbrev S1024x1024 : Shape := ⟨2, ![1024, 1024]⟩
abbrev S16896x3072 : Shape := ⟨2, ![16896, 3072]⟩
abbrev S_ : Shape := ⟨0, ![]⟩
abbrev S16x1024 : Shape := ⟨2, ![16, 1024]⟩
abbrev S16384x1024 : Shape := ⟨2, ![16384, 1024]⟩
abbrev S8x2048x1024 : Shape := ⟨3, ![8, 2048, 1024]⟩
abbrev S8x1024 : Shape := ⟨2, ![8, 1024]⟩
abbrev S8x1x1024 : Shape := ⟨3, ![8, 1, 1024]⟩
abbrev S8x64x1024 : Shape := ⟨3, ![8, 64, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16896x512, .bf16⟩
  | .hbm, ⟨1, _⟩ => ⟨S16896x1024, .bf16⟩
  | .hbm, ⟨2, _⟩ => ⟨S16896x512, .bf16⟩
  | .hbm, ⟨3, _⟩ => ⟨S16896x5120, .bf16⟩
  | .hbm, ⟨4, _⟩ => ⟨S16896x1024, .f32⟩
  | .hbm, ⟨5, _⟩ => ⟨S16x6144, .f32⟩
  | .hbm, ⟨6, _⟩ => ⟨S512x1024, .f32⟩
  | .hbm, ⟨7, _⟩ => ⟨S1024x1024, .f32⟩
  | .hbm, ⟨8, _⟩ => ⟨S512x1024, .f32⟩
  | .hbm, ⟨9, _⟩ => ⟨S1024x1024, .f32⟩
  | .hbm, ⟨10, _⟩ => ⟨S16896x3072, .bf16⟩
  | .hbm, ⟨11, _⟩ => ⟨S16896x3072, .f32⟩
  | .hbm, ⟨12, _⟩ => ⟨S16896x3072, .f32⟩
  | .hbm, ⟨13, _⟩ => ⟨S16896x3072, .f32⟩
  | .hbm, ⟨14, _⟩ => ⟨S_, .f32⟩
  | .hbm, ⟨15, _⟩ => ⟨S16896x3072, .f32⟩
  | .hbm, ⟨16, _⟩ => ⟨S16896x3072, .f32⟩
  | .hbm, ⟨17, _⟩ => ⟨S_, .f32⟩
  | .hbm, ⟨18, _⟩ => ⟨S16896x3072, .f32⟩
  | .hbm, ⟨19, _⟩ => ⟨S16896x3072, .f32⟩
  | .hbm, ⟨20, _⟩ => ⟨S16896x1024, .f32⟩
  | .hbm, ⟨21, _⟩ => ⟨S16896x512, .f32⟩
  | .hbm, ⟨22, _⟩ => ⟨S16896x1024, .f32⟩
  | .hbm, ⟨23, _⟩ => ⟨S16896x1024, .f32⟩
  | .hbm, ⟨24, _⟩ => ⟨S16896x1024, .f32⟩
  | .hbm, ⟨25, _⟩ => ⟨S16896x1024, .f32⟩
  | .hbm, ⟨26, _⟩ => ⟨S16896x1024, .f32⟩
  | .hbm, ⟨27, _⟩ => ⟨S16896x1024, .f32⟩
  | .hbm, ⟨28, _⟩ => ⟨S16896x1024, .f32⟩
  | .hbm, ⟨29, _⟩ => ⟨S16896x1024, .f32⟩
  | .hbm, ⟨30, _⟩ => ⟨S16896x512, .f32⟩
  | .hbm, ⟨31, _⟩ => ⟨S16896x1024, .f32⟩
  | .hbm, ⟨32, _⟩ => ⟨S16896x1024, .f32⟩
  | .hbm, ⟨33, _⟩ => ⟨S16896x1024, .f32⟩
  | .hbm, ⟨34, _⟩ => ⟨S16896x1024, .f32⟩
  | .hbm, ⟨35, _⟩ => ⟨S16x1024, .f32⟩
  | .hbm, ⟨36, _⟩ => ⟨S16384x1024, .f32⟩
  | .hbm, ⟨37, _⟩ => ⟨S8x2048x1024, .f32⟩
  | .hbm, ⟨38, _⟩ => ⟨S8x1024, .f32⟩
  | .hbm, ⟨39, _⟩ => ⟨S8x1x1024, .f32⟩
  | .hbm, ⟨40, _⟩ => ⟨S8x2048x1024, .f32⟩
  | .hbm, ⟨41, _⟩ => ⟨S8x2048x1024, .f32⟩
  | .hbm, ⟨42, _⟩ => ⟨S512x1024, .f32⟩
  | .hbm, ⟨43, _⟩ => ⟨S8x64x1024, .f32⟩
  | .hbm, ⟨44, _⟩ => ⟨S8x1024, .f32⟩
  | .hbm, ⟨45, _⟩ => ⟨S8x1x1024, .f32⟩
  | .hbm, ⟨46, _⟩ => ⟨S8x64x1024, .f32⟩
  | .hbm, ⟨47, _⟩ => ⟨S8x64x1024, .f32⟩
  | .hbm, ⟨48, _⟩ => ⟨S16384x1024, .f32⟩
  | .hbm, ⟨49, _⟩ => ⟨S512x1024, .f32⟩
  | .hbm, ⟨50, _⟩ => ⟨S16896x1024, .f32⟩
  | .hbm, ⟨51, _⟩ => ⟨S16896x1024, .f32⟩
  | _, _ => ⟨S16896x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel5.lean ====
abbrev S44032x1024 : Shape := ⟨2, ![44032, 1024]⟩
abbrev S41 : Shape := ⟨1, ![41]⟩
abbrev S1 : Shape := ⟨1, ![1]⟩
abbrev S8x1024x3584 : Shape := ⟨3, ![8, 1024, 3584]⟩
abbrev S8x3584x1024 : Shape := ⟨3, ![8, 3584, 1024]⟩
abbrev S41984x1024 : Shape := ⟨2, ![41984, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S256x1024 : Shape := ⟨2, ![256, 1024]⟩
abbrev S1024x512 : Shape := ⟨2, ![1024, 512]⟩
abbrev S256x512 : Shape := ⟨2, ![256, 512]⟩
abbrev S512x1024 : Shape := ⟨2, ![512, 1024]⟩
abbrev S512x512 : Shape := ⟨2, ![512, 512]⟩
abbrev S768x1024 : Shape := ⟨2, ![768, 1024]⟩
abbrev S768x512 : Shape := ⟨2, ![768, 512]⟩

abbrev nBuf : Space → Nat
  | .hbm => 5
  | .vmem => 12
  | .smem => 3
  | _ => 0

abbrev bufTy : (tb : Table) → Fin (tcTables nBuf tb) → BufTy
  | .hbm, ⟨0, _⟩ => ⟨S44032x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S41984x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | .local _ .smem, ⟨0, _⟩ => ⟨S41, .i32⟩
  | .local _ .smem, ⟨1, _⟩ => ⟨S41, .i32⟩
  | .local _ .smem, ⟨2, _⟩ => ⟨S1, .i32⟩
  | _, _ => ⟨S44032x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![41, 7], ![false, false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond11 (i : grid0.Coords) : BitVec 1 :=
  let arg1 : BitVec 32 := BitVec.ofNat 32 (i 1).val
  let c6_i32 : BitVec 32 := 6#32
  let v28 : BitVec 1 := Scalar.cmpi .eq arg1 c6_i32
  let v29 : BitVec 32 := Scalar.extui v28
  let c0_i32_11 : BitVec 32 := 0#32
  let v30 : BitVec 1 := Scalar.cmpi .ne v29 c0_i32_11
  v30

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S41.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S41) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S41.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S41) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S41.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S41) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S44032x1024 : Shape := ⟨2, ![44032, 1024]⟩
abbrev S41 : Shape := ⟨1, ![41]⟩
abbrev S1 : Shape := ⟨1, ![1]⟩
abbrev S8x1024x3584 : Shape := ⟨3, ![8, 1024, 3584]⟩
abbrev S8x3584x1024 : Shape := ⟨3, ![8, 3584, 1024]⟩
abbrev S41984x1024 : Shape := ⟨2, ![41984, 1024]⟩
abbrev S41x1 : Shape := ⟨2, ![41, 1]⟩
abbrev S41x1024 : Shape := ⟨2, ![41, 1024]⟩
abbrev S41984x1 : Shape := ⟨2, ![41984, 1]⟩
abbrev S_ : Shape := ⟨0, ![]⟩
abbrev S1x1024x3584 : Shape := ⟨3, ![1, 1024, 3584]⟩
abbrev S1024x3584 : Shape := ⟨2, ![1024, 3584]⟩
abbrev S41984x3584 : Shape := ⟨2, ![41984, 3584]⟩
abbrev S1x3584x1024 : Shape := ⟨3, ![1, 3584, 1024]⟩
abbrev S3584x1024 : Shape := ⟨2, ![3584, 1024]⟩

abbrev nBuf : Space → Nat
  | .hbm => 205
  | .vmem => 0
  | .smem => 0
  | _ => 0

abbrev hbmTy0_0 (i : Nat) : BufTy := match i % 128 with
  | 0 => ⟨S44032x1024, .f32⟩
  | 1 => ⟨S41, .i32⟩
  | 2 => ⟨S41, .i32⟩
  | 3 => ⟨S1, .i32⟩
  | 4 => ⟨S8x1024x3584, .f32⟩
  | 5 => ⟨S8x1024x3584, .f32⟩
  | 6 => ⟨S8x3584x1024, .f32⟩
  | 7 => ⟨S41984x1024, .f32⟩
  | 8 => ⟨S41x1, .i32⟩
  | 9 => ⟨S41x1024, .i32⟩
  | 10 => ⟨S41984x1, .i32⟩
  | 11 => ⟨S_, .f32⟩
  | 12 => ⟨S41984x1024, .f32⟩
  | 13 => ⟨S_, .i32⟩
  | 14 => ⟨S41984x1, .i32⟩
  | 15 => ⟨S41984x1, .i1⟩
  | 16 => ⟨S1x1024x3584, .f32⟩
  | 17 => ⟨S1024x3584, .f32⟩
  | 18 => ⟨S41984x3584, .f32⟩
  | 19 => ⟨S41984x3584, .f32⟩
  | 20 => ⟨S41984x3584, .f32⟩
  | 21 => ⟨S_, .f32⟩
  | 22 => ⟨S41984x3584, .f32⟩
  | 23 => ⟨S41984x3584, .f32⟩
  | 24 => ⟨S_, .f32⟩
  | 25 => ⟨S41984x3584, .f32⟩
  | 26 => ⟨S41984x3584, .f32⟩
  | 27 => ⟨S41984x3584, .f32⟩
  | 28 => ⟨S1x1024x3584, .f32⟩
  | 29 => ⟨S1024x3584, .f32⟩
  | 30 => ⟨S41984x3584, .f32⟩
  | 31 => ⟨S41984x3584, .f32⟩
  | 32 => ⟨S1x3584x1024, .f32⟩
  | 33 => ⟨S3584x1024, .f32⟩
  | 34 => ⟨S41984x1024, .f32⟩
  | 35 => ⟨S41984x1024, .i1⟩
  | 36 => ⟨S41984x1024, .f32⟩
  | 37 => ⟨S_, .i32⟩
  | 38 => ⟨S41984x1, .i32⟩
  | 39 => ⟨S41984x1, .i1⟩
  | 40 => ⟨S1x1024x3584, .f32⟩
  | 41 => ⟨S1024x3584, .f32⟩
  | 42 => ⟨S41984x3584, .f32⟩
  | 43 => ⟨S41984x3584, .f32⟩
  | 44 => ⟨S41984x3584, .f32⟩
  | 45 => ⟨S_, .f32⟩
  | 46 => ⟨S41984x3584, .f32⟩
  | 47 => ⟨S41984x3584, .f32⟩
  | 48 => ⟨S_, .f32⟩
  | 49 => ⟨S41984x3584, .f32⟩
  | 50 => ⟨S41984x3584, .f32⟩
  | 51 => ⟨S41984x3584, .f32⟩
  | 52 => ⟨S1x1024x3584, .f32⟩
  | 53 => ⟨S1024x3584, .f32⟩
  | 54 => ⟨S41984x3584, .f32⟩
  | 55 => ⟨S41984x3584, .f32⟩
  | 56 => ⟨S1x3584x1024, .f32⟩
  | 57 => ⟨S3584x1024, .f32⟩
  | 58 => ⟨S41984x1024, .f32⟩
  | 59 => ⟨S41984x1024, .i1⟩
  | 60 => ⟨S41984x1024, .f32⟩
  | 61 => ⟨S_, .i32⟩
  | 62 => ⟨S41984x1, .i32⟩
  | 63 => ⟨S41984x1, .i1⟩
  | 64 => ⟨S1x1024x3584, .f32⟩
  | 65 => ⟨S1024x3584, .f32⟩
  | 66 => ⟨S41984x3584, .f32⟩
  | 67 => ⟨S41984x3584, .f32⟩
  | 68 => ⟨S41984x3584, .f32⟩
  | 69 => ⟨S_, .f32⟩
  | 70 => ⟨S41984x3584, .f32⟩
  | 71 => ⟨S41984x3584, .f32⟩
  | 72 => ⟨S_, .f32⟩
  | 73 => ⟨S41984x3584, .f32⟩
  | 74 => ⟨S41984x3584, .f32⟩
  | 75 => ⟨S41984x3584, .f32⟩
  | 76 => ⟨S1x1024x3584, .f32⟩
  | 77 => ⟨S1024x3584, .f32⟩
  | 78 => ⟨S41984x3584, .f32⟩
  | 79 => ⟨S41984x3584, .f32⟩
  | 80 => ⟨S1x3584x1024, .f32⟩
  | 81 => ⟨S3584x1024, .f32⟩
  | 82 => ⟨S41984x1024, .f32⟩
  | 83 => ⟨S41984x1024, .i1⟩
  | 84 => ⟨S41984x1024, .f32⟩
  | 85 => ⟨S_, .i32⟩
  | 86 => ⟨S41984x1, .i32⟩
  | 87 => ⟨S41984x1, .i1⟩
  | 88 => ⟨S1x1024x3584, .f32⟩
  | 89 => ⟨S1024x3584, .f32⟩
  | 90 => ⟨S41984x3584, .f32⟩
  | 91 => ⟨S41984x3584, .f32⟩
  | 92 => ⟨S41984x3584, .f32⟩
  | 93 => ⟨S_, .f32⟩
  | 94 => ⟨S41984x3584, .f32⟩
  | 95 => ⟨S41984x3584, .f32⟩
  | 96 => ⟨S_, .f32⟩
  | 97 => ⟨S41984x3584, .f32⟩
  | 98 => ⟨S41984x3584, .f32⟩
  | 99 => ⟨S41984x3584, .f32⟩
  | 100 => ⟨S1x1024x3584, .f32⟩
  | 101 => ⟨S1024x3584, .f32⟩
  | 102 => ⟨S41984x3584, .f32⟩
  | 103 => ⟨S41984x3584, .f32⟩
  | 104 => ⟨S1x3584x1024, .f32⟩
  | 105 => ⟨S3584x1024, .f32⟩
  | 106 => ⟨S41984x1024, .f32⟩
  | 107 => ⟨S41984x1024, .i1⟩
  | 108 => ⟨S41984x1024, .f32⟩
  | 109 => ⟨S_, .i32⟩
  | 110 => ⟨S41984x1, .i32⟩
  | 111 => ⟨S41984x1, .i1⟩
  | 112 => ⟨S1x1024x3584, .f32⟩
  | 113 => ⟨S1024x3584, .f32⟩
  | 114 => ⟨S41984x3584, .f32⟩
  | 115 => ⟨S41984x3584, .f32⟩
  | 116 => ⟨S41984x3584, .f32⟩
  | 117 => ⟨S_, .f32⟩
  | 118 => ⟨S41984x3584, .f32⟩
  | 119 => ⟨S41984x3584, .f32⟩
  | 120 => ⟨S_, .f32⟩
  | 121 => ⟨S41984x3584, .f32⟩
  | 122 => ⟨S41984x3584, .f32⟩
  | 123 => ⟨S41984x3584, .f32⟩
  | 124 => ⟨S1x1024x3584, .f32⟩
  | 125 => ⟨S1024x3584, .f32⟩
  | 126 => ⟨S41984x3584, .f32⟩
  | 127 => ⟨S41984x3584, .f32⟩
  | _ => ⟨S44032x1024, .f32⟩

abbrev hbmTy0_1 (i : Nat) : BufTy := match i % 128 with
  | 0 => ⟨S1x3584x1024, .f32⟩
  | 1 => ⟨S3584x1024, .f32⟩
  | 2 => ⟨S41984x1024, .f32⟩
  | 3 => ⟨S41984x1024, .i1⟩
  | 4 => ⟨S41984x1024, .f32⟩
  | 5 => ⟨S_, .i32⟩
  | 6 => ⟨S41984x1, .i32⟩
  | 7 => ⟨S41984x1, .i1⟩
  | 8 => ⟨S1x1024x3584, .f32⟩
  | 9 => ⟨S1024x3584, .f32⟩
  | 10 => ⟨S41984x3584, .f32⟩
  | 11 => ⟨S41984x3584, .f32⟩
  | 12 => ⟨S41984x3584, .f32⟩
  | 13 => ⟨S_, .f32⟩
  | 14 => ⟨S41984x3584, .f32⟩
  | 15 => ⟨S41984x3584, .f32⟩
  | 16 => ⟨S_, .f32⟩
  | 17 => ⟨S41984x3584, .f32⟩
  | 18 => ⟨S41984x3584, .f32⟩
  | 19 => ⟨S41984x3584, .f32⟩
  | 20 => ⟨S1x1024x3584, .f32⟩
  | 21 => ⟨S1024x3584, .f32⟩
  | 22 => ⟨S41984x3584, .f32⟩
  | 23 => ⟨S41984x3584, .f32⟩
  | 24 => ⟨S1x3584x1024, .f32⟩
  | 25 => ⟨S3584x1024, .f32⟩
  | 26 => ⟨S41984x1024, .f32⟩
  | 27 => ⟨S41984x1024, .i1⟩
  | 28 => ⟨S41984x1024, .f32⟩
  | 29 => ⟨S_, .i32⟩
  | 30 => ⟨S41984x1, .i32⟩
  | 31 => ⟨S41984x1, .i1⟩
  | 32 => ⟨S1x1024x3584, .f32⟩
  | 33 => ⟨S1024x3584, .f32⟩
  | 34 => ⟨S41984x3584, .f32⟩
  | 35 => ⟨S41984x3584, .f32⟩
  | 36 => ⟨S41984x3584, .f32⟩
  | 37 => ⟨S_, .f32⟩
  | 38 => ⟨S41984x3584, .f32⟩
  | 39 => ⟨S41984x3584, .f32⟩
  | 40 => ⟨S_, .f32⟩
  | 41 => ⟨S41984x3584, .f32⟩
  | 42 => ⟨S41984x3584, .f32⟩
  | 43 => ⟨S41984x3584, .f32⟩
  | 44 => ⟨S1x1024x3584, .f32⟩
  | 45 => ⟨S1024x3584, .f32⟩
  | 46 => ⟨S41984x3584, .f32⟩
  | 47 => ⟨S41984x3584, .f32⟩
  | 48 => ⟨S1x3584x1024, .f32⟩
  | 49 => ⟨S3584x1024, .f32⟩
  | 50 => ⟨S41984x1024, .f32⟩
  | 51 => ⟨S41984x1024, .i1⟩
  | 52 => ⟨S41984x1024, .f32⟩
  | 53 => ⟨S_, .i32⟩
  | 54 => ⟨S41984x1, .i32⟩
  | 55 => ⟨S41984x1, .i1⟩
  | 56 => ⟨S1x1024x3584, .f32⟩
  | 57 => ⟨S1024x3584, .f32⟩
  | 58 => ⟨S41984x3584, .f32⟩
  | 59 => ⟨S41984x3584, .f32⟩
  | 60 => ⟨S41984x3584, .f32⟩
  | 61 => ⟨S_, .f32⟩
  | 62 => ⟨S41984x3584, .f32⟩
  | 63 => ⟨S41984x3584, .f32⟩
  | 64 => ⟨S_, .f32⟩
  | 65 => ⟨S41984x3584, .f32⟩
  | 66 => ⟨S41984x3584, .f32⟩
  | 67 => ⟨S41984x3584, .f32⟩
  | 68 => ⟨S1x1024x3584, .f32⟩
  | 69 => ⟨S1024x3584, .f32⟩
  | 70 => ⟨S41984x3584, .f32⟩
  | 71 => ⟨S41984x3584, .f32⟩
  | 72 => ⟨S1x3584x1024, .f32⟩
  | 73 => ⟨S3584x1024, .f32⟩
  | 74 => ⟨S41984x1024, .f32⟩
  | 75 => ⟨S41984x1024, .i1⟩
  | 76 => ⟨S41984x1024, .f32⟩
  | _ => ⟨S44032x1024, .f32⟩

abbrev hbmTy (i : Nat) : BufTy := match i / 128 with
  | 0 => hbmTy0_0 i
  | 1 => hbmTy0_1 i
  | _ => ⟨S44032x1024, .f32⟩

abbrev bufTy : (tb : Table) → Fin (tcTables nBuf tb) → BufTy
  | .hbm, ⟨i, _⟩ => hbmTy i
  | _, _ => ⟨S44032x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_v18 : Ref sig .tc := ⟨.hbm, 36, rfl⟩
abbrev main_c_0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call3_v0 : Ref sig .tc := ⟨.hbm, 59, rfl⟩
abbrev main_v32 : Ref sig .tc := ⟨.hbm, 60, rfl⟩
abbrev main_c_1 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_call4_v0 : Ref sig .tc := ⟨.hbm, 67, rfl⟩
abbrev main_call4_v1 : Ref sig .tc := ⟨.hbm, 68, rfl⟩
abbrev main_call4_cst : Ref sig .tc := ⟨.hbm, 69, rfl⟩
abbrev main_call4_v2 : Ref sig .tc := ⟨.hbm, 70, rfl⟩
abbrev main_call4_v3 : Ref sig .tc := ⟨.hbm, 71, rfl⟩
abbrev main_call4_cst_0 : Ref sig .tc := ⟨.hbm, 72, rfl⟩
abbrev main_call4_v4 : Ref sig .tc := ⟨.hbm, 73, rfl⟩
abbrev main_call4_v5 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_call5_v0 : Ref sig .tc := ⟨.hbm, 83, rfl⟩
abbrev main_v46 : Ref sig .tc := ⟨.hbm, 84, rfl⟩
abbrev main_c_2 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_call6_v0 : Ref sig .tc := ⟨.hbm, 91, rfl⟩
abbrev main_call6_v1 : Ref sig .tc := ⟨.hbm, 92, rfl⟩
abbrev main_call6_cst : Ref sig .tc := ⟨.hbm, 93, rfl⟩
abbrev main_call6_v2 : Ref sig .tc := ⟨.hbm, 94, rfl⟩
abbrev main_call6_v3 : Ref sig .tc := ⟨.hbm, 95, rfl⟩
abbrev main_call6_cst_0 : Ref sig .tc := ⟨.hbm, 96, rfl⟩
abbrev main_call6_v4 : Ref sig .tc := ⟨.hbm, 97, rfl⟩
abbrev main_call6_v5 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_call7_v0 : Ref sig .tc := ⟨.hbm, 107, rfl⟩
abbrev main_v60 : Ref sig .tc := ⟨.hbm, 108, rfl⟩
abbrev main_c_3 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_call8_v0 : Ref sig .tc := ⟨.hbm, 115, rfl⟩
abbrev main_call8_v1 : Ref sig .tc := ⟨.hbm, 116, rfl⟩
abbrev main_call8_cst : Ref sig .tc := ⟨.hbm, 117, rfl⟩
abbrev main_call8_v2 : Ref sig .tc := ⟨.hbm, 118, rfl⟩
abbrev main_call8_v3 : Ref sig .tc := ⟨.hbm, 119, rfl⟩
abbrev main_call8_cst_0 : Ref sig .tc := ⟨.hbm, 120, rfl⟩
abbrev main_call8_v4 : Ref sig .tc := ⟨.hbm, 121, rfl⟩
abbrev main_call8_v5 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_call9_v0 : Ref sig .tc := ⟨.hbm, 131, rfl⟩
abbrev main_v74 : Ref sig .tc := ⟨.hbm, 132, rfl⟩
abbrev main_c_4 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_call10_v0 : Ref sig .tc := ⟨.hbm, 139, rfl⟩
abbrev main_call10_v1 : Ref sig .tc := ⟨.hbm, 140, rfl⟩
abbrev main_call10_cst : Ref sig .tc := ⟨.hbm, 141, rfl⟩
abbrev main_call10_v2 : Ref sig .tc := ⟨.hbm, 142, rfl⟩
abbrev main_call10_v3 : Ref sig .tc := ⟨.hbm, 143, rfl⟩
abbrev main_call10_cst_0 : Ref sig .tc := ⟨.hbm, 144, rfl⟩
abbrev main_call10_v4 : Ref sig .tc := ⟨.hbm, 145, rfl⟩
abbrev main_call10_v5 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_call11_v0 : Ref sig .tc := ⟨.hbm, 155, rfl⟩
abbrev main_v88 : Ref sig .tc := ⟨.hbm, 156, rfl⟩
abbrev main_c_5 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_call12_v0 : Ref sig .tc := ⟨.hbm, 163, rfl⟩
abbrev main_call12_v1 : Ref sig .tc := ⟨.hbm, 164, rfl⟩
abbrev main_call12_cst : Ref sig .tc := ⟨.hbm, 165, rfl⟩
abbrev main_call12_v2 : Ref sig .tc := ⟨.hbm, 166, rfl⟩
abbrev main_call12_v3 : Ref sig .tc := ⟨.hbm, 167, rfl⟩
abbrev main_call12_cst_0 : Ref sig .tc := ⟨.hbm, 168, rfl⟩
abbrev main_call12_v4 : Ref sig .tc := ⟨.hbm, 169, rfl⟩
abbrev main_call12_v5 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_call13_v0 : Ref sig .tc := ⟨.hbm, 179, rfl⟩
abbrev main_v102 : Ref sig .tc := ⟨.hbm, 180, rfl⟩
abbrev main_c_6 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_call14_v0 : Ref sig .tc := ⟨.hbm, 187, rfl⟩
abbrev main_call14_v1 : Ref sig .tc := ⟨.hbm, 188, rfl⟩
abbrev main_call14_cst : Ref sig .tc := ⟨.hbm, 189, rfl⟩
abbrev main_call14_v2 : Ref sig .tc := ⟨.hbm, 190, rfl⟩
abbrev main_call14_v3 : Ref sig .tc := ⟨.hbm, 191, rfl⟩
abbrev main_call14_cst_0 : Ref sig .tc := ⟨.hbm, 192, rfl⟩
abbrev main_call14_v4 : Ref sig .tc := ⟨.hbm, 193, rfl⟩
abbrev main_call14_v5 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_call15_v0 : Ref sig .tc := ⟨.hbm, 203, rfl⟩
abbrev main_v116 : Ref sig .tc := ⟨.hbm, 204, rfl⟩

abbrev nD : Nat := 1
abbrev τ : Topo := Topo.v7x

variable {F : FTy → Type} [FloatOps F]
-- ==== Kernel6.lean ====
abbrev S16896x3328 : Shape := ⟨2, ![16896, 3328]⟩
abbrev S8 : Shape := ⟨1, ![8]⟩
abbrev S8x128x2x64 : Shape := ⟨4, ![8, 128, 2, 64]⟩
abbrev S16896x512 : Shape := ⟨2, ![16896, 512]⟩
abbrev S256x512 : Shape := ⟨2, ![256, 512]⟩
abbrev S8x128x128 : Shape := ⟨3, ![8, 128, 128]⟩
abbrev S64 : Shape := ⟨1, ![64]⟩
abbrev S_ : Shape := ⟨0, ![]⟩
abbrev S64x1 : Shape := ⟨2, ![64, 1]⟩
abbrev S1x8 : Shape := ⟨2, ![1, 8]⟩
abbrev S64x8 : Shape := ⟨2, ![64, 8]⟩
abbrev S64x48 : Shape := ⟨2, ![64, 48]⟩
abbrev S64x64 : Shape := ⟨2, ![64, 64]⟩
abbrev S64x128 : Shape := ⟨2, ![64, 128]⟩
abbrev S8x1 : Shape := ⟨2, ![8, 1]⟩
abbrev S8x128 : Shape := ⟨2, ![8, 128]⟩
abbrev S8x64x128 : Shape := ⟨3, ![8, 64, 128]⟩
abbrev S64x512 : Shape := ⟨2, ![64, 512]⟩
abbrev S1x128x128 : Shape := ⟨3, ![1, 128, 128]⟩
abbrev S1x64x128 : Shape := ⟨3, ![1, 64, 128]⟩
abbrev S256x128 : Shape := ⟨2, ![256, 128]⟩
abbrev S128x256 : Shape := ⟨2, ![128, 256]⟩
abbrev S128x128 : Shape := ⟨2, ![128, 128]⟩
abbrev S128x512 : Shape := ⟨2, ![128, 512]⟩
abbrev S128x64 : Shape := ⟨2, ![128, 64]⟩
abbrev S512x64 : Shape := ⟨2, ![512, 64]⟩
abbrev S256x64 : Shape := ⟨2, ![256, 64]⟩
abbrev S1x1 : Shape := ⟨2, ![1, 1]⟩
abbrev S1x128 : Shape := ⟨2, ![1, 128]⟩
abbrev S1x512 : Shape := ⟨2, ![1, 512]⟩
abbrev S512 : Shape := ⟨1, ![512]⟩
abbrev S64x256 : Shape := ⟨2, ![64, 256]⟩

abbrev nBuf : Space → Nat
  | .hbm => 48
  | .vmem => 23
  | .smem => 0
  | _ => 0

abbrev bufTy : (tb : Table) → Fin (tcTables nBuf tb) → BufTy
  | .hbm, ⟨0, _⟩ => ⟨S16896x3328, .f32⟩
  | .hbm, ⟨1, _⟩ => ⟨S8, .f32⟩
  | .hbm, ⟨2, _⟩ => ⟨S8x128x2x64, .f32⟩
  | .hbm, ⟨3, _⟩ => ⟨S8x128x2x64, .f32⟩
  | .hbm, ⟨4, _⟩ => ⟨S16896x512, .bf16⟩
  | .hbm, ⟨5, _⟩ => ⟨S256x512, .f32⟩
  | .hbm, ⟨6, _⟩ => ⟨S8x128x128, .f32⟩
  | .hbm, ⟨7, _⟩ => ⟨S8x128x128, .f32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S64, .f32⟩
  | .hbm, ⟨23, _⟩ => ⟨S64x1, .f32⟩
  | .hbm, ⟨24, _⟩ => ⟨S1x8, .f32⟩
  | .hbm, ⟨25, _⟩ => ⟨S64x8, .f32⟩
  | .hbm, ⟨26, _⟩ => ⟨S64x8, .f32⟩
  | .hbm, ⟨27, _⟩ => ⟨S64x8, .f32⟩
  | .hbm, ⟨28, _⟩ => ⟨S64x8, .f32⟩
  | .hbm, ⟨29, _⟩ => ⟨S64x8, .f32⟩
  | .hbm, ⟨30, _⟩ => ⟨S_, .f32⟩
  | .hbm, ⟨31, _⟩ => ⟨S64x48, .f32⟩
  | .hbm, ⟨32, _⟩ => ⟨S_, .f32⟩
  | .hbm, ⟨33, _⟩ => ⟨S64x48, .f32⟩
  | .hbm, ⟨34, _⟩ => ⟨S_, .f32⟩
  | .hbm, ⟨35, _⟩ => ⟨S64x8, .f32⟩
  | .hbm, ⟨36, _⟩ => ⟨S64x64, .f32⟩
  | .hbm, ⟨37, _⟩ => ⟨S64x64, .f32⟩
  | .hbm, ⟨38, _⟩ => ⟨S64x8, .f32⟩
  | .hbm, ⟨39, _⟩ => ⟨S64x64, .f32⟩
  | .hbm, ⟨40, _⟩ => ⟨S64x128, .f32⟩
  | .hbm, ⟨41, _⟩ => ⟨S64x128, .f32⟩
  | .hbm, ⟨42, _⟩ => ⟨S64x128, .f32⟩
  | .hbm, ⟨43, _⟩ => ⟨S8x1, .f32⟩
  | .hbm, ⟨44, _⟩ => ⟨S8x128, .f32⟩
  | .hbm, ⟨45, _⟩ => ⟨S16896x512, .bf16⟩
  | .hbm, ⟨46, _⟩ => ⟨S8x64x128, .f32⟩
  | .hbm, ⟨47, _⟩ => ⟨S8x64x128, .f32⟩
  | .local _ .vmem, ⟨0, _⟩ => ⟨S64x512, .f32⟩
  | .local _ .vmem, ⟨1, _⟩ => ⟨S64x512, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S256x512, .f32⟩
  | .local _ .vmem, ⟨14, _⟩ => ⟨S8x128, .f32⟩
  | .local _ .vmem, ⟨15, _⟩ => ⟨S64x512, .bf16⟩
  | .local _ .vmem, ⟨16, _⟩ => ⟨S64x512, .bf16⟩
  | .local _ .vmem, ⟨17, _⟩ => ⟨S1x64x128, .f32⟩
  | .local _ .vmem, ⟨18, _⟩ => ⟨S1x64x128, .f32⟩
  | .local _ .vmem, ⟨19, _⟩ => ⟨S1x64x128, .f32⟩
  | .local _ .vmem, ⟨20, _⟩ => ⟨S1x64x128, .f32⟩
  | .local _ .vmem, ⟨21, _⟩ => ⟨S256x128, .bf16⟩
  | .local _ .vmem, ⟨22, _⟩ => ⟨S128x256, .bf16⟩
  | _, _ => ⟨S16896x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v32_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_mult2 (i : grid0.Coords) : BitVec 32 :=
  let arg1 : BitVec 32 := BitVec.ofNat 32 (i 1).val
  let c64_i32 : BitVec 32 := 64#32
  let v7 : BitVec 32 := Scalar.muli arg1 c64_i32
  let c0_i32_3 : BitVec 32 := 0#32
  let v8 : BitVec 32 := Scalar.addi v7 c0_i32_3
  v8
def k0_off1 (i : grid0.Coords) : Fin 2 → Nat :=
  let arg1 : BitVec 32 := BitVec.ofNat 32 (i 1).val
  let c64_i32 : BitVec 32 := 64#32
  let v7 : BitVec 32 := Scalar.muli arg1 c64_i32
  let c0_i32_3 : BitVec 32 := 0#32
  let v8 : BitVec 32 := Scalar.addi v7 c0_i32_3
  let v9 : BitVec 32 := v8
  let v10 : Index := Scalar.indexCast v9
  let c0_4 : Index := 0#32
  ![v10.toNat, 0]
def k0_off2 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let c0_i32_1 : BitVec 32 := 0#32
  let v5 : BitVec 32 := Scalar.addi v4 c0_i32_1
  let v39 : Index := Scalar.indexCast v5
  let c0_8 : Index := 0#32
  ![v39.toNat, 0]
def k0_off3 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let c0_i32_1 : BitVec 32 := 0#32
  let v5 : BitVec 32 := Scalar.addi v4 c0_i32_1
  let v47 : Index := Scalar.indexCast v5
  let c64 : Index := 64#32
  ![v47.toNat, 64]
def k0_off4 (i : grid0.Coords) : Fin 2 → Nat :=
  let c0_26 : Index := 0#32
  let arg1 : BitVec 32 := BitVec.ofNat 32 (i 1).val
  let c128_i32 : BitVec 32 := 128#32
  let v3 : BitVec 32 := Scalar.muli arg1 c128_i32
  let v4 : BitVec 32 := v3
  let c0_i32_1 : BitVec 32 := 0#32
  let v5 : BitVec 32 := Scalar.addi v4 c0_i32_1
  let v111 : Index := Scalar.indexCast v5
  ![0, v111.toNat]
def k0_off5 (i : grid0.Coords) : Fin 2 → Nat :=
  let c64_31 : Index := 64#32
  let arg1 : BitVec 32 := BitVec.ofNat 32 (i 1).val
  let c128_i32 : BitVec 32 := 128#32
  let v3 : BitVec 32 := Scalar.muli arg1 c128_i32
  let v4 : BitVec 32 := v3
  let c0_i32_1 : BitVec 32 := 0#32
  let v5 : BitVec 32 := Scalar.addi v4 c0_i32_1
  let v130 : Index := Scalar.indexCast v5
  ![64, v130.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c3_i32 : BitVec 32 := 3#32
  let c0_i32 : BitVec 32 := 0#32
  ![v2.toNat, c3_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c24_i32 : BitVec 32 := 24#32
  let c0_i32 : BitVec 32 := 0#32
  ![v0.toNat, c24_i32.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c25_i32 : BitVec 32 := 25#32
  let c0_i32 : BitVec 32 := 0#32
  ![v0.toNat, c25_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c0_i32 : BitVec 32 := 0#32
  let c0_i32_0 : BitVec 32 := 0#32
  ![v2.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference6Ideal.lean ====
abbrev S16896x3328 : Shape := ⟨2, ![16896, 3328]⟩
abbrev S8 : Shape := ⟨1, ![8]⟩
abbrev S8x128x2x64 : Shape := ⟨4, ![8, 128, 2, 64]⟩
abbrev S16896x512 : Shape := ⟨2, ![16896, 512]⟩
abbrev S64 : Shape := ⟨1, ![64]⟩
abbrev S_ : Shape := ⟨0, ![]⟩
abbrev S64x1 : Shape := ⟨2, ![64, 1]⟩
abbrev S1x8 : Shape := ⟨2, ![1, 8]⟩
abbrev S64x8 : Shape := ⟨2, ![64, 8]⟩
abbrev S1x64x1x8 : Shape := ⟨4, ![1, 64, 1, 8]⟩
abbrev S512x128 : Shape := ⟨2, ![512, 128]⟩
abbrev S8x64x2x64 : Shape := ⟨4, ![8, 64, 2, 64]⟩
abbrev S8x64x2x8 : Shape := ⟨4, ![8, 64, 2, 8]⟩
abbrev S8x64x2x48 : Shape := ⟨4, ![8, 64, 2, 48]⟩
abbrev S8x64x128 : Shape := ⟨3, ![8, 64, 128]⟩

abbrev nBuf : Space → Nat
  | .hbm => 49
  | .vmem => 0
  | .smem => 0
  | _ => 0

abbrev bufTy : (tb : Table) → Fin (tcTables nBuf tb) → BufTy
  | .hbm, ⟨0, _⟩ => ⟨S16896x3328, .f32⟩
  | .hbm, ⟨1, _⟩ => ⟨S8, .f32⟩
  | .hbm, ⟨2, _⟩ => ⟨S8x128x2x64, .f32⟩
  | .hbm, ⟨3, _⟩ => ⟨S8x128x2x64, .f32⟩
  | .hbm, ⟨4, _⟩ => ⟨S16896x512, .bf16⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S64, .f32⟩
  | .hbm, ⟨10, _⟩ => ⟨S64x1, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S1x8, .f32⟩
  | .hbm, ⟨22, _⟩ => ⟨S64x8, .f32⟩
  | .hbm, ⟨23, _⟩ => ⟨S64x8, .f32⟩
  | .hbm, ⟨24, _⟩ => ⟨S64x8, .f32⟩
  | .hbm, ⟨25, _⟩ => ⟨S64x8, .f32⟩
  | .hbm, ⟨26, _⟩ => ⟨S1x64x1x8, .f32⟩
  | .hbm, ⟨27, _⟩ => ⟨S64x8, .f32⟩
  | .hbm, ⟨28, _⟩ => ⟨S1x64x1x8, .f32⟩
  | .hbm, ⟨29, _⟩ => ⟨S512x128, .f32⟩
  | .hbm, ⟨30, _⟩ => ⟨S8x64x2x64, .f32⟩
  | .hbm, ⟨31, _⟩ => ⟨S8x64x2x8, .f32⟩
  | .hbm, ⟨32, _⟩ => ⟨S8x64x2x8, .f32⟩
  | .hbm, ⟨33, _⟩ => ⟨S8x64x2x8, .f32⟩
  | .hbm, ⟨34, _⟩ => ⟨S8x64x2x8, .f32⟩
  | .hbm, ⟨35, _⟩ => ⟨S8x64x2x8, .f32⟩
  | .hbm, ⟨36, _⟩ => ⟨S8x64x2x8, .f32⟩
  | .hbm, ⟨37, _⟩ => ⟨S8x64x2x8, .f32⟩
  | .hbm, ⟨38, _⟩ => ⟨S8x64x2x8, .f32⟩
  | .hbm, ⟨39, _⟩ => ⟨S8x64x2x8, .f32⟩
  | .hbm, ⟨40, _⟩ => ⟨S8x64x2x8, .f32⟩
  | .hbm, ⟨41, _⟩ => ⟨S8x64x2x8, .f32⟩
  | .hbm, ⟨42, _⟩ => ⟨S8x64x2x8, .f32⟩
  | .hbm, ⟨43, _⟩ => ⟨S8x64x2x48, .f32⟩
  | .hbm, ⟨44, _⟩ => ⟨S8x64x2x64, .f32⟩
  | .hbm, ⟨45, _⟩ => ⟨S512x128, .f32⟩
  | .hbm, ⟨46, _⟩ => ⟨S8x64x2x64, .f32⟩
  | .hbm, ⟨47, _⟩ => ⟨S8x64x128, .f32⟩
  | .hbm, ⟨48, _⟩ => ⟨S8x64x128, .f32⟩
  | _, _ => ⟨S16896x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Kernel7.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S16x6144 : Shape := ⟨2, ![16, 6144]⟩
abbrev S1x1024x1536 : Shape := ⟨3, ![1, 1024, 1536]⟩
abbrev S1x1x1536 : Shape := ⟨3, ![1, 1, 1536]⟩
abbrev S16x1536 : Shape := ⟨2, ![16, 1536]⟩
abbrev S1024x1536 : Shape := ⟨2, ![1024, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S16x1536, .f32⟩
  | .local _ .vmem, ⟨6, _⟩ => ⟨S16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩

abbrev nBuf : Space → Nat
  | .hbm => 20
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel8.lean ====
abbrev S2x1024x8456 : Shape := ⟨3, ![2, 1024, 8456]⟩
abbrev S1024x3584 : Shape := ⟨2, ![1024, 3584]⟩
abbrev S1024x4864 : Shape := ⟨2, ![1024, 4864]⟩
abbrev S8x1024 : Shape := ⟨2, ![8, 1024]⟩
abbrev S1x256x8456 : Shape := ⟨3, ![1, 256, 8456]⟩
abbrev S256x3584 : Shape := ⟨2, ![256, 3584]⟩
abbrev S256x4864 : Shape := ⟨2, ![256, 4864]⟩
abbrev S8x256 : Shape := ⟨2, ![8, 256]⟩
abbrev S256x8456 : Shape := ⟨2, ![256, 8456]⟩
abbrev S256x8 : Shape := ⟨2, ![256, 8]⟩

abbrev nBuf : Space → Nat
  | .hbm => 4
  | .vmem => 8
  | .smem => 0
  | _ => 0

abbrev bufTy : (tb : Table) → Fin (tcTables nBuf tb) → BufTy
  | .hbm, ⟨0, _⟩ => ⟨S2x1024x8456, .f32⟩
  | .hbm, ⟨1, _⟩ => ⟨S1024x3584, .bf16⟩
  | .hbm, ⟨2, _⟩ => ⟨S1024x4864, .bf16⟩
  | .hbm, ⟨3, _⟩ => ⟨S8x1024, .bf16⟩
  | .local _ .vmem, ⟨0, _⟩ => ⟨S1x256x8456, .f32⟩
  | .local _ .vmem, ⟨1, _⟩ => ⟨S1x256x8456, .f32⟩
  | .local _ .vmem, ⟨2, _⟩ => ⟨S256x3584, .bf16⟩
  | .local _ .vmem, ⟨3, _⟩ => ⟨S256x3584, .bf16⟩
  | .local _ .vmem, ⟨4, _⟩ => ⟨S256x4864, .bf16⟩
  | .local _ .vmem, ⟨5, _⟩ => ⟨S256x4864, .bf16⟩
  | .local _ .vmem, ⟨6, _⟩ => ⟨S8x256, .bf16⟩
  | .local _ .vmem, ⟨7, _⟩ => ⟨S8x256, .bf16⟩
  | _, _ => ⟨S2x1024x8456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256x8456 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4864 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S2x1024x8456 : Shape := ⟨3, ![2, 1024, 8456]⟩
abbrev S1x1024x8456 : Shape := ⟨3, ![1, 1024, 8456]⟩
abbrev S1024x8456 : Shape := ⟨2, ![1024, 8456]⟩
abbrev S1024x3584 : Shape := ⟨2, ![1024, 3584]⟩
abbrev S1024x4864 : Shape := ⟨2, ![1024, 4864]⟩
abbrev S1024x8 : Shape := ⟨2, ![1024, 8]⟩
abbrev S8x1024 : Shape := ⟨2, ![8, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x1024x8456, .f32⟩
  | .hbm, ⟨1, _⟩ => ⟨S1x1024x8456, .f32⟩
  | .hbm, ⟨2, _⟩ => ⟨S1024x8456, .f32⟩
  | .hbm, ⟨3, _⟩ => ⟨S1024x8456, .bf16⟩
  | .hbm, ⟨4, _⟩ => ⟨S1024x3584, .bf16⟩
  | .hbm, ⟨5, _⟩ => ⟨S1024x4864, .bf16⟩
  | .hbm, ⟨6, _⟩ => ⟨S1024x8, .bf16⟩
  | .hbm, ⟨7, _⟩ => ⟨S8x1024, .bf16⟩
  | _, _ => ⟨S2x1024x8456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== Kernel9.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S16x6144 : Shape := ⟨2, ![16, 6144]⟩
abbrev S1x1024x1536 : Shape := ⟨3, ![1, 1024, 1536]⟩
abbrev S1x1x1536 : Shape := ⟨3, ![1, 1, 1536]⟩
abbrev S16x1536 : Shape := ⟨2, ![16, 1536]⟩
abbrev S1024x1536 : Shape := ⟨2, ![1024, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S16x1536, .f32⟩
  | .local _ .vmem, ⟨6, _⟩ => ⟨S16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩

abbrev nBuf : Space → Nat
  | .hbm => 20
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel10.lean ====
abbrev S2x1024x8456 : Shape := ⟨3, ![2, 1024, 8456]⟩
abbrev S1024x3584 : Shape := ⟨2, ![1024, 3584]⟩
abbrev S1024x4864 : Shape := ⟨2, ![1024, 4864]⟩
abbrev S8x1024 : Shape := ⟨2, ![8, 1024]⟩
abbrev S1x256x8456 : Shape := ⟨3, ![1, 256, 8456]⟩
abbrev S256x3584 : Shape := ⟨2, ![256, 3584]⟩
abbrev S256x4864 : Shape := ⟨2, ![256, 4864]⟩
abbrev S8x256 : Shape := ⟨2, ![8, 256]⟩
abbrev S256x8456 : Shape := ⟨2, ![256, 8456]⟩
abbrev S256x8 : Shape := ⟨2, ![256, 8]⟩

abbrev nBuf : Space → Nat
  | .hbm => 4
  | .vmem => 8
  | .smem => 0
  | _ => 0

abbrev bufTy : (tb : Table) → Fin (tcTables nBuf tb) → BufTy
  | .hbm, ⟨0, _⟩ => ⟨S2x1024x8456, .f32⟩
  | .hbm, ⟨1, _⟩ => ⟨S1024x3584, .bf16⟩
  | .hbm, ⟨2, _⟩ => ⟨S1024x4864, .bf16⟩
  | .hbm, ⟨3, _⟩ => ⟨S8x1024, .bf16⟩
  | .local _ .vmem, ⟨0, _⟩ => ⟨S1x256x8456, .f32⟩
  | .local _ .vmem, ⟨1, _⟩ => ⟨S1x256x8456, .f32⟩
  | .local _ .vmem, ⟨2, _⟩ => ⟨S256x3584, .bf16⟩
  | .local _ .vmem, ⟨3, _⟩ => ⟨S256x3584, .bf16⟩
  | .local _ .vmem, ⟨4, _⟩ => ⟨S256x4864, .bf16⟩
  | .local _ .vmem, ⟨5, _⟩ => ⟨S256x4864, .bf16⟩
  | .local _ .vmem, ⟨6, _⟩ => ⟨S8x256, .bf16⟩
  | .local _ .vmem, ⟨7, _⟩ => ⟨S8x256, .bf16⟩
  | _, _ => ⟨S2x1024x8456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256x8456 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4864 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S2x1024x8456 : Shape := ⟨3, ![2, 1024, 8456]⟩
abbrev S1x1024x8456 : Shape := ⟨3, ![1, 1024, 8456]⟩
abbrev S1024x8456 : Shape := ⟨2, ![1024, 8456]⟩
abbrev S1024x3584 : Shape := ⟨2, ![1024, 3584]⟩
abbrev S1024x4864 : Shape := ⟨2, ![1024, 4864]⟩
abbrev S1024x8 : Shape := ⟨2, ![1024, 8]⟩
abbrev S8x1024 : Shape := ⟨2, ![8, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x1024x8456, .f32⟩
  | .hbm, ⟨1, _⟩ => ⟨S1x1024x8456, .f32⟩
  | .hbm, ⟨2, _⟩ => ⟨S1024x8456, .f32⟩
  | .hbm, ⟨3, _⟩ => ⟨S1024x8456, .bf16⟩
  | .hbm, ⟨4, _⟩ => ⟨S1024x3584, .bf16⟩
  | .hbm, ⟨5, _⟩ => ⟨S1024x4864, .bf16⟩
  | .hbm, ⟨6, _⟩ => ⟨S1024x8, .bf16⟩
  | .hbm, ⟨7, _⟩ => ⟨S8x1024, .bf16⟩
  | _, _ => ⟨S2x1024x8456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== Kernel11.lean ====
abbrev S16896x1024 : Shape := ⟨2, ![16896, 1024]⟩
abbrev S16x6144 : Shape := ⟨2, ![16, 6144]⟩
abbrev S1024 : Shape := ⟨1, ![1024]⟩
abbrev S1024x8 : Shape := ⟨2, ![1024, 8]⟩
abbrev S8 : Shape := ⟨1, ![8]⟩
abbrev S264 : Shape := ⟨1, ![264]⟩
abbrev S_ : Shape := ⟨0, ![]⟩
abbrev S264x1 : Shape := ⟨2, ![264, 1]⟩
abbrev S264x6144 : Shape := ⟨2, ![264, 6144]⟩
abbrev S264x1x6144 : Shape := ⟨3, ![264, 1, 6144]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S2112x8x1024 : Shape := ⟨3, ![2112, 8, 1024]⟩
abbrev S16896x128 : Shape := ⟨2, ![16896, 128]⟩
abbrev S512x1024 : Shape := ⟨2, ![512, 1024]⟩
abbrev S8x1x1024 : Shape := ⟨3, ![8, 1, 1024]⟩
abbrev S64x8x1024 : Shape := ⟨3, ![64, 8, 1024]⟩
abbrev S512x128 : Shape := ⟨2, ![512, 128]⟩
abbrev S512 : Shape := ⟨1, ![512]⟩
abbrev S512x1 : Shape := ⟨2, ![512, 1]⟩
abbrev S8x64x1024 : Shape := ⟨3, ![8, 64, 1024]⟩

abbrev nBuf : Space → Nat
  | .hbm => 31
  | .vmem => 13
  | .smem => 0
  | _ => 0

abbrev bufTy : (tb : Table) → Fin (tcTables nBuf tb) → BufTy
  | .hbm, ⟨0, _⟩ => ⟨S16896x1024, .f32⟩
  | .hbm, ⟨1, _⟩ => ⟨S16x6144, .f32⟩
  | .hbm, ⟨2, _⟩ => ⟨S1024, .f32⟩
  | .hbm, ⟨3, _⟩ => ⟨S1024x8, .f32⟩
  | .hbm, ⟨4, _⟩ => ⟨S8, .f32⟩
  | .hbm, ⟨5, _⟩ => ⟨S264, .i32⟩
  | .hbm, ⟨6, _⟩ => ⟨S264, .i1⟩
  | .hbm, ⟨7, _⟩ => ⟨S_, .i32⟩
  | .hbm, ⟨8, _⟩ => ⟨S264, .i32⟩
  | .hbm, ⟨9, _⟩ => ⟨S264, .i32⟩
  | .hbm, ⟨10, _⟩ => ⟨S264, .i32⟩
  | .hbm, ⟨11, _⟩ => ⟨S264x1, .i32⟩
  | .hbm, ⟨12, _⟩ => ⟨S264x6144, .f32⟩
  | .hbm, ⟨13, _⟩ => ⟨S264x1x6144, .f32⟩
  | .hbm, ⟨14, _⟩ => ⟨S_, .bf16⟩
  | .hbm, ⟨15, _⟩ => ⟨S1024x128, .bf16⟩
  | .hbm, ⟨16, _⟩ => ⟨S1024x8, .bf16⟩
  | .hbm, ⟨17, _⟩ => ⟨S_, .i32⟩
  | .hbm, ⟨18, _⟩ => ⟨S1, .i32⟩
  | .hbm, ⟨19, _⟩ => ⟨S1024x128, .bf16⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S1x1024, .f32⟩
  | .hbm, ⟨29, _⟩ => ⟨S2112x8x1024, .f32⟩
  | .hbm, ⟨30, _⟩ => ⟨S16896x128, .f32⟩
  | .local _ .vmem, ⟨0, _⟩ => ⟨S512x1024, .f32⟩
  | .local _ .vmem, ⟨1, _⟩ => ⟨S512x1024, .f32⟩
  | .local _ .vmem, ⟨2, _⟩ => ⟨S8x1x1024, .f32⟩
  | .local _ .vmem, ⟨3, _⟩ => ⟨S8x1x1024, .f32⟩
  | .local _ .vmem, ⟨4, _⟩ => ⟨S8x1x1024, .f32⟩
  | .local _ .vmem, ⟨5, _⟩ => ⟨S8x1x1024, .f32⟩
  | .local _ .vmem, ⟨6, _⟩ => ⟨S1x1024, .f32⟩
  | .local _ .vmem, ⟨7, _⟩ => ⟨S1024x128, .bf16⟩
  | .local _ .vmem, ⟨8, _⟩ => ⟨S1x128, .f32⟩
  | .local _ .vmem, ⟨9, _⟩ => ⟨S64x8x1024, .f32⟩
  | .local _ .vmem, ⟨10, _⟩ => ⟨S64x8x1024, .f32⟩
  | .local _ .vmem, ⟨11, _⟩ => ⟨S512x128, .f32⟩
  | .local _ .vmem, ⟨12, _⟩ => ⟨S512x128, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_c_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S16896x1024 : Shape := ⟨2, ![16896, 1024]⟩
abbrev S16x6144 : Shape := ⟨2, ![16, 6144]⟩
abbrev S1024 : Shape := ⟨1, ![1024]⟩
abbrev S1024x8 : Shape := ⟨2, ![1024, 8]⟩
abbrev S8 : Shape := ⟨1, ![8]⟩
abbrev S16384x1024 : Shape := ⟨2, ![16384, 1024]⟩
abbrev S8x2048x1024 : Shape := ⟨3, ![8, 2048, 1024]⟩
abbrev S512x1024 : Shape := ⟨2, ![512, 1024]⟩
abbrev S8x64x1024 : Shape := ⟨3, ![8, 64, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x64 : Shape := ⟨2, ![8, 64]⟩
abbrev S8x64x1 : Shape := ⟨3, ![8, 64, 1]⟩
abbrev S2048x8x1024 : Shape := ⟨3, ![2048, 8, 1024]⟩
abbrev S64x8x1024 : Shape := ⟨3, ![64, 8, 1024]⟩
abbrev S2112x8x1024 : Shape := ⟨3, ![2112, 8, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16x6144, .f32⟩
  | .hbm, ⟨2, _⟩ => ⟨S1024, .f32⟩
  | .hbm, ⟨3, _⟩ => ⟨S1024x8, .f32⟩
  | .hbm, ⟨4, _⟩ => ⟨S8, .f32⟩
  | .hbm, ⟨5, _⟩ => ⟨S16384x1024, .f32⟩
  | .hbm, ⟨6, _⟩ => ⟨S8x2048x1024, .f32⟩
  | .hbm, ⟨7, _⟩ => ⟨S512x1024, .f32⟩
  | .hbm, ⟨8, _⟩ => ⟨S8x64x1024, .f32⟩
  | .hbm, ⟨9, _⟩ => ⟨S8x1024, .f32⟩
  | .hbm, ⟨10, _⟩ => ⟨S8x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S8x1x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S8x1024, .f32⟩
  | .hbm, ⟨37, _⟩ => ⟨S8x1024, .f32⟩
  | .hbm, ⟨38, _⟩ => ⟨S8x64x1024, .f32⟩
  | .hbm, ⟨39, _⟩ => ⟨S_, .f32⟩
  | .hbm, ⟨40, _⟩ => ⟨S8x64, .f32⟩
  | .hbm, ⟨41, _⟩ => ⟨S8x64x1, .f32⟩
  | .hbm, ⟨42, _⟩ => ⟨S_, .f32⟩
  | .hbm, ⟨43, _⟩ => ⟨S8x64x1, .f32⟩
  | .hbm, ⟨44, _⟩ => ⟨S8x64x1, .f32⟩
  | .hbm, ⟨45, _⟩ => ⟨S_, .f32⟩
  | .hbm, ⟨46, _⟩ => ⟨S8x64x1, .f32⟩
  | .hbm, ⟨47, _⟩ => ⟨S8x64x1, .f32⟩
  | .hbm, ⟨48, _⟩ => ⟨S8x64x1, .f32⟩
  | .hbm, ⟨49, _⟩ => ⟨S8x64x1024, .f32⟩
  | .hbm, ⟨50, _⟩ => ⟨S8x64x1024, .f32⟩
  | .hbm, ⟨51, _⟩ => ⟨S1x1x1024, .f32⟩
  | .hbm, ⟨52, _⟩ => ⟨S8x64x1024, .f32⟩
  | .hbm, ⟨53, _⟩ => ⟨S8x64x1024, .f32⟩
  | .hbm, ⟨54, _⟩ => ⟨S8x1x1024, .f32⟩
  | .hbm, ⟨55, _⟩ => ⟨S_, .f32⟩
  | .hbm, ⟨56, _⟩ => ⟨S8x1x1024, .f32⟩
  | .hbm, ⟨57, _⟩ => ⟨S8x1x1024, .f32⟩
  | .hbm, ⟨58, _⟩ => ⟨S8x64x1024, .f32⟩
  | .hbm, ⟨59, _⟩ => ⟨S8x64x1024, .f32⟩
  | .hbm, ⟨60, _⟩ => ⟨S8x1x1024, .f32⟩
  | .hbm, ⟨61, _⟩ => ⟨S8x64x1024, .f32⟩
  | .hbm, ⟨62, _⟩ => ⟨S8x64x1024, .f32⟩
  | .hbm, ⟨63, _⟩ => ⟨S2048x8x1024, .f32⟩
  | .hbm, ⟨64, _⟩ => ⟨S64x8x1024, .f32⟩
  | .hbm, ⟨65, _⟩ => ⟨S2112x8x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== Proof.Spec.lean ====
module

public import Idealize.ShloMosaic.PureOps.Ideal
public import Idealize.ShloMosaic.PureOps.Ideal.Laws
public import Idealize.ShloMosaic.Lib.Pointwise
public import Idealize.ShloMosaic.Lib.IdealHost

/-! # One chunk of the matrix memory, as scalar mathematics over the extended reals

The stabilised matrix memory of one sequence and one chunk of 64 positions, entry by entry: the causal
convolution of width four with SiLU, the two gates and the running sum of the log forget gate, the decay
matrix, the stabiliser, the read-out, and the state that is carried on. Nothing here mentions a program. -/

@[expose] public section
noncomputable section
namespace Cert.Mlstm
open Idealize.ShloMosaic

/-- The scale of the keys, as the program writes it (the single nearest to `128 ^ (-1/2)`). -/
abbrev kScale : EReal := Ideal.ofBits .f32 1035273459#32
/-- The large negative value that stands at the masked places of the decay matrix. -/
abbrev negBig : EReal := Ideal.ofBits .f32 4048155338#32
/-- The initial value of a maximum. -/
abbrev maxInit : EReal := Ideal.ofBits .f32 4286578688#32

/-- The logistic function as a quotient. -/
def sigm (x : EReal) : EReal := Ideal.div 1 (1 + Ideal.exp (-x))
/-- The logarithm of the logistic function, kept from overflowing. -/
def logSigm (x : EReal) : EReal := -(max (-x) 0 + Ideal.log1p (Ideal.exp (-(max (-x) (- -x)))))

section Conv
variable (x : Fin 67 → Fin 1024 → EReal) (cw : Fin 4 → Fin 1024 → EReal) (cb : Fin 1024 → EReal)

/-- The causal convolution of width four of the stream `x`, whose first three rows are the history. -/
def conv (t : Fin 64) (c : Fin 1024) : EReal :=
  cb c + x ⟨t.val, by omega⟩ c * cw 0 c + x ⟨t.val + 1, by omega⟩ c * cw 1 c
    + x ⟨t.val + 2, by omega⟩ c * cw 2 c + x ⟨t.val + 3, by omega⟩ c * cw 3 c

/-- The convolution through SiLU: the queries (first 512 columns) and the unscaled keys (last 512). -/
def act (t : Fin 64) (c : Fin 1024) : EReal := conv x cw cb t c * sigm (conv x cw cb t c)

end Conv

/-- The query of head `h`, from the activations. -/
def qry (a : Fin 64 → Fin 1024 → EReal) (h : Fin 4) (t : Fin 64) (d : Fin 128) : EReal := a t ⟨h.val * 128 + d.val, by omega⟩
/-- The scaled key of head `h`, from the activations. -/
def key (a : Fin 64 → Fin 1024 → EReal) (h : Fin 4) (t : Fin 64) (d : Fin 128) : EReal :=
  a t ⟨512 + (h.val * 128 + d.val), by omega⟩ * kScale
/-- The 256 columns of head `h` of an array of 1024 columns. -/
def cols (f : Fin 64 → Fin 1024 → EReal) (h : Fin 4) (t : Fin 64) (e : Fin 256) : EReal := f t ⟨h.val * 256 + e.val, by omega⟩

section Gates
variable (g : Fin 8 → Fin 64 → EReal)

/-- The input gate of head `h`. -/
def igate (h : Fin 4) (t : Fin 64) : EReal := g ⟨h.val, by omega⟩ t
/-- The running sum of the log forget gate of head `h`. -/
def bcum (h : Fin 4) (t : Fin 64) : EReal := ∑ j : Fin 64, if j ≤ t then logSigm (g ⟨4 + h.val, by omega⟩ j) else 0
end Gates

section Head
variable (ig bb : Fin 64 → EReal) (m0 : EReal) (q k : Fin 64 → Fin 128 → EReal) (v : Fin 64 → Fin 256 → EReal)
  (C : Fin 128 → Fin 256 → EReal) (n : Fin 128 → EReal)

/-- The logarithm of the decay from position `s` to position `t`, masked to `s ≤ t`. -/
def logD (t s : Fin 64) : EReal := if s ≤ t then bb t - bb s + ig s else negBig
/-- The stabiliser at position `t`. -/
def stab (t : Fin 64) : EReal := max (bb t + m0) (Finset.fold max maxInit (fun s => logD ig bb t s) Finset.univ)
/-- The stabilised decay. -/
def wIn (t s : Fin 64) : EReal := Ideal.exp (logD ig bb t s - stab ig bb m0 t)
/-- The stabilised decay of the incoming state. -/
def wPrev (t : Fin 64) : EReal := Ideal.exp (bb t + m0 - stab ig bb m0 t)
/-- The weighted scores. -/
def att (t s : Fin 64) : EReal := (∑ d, k s d * q t d) * wIn ig bb m0 t s
/-- The numerator of the read-out. -/
def numer (t : Fin 64) (e : Fin 256) : EReal :=
  (∑ s, v s e * att ig bb m0 q k t s) + wPrev ig bb m0 t * ∑ d, C d e * q t d
/-- The denominator of the read-out. -/
def denom (t : Fin 64) : EReal :=
  (∑ s, att ig bb m0 q k t s) + wPrev ig bb m0 t * ∑ d, n d * q t d
/-- The read-out before its normalisation. -/
def readout (t : Fin 64) (e : Fin 256) : EReal :=
  Ideal.div (numer ig bb m0 q k v C t e)
    (max (max (denom ig bb m0 q k n t) (-denom ig bb m0 q k n t)) (Ideal.exp (-stab ig bb m0 t)))
/-- The read-out through the root mean square norm and the output gate. -/
def gated (ng : Fin 256 → EReal) (o : Fin 64 → Fin 256 → EReal) (t : Fin 64) (e : Fin 256) : EReal :=
  readout ig bb m0 q k v C n t e
    * Ideal.rsqrt (Ideal.div (∑ e', readout ig bb m0 q k v C n t e' * readout ig bb m0 q k v C n t e')
        (Ideal.ofBits .f32 1132462080#32) + Ideal.ofBits .f32 897988541#32)
    * ng e * sigm (o t e)
/-- The keys weighted towards the end of the chunk. -/
def keyW (s : Fin 64) (d : Fin 128) : EReal := wIn ig bb m0 63 s * k s d
/-- The matrix state carried on. -/
def newC (d : Fin 128) (e : Fin 256) : EReal := wPrev ig bb m0 63 * C d e + ∑ s, keyW ig bb m0 k s d * v s e
/-- The normaliser carried on. -/
def newN (d : Fin 128) : EReal := wPrev ig bb m0 63 * n d + ∑ s, keyW ig bb m0 k s d
end Head

/-! ## The two ways of writing a function -/

/-- The pattern of one half. -/
theorem ofBits_half : Ideal.ofBits .f32 1056964608#32 = ((1 / 2 : ℝ) : EReal) := by
  simp [Ideal.ofBits, Ideal.ieee, -EReal.coe_mul]; norm_num

/-- The logistic function by the hyperbolic tangent, on the reals. -/
theorem half_tanh_real (x : ℝ) : 1 / 2 * Real.tanh (1 / 2 * x) + 1 / 2 = (1 + Real.exp (-x))⁻¹ := by
  have e : Real.exp (-x) = Real.exp (-(1 / 2 * x)) * Real.exp (-(1 / 2 * x)) := by
    rw [← Real.exp_add]; congr 1; ring
  have h1 : Real.exp (1 / 2 * x) * Real.exp (-(1 / 2 * x)) = 1 := by
    rw [← Real.exp_add]; simp
  have hp := Real.exp_pos (1 / 2 * x)
  have hn := Real.exp_pos (-(1 / 2 * x))
  rw [e, Real.tanh_eq_sinh_div_cosh, Real.sinh_eq, Real.cosh_eq]
  generalize Real.exp (1 / 2 * x) = a at *
  generalize Real.exp (-(1 / 2 * x)) = b at *
  have : a = b⁻¹ := eq_inv_of_mul_eq_one_left h1
  subst this
  field_simp
  ring

/-- The logistic function by the hyperbolic tangent, as the kernel writes it. -/
theorem half_tanh (x : EReal) :
    Ideal.ofBits .f32 1056964608#32 * Ideal.tanh (Ideal.ofBits .f32 1056964608#32 * x) + Ideal.ofBits .f32 1056964608#32 = sigm x := by
  rw [ofBits_half]
  change _ = Ideal.logistic x
  have hpos : (0 : ℝ) < 1 / 2 := by norm_num
  induction x with
  | bot =>
    rw [EReal.coe_mul_bot_of_pos hpos, Ideal.tanh_bot, Ideal.logistic_bot, ← EReal.coe_one, ← EReal.coe_neg, ← EReal.coe_mul,
      ← EReal.coe_add, ← EReal.coe_zero]
    norm_num
  | top =>
    rw [EReal.coe_mul_top_of_pos hpos, Ideal.tanh_top, Ideal.logistic_top, ← EReal.coe_one, ← EReal.coe_mul, ← EReal.coe_add]
    norm_num
  | coe x =>
    rw [← EReal.coe_mul, Ideal.tanh_coe, ← EReal.coe_mul, ← EReal.coe_add, Ideal.logistic_coe, half_tanh_real]

/-- The logarithm that the log-sigmoid subtracts is a real number. -/
theorem log_exp_real (x : EReal) : ∃ r : ℝ, Ideal.log (1 + Ideal.exp (-(max x (-x)))) = r := by
  induction x with
  | bot => exact ⟨0, by simp [← EReal.coe_one]⟩
  | top => exact ⟨0, by simp [← EReal.coe_one]⟩
  | coe x =>
    refine ⟨Real.log (1 + Real.exp (-(max x (-x)))), ?_⟩
    rw [← EReal.coe_neg, ← EReal.coe_strictMono.monotone.map_max, ← EReal.coe_neg, Ideal.exp_coe, ← EReal.coe_one, ← EReal.coe_add, Ideal.log_coe,
      if_neg (not_le.mpr (by positivity))]

/-- The log-sigmoid by a minimum, as the kernel writes it. -/
theorem min_logSigm (x : EReal) : min x 0 - Ideal.log (1 + Ideal.exp (0 - max x (-x))) = logSigm x := by
  obtain ⟨r, hr⟩ := log_exp_real x
  unfold logSigm Ideal.log1p
  rw [zero_sub, hr, neg_neg, max_comm (-x) x, hr,
    EReal.neg_add (Or.inr (EReal.coe_ne_top r)) (Or.inr (EReal.coe_ne_bot r))]
  congr 1
  rcases le_total x 0 with h | h
  · rw [min_eq_left h, max_eq_left (EReal.neg_nonneg.mpr h), neg_neg]
  · rw [min_eq_right h, max_eq_right (by simpa using EReal.neg_le_neg_iff.mpr h), neg_zero]

/-- The log-sigmoid as the reference writes it, with its guard against an undefined value. -/
theorem guarded_logSigm (x : EReal) :
    -(if -x ≠ -x then -x else max (-x) 0 + Ideal.log1p (Ideal.exp (-(max (-x) (- -x))))) = logSigm x := by
  rw [if_neg (fun h => h rfl)]; rfl

/-! ## A running sum by doubling -/

/-- The sum of the last `n` of the entries `0 … s` of `f`. -/
def lastSum (f : ℕ → EReal) (n s : ℕ) : EReal := ∑ i ∈ Finset.range n, if i ≤ s then f (s - i) else 0

/-- The running sum of one term. -/
theorem lastSum_one (f : ℕ → EReal) (s : ℕ) : lastSum f 1 s = f s := by simp [lastSum]

/-- One doubling step. -/
theorem lastSum_double (f : ℕ → EReal) (n s : ℕ) :
    lastSum f n s + (if n ≤ s then lastSum f n (s - n) else 0) = lastSum f (n + n) s := by
  unfold lastSum
  rw [Finset.sum_range_add]
  congr 1
  split
  · next h =>
    refine Finset.sum_congr rfl fun i _ => ?_
    by_cases hi : i ≤ s - n
    · rw [if_pos hi, if_pos (by omega), show s - n - i = s - (n + i) by omega]
    · rw [if_neg hi, if_neg (by omega)]
  · next h =>
    refine (Finset.sum_eq_zero fun i _ => ?_).symm
    rw [if_neg (by omega)]

/-- The whole running sum, over the first 64 entries. -/
theorem lastSum_full (f : ℕ → EReal) (s : Fin 64) :
    lastSum f 128 s.val = ∑ j : Fin 64, if j ≤ s then f j.val else 0 := by
  unfold lastSum
  have e1 : (∑ i ∈ Finset.range 128, if i ≤ s.val then f (s.val - i) else 0) = ∑ i ∈ Finset.range (s.val + 1), f (s.val - i) := by
    rw [← Finset.sum_filter]
    refine Finset.sum_congr (Finset.ext fun i => ?_) fun _ _ => rfl
    simp only [Finset.mem_filter, Finset.mem_range]
    omega
  have e2 : (∑ j : Fin 64, if j ≤ s then f j.val else 0) = ∑ i ∈ Finset.range (s.val + 1), f i := by
    have := Fin.sum_univ_eq_sum_range (fun n : ℕ => if n ≤ s.val then f n else 0) 64
    refine (Eq.trans (Finset.sum_congr rfl fun j _ => ?_) this).trans ?_
    · rfl
    · rw [← Finset.sum_filter]
      refine Finset.sum_congr (Finset.ext fun i => ?_) fun _ _ => rfl
      simp only [Finset.mem_filter, Finset.mem_range]
      omega
  rw [e1, e2]
  exact Finset.sum_range_reflect (fun i => f i) (s.val + 1) ▸ Finset.sum_congr rfl fun i hi => by
    congr 1

/-- A left fold that adds is a sum. -/
theorem foldl_add_sum {N : ℕ} (g : Fin N → EReal) (z : EReal) : (List.finRange N).foldl (fun r n => r + g n) z = z + ∑ n, g n := by
  rw [Fin.sum_univ_def]
  generalize List.finRange N = l
  induction l generalizing z with
  | nil => simp
  | cons a l ih => rw [List.foldl_cons, ih, List.map_cons, List.sum_cons, add_assoc]

end Cert.Mlstm
end
-- ==== Proof.Payload.lean ====
module

public import proofs.«01_k».proof.Proof.Gen.KernelIdeal.Value
public import proofs.«01_k».proof.Proof.Spec

/-! # The kernel's arithmetic, entry by entry

Each value the kernel's body computes for a head, read at one index, is the entry of the specification, given what
its operands hold. -/

@[expose] public section
noncomputable section
namespace Cert.KernelIdeal.Value
open Cert.KernelIdeal Cert.KernelIdeal.Gen Idealize.ShloMosaic Idealize.ShloMosaic.TcCoe Idealize.SL.Sem Cert.Mlstm
set_option maxRecDepth 16384

/-- What the gate arrays hold, by rows and turned to columns. -/
structure Gates (v100 v101 : FVec Ideal S4x128 .f32) (v108 : FVec Ideal S128x128 .f32) (ig bb : Fin 4 → Fin 64 → EReal) : Prop where
  ir : ∀ (h : Fin 4) (s : Fin 64), v100 (ix2 h ⟨s.val, by omega⟩) = ig h s
  br : ∀ (h : Fin 4) (s : Fin 64), v101 (ix2 h ⟨s.val, by omega⟩) = bb h s
  ic : ∀ (h : Fin 4) (s : Fin 64), v108 (ix2 ⟨s.val, by omega⟩ ⟨h.val, by omega⟩) = ig h s
  bc : ∀ (h : Fin 4) (s : Fin 64), v108 (ix2 ⟨s.val, by omega⟩ ⟨4 + h.val, by omega⟩) = bb h s

/-- The running sum of a head, without the proof argument. -/
theorem Gates.bc' {v100 v101 : FVec Ideal S4x128 .f32} {v108 : FVec Ideal S128x128 .f32} {ig bb : Fin 4 → Fin 64 → EReal}
    (G : Gates v100 v101 v108 ig bb) (h : Fin 4) (s : Fin 64) (c : Fin 128) (hc : c.val = 4 + h.val) :
    v108 (ix2 ⟨s.val, by omega⟩ c) = bb h s := by
  rw [← G.bc h s]; exact congrArg (fun c => v108 (ix2 ⟨s.val, by omega⟩ c)) (Fin.ext hc)

/-- The input gate of a head, without the proof argument. -/
theorem Gates.ic' {v100 v101 : FVec Ideal S4x128 .f32} {v108 : FVec Ideal S128x128 .f32} {ig bb : Fin 4 → Fin 64 → EReal}
    (G : Gates v100 v101 v108 ig bb) (h : Fin 4) (s : Fin 64) (c : Fin 128) (hc : c.val = h.val) :
    v108 (ix2 ⟨s.val, by omega⟩ c) = ig h s := by
  rw [← G.ic h s]; exact congrArg (fun c => v108 (ix2 ⟨s.val, by omega⟩ c)) (Fin.ext hc)

/-- The running sum at the last position. -/
theorem Gates.bc63 {v100 v101 : FVec Ideal S4x128 .f32} {v108 : FVec Ideal S128x128 .f32} {ig bb : Fin 4 → Fin 64 → EReal}
    (G : Gates v100 v101 v108 ig bb) (h : Fin 4) (c : Fin 128) (hc : c.val = 4 + h.val) : v108 (ix2 63 c) = bb h 63 :=
  G.bc' h 63 c hc

/-- The decay from any position to the last one is never masked. -/
theorem wIn_last (ig bb : Fin 64 → EReal) (m0 : EReal) (s : Fin 64) :
    wIn ig bb m0 63 s = Ideal.exp (bb 63 - bb s + ig s - stab ig bb m0 63) := by
  unfold wIn logD
  rw [if_pos (show s ≤ 63 from by omega)]

/-- The causal mask's selection. -/
theorem select_causal (t s : Fin 64) (x y : EReal) :
    Scalar.select (IntOp.cmpi CmpIPredicate.sle (BitVec.ofNat 32 s.val) (BitVec.ofNat 32 t.val)) x y = if s ≤ t then x else y := by
  have h : ∀ t s : Fin 64, IntOp.cmpi CmpIPredicate.sle (BitVec.ofNat 32 s.val) (BitVec.ofNat 32 t.val) = if s ≤ t then 1#1 else 0#1 := by
    decide +kernel
  rw [h]
  split <;> rfl

/-- A difference added on the right. -/
theorem add_sub_left (x y z : EReal) : x + (y - z) = x - z + y := by
  rw [sub_eq_add_neg, sub_eq_add_neg, add_comm y, add_assoc]

/-- A difference taken from a sum. -/
theorem add_sub_right (x y z : EReal) : x + y - z = x - z + y := by
  rw [sub_eq_add_neg, sub_eq_add_neg, add_right_comm]

variable {v100 v101 : FVec Ideal S4x128 .f32} {v108 : FVec Ideal S128x128 .f32} {ig bb : Fin 4 → Fin 64 → EReal}
  {m : Vec Ideal S1x1x128 .f32} {m0 : EReal} {v40 : FVec Ideal S64x1024 .f32} {a : Fin 64 → Fin 1024 → EReal}
  {v : Vec Ideal S64x256 .bf16} {V : Fin 64 → Fin 256 → EReal} {C : Vec Ideal S1x128x256 .f32} {CC : Fin 128 → Fin 256 → EReal}
  {n : Vec Ideal S1x1x128 .f32} {N : Fin 128 → EReal} {ng : Vec Ideal S1x256 .f32} {NG : Fin 256 → EReal}
  {o : Vec Ideal S64x256 .bf16} {O : Fin 64 → Fin 256 → EReal}

/-! ### Head 0 -/

/-- The decay matrix of head 0. -/
theorem logD_0 (G : Gates v100 v101 v108 ig bb) (t s : Fin 64) : (k0_pay52 v100 v101 v108 k0_pay21) (ix2 t s) = logD (ig 0) (bb 0) t s := by
  pointwise [k0_pay52, k0_pay50, k0_pay51, k0_pay21]
  rw [select_causal, G.bc' 0 t 4 rfl, G.ir 0 s, G.br 0 s, add_sub_left]
  rfl
/-- The stabiliser of head 0. -/
theorem stab_0 (G : Gates v100 v101 v108 ig bb) (hm : m (ix3 0 0 0) = m0) (t : Fin 64) : (k0_pay54 v100 v101 v108 k0_pay21 m) (ix2 t 0) = stab (ig 0) (bb 0) m0 t := by
  pointwise [k0_pay54, k0_pay53, k0_pay50]
  simp only [logD_0 G, hm]
  rw [G.bc' 0 t 4 rfl]
  rfl
/-- The stabiliser of head 0 at the last position. -/
theorem stab_063 (G : Gates v100 v101 v108 ig bb) (hm : m (ix3 0 0 0) = m0) : (k0_pay54 v100 v101 v108 k0_pay21 m) (ix2 63 0) = stab (ig 0) (bb 0) m0 63 := stab_0 G hm 63
/-- The decay of the incoming state of head 0. -/
theorem wPrev_0 (G : Gates v100 v101 v108 ig bb) (hm : m (ix3 0 0 0) = m0) (t : Fin 64) : (k0_pay55 (k0_pay53 v108 m) (k0_pay54 v100 v101 v108 k0_pay21 m)) (ix2 t 0) = wPrev (ig 0) (bb 0) m0 t := by
  pointwise [k0_pay55, k0_pay53, k0_pay50]
  rw [stab_0 G hm, hm, G.bc' 0 t 4 rfl]
  rfl
/-- The queries of head 0. -/
theorem qry_0 (hA : ∀ t c, v40 (ix2 t c) = a t c) (t : Fin 64) (x : Fin 128) : (k0_pay22 v40) (ix2 t x) = qry a 0 t x := by
  pointwise [k0_pay22]
  rw [hA]
  exact congrArg (a t) (Fin.ext (by simp))
/-- The queries of head 0, rounded. -/
theorem qryB_0 (hA : ∀ t c, v40 (ix2 t c) = a t c) (t : Fin 64) (x : Fin 128) : (k0_pay30 (k0_pay22 v40)) (ix2 t x) = qry a 0 t x := by
  pointwise [k0_pay30, k0_pay22, k0_pay22]
  rw [hA]
  exact congrArg (a t) (Fin.ext (by simp))
/-- The keys of head 0. -/
theorem key_0 (hA : ∀ t c, v40 (ix2 t c) = a t c) (t : Fin 64) (x : Fin 128) : (k0_pay26 v40) (ix2 t x) = key a 0 t x := by
  pointwise [k0_pay26]
  rw [hA]
  exact congrArg (· * kScale) (congrArg (a t) (Fin.ext (by simp; try omega)))
/-- The scores of head 0. -/
theorem score_0 (hA : ∀ t c, v40 (ix2 t c) = a t c) (t s : Fin 64) :
    (k0_pay42 (k0_pay26 v40) (k0_pay30 (k0_pay22 v40))) (ix2 t s) = ∑ x, key a 0 s x * qry a 0 t x := by
  pointwise [k0_pay42]
  exact Finset.sum_congr rfl fun x _ => by rw [qryB_0 hA, key_0 hA, mul_comm]
/-- The weighted scores of head 0. -/
theorem att_0 (G : Gates v100 v101 v108 ig bb) (hm : m (ix3 0 0 0) = m0) (hA : ∀ t c, v40 (ix2 t c) = a t c) (t s : Fin 64) :
    (k0_pay56 (k0_pay42 (k0_pay26 v40) (k0_pay30 (k0_pay22 v40))) (k0_pay52 v100 v101 v108 k0_pay21) (k0_pay54 v100 v101 v108 k0_pay21 m)) (ix2 t s) = att (ig 0) (bb 0) m0 (qry a 0) (key a 0) t s := by
  pointwise [k0_pay56]
  rw [score_0 hA, logD_0 G, stab_0 G hm]
  rfl
/-- The part of the numerator of head 0 that reads the incoming state. -/
theorem qc_0 (hA : ∀ t c, v40 (ix2 t c) = a t c) (hC : ∀ x e, C (ix3 0 x e) = CC x e) (t : Fin 64) (e : Fin 256) :
    (k0_pay46 (k0_pay30 (k0_pay22 v40)) (k0_pay34 C)) (ix2 t e) = ∑ x, CC x e * qry a 0 t x := by
  pointwise [k0_pay46, k0_pay34]
  exact Finset.sum_congr rfl fun x _ => by rw [qryB_0 hA, hC, mul_comm]
/-- The numerator of head 0. -/
theorem numer_0 (G : Gates v100 v101 v108 ig bb) (hm : m (ix3 0 0 0) = m0) (hA : ∀ t c, v40 (ix2 t c) = a t c)
    (hV : ∀ s e, v (ix2 s e) = V s e) (hC : ∀ x e, C (ix3 0 x e) = CC x e) (t : Fin 64) (e : Fin 256) :
    (k0_pay81 v (k0_pay46 (k0_pay30 (k0_pay22 v40)) (k0_pay34 C)) (k0_pay55 (k0_pay53 v108 m) (k0_pay54 v100 v101 v108 k0_pay21 m)) (k0_pay56 (k0_pay42 (k0_pay26 v40) (k0_pay30 (k0_pay22 v40))) (k0_pay52 v100 v101 v108 k0_pay21) (k0_pay54 v100 v101 v108 k0_pay21 m))) (ix2 t e) = numer (ig 0) (bb 0) m0 (qry a 0) (key a 0) V CC t e := by
  pointwise [k0_pay81]
  simp only [qc_0 hA hC, wPrev_0 G hm, att_0 G hm hA, hV]
  unfold numer
  simp only [mul_comm, add_comm]
/-- The size of the denominator of head 0. -/
theorem denom_0 (G : Gates v100 v101 v108 ig bb) (hm : m (ix3 0 0 0) = m0) (hA : ∀ t c, v40 (ix2 t c) = a t c)
    (hn : ∀ x, n (ix3 0 0 x) = N x) (t : Fin 64) :
    (k0_pay82 (k0_pay22 v40) (k0_pay38 n) (k0_pay55 (k0_pay53 v108 m) (k0_pay54 v100 v101 v108 k0_pay21 m)) (k0_pay56 (k0_pay42 (k0_pay26 v40) (k0_pay30 (k0_pay22 v40))) (k0_pay52 v100 v101 v108 k0_pay21) (k0_pay54 v100 v101 v108 k0_pay21 m))) (ix2 t 0) = max (denom (ig 0) (bb 0) m0 (qry a 0) (key a 0) N t) (-denom (ig 0) (bb 0) m0 (qry a 0) (key a 0) N t) := by
  pointwise [k0_pay82, k0_pay38]
  simp only [qry_0 hA, wPrev_0 G hm, att_0 G hm hA, hn]
  unfold denom
  simp only [mul_comm, add_comm]
  try rfl
/-- The output of head 0. -/
theorem gated_0 (G : Gates v100 v101 v108 ig bb) (hm : m (ix3 0 0 0) = m0) (hA : ∀ t c, v40 (ix2 t c) = a t c)
    (hV : ∀ s e, v (ix2 s e) = V s e) (hC : ∀ x e, C (ix3 0 x e) = CC x e) (hn : ∀ x, n (ix3 0 0 x) = N x)
    (hg : ∀ e, ng (ix2 0 e) = NG e) (ho : ∀ t e, o (ix2 t e) = O t e) (t : Fin 64) (e : Fin 256) :
    (k0_pay83 (k0_pay54 v100 v101 v108 k0_pay21 m) (k0_pay81 v (k0_pay46 (k0_pay30 (k0_pay22 v40)) (k0_pay34 C)) (k0_pay55 (k0_pay53 v108 m) (k0_pay54 v100 v101 v108 k0_pay21 m)) (k0_pay56 (k0_pay42 (k0_pay26 v40) (k0_pay30 (k0_pay22 v40))) (k0_pay52 v100 v101 v108 k0_pay21) (k0_pay54 v100 v101 v108 k0_pay21 m))) (k0_pay82 (k0_pay22 v40) (k0_pay38 n) (k0_pay55 (k0_pay53 v108 m) (k0_pay54 v100 v101 v108 k0_pay21 m)) (k0_pay56 (k0_pay42 (k0_pay26 v40) (k0_pay30 (k0_pay22 v40))) (k0_pay52 v100 v101 v108 k0_pay21) (k0_pay54 v100 v101 v108 k0_pay21 m))) (FloatOps.ofBits FTy.f32 0#32) ng o) (ix2 t e) = gated (ig 0) (bb 0) m0 (qry a 0) (key a 0) V CC N NG O t e := by
  pointwise [k0_pay83]
  simp only [numer_0 G hm hA hV hC, denom_0 G hm hA hn, stab_0 G hm, hg, ho, half_tanh, Ideal.ofBits_zero_f32, zero_sub]
  rfl
/-- The keys of head 0 weighted towards the end of the chunk. -/
theorem keyW_0 (G : Gates v100 v101 v108 ig bb) (hm : m (ix3 0 0 0) = m0) (hA : ∀ t c, v40 (ix2 t c) = a t c) (s : Fin 64) (x : Fin 128) :
    (k0_pay95 (k0_pay26 v40) (k0_pay50 v108) (k0_pay51 v108) (k0_pay54 v100 v101 v108 k0_pay21 m)) (ix2 s x) = keyW (ig 0) (bb 0) m0 (key a 0) s x := by
  pointwise [k0_pay95, k0_pay93, k0_pay50, k0_pay51]
  rw [key_0 hA, G.bc' 0 s 4 rfl, G.ic' 0 s 0 rfl, stab_063 G hm, G.bc63 0 4 rfl, add_sub_right]
  exact (mul_comm _ _).trans (congrArg (· * key a 0 s x) (wIn_last ..).symm)
/-- The matrix state of head 0 carried on. -/
theorem newC_0 (G : Gates v100 v101 v108 ig bb) (hm : m (ix3 0 0 0) = m0) (hA : ∀ t c, v40 (ix2 t c) = a t c)
    (hV : ∀ s e, v (ix2 s e) = V s e) (hC : ∀ x e, C (ix3 0 x e) = CC x e) (x : Fin 128) (e : Fin 256) :
    (k0_pay98 v (k0_pay96 (k0_pay34 C) (k0_pay55 (k0_pay53 v108 m) (k0_pay54 v100 v101 v108 k0_pay21 m))) (k0_pay97 (k0_pay26 v40) (k0_pay50 v108) (k0_pay51 v108) (k0_pay54 v100 v101 v108 k0_pay21 m)) (constant S128x256 .f32 0#32)) (ix3 0 x e) = newC (ig 0) (bb 0) m0 (key a 0) V CC x e := by
  pointwise [k0_pay98, k0_pay34, k0_pay96, k0_pay94, k0_pay97]
  simp only [keyW_0 G hm hA, wPrev_0 G hm, hC, hV]
  rfl
/-- The normaliser of head 0 carried on. -/
theorem newN_0 (G : Gates v100 v101 v108 ig bb) (hm : m (ix3 0 0 0) = m0) (hA : ∀ t c, v40 (ix2 t c) = a t c)
    (hn : ∀ x, n (ix3 0 0 x) = N x) (x : Fin 128) :
    (k0_pay99 (k0_pay38 n) (k0_pay94 (k0_pay55 (k0_pay53 v108 m) (k0_pay54 v100 v101 v108 k0_pay21 m))) (k0_pay95 (k0_pay26 v40) (k0_pay50 v108) (k0_pay51 v108) (k0_pay54 v100 v101 v108 k0_pay21 m))) (ix3 0 0 x) = newN (ig 0) (bb 0) m0 (key a 0) N x := by
  pointwise [k0_pay99, k0_pay38, k0_pay94]
  simp only [keyW_0 G hm hA, wPrev_0 G hm, hn]
  rfl
/-- The stabiliser of head 0 carried on, in every lane. -/
theorem newM_0 (G : Gates v100 v101 v108 ig bb) (hm : m (ix3 0 0 0) = m0) (x : Fin 128) :
    (k0_pay100 (k0_pay93 (k0_pay54 v100 v101 v108 k0_pay21 m))) (ix3 0 0 x) = stab (ig 0) (bb 0) m0 63 := by
  pointwise [k0_pay100, k0_pay93]
  exact stab_063 G hm

/-! ### Head 1 -/

/-- The decay matrix of head 1. -/
theorem logD_1 (G : Gates v100 v101 v108 ig bb) (t s : Fin 64) : (k0_pay59 v100 v101 v108 k0_pay21) (ix2 t s) = logD (ig 1) (bb 1) t s := by
  pointwise [k0_pay59, k0_pay57, k0_pay58, k0_pay21]
  rw [select_causal, G.bc' 1 t 5 rfl, G.ir 1 s, G.br 1 s, add_sub_left]
  rfl
/-- The stabiliser of head 1. -/
theorem stab_1 (G : Gates v100 v101 v108 ig bb) (hm : m (ix3 0 0 0) = m0) (t : Fin 64) : (k0_pay61 v100 v101 v108 k0_pay21 m) (ix2 t 0) = stab (ig 1) (bb 1) m0 t := by
  pointwise [k0_pay61, k0_pay60, k0_pay57]
  simp only [logD_1 G, hm]
  rw [G.bc' 1 t 5 rfl]
  rfl
/-- The stabiliser of head 1 at the last position. -/
theorem stab_163 (G : Gates v100 v101 v108 ig bb) (hm : m (ix3 0 0 0) = m0) : (k0_pay61 v100 v101 v108 k0_pay21 m) (ix2 63 0) = stab (ig 1) (bb 1) m0 63 := stab_1 G hm 63
/-- The decay of the incoming state of head 1. -/
theorem wPrev_1 (G : Gates v100 v101 v108 ig bb) (hm : m (ix3 0 0 0) = m0) (t : Fin 64) : (k0_pay62 v100 v101 v108 k0_pay21 m) (ix2 t 0) = wPrev (ig 1) (bb 1) m0 t := by
  pointwise [k0_pay62, k0_pay60, k0_pay57]
  rw [stab_1 G hm, hm, G.bc' 1 t 5 rfl]
  rfl
/-- The queries of head 1. -/
theorem qry_1 (hA : ∀ t c, v40 (ix2 t c) = a t c) (t : Fin 64) (x : Fin 128) : (k0_pay23 v40) (ix2 t x) = qry a 1 t x := by
  pointwise [k0_pay23]
  rw [hA]
  exact congrArg (a t) (Fin.ext (by simp))
/-- The queries of head 1, rounded. -/
theorem qryB_1 (hA : ∀ t c, v40 (ix2 t c) = a t c) (t : Fin 64) (x : Fin 128) : (k0_pay31 (k0_pay23 v40)) (ix2 t x) = qry a 1 t x := by
  pointwise [k0_pay31, k0_pay23, k0_pay23]
  rw [hA]
  exact congrArg (a t) (Fin.ext (by simp))
/-- The keys of head 1. -/
theorem key_1 (hA : ∀ t c, v40 (ix2 t c) = a t c) (t : Fin 64) (x : Fin 128) : (k0_pay27 v40) (ix2 t x) = key a 1 t x := by
  pointwise [k0_pay27]
  rw [hA]
  exact congrArg (· * kScale) (congrArg (a t) (Fin.ext (by simp; try omega)))
/-- The scores of head 1. -/
theorem score_1 (hA : ∀ t c, v40 (ix2 t c) = a t c) (t s : Fin 64) :
    (k0_pay43 (k0_pay27 v40) (k0_pay31 (k0_pay23 v40))) (ix2 t s) = ∑ x, key a 1 s x * qry a 1 t x := by
  pointwise [k0_pay43]
  exact Finset.sum_congr rfl fun x _ => by rw [qryB_1 hA, key_1 hA, mul_comm]
/-- The weighted scores of head 1. -/
theorem att_1 (G : Gates v100 v101 v108 ig bb) (hm : m (ix3 0 0 0) = m0) (hA : ∀ t c, v40 (ix2 t c) = a t c) (t s : Fin 64) :
    (k0_pay63 v100 v101 v108 k0_pay21 (k0_pay43 (k0_pay27 v40) (k0_pay31 (k0_pay23 v40))) m) (ix2 t s) = att (ig 1) (bb 1) m0 (qry a 1) (key a 1) t s := by
  pointwise [k0_pay63]
  rw [score_1 hA, logD_1 G, stab_1 G hm]
  rfl
/-- The part of the numerator of head 1 that reads the incoming state. -/
theorem qc_1 (hA : ∀ t c, v40 (ix2 t c) = a t c) (hC : ∀ x e, C (ix3 0 x e) = CC x e) (t : Fin 64) (e : Fin 256) :
    (k0_pay47 (k0_pay31 (k0_pay23 v40)) (k0_pay35 C)) (ix2 t e) = ∑ x, CC x e * qry a 1 t x := by
  pointwise [k0_pay47, k0_pay35]
  exact Finset.sum_congr rfl fun x _ => by rw [qryB_1 hA, hC, mul_comm]
/-- The numerator of head 1. -/
theorem numer_1 (G : Gates v100 v101 v108 ig bb) (hm : m (ix3 0 0 0) = m0) (hA : ∀ t c, v40 (ix2 t c) = a t c)
    (hV : ∀ s e, v (ix2 s e) = V s e) (hC : ∀ x e, C (ix3 0 x e) = CC x e) (t : Fin 64) (e : Fin 256) :
    (k0_pay84 (k0_pay47 (k0_pay31 (k0_pay23 v40)) (k0_pay35 C)) (k0_pay62 v100 v101 v108 k0_pay21 m) (k0_pay78 v (k0_pay63 v100 v101 v108 k0_pay21 (k0_pay43 (k0_pay27 v40) (k0_pay31 (k0_pay23 v40))) m))) (ix2 t e) = numer (ig 1) (bb 1) m0 (qry a 1) (key a 1) V CC t e := by
  pointwise [k0_pay84, k0_pay78]
  simp only [qc_1 hA hC, wPrev_1 G hm, att_1 G hm hA, hV]
  unfold numer
  simp only [mul_comm, add_comm]
/-- The size of the denominator of head 1. -/
theorem denom_1 (G : Gates v100 v101 v108 ig bb) (hm : m (ix3 0 0 0) = m0) (hA : ∀ t c, v40 (ix2 t c) = a t c)
    (hn : ∀ x, n (ix3 0 0 x) = N x) (t : Fin 64) :
    (k0_pay85 (k0_pay23 v40) (k0_pay39 n) (k0_pay62 v100 v101 v108 k0_pay21 m) (k0_pay63 v100 v101 v108 k0_pay21 (k0_pay43 (k0_pay27 v40) (k0_pay31 (k0_pay23 v40))) m)) (ix2 t 0) = max (denom (ig 1) (bb 1) m0 (qry a 1) (key a 1) N t) (-denom (ig 1) (bb 1) m0 (qry a 1) (key a 1) N t) := by
  pointwise [k0_pay85, k0_pay39]
  simp only [qry_1 hA, wPrev_1 G hm, att_1 G hm hA, hn]
  unfold denom
  simp only [mul_comm, add_comm]
  try rfl
/-- The output of head 1. -/
theorem gated_1 (G : Gates v100 v101 v108 ig bb) (hm : m (ix3 0 0 0) = m0) (hA : ∀ t c, v40 (ix2 t c) = a t c)
    (hV : ∀ s e, v (ix2 s e) = V s e) (hC : ∀ x e, C (ix3 0 x e) = CC x e) (hn : ∀ x, n (ix3 0 0 x) = N x)
    (hg : ∀ e, ng (ix2 0 e) = NG e) (ho : ∀ t e, o (ix2 t e) = O t e) (t : Fin 64) (e : Fin 256) :
    (k0_pay86 (k0_pay61 v100 v101 v108 k0_pay21 m) (k0_pay84 (k0_pay47 (k0_pay31 (k0_pay23 v40)) (k0_pay35 C)) (k0_pay62 v100 v101 v108 k0_pay21 m) (k0_pay78 v (k0_pay63 v100 v101 v108 k0_pay21 (k0_pay43 (k0_pay27 v40) (k0_pay31 (k0_pay23 v40))) m))) (k0_pay85 (k0_pay23 v40) (k0_pay39 n) (k0_pay62 v100 v101 v108 k0_pay21 m) (k0_pay63 v100 v101 v108 k0_pay21 (k0_pay43 (k0_pay27 v40) (k0_pay31 (k0_pay23 v40))) m)) (FloatOps.ofBits FTy.f32 0#32) ng o) (ix2 t e) = gated (ig 1) (bb 1) m0 (qry a 1) (key a 1) V CC N NG O t e := by
  pointwise [k0_pay86]
  simp only [numer_1 G hm hA hV hC, denom_1 G hm hA hn, stab_1 G hm, hg, ho, half_tanh, Ideal.ofBits_zero_f32, zero_sub]
  rfl
/-- The keys of head 1 weighted towards the end of the chunk. -/
theorem keyW_1 (G : Gates v100 v101 v108 ig bb) (hm : m (ix3 0 0 0) = m0) (hA : ∀ t c, v40 (ix2 t c) = a t c) (s : Fin 64) (x : Fin 128) :
    (k0_pay103 (k0_pay27 v40) (k0_pay57 v108) (k0_pay58 v108) (k0_pay61 v100 v101 v108 k0_pay21 m)) (ix2 s x) = keyW (ig 1) (bb 1) m0 (key a 1) s x := by
  pointwise [k0_pay103, k0_pay101, k0_pay57, k0_pay58]
  rw [key_1 hA, G.bc' 1 s 5 rfl, G.ic' 1 s 1 rfl, stab_163 G hm, G.bc63 1 5 rfl, add_sub_right]
  exact (mul_comm _ _).trans (congrArg (· * key a 1 s x) (wIn_last ..).symm)
/-- The matrix state of head 1 carried on. -/
theorem newC_1 (G : Gates v100 v101 v108 ig bb) (hm : m (ix3 0 0 0) = m0) (hA : ∀ t c, v40 (ix2 t c) = a t c)
    (hV : ∀ s e, v (ix2 s e) = V s e) (hC : ∀ x e, C (ix3 0 x e) = CC x e) (x : Fin 128) (e : Fin 256) :
    (k0_pay104 (k0_pay27 v40) v (k0_pay35 C) (k0_pay57 v108) (k0_pay58 v108) (k0_pay61 v100 v101 v108 k0_pay21 m) (k0_pay62 v100 v101 v108 k0_pay21 m)) (ix3 0 x e) = newC (ig 1) (bb 1) m0 (key a 1) V CC x e := by
  pointwise [k0_pay104, k0_pay35, k0_pay102]
  simp only [keyW_1 G hm hA, wPrev_1 G hm, hC, hV]
  rfl
/-- The normaliser of head 1 carried on. -/
theorem newN_1 (G : Gates v100 v101 v108 ig bb) (hm : m (ix3 0 0 0) = m0) (hA : ∀ t c, v40 (ix2 t c) = a t c)
    (hn : ∀ x, n (ix3 0 0 x) = N x) (x : Fin 128) :
    (k0_pay107 (k0_pay105 (k0_pay39 n) (k0_pay62 v100 v101 v108 k0_pay21 m)) (k0_pay106 (k0_pay27 v40) (k0_pay57 v108) (k0_pay58 v108) (k0_pay61 v100 v101 v108 k0_pay21 m))) (ix3 0 0 x) = newN (ig 1) (bb 1) m0 (key a 1) N x := by
  pointwise [k0_pay107, k0_pay39, k0_pay102, k0_pay105, k0_pay106]
  simp only [keyW_1 G hm hA, wPrev_1 G hm, hn]
  rfl
/-- The stabiliser of head 1 carried on, in every lane. -/
theorem newM_1 (G : Gates v100 v101 v108 ig bb) (hm : m (ix3 0 0 0) = m0) (x : Fin 128) :
    (k0_pay108 (k0_pay101 (k0_pay61 v100 v101 v108 k0_pay21 m))) (ix3 0 0 x) = stab (ig 1) (bb 1) m0 63 := by
  pointwise [k0_pay108, k0_pay101, k0_pay101]
  exact stab_163 G hm

/-! ### Head 2 -/

/-- The decay matrix of head 2. -/
theorem logD_2 (G : Gates v100 v101 v108 ig bb) (t s : Fin 64) : (k0_pay66 v100 v101 v108 k0_pay21) (ix2 t s) = logD (ig 2) (bb 2) t s := by
  pointwise [k0_pay66, k0_pay64, k0_pay65, k0_pay21]
  rw [select_causal, G.bc' 2 t 6 rfl, G.ir 2 s, G.br 2 s, add_sub_left]
  rfl
/-- The stabiliser of head 2. -/
theorem stab_2 (G : Gates v100 v101 v108 ig bb) (hm : m (ix3 0 0 0) = m0) (t : Fin 64) : (k0_pay68 v100 v101 v108 k0_pay21 m) (ix2 t 0) = stab (ig 2) (bb 2) m0 t := by
  pointwise [k0_pay68, k0_pay67, k0_pay64]
  simp only [logD_2 G, hm]
  rw [G.bc' 2 t 6 rfl]
  rfl
/-- The stabiliser of head 2 at the last position. -/
theorem stab_263 (G : Gates v100 v101 v108 ig bb) (hm : m (ix3 0 0 0) = m0) : (k0_pay68 v100 v101 v108 k0_pay21 m) (ix2 63 0) = stab (ig 2) (bb 2) m0 63 := stab_2 G hm 63
/-- The decay of the incoming state of head 2. -/
theorem wPrev_2 (G : Gates v100 v101 v108 ig bb) (hm : m (ix3 0 0 0) = m0) (t : Fin 64) : (k0_pay69 v100 v101 v108 k0_pay21 m) (ix2 t 0) = wPrev (ig 2) (bb 2) m0 t := by
  pointwise [k0_pay69, k0_pay67, k0_pay64]
  rw [stab_2 G hm, hm, G.bc' 2 t 6 rfl]
  rfl
/-- The queries of head 2. -/
theorem qry_2 (hA : ∀ t c, v40 (ix2 t c) = a t c) (t : Fin 64) (x : Fin 128) : (k0_pay24 v40) (ix2 t x) = qry a 2 t x := by
  pointwise [k0_pay24]
  rw [hA]
  exact congrArg (a t) (Fin.ext (by simp))
/-- The queries of head 2, rounded. -/
theorem qryB_2 (hA : ∀ t c, v40 (ix2 t c) = a t c) (t : Fin 64) (x : Fin 128) : (k0_pay32 (k0_pay24 v40)) (ix2 t x) = qry a 2 t x := by
  pointwise [k0_pay32, k0_pay24, k0_pay24]
  rw [hA]
  exact congrArg (a t) (Fin.ext (by simp))
/-- The keys of head 2. -/
theorem key_2 (hA : ∀ t c, v40 (ix2 t c) = a t c) (t : Fin 64) (x : Fin 128) : (k0_pay28 v40) (ix2 t x) = key a 2 t x := by
  pointwise [k0_pay28]
  rw [hA]
  exact congrArg (· * kScale) (congrArg (a t) (Fin.ext (by simp; try omega)))
/-- The scores of head 2. -/
theorem score_2 (hA : ∀ t c, v40 (ix2 t c) = a t c) (t s : Fin 64) :
    (k0_pay44 (k0_pay28 v40) (k0_pay32 (k0_pay24 v40))) (ix2 t s) = ∑ x, key a 2 s x * qry a 2 t x := by
  pointwise [k0_pay44]
  exact Finset.sum_congr rfl fun x _ => by rw [qryB_2 hA, key_2 hA, mul_comm]
/-- The weighted scores of head 2. -/
theorem att_2 (G : Gates v100 v101 v108 ig bb) (hm : m (ix3 0 0 0) = m0) (hA : ∀ t c, v40 (ix2 t c) = a t c) (t s : Fin 64) :
    (k0_pay70 (k0_pay44 (k0_pay28 v40) (k0_pay32 (k0_pay24 v40))) (k0_pay66 v100 v101 v108 k0_pay21) (k0_pay68 v100 v101 v108 k0_pay21 m)) (ix2 t s) = att (ig 2) (bb 2) m0 (qry a 2) (key a 2) t s := by
  pointwise [k0_pay70]
  rw [score_2 hA, logD_2 G, stab_2 G hm]
  rfl
/-- The part of the numerator of head 2 that reads the incoming state. -/
theorem qc_2 (hA : ∀ t c, v40 (ix2 t c) = a t c) (hC : ∀ x e, C (ix3 0 x e) = CC x e) (t : Fin 64) (e : Fin 256) :
    (k0_pay48 (k0_pay32 (k0_pay24 v40)) (k0_pay36 C)) (ix2 t e) = ∑ x, CC x e * qry a 2 t x := by
  pointwise [k0_pay48, k0_pay36]
  exact Finset.sum_congr rfl fun x _ => by rw [qryB_2 hA, hC, mul_comm]
/-- The numerator of head 2. -/
theorem numer_2 (G : Gates v100 v101 v108 ig bb) (hm : m (ix3 0 0 0) = m0) (hA : ∀ t c, v40 (ix2 t c) = a t c)
    (hV : ∀ s e, v (ix2 s e) = V s e) (hC : ∀ x e, C (ix3 0 x e) = CC x e) (t : Fin 64) (e : Fin 256) :
    (k0_pay87 (k0_pay48 (k0_pay32 (k0_pay24 v40)) (k0_pay36 C)) (k0_pay69 v100 v101 v108 k0_pay21 m) (k0_pay79 v (k0_pay44 (k0_pay28 v40) (k0_pay32 (k0_pay24 v40))) (k0_pay66 v100 v101 v108 k0_pay21) (k0_pay68 v100 v101 v108 k0_pay21 m))) (ix2 t e) = numer (ig 2) (bb 2) m0 (qry a 2) (key a 2) V CC t e := by
  pointwise [k0_pay87, k0_pay79]
  simp only [qc_2 hA hC, wPrev_2 G hm, att_2 G hm hA, hV]
  unfold numer
  simp only [mul_comm, add_comm]
/-- The size of the denominator of head 2. -/
theorem denom_2 (G : Gates v100 v101 v108 ig bb) (hm : m (ix3 0 0 0) = m0) (hA : ∀ t c, v40 (ix2 t c) = a t c)
    (hn : ∀ x, n (ix3 0 0 x) = N x) (t : Fin 64) :
    (k0_pay88 (k0_pay24 v40) (k0_pay40 n) (k0_pay69 v100 v101 v108 k0_pay21 m) (k0_pay70 (k0_pay44 (k0_pay28 v40) (k0_pay32 (k0_pay24 v40))) (k0_pay66 v100 v101 v108 k0_pay21) (k0_pay68 v100 v101 v108 k0_pay21 m))) (ix2 t 0) = max (denom (ig 2) (bb 2) m0 (qry a 2) (key a 2) N t) (-denom (ig 2) (bb 2) m0 (qry a 2) (key a 2) N t) := by
  pointwise [k0_pay88, k0_pay40]
  simp only [qry_2 hA, wPrev_2 G hm, att_2 G hm hA, hn]
  unfold denom
  simp only [mul_comm, add_comm]
  try rfl
/-- The output of head 2. -/
theorem gated_2 (G : Gates v100 v101 v108 ig bb) (hm : m (ix3 0 0 0) = m0) (hA : ∀ t c, v40 (ix2 t c) = a t c)
    (hV : ∀ s e, v (ix2 s e) = V s e) (hC : ∀ x e, C (ix3 0 x e) = CC x e) (hn : ∀ x, n (ix3 0 0 x) = N x)
    (hg : ∀ e, ng (ix2 0 e) = NG e) (ho : ∀ t e, o (ix2 t e) = O t e) (t : Fin 64) (e : Fin 256) :
    (k0_pay89 (k0_pay68 v100 v101 v108 k0_pay21 m) (k0_pay87 (k0_pay48 (k0_pay32 (k0_pay24 v40)) (k0_pay36 C)) (k0_pay69 v100 v101 v108 k0_pay21 m) (k0_pay79 v (k0_pay44 (k0_pay28 v40) (k0_pay32 (k0_pay24 v40))) (k0_pay66 v100 v101 v108 k0_pay21) (k0_pay68 v100 v101 v108 k0_pay21 m))) (k0_pay88 (k0_pay24 v40) (k0_pay40 n) (k0_pay69 v100 v101 v108 k0_pay21 m) (k0_pay70 (k0_pay44 (k0_pay28 v40) (k0_pay32 (k0_pay24 v40))) (k0_pay66 v100 v101 v108 k0_pay21) (k0_pay68 v100 v101 v108 k0_pay21 m))) (FloatOps.ofBits FTy.f32 0#32) ng o) (ix2 t e) = gated (ig 2) (bb 2) m0 (qry a 2) (key a 2) V CC N NG O t e := by
  pointwise [k0_pay89]
  simp only [numer_2 G hm hA hV hC, denom_2 G hm hA hn, stab_2 G hm, hg, ho, half_tanh, Ideal.ofBits_zero_f32, zero_sub]
  rfl
/-- The keys of head 2 weighted towards the end of the chunk. -/
theorem keyW_2 (G : Gates v100 v101 v108 ig bb) (hm : m (ix3 0 0 0) = m0) (hA : ∀ t c, v40 (ix2 t c) = a t c) (s : Fin 64) (x : Fin 128) :
    (k0_pay111 (k0_pay28 v40) (k0_pay64 v108) (k0_pay65 v108) (k0_pay68 v100 v101 v108 k0_pay21 m)) (ix2 s x) = keyW (ig 2) (bb 2) m0 (key a 2) s x := by
  pointwise [k0_pay111, k0_pay109, k0_pay64, k0_pay65]
  rw [key_2 hA, G.bc' 2 s 6 rfl, G.ic' 2 s 2 rfl, stab_263 G hm, G.bc63 2 6 rfl, add_sub_right]
  exact (mul_comm _ _).trans (congrArg (· * key a 2 s x) (wIn_last ..).symm)
/-- The matrix state of head 2 carried on. -/
theorem newC_2 (G : Gates v100 v101 v108 ig bb) (hm : m (ix3 0 0 0) = m0) (hA : ∀ t c, v40 (ix2 t c) = a t c)
    (hV : ∀ s e, v (ix2 s e) = V s e) (hC : ∀ x e, C (ix3 0 x e) = CC x e) (x : Fin 128) (e : Fin 256) :
    (k0_pay112 (k0_pay28 v40) v (k0_pay36 C) (k0_pay64 v108) (k0_pay65 v108) (k0_pay68 v100 v101 v108 k0_pay21 m) (k0_pay69 v100 v101 v108 k0_pay21 m)) (ix3 0 x e) = newC (ig 2) (bb 2) m0 (key a 2) V CC x e := by
  pointwise [k0_pay112, k0_pay36, k0_pay110]
  simp only [keyW_2 G hm hA, wPrev_2 G hm, hC, hV]
  rfl
/-- The normaliser of head 2 carried on. -/
theorem newN_2 (G : Gates v100 v101 v108 ig bb) (hm : m (ix3 0 0 0) = m0) (hA : ∀ t c, v40 (ix2 t c) = a t c)
    (hn : ∀ x, n (ix3 0 0 x) = N x) (x : Fin 128) :
    (k0_pay113 (k0_pay28 v40) (k0_pay40 n) (k0_pay64 v108) (k0_pay65 v108) (k0_pay68 v100 v101 v108 k0_pay21 m) (k0_pay69 v100 v101 v108 k0_pay21 m)) (ix3 0 0 x) = newN (ig 2) (bb 2) m0 (key a 2) N x := by
  pointwise [k0_pay113, k0_pay40, k0_pay110]
  simp only [keyW_2 G hm hA, wPrev_2 G hm, hn]
  rfl
/-- The stabiliser of head 2 carried on, in every lane. -/
theorem newM_2 (G : Gates v100 v101 v108 ig bb) (hm : m (ix3 0 0 0) = m0) (x : Fin 128) :
    (k0_pay115 (k0_pay114 (k0_pay68 v100 v101 v108 k0_pay21 m))) (ix3 0 0 x) = stab (ig 2) (bb 2) m0 63 := by
  pointwise [k0_pay115, k0_pay114, k0_pay109]
  exact stab_263 G hm

/-! ### Head 3 -/

/-- The decay matrix of head 3. -/
theorem logD_3 (G : Gates v100 v101 v108 ig bb) (t s : Fin 64) : (k0_pay73 v100 v101 v108 k0_pay21) (ix2 t s) = logD (ig 3) (bb 3) t s := by
  pointwise [k0_pay73, k0_pay71, k0_pay72, k0_pay21]
  rw [select_causal, G.bc' 3 t 7 rfl, G.ir 3 s, G.br 3 s, add_sub_left]
  rfl
/-- The stabiliser of head 3. -/
theorem stab_3 (G : Gates v100 v101 v108 ig bb) (hm : m (ix3 0 0 0) = m0) (t : Fin 64) : (k0_pay75 v100 v101 v108 k0_pay21 m) (ix2 t 0) = stab (ig 3) (bb 3) m0 t := by
  pointwise [k0_pay75, k0_pay74, k0_pay71]
  simp only [logD_3 G, hm]
  rw [G.bc' 3 t 7 rfl]
  rfl
/-- The stabiliser of head 3 at the last position. -/
theorem stab_363 (G : Gates v100 v101 v108 ig bb) (hm : m (ix3 0 0 0) = m0) : (k0_pay75 v100 v101 v108 k0_pay21 m) (ix2 63 0) = stab (ig 3) (bb 3) m0 63 := stab_3 G hm 63
/-- The decay of the incoming state of head 3. -/
theorem wPrev_3 (G : Gates v100 v101 v108 ig bb) (hm : m (ix3 0 0 0) = m0) (t : Fin 64) : (k0_pay76 v100 v101 v108 k0_pay21 m) (ix2 t 0) = wPrev (ig 3) (bb 3) m0 t := by
  pointwise [k0_pay76, k0_pay74, k0_pay71]
  rw [stab_3 G hm, hm, G.bc' 3 t 7 rfl]
  rfl
/-- The queries of head 3. -/
theorem qry_3 (hA : ∀ t c, v40 (ix2 t c) = a t c) (t : Fin 64) (x : Fin 128) : (k0_pay25 v40) (ix2 t x) = qry a 3 t x := by
  pointwise [k0_pay25]
  rw [hA]
  exact congrArg (a t) (Fin.ext (by simp))
/-- The queries of head 3, rounded. -/
theorem qryB_3 (hA : ∀ t c, v40 (ix2 t c) = a t c) (t : Fin 64) (x : Fin 128) : (k0_pay33 v40) (ix2 t x) = qry a 3 t x := by
  pointwise [k0_pay33, k0_pay25]
  rw [hA]
  exact congrArg (a t) (Fin.ext (by simp))
/-- The keys of head 3. -/
theorem key_3 (hA : ∀ t c, v40 (ix2 t c) = a t c) (t : Fin 64) (x : Fin 128) : (k0_pay29 v40) (ix2 t x) = key a 3 t x := by
  pointwise [k0_pay29]
  rw [hA]
  exact congrArg (· * kScale) (congrArg (a t) (Fin.ext (by simp; try omega)))
/-- The scores of head 3. -/
theorem score_3 (hA : ∀ t c, v40 (ix2 t c) = a t c) (t s : Fin 64) :
    (k0_pay45 (k0_pay29 v40) (k0_pay33 v40)) (ix2 t s) = ∑ x, key a 3 s x * qry a 3 t x := by
  pointwise [k0_pay45]
  exact Finset.sum_congr rfl fun x _ => by rw [qryB_3 hA, key_3 hA, mul_comm]
/-- The weighted scores of head 3. -/
theorem att_3 (G : Gates v100 v101 v108 ig bb) (hm : m (ix3 0 0 0) = m0) (hA : ∀ t c, v40 (ix2 t c) = a t c) (t s : Fin 64) :
    (k0_pay77 v100 v101 v108 k0_pay21 (k0_pay45 (k0_pay29 v40) (k0_pay33 v40)) m) (ix2 t s) = att (ig 3) (bb 3) m0 (qry a 3) (key a 3) t s := by
  pointwise [k0_pay77]
  rw [score_3 hA, logD_3 G, stab_3 G hm]
  rfl
/-- The part of the numerator of head 3 that reads the incoming state. -/
theorem qc_3 (hA : ∀ t c, v40 (ix2 t c) = a t c) (hC : ∀ x e, C (ix3 0 x e) = CC x e) (t : Fin 64) (e : Fin 256) :
    (k0_pay49 (k0_pay33 v40) (k0_pay37 C)) (ix2 t e) = ∑ x, CC x e * qry a 3 t x := by
  pointwise [k0_pay49, k0_pay37]
  exact Finset.sum_congr rfl fun x _ => by rw [qryB_3 hA, hC, mul_comm]
/-- The numerator of head 3. -/
theorem numer_3 (G : Gates v100 v101 v108 ig bb) (hm : m (ix3 0 0 0) = m0) (hA : ∀ t c, v40 (ix2 t c) = a t c)
    (hV : ∀ s e, v (ix2 s e) = V s e) (hC : ∀ x e, C (ix3 0 x e) = CC x e) (t : Fin 64) (e : Fin 256) :
    (k0_pay90 (k0_pay49 (k0_pay33 v40) (k0_pay37 C)) (k0_pay76 v100 v101 v108 k0_pay21 m) (k0_pay80 v100 v101 v108 k0_pay21 v (k0_pay45 (k0_pay29 v40) (k0_pay33 v40)) m)) (ix2 t e) = numer (ig 3) (bb 3) m0 (qry a 3) (key a 3) V CC t e := by
  pointwise [k0_pay90, k0_pay80]
  simp only [qc_3 hA hC, wPrev_3 G hm, att_3 G hm hA, hV]
  unfold numer
  simp only [mul_comm, add_comm]
/-- The size of the denominator of head 3. -/
theorem denom_3 (G : Gates v100 v101 v108 ig bb) (hm : m (ix3 0 0 0) = m0) (hA : ∀ t c, v40 (ix2 t c) = a t c)
    (hn : ∀ x, n (ix3 0 0 x) = N x) (t : Fin 64) :
    (k0_pay91 (k0_pay25 v40) (k0_pay41 n) (k0_pay76 v100 v101 v108 k0_pay21 m) (k0_pay77 v100 v101 v108 k0_pay21 (k0_pay45 (k0_pay29 v40) (k0_pay33 v40)) m)) (ix2 t 0) = max (denom (ig 3) (bb 3) m0 (qry a 3) (key a 3) N t) (-denom (ig 3) (bb 3) m0 (qry a 3) (key a 3) N t) := by
  pointwise [k0_pay91, k0_pay41]
  simp only [qry_3 hA, wPrev_3 G hm, att_3 G hm hA, hn]
  unfold denom
  simp only [mul_comm, add_comm]
  try rfl
/-- The output of head 3. -/
theorem gated_3 (G : Gates v100 v101 v108 ig bb) (hm : m (ix3 0 0 0) = m0) (hA : ∀ t c, v40 (ix2 t c) = a t c)
    (hV : ∀ s e, v (ix2 s e) = V s e) (hC : ∀ x e, C (ix3 0 x e) = CC x e) (hn : ∀ x, n (ix3 0 0 x) = N x)
    (hg : ∀ e, ng (ix2 0 e) = NG e) (ho : ∀ t e, o (ix2 t e) = O t e) (t : Fin 64) (e : Fin 256) :
    (k0_pay92 (k0_pay75 v100 v101 v108 k0_pay21 m) (k0_pay90 (k0_pay49 (k0_pay33 v40) (k0_pay37 C)) (k0_pay76 v100 v101 v108 k0_pay21 m) (k0_pay80 v100 v101 v108 k0_pay21 v (k0_pay45 (k0_pay29 v40) (k0_pay33 v40)) m)) (k0_pay91 (k0_pay25 v40) (k0_pay41 n) (k0_pay76 v100 v101 v108 k0_pay21 m) (k0_pay77 v100 v101 v108 k0_pay21 (k0_pay45 (k0_pay29 v40) (k0_pay33 v40)) m)) (FloatOps.ofBits FTy.f32 0#32) ng o) (ix2 t e) = gated (ig 3) (bb 3) m0 (qry a 3) (key a 3) V CC N NG O t e := by
  pointwise [k0_pay92]
  simp only [numer_3 G hm hA hV hC, denom_3 G hm hA hn, stab_3 G hm, hg, ho, half_tanh, Ideal.ofBits_zero_f32, zero_sub]
  rfl
/-- The keys of head 3 weighted towards the end of the chunk. -/
theorem keyW_3 (G : Gates v100 v101 v108 ig bb) (hm : m (ix3 0 0 0) = m0) (hA : ∀ t c, v40 (ix2 t c) = a t c) (s : Fin 64) (x : Fin 128) :
    (k0_pay118 (k0_pay29 v40) (k0_pay71 v108) (k0_pay72 v108) (k0_pay75 v100 v101 v108 k0_pay21 m)) (ix2 s x) = keyW (ig 3) (bb 3) m0 (key a 3) s x := by
  pointwise [k0_pay118, k0_pay116, k0_pay71, k0_pay72]
  rw [key_3 hA, G.bc' 3 s 7 rfl, G.ic' 3 s 3 rfl, stab_363 G hm, G.bc63 3 7 rfl, add_sub_right]
  exact (mul_comm _ _).trans (congrArg (· * key a 3 s x) (wIn_last ..).symm)
/-- The matrix state of head 3 carried on. -/
theorem newC_3 (G : Gates v100 v101 v108 ig bb) (hm : m (ix3 0 0 0) = m0) (hA : ∀ t c, v40 (ix2 t c) = a t c)
    (hV : ∀ s e, v (ix2 s e) = V s e) (hC : ∀ x e, C (ix3 0 x e) = CC x e) (x : Fin 128) (e : Fin 256) :
    (k0_pay119 (k0_pay29 v40) v (k0_pay37 C) (k0_pay71 v108) (k0_pay72 v108) (k0_pay75 v100 v101 v108 k0_pay21 m) (k0_pay76 v100 v101 v108 k0_pay21 m)) (ix3 0 x e) = newC (ig 3) (bb 3) m0 (key a 3) V CC x e := by
  pointwise [k0_pay119, k0_pay37, k0_pay117]
  simp only [keyW_3 G hm hA, wPrev_3 G hm, hC, hV]
  rfl
/-- The normaliser of head 3 carried on. -/
theorem newN_3 (G : Gates v100 v101 v108 ig bb) (hm : m (ix3 0 0 0) = m0) (hA : ∀ t c, v40 (ix2 t c) = a t c)
    (hn : ∀ x, n (ix3 0 0 x) = N x) (x : Fin 128) :
    (k0_pay120 (k0_pay29 v40) (k0_pay41 n) (k0_pay71 v108) (k0_pay72 v108) (k0_pay75 v100 v101 v108 k0_pay21 m) (k0_pay76 v100 v101 v108 k0_pay21 m)) (ix3 0 0 x) = newN (ig 3) (bb 3) m0 (key a 3) N x := by
  pointwise [k0_pay120, k0_pay41, k0_pay117]
  simp only [keyW_3 G hm hA, wPrev_3 G hm, hn]
  rfl
/-- The stabiliser of head 3 carried on, in every lane. -/
theorem newM_3 (G : Gates v100 v101 v108 ig bb) (hm : m (ix3 0 0 0) = m0) (x : Fin 128) :
    (k0_pay1 (k0_pay121 (k0_pay75 v100 v101 v108 k0_pay21 m))) (ix3 0 0 x) = stab (ig 3) (bb 3) m0 63 := by
  pointwise [k0_pay1, k0_pay121, k0_pay116]
  exact stab_363 G hm

end Cert.KernelIdeal.Value
end
-- ==== Proof.Gates.lean ====
module

public import proofs.«01_k».proof.Proof.Payload

/-! # The gates and the activations

The running sum of the log forget gate is computed by seven rotate-and-add steps of doubling width; the
convolution adds its taps from the newest to the oldest. -/

@[expose] public section
noncomputable section
namespace Cert.KernelIdeal.Value
open Cert.KernelIdeal Cert.KernelIdeal.Gen Idealize.ShloMosaic Idealize.ShloMosaic.TcCoe Idealize.SL.Sem Cert.Mlstm
set_option maxRecDepth 16384

/-- The lane numbers. -/
abbrev lanes : IVec S8x128 32 := iota .tc S8x128 32 [1] iota_S8x128_d1_w32

/-- One step of the running sum: the array plus itself rotated by `n` lanes, where the lane number is at least `n`. -/
def rollStep (n : BitVec 32) (x : FVec Ideal S8x128 .f32) : FVec Ideal S8x128 .f32 :=
  addf x (select (cmpi .sge lanes (broadcast S8x128 n)) (dynamicRotate 1 n none x rotates_S8x128_d1)
    (broadcast S8x128 (Scalar.ofBits .f32 0x00000000#32)))

/-- The log forget gate before any step. -/
def lsig (x : FVec Ideal S8x128 .f32) : FVec Ideal S8x128 .f32 :=
  subf (minimumf x (broadcast S8x128 (Scalar.ofBits .f32 0x00000000#32)))
    (log (addf (broadcast S8x128 (Scalar.ofBits .f32 0x3F800000#32))
      (exp (subf (broadcast S8x128 (Scalar.ofBits .f32 0x00000000#32)) (absf x)))))

theorem pay15_eq (a : Vec Ideal S1x8x128 .f32) (b : Vec Ideal S8x1 .f32) :
    k0_pay15 a b = rollStep 2#32 (rollStep 1#32 (lsig (k0_pay14 a b))) := rfl

theorem pay17_eq (x : FVec Ideal S8x128 .f32) :
    k0_pay17 lanes x k0_pay16 = rollStep 64#32 (rollStep 32#32 (rollStep 16#32 (rollStep 8#32 (rollStep 4#32 x)))) := rfl

/-- The log forget gate at an entry. -/
theorem lsig_apply (x : FVec Ideal S8x128 .f32) (r : Fin 8) (s : Fin 128) : lsig x (ix2 r s) = logSigm (x (ix2 r s)) := by
  rw [← min_logSigm]
  pointwise [lsig]
  rfl

/-- A comparison of lane numbers. -/
theorem cmpi_sge_lane (s n : ℕ) (hs : s < 128) (hn : n < 128) :
    IntOp.cmpi CmpIPredicate.sge (BitVec.ofNat 32 s) (BitVec.ofNat 32 n) = if n ≤ s then 1#1 else 0#1 := by
  have h : ∀ s n : Fin 128, IntOp.cmpi CmpIPredicate.sge (BitVec.ofNat 32 s.val) (BitVec.ofNat 32 n.val) = if n.val ≤ s.val then 1#1 else 0#1 := by
    decide +kernel
  exact h ⟨s, hs⟩ ⟨n, hn⟩

/-- One step at an entry. -/
theorem rollStep_apply (n : ℕ) (hn : n < 128) (x : FVec Ideal S8x128 .f32) (r : Fin 8) (s : Fin 128) :
    rollStep (BitVec.ofNat 32 n) x (ix2 r s)
      = x (ix2 r s) + (if n ≤ s.val then x (ix2 r ⟨s.val - n, by omega⟩) else 0) := by
  pointwise [rollStep]
  rw [cmpi_sge_lane _ _ s.isLt hn]
  have e : (BitVec.ofNat 32 n).toNat = n := by rw [BitVec.toNat_ofNat]; omega
  by_cases h : n ≤ s.val
  · rw [if_pos h, if_pos h]
    exact congrArg (fun k => x (ix2 r s) + x (ix2 r k)) (Fin.ext (by simp only [e]; omega))
  · rw [if_neg h, if_neg h]
    rfl

/-- The seven steps, from an array of entries `f` per row: the running sums over 128 lanes. -/
theorem rolls_apply (x : FVec Ideal S8x128 .f32) (r : Fin 8) (f : ℕ → EReal) (hf : ∀ s : Fin 128, x (ix2 r s) = f s.val) (s : Fin 128) :
    k0_pay17 lanes (rollStep 2#32 (rollStep 1#32 x)) k0_pay16 (ix2 r s) = lastSum f 128 s.val := by
  have step : ∀ (n : ℕ) (hn : n < 128) (y : FVec Ideal S8x128 .f32), (∀ s : Fin 128, y (ix2 r s) = lastSum f n s.val) →
      ∀ s : Fin 128, rollStep (BitVec.ofNat 32 n) y (ix2 r s) = lastSum f (n + n) s.val := fun n hn y hy s => by
    rw [rollStep_apply n hn, ← lastSum_double, hy]
    congr 1
    split
    · rw [hy]
    · rfl
  rw [pay17_eq]
  exact step 64 (by omega) _ (step 32 (by omega) _ (step 16 (by omega) _ (step 8 (by omega) _ (step 4 (by omega) _
    (step 2 (by omega) _ (step 1 (by omega) _ fun s => (hf s).trans (lastSum_one f s.val).symm)))))) s

/-- The gate arrays that the body makes of the gate rows `a` and the bias `b`. -/
theorem gates_of (a : Vec Ideal S1x8x128 .f32) (b : Vec Ideal S8x1 .f32) (g : Fin 8 → Fin 64 → EReal)
    (hg : ∀ (r : Fin 8) (s : Fin 64), a (ix3 0 r ⟨s.val, by omega⟩) + b (ix2 r 0) = g r s) :
    Gates (k0_pay18 (k0_pay14 a b)) (k0_pay19 lanes (k0_pay15 a b) k0_pay16) (k0_pay20 (k0_pay14 a b) lanes (k0_pay15 a b) k0_pay16)
      (igate g) (bcum g) := by
  have hb : ∀ (r : Fin 8) (s : Fin 128), k0_pay14 a b (ix2 r s) = a (ix3 0 r s) + b (ix2 r 0) := fun r s => by pointwise [k0_pay14]
  have hc : ∀ (r : Fin 8) (s : Fin 64), k0_pay17 lanes (k0_pay15 a b) k0_pay16 (ix2 r ⟨s.val, by omega⟩)
      = ∑ j : Fin 64, if j ≤ s then logSigm (g r j) else 0 := fun r s => by
    rw [pay15_eq, rolls_apply _ r (fun j => if h : j < 128 then lsig (k0_pay14 a b) (ix2 r ⟨j, h⟩) else 0) (fun s => by rw [dif_pos s.isLt]), lastSum_full]
    refine Finset.sum_congr rfl fun j _ => ?_
    rw [dif_pos (by omega), lsig_apply, hb, hg]
  have hi : ∀ (h : Fin 4) (s : Fin 64), k0_pay14 a b (ix2 ⟨h.val, by omega⟩ ⟨s.val, by omega⟩) = igate g h s := fun h s => by
    rw [hb, hg]; rfl
  refine ⟨fun h s => ?_, fun h s => ?_, fun h s => ?_, fun h s => ?_⟩
  · have e : k0_pay18 (k0_pay14 a b) (ix2 h ⟨s.val, by omega⟩) = k0_pay14 a b (ix2 ⟨h.val, by omega⟩ ⟨s.val, by omega⟩) := by
      generalize k0_pay14 a b = x
      pointwise [k0_pay18]
      done
    rw [e, hi]
  · have e : k0_pay19 lanes (k0_pay15 a b) k0_pay16 (ix2 h ⟨s.val, by omega⟩)
        = k0_pay17 lanes (k0_pay15 a b) k0_pay16 (ix2 ⟨4 + h.val, by omega⟩ ⟨s.val, by omega⟩) := by
      generalize k0_pay15 a b = x
      pointwise [k0_pay19]
      done
    rw [e, hc]; rfl
  · have e : ∀ x y : FVec Ideal S8x128 .f32, k0_pay20 x lanes y k0_pay16 (ix2 ⟨s.val, by omega⟩ ⟨h.val, by omega⟩)
        = x (ix2 ⟨h.val, by omega⟩ ⟨s.val, by omega⟩) := fun x y => by
      pointwise [k0_pay20]
      have k : ∀ h : Fin 4, IntOp.cmpi CmpIPredicate.slt (BitVec.ofNat 32 (h.val)) 4#32 = 1#1 := by decide +kernel
      rw [dif_pos (by omega), k]
      rfl
    rw [e, hi]
  · have e : ∀ x y : FVec Ideal S8x128 .f32, k0_pay20 x lanes y k0_pay16 (ix2 ⟨s.val, by omega⟩ ⟨4 + h.val, by omega⟩)
        = k0_pay17 lanes y k0_pay16 (ix2 ⟨4 + h.val, by omega⟩ ⟨s.val, by omega⟩) := fun x y => by
      pointwise [k0_pay20]
      have k : ∀ h : Fin 4, IntOp.cmpi CmpIPredicate.slt (BitVec.ofNat 32 (4 + h.val)) 4#32 = 0#1 := by decide +kernel
      rw [dif_pos (by omega), k]
      rfl
    rw [e, hc]; rfl

/-- The activations: the taps are added from the newest to the oldest. -/
theorem act_of (x : Fin 67 → Fin 1024 → EReal) (cw : Fin 4 → Fin 1024 → EReal) (cb : Fin 1024 → EReal)
    (x3 x2 x1 x0 : Vec Ideal S64x1024 .f32) (b w3 w2 w1 w0 : Vec Ideal S1x1024 .f32)
    (h3 : ∀ (t : Fin 64) c, x3 (ix2 t c) = x ⟨t.val + 3, by omega⟩ c) (h2 : ∀ (t : Fin 64) c, x2 (ix2 t c) = x ⟨t.val + 2, by omega⟩ c)
    (h1 : ∀ (t : Fin 64) c, x1 (ix2 t c) = x ⟨t.val + 1, by omega⟩ c) (h0 : ∀ (t : Fin 64) c, x0 (ix2 t c) = x ⟨t.val, by omega⟩ c)
    (hb : ∀ c, b (ix2 0 c) = cb c) (k3 : ∀ c, w3 (ix2 0 c) = cw 3 c) (k2 : ∀ c, w2 (ix2 0 c) = cw 2 c)
    (k1 : ∀ c, w1 (ix2 0 c) = cw 1 c) (k0 : ∀ c, w0 (ix2 0 c) = cw 0 c) (t : Fin 64) (c : Fin 1024) :
    k0_pay13 (k0_pay11 x3 b w3 x2 w2 x1 w1 x0 w0) (ix2 t c) = act x cw cb t c := by
  have e : k0_pay11 x3 b w3 x2 w2 x1 w1 x0 w0 (ix2 t c) = conv x cw cb t c := by
    pointwise [k0_pay11]
    rw [h3, h2, h1, h0, hb, k3, k2, k1, k0]
    unfold conv
    ac_rfl
  generalize k0_pay11 x3 b w3 x2 w2 x1 w1 x0 w0 = z at *
  pointwise [k0_pay13]
  rw [e, half_tanh]
  rfl

end Cert.KernelIdeal.Value
end
-- ==== Proof.Data.lean ====
module

public import proofs.«01_k».proof.Proof.Spec

/-! # What the chunk computes, as a function of the twelve argument arrays -/

@[expose] public section
noncomputable section
namespace Cert.Mlstm
open Idealize.ShloMosaic

/-- The arguments, entry by entry: the two projections, the gate rows, the history of the stream, the taps and the bias
    of the convolution, the bias of the gates, the gain, the incoming state, and the array that the output extends. -/
structure In where
  u : Fin 16896 → Fin 3328 → EReal
  ub : Fin 16896 → Fin 5120 → EReal
  gT : Fin 8 → Fin 16896 → EReal
  hist : Fin 8 → Fin 3 → Fin 1024 → EReal
  cw : Fin 4 → Fin 1024 → EReal
  cb : Fin 1024 → EReal
  gateB : Fin 8 → EReal
  ng : Fin 1024 → EReal
  c0 : Fin 8 → Fin 4 → Fin 128 → Fin 256 → EReal
  n0 : Fin 8 → Fin 4 → Fin 128 → EReal
  m0 : Fin 8 → Fin 4 → EReal
  yb : Fin 16896 → Fin 1024 → EReal

namespace In
variable (I : In) (b : Fin 8)

/-- The stream of sequence `b`: three rows of history, then the 64 rows of the projection. -/
def x (t : Fin 67) (c : Fin 1024) : EReal :=
  if h : t.val < 3 then I.hist b ⟨t.val, h⟩ c else I.u ⟨16384 + (b.val * 64 + (t.val - 3)), by omega⟩ ⟨2048 + c.val, by omega⟩
/-- The queries and unscaled keys. -/
def a : Fin 64 → Fin 1024 → EReal := act (I.x b) I.cw I.cb
/-- The gates before their nonlinearities. -/
def g (r : Fin 8) (s : Fin 64) : EReal := I.gT r ⟨16384 + (b.val * 64 + s.val), by omega⟩ + I.gateB r
/-- The values. -/
def v (h : Fin 4) (s : Fin 64) (e : Fin 256) : EReal :=
  I.ub ⟨16384 + (b.val * 64 + s.val), by omega⟩ ⟨3072 + (h.val * 256 + e.val), by omega⟩
/-- The output gate before its nonlinearity. -/
def o (h : Fin 4) (s : Fin 64) (e : Fin 256) : EReal :=
  I.ub ⟨16384 + (b.val * 64 + s.val), by omega⟩ ⟨4096 + (h.val * 256 + e.val), by omega⟩
/-- The gain of a head. -/
def gain (h : Fin 4) (e : Fin 256) : EReal := I.ng ⟨h.val * 256 + e.val, by omega⟩
/-- The input gates. -/
def ig : Fin 4 → Fin 64 → EReal := igate (I.g b)
/-- The running sums of the log forget gates. -/
def bb : Fin 4 → Fin 64 → EReal := bcum (I.g b)

/-- The mixer's output for sequence `b`, head `h`. -/
def y (h : Fin 4) (t : Fin 64) (e : Fin 256) : EReal :=
  gated (I.ig b h) (I.bb b h) (I.m0 b h) (qry (I.a b) h) (key (I.a b) h) (I.v b h) (I.c0 b h) (I.n0 b h) (I.gain h) (I.o b h) t e

/-- The output array: the given rows, then the rows of the eight sequences. -/
def outY (r : Fin 16896) (c : Fin 1024) : EReal :=
  if h : 16384 ≤ r.val then I.y ⟨(r.val - 16384) / 64, by omega⟩ ⟨c.val / 256, by omega⟩ ⟨(r.val - 16384) % 64, by omega⟩ ⟨c.val % 256, by omega⟩
  else I.yb r c
/-- The matrix state carried on. -/
def outC (h : Fin 4) (d : Fin 128) (e : Fin 256) : EReal :=
  newC (I.ig b h) (I.bb b h) (I.m0 b h) (key (I.a b) h) (I.v b h) (I.c0 b h) d e
/-- The normaliser carried on. -/
def outN (h : Fin 4) (d : Fin 128) : EReal := newN (I.ig b h) (I.bb b h) (I.m0 b h) (key (I.a b) h) (I.n0 b h) d
/-- The stabiliser carried on. -/
def outM (h : Fin 4) : EReal := stab (I.ig b h) (I.bb b h) (I.m0 b h) 63
/-- The last eight rows of the stream. -/
def outX (j : Fin 8) (c : Fin 1024) : EReal := I.x b ⟨59 + j.val, by omega⟩ c

end In
end Cert.Mlstm
end
-- ==== Proof.Blocks.lean ====
module

public import proofs.«01_k».proof.Proof.Gates
public import proofs.«01_k».proof.Proof.Data
public import Idealize.ShloMosaic.Lib.Pipeline.ValueKit
public import Idealize.ShloMosaic.Lib.Pipeline.ReadBack
public import Idealize.ShloMosaic.Lib.StableHlo.ReadAt

/-! # What the kernel's windows hold -/

@[expose] public section
noncomputable section
namespace Cert.KernelIdeal.Value
open Cert.KernelIdeal Cert.KernelIdeal.Gen Idealize.ShloMosaic Idealize.ShloMosaic.TcCoe Idealize.SL.Sem Cert.Mlstm
set_option maxRecDepth 16384

variable (m : (ℓ : Loc nD τ sig) → Buf (Elt Ideal) ℓ)

/-- The arguments as launched, entry by entry. -/
def inK (c : Dev nD) : In where
  u i j := m ((c : Thread nD τ).loc main_arg0) (ix2 i j)
  ub i j := m ((c : Thread nD τ).loc main_arg1) (ix2 i j)
  gT i j := m ((c : Thread nD τ).loc main_arg2) (ix2 i j)
  hist b i j := m ((c : Thread nD τ).loc main_arg3) (ix3 b i j)
  cw i j := m ((c : Thread nD τ).loc main_arg4) (ix2 i j)
  cb i := m ((c : Thread nD τ).loc main_arg5) (ix1 i)
  gateB i := m ((c : Thread nD τ).loc main_arg6) (ix1 i)
  ng i := m ((c : Thread nD τ).loc main_arg7) (ix1 i)
  c0 b h d e := m ((c : Thread nD τ).loc main_arg8) (ix4 b h d e)
  n0 b h d := m ((c : Thread nD τ).loc main_arg9) (ix3 b h d)
  m0 b h := m ((c : Thread nD τ).loc main_arg10) (ix2 b h)
  yb i j := m ((c : Thread nD τ).loc main_arg11) (ix2 i j)

/-- The launch has eight grid points, one for each sequence. -/
theorem lt8 (t : Fin cfg0.N) : t.val < 8 := t.isLt
/-- The sequence of a grid point. -/
abbrev seqOf (t : Fin cfg0.N) : Fin 8 := ⟨t.val, lt8 t⟩

/-- The blocks that the windows stage at a point. -/
theorem idx : ∀ t : Fin grid0.N, win0_0.index t = ![256 + t.val, 2] ∧ win0_1.index t = ![256 + t.val, 3] ∧ win0_2.index t = ![256 + t.val, 4]
    ∧ win0_3.index t = ![t.val, 0, 0] ∧ win0_4.index t = ![t.val, 0, 0] ∧ win0_5.index t = ![0, 0] ∧ win0_6.index t = ![0, 0]
    ∧ win0_7.index t = ![0, 0] ∧ win0_8.index t = ![0, 0] ∧ win0_9.index t = ![t.val, 0, 0, 0] ∧ win0_10.index t = ![t.val, 0, 0, 0]
    ∧ win0_11.index t = ![t.val, 0, 0, 0] := by decide +kernel

/-- The stream's rows. -/
theorem blk0 (c : Dev nD) (t : Fin cfg0.N) (s : Fin 64) (j : Fin 1024) :
    X0_0 m c t (ix2 s j) = (inK m c).u ⟨16384 + (t.val * 64 + s.val), by have := lt8 t; omega⟩ ⟨2048 + j.val, by omega⟩ := by
  unfold X0_0 Pipeline.Window.fill
  rw [dif_pos (moved0_0 t _)]
  unfold inK
  blk_ext [iblk, V, idx t]
/-- The values. -/
theorem blk1 (c : Dev nD) (t : Fin cfg0.N) (s : Fin 64) (j : Fin 1024) :
    iblk m c 1 t (ix2 s j) = (inK m c).ub ⟨16384 + (t.val * 64 + s.val), by have := lt8 t; omega⟩ ⟨3072 + j.val, by omega⟩ := by
  unfold inK
  blk_ext [iblk, V, idx t]
/-- The output gate. -/
theorem blk2 (c : Dev nD) (t : Fin cfg0.N) (s : Fin 64) (j : Fin 1024) :
    iblk m c 2 t (ix2 s j) = (inK m c).ub ⟨16384 + (t.val * 64 + s.val), by have := lt8 t; omega⟩ ⟨4096 + j.val, by omega⟩ := by
  unfold inK
  blk_ext [iblk, V, idx t]
/-- The taps. -/
theorem blk5 (c : Dev nD) (t : Fin cfg0.N) (i : Fin 4) (j : Fin 1024) : iblk m c 5 t (ix2 i j) = (inK m c).cw i j := by
  unfold inK
  blk_ext [iblk, V, idx t]
/-- The incoming matrix state. -/
theorem blk9 (c : Dev nD) (t : Fin cfg0.N) (h : Fin 4) (d : Fin 128) (e : Fin 256) : iblk m c 9 t (ix4 0 h d e) = (inK m c).c0 (seqOf t) h d e := by
  unfold inK
  blk_ext [iblk, V, idx t]

/-- The gate rows as the host code lays them out. -/
theorem V3 (c : Dev nD) (b r : Fin 8) (s : Fin 64) : V m c main_v3 (ix3 b r ⟨s.val, by omega⟩) = (inK m c).gT r ⟨16384 + (b.val * 64 + s.val), by omega⟩ := by
  unfold V
  after_reads_at
  rfl
/-- The history as the host code lays it out: five rows of zeros before it. -/
theorem V4 (c : Dev nD) (b j : Fin 8) (l : Fin 1024) (hj : 5 ≤ j.val) : V m c main_v4 (ix3 b j l) = (inK m c).hist b ⟨j.val - 5, by omega⟩ l := by
  unfold V
  after_reads_at
  rw [dif_pos ⟨hj, by omega⟩]
  rfl
theorem V5 (c : Dev nD) (b : Fin 8) (h : Fin 4) (l : Fin 128) : V m c main_v5 (ix4 b h 0 l) = (inK m c).n0 b h l := by
  unfold V
  after_reads_at
  rfl
theorem V7 (c : Dev nD) (b : Fin 8) (h : Fin 4) (l : Fin 128) : V m c main_v7 (ix4 b h 0 l) = (inK m c).m0 b h := by
  unfold V
  after_reads_at
  rfl
theorem V9 (c : Dev nD) (r : Fin 8) (l : Fin 128) : V m c main_v9 (ix2 r l) = (inK m c).gateB r := by
  unfold V
  after_reads_at
  rfl
theorem V10 (c : Dev nD) (l : Fin 1024) : V m c main_v10 (ix2 0 l) = (inK m c).cb l := by
  unfold V
  after_reads_at
  rfl
theorem V11 (c : Dev nD) (l : Fin 1024) : V m c main_v11 (ix2 0 l) = (inK m c).ng l := by
  unfold V
  after_reads_at
  rfl
/-- The array that the output extends. -/
theorem V12 (c : Dev nD) : V m c main_v12_0 = fun i => (inK m c).yb (i 0) (i 1) := by
  funext i
  unfold V
  after_reads_at
  exact congrArg (m ((c : Thread nD τ).loc main_arg11)) (ix2_eta i).symm

/-- The gate rows. -/
theorem blk3 (c : Dev nD) (t : Fin cfg0.N) (r : Fin 8) (s : Fin 64) :
    iblk m c 3 t (ix3 0 r ⟨s.val, by omega⟩) = (inK m c).gT r ⟨16384 + (t.val * 64 + s.val), by have := lt8 t; omega⟩ := by
  refine Eq.trans ?_ (V3 m c (seqOf t) r s)
  blk_ext [iblk, idx t]
/-- The history, behind five rows of zeros. -/
theorem blk4 (c : Dev nD) (t : Fin cfg0.N) (j : Fin 8) (l : Fin 1024) (hj : 5 ≤ j.val) :
    iblk m c 4 t (ix3 0 j l) = (inK m c).hist (seqOf t) ⟨j.val - 5, by omega⟩ l := by
  refine Eq.trans ?_ (V4 m c (seqOf t) j l hj)
  blk_ext [iblk, idx t]
theorem blk6 (c : Dev nD) (t : Fin cfg0.N) (l : Fin 1024) : iblk m c 6 t (ix2 0 l) = (inK m c).cb l := by
  refine Eq.trans ?_ (V10 m c l)
  blk_ext [iblk, idx t]
theorem blk7 (c : Dev nD) (t : Fin cfg0.N) (r : Fin 8) (l : Fin 128) : iblk m c 7 t (ix2 r l) = (inK m c).gateB r := by
  refine Eq.trans ?_ (V9 m c r l)
  blk_ext [iblk, idx t]
theorem blk8 (c : Dev nD) (t : Fin cfg0.N) (l : Fin 1024) : iblk m c 8 t (ix2 0 l) = (inK m c).ng l := by
  refine Eq.trans ?_ (V11 m c l)
  blk_ext [iblk, idx t]
theorem blk10 (c : Dev nD) (t : Fin cfg0.N) (h : Fin 4) (l : Fin 128) : iblk m c 10 t (ix4 0 h 0 l) = (inK m c).n0 (seqOf t) h l := by
  refine Eq.trans ?_ (V5 m c (seqOf t) h l)
  blk_ext [iblk, idx t]
theorem blk11 (c : Dev nD) (t : Fin cfg0.N) (h : Fin 4) (l : Fin 128) : iblk m c 11 t (ix4 0 h 0 l) = (inK m c).m0 (seqOf t) h := by
  refine Eq.trans ?_ (V7 m c (seqOf t) h l)
  blk_ext [iblk, idx t]

end Cert.KernelIdeal.Value
end
-- ==== Proof.Outs.lean ====
module

public import proofs.«01_k».proof.Proof.Blocks

/-! # What one run of the body leaves in its output windows -/

@[expose] public section
noncomputable section
namespace Cert.KernelIdeal.Value
open Cert.KernelIdeal Cert.KernelIdeal.Gen Idealize.ShloMosaic Idealize.ShloMosaic.TcCoe Idealize.SL.Sem Cert.Mlstm
set_option maxRecDepth 16384

variable (m : (ℓ : Loc nD τ sig) → Buf (Elt Ideal) ℓ)

/-- The gate arrays at a point. -/
theorem gatesAt (c : Dev nD) (t : Fin cfg0.N) (a : Vec Ideal S1x8x128 .f32) (b : Vec Ideal S8x1 .f32)
    (ha : ∀ (r : Fin 8) (s : Fin 64), a (ix3 0 r ⟨s.val, by omega⟩) = iblk m c 3 t (ix3 0 r ⟨s.val, by omega⟩))
    (hb : ∀ r : Fin 8, b (ix2 r 0) = iblk m c 7 t (ix2 r 0)) :
    Gates (k0_pay18 (k0_pay14 a b)) (k0_pay19 lanes (k0_pay15 a b) k0_pay16) (k0_pay20 (k0_pay14 a b) lanes (k0_pay15 a b) k0_pay16)
      ((inK m c).ig (seqOf t)) ((inK m c).bb (seqOf t)) :=
  gates_of a b ((inK m c).g (seqOf t)) fun r s => by rw [ha, hb, blk3, blk7]; rfl

/-- The stream as the body keeps it, behind five rows that nothing reads. -/
theorem stream (c : Dev nD) (t : Fin cfg0.N) (k : ℕ) (n : ℕ) (inb) (hk : 5 ≤ k) (hn : k + n ≤ 72) (s : Fin n) (j : Fin 1024) :
    (View.whole cc0_scratch0).readCov (Val := Elt Ideal) [⟨Rect.unit ![8, 0] ![64, 1024] inb_S72x1024_S64x1024_8_0, k0_pay10 (X0_0 m c t)⟩,
      ⟨Rect.unit ![0, 0] ![8, 1024] inb_S72x1024_S8x1024_0_0, k0_pay9 (iblk m c 4 t)⟩] (Rect.unit (s := S72x1024) ![k, 0] ![n, 1024] inb).toLoadRect (ix2 s j)
      = (inK m c).x (seqOf t) ⟨s.val + (k - 5), by omega⟩ j := by
  rw [View.readCov_eq_canon']
  change View.canon _ ((Rect.unit (s := S72x1024) ![k, 0] ![n, 1024] inb).idx (ix2 s j)) = _
  by_cases h : 8 ≤ k + s.val
  · have e : (Rect.unit (s := S72x1024) ![k, 0] ![n, 1024] inb).idx (ix2 s j)
        = (Rect.unit (s := S72x1024) ![8, 0] ![64, 1024] inb_S72x1024_S64x1024_8_0).emb (ix2 ⟨k + s.val - 8, by omega⟩ j) := by
      funext a
      refine Fin.ext ((Rect.idx_unit_val _ _ inb _ a).trans (Eq.trans ?_ (Rect.idx_unit_val _ _ inb_S72x1024_S64x1024_8_0 _ a).symm))
      fin_cases a
      · change k + s.val = 8 + (k + s.val - 8); omega
      · rfl
    rw [e, View.canon_cons_emb]
    pointwise [k0_pay10]
    rw [blk0]
    unfold In.x
    rw [dif_neg (by simp only; omega)]
    exact congrArg (fun r => (inK m c).u r _) (Fin.ext (by simp only; omega))
  · have e : (Rect.unit (s := S72x1024) ![k, 0] ![n, 1024] inb).idx (ix2 s j)
        = (Rect.unit (s := S72x1024) ![0, 0] ![8, 1024] inb_S72x1024_S8x1024_0_0).emb (ix2 ⟨k + s.val, by omega⟩ j) := by
      funext a
      refine Fin.ext ((Rect.idx_unit_val _ _ inb _ a).trans (Eq.trans ?_ (Rect.idx_unit_val _ _ inb_S72x1024_S8x1024_0_0 _ a).symm))
      fin_cases a
      · change k + s.val = 0 + (k + s.val); omega
      · rfl
    have hm : (Rect.unit (s := S72x1024) ![0, 0] ![8, 1024] inb_S72x1024_S8x1024_0_0).emb (ix2 ⟨k + s.val, by omega⟩ j)
        ∉ (Rect.unit (s := S72x1024) ![8, 0] ![64, 1024] inb_S72x1024_S64x1024_8_0).set := fun hm => by
      rw [Rect.mem_set_unit] at hm
      have h4 : (8 : ℕ) ≤ 0 + 1 * (k + s.val) := (hm 0).1
      omega
    rw [e]
    refine (View.canon_cons_of_not_mem _ _ ?_).trans ?_
    · exact hm
    rw [View.canon_cons_emb]
    pointwise [k0_pay9]
    refine (blk4 m c t ⟨k + s.val, by omega⟩ j (show 5 ≤ k + s.val by omega)).trans ?_
    unfold In.x
    rw [dif_pos (show s.val + (k - 5) < 3 by omega)]
    exact congrArg (fun r => (inK m c).hist _ r _) (Fin.ext (show k + s.val - 5 = s.val + (k - 5) by omega))

/-- The activations at a point. -/
theorem actAt (c : Dev nD) (t : Fin cfg0.N) (x3 x2 x1 x0 : Vec Ideal S64x1024 .f32) (b w3 w2 w1 w0 : Vec Ideal S1x1024 .f32)
    (h3 : ∀ (s : Fin 64) j, x3 (ix2 s j) = X0_0 m c t (ix2 s j))
    (h2 : ∀ (s : Fin 64) j, x2 (ix2 s j) = (inK m c).x (seqOf t) ⟨s.val + 2, by omega⟩ j)
    (h1 : ∀ (s : Fin 64) j, x1 (ix2 s j) = (inK m c).x (seqOf t) ⟨s.val + 1, by omega⟩ j)
    (h0 : ∀ (s : Fin 64) j, x0 (ix2 s j) = (inK m c).x (seqOf t) ⟨s.val, by omega⟩ j)
    (hb : ∀ j, b (ix2 0 j) = iblk m c 6 t (ix2 0 j)) (k3 : ∀ j, w3 (ix2 0 j) = iblk m c 5 t (ix2 3 j))
    (k2 : ∀ j, w2 (ix2 0 j) = iblk m c 5 t (ix2 2 j)) (k1 : ∀ j, w1 (ix2 0 j) = iblk m c 5 t (ix2 1 j))
    (k0 : ∀ j, w0 (ix2 0 j) = iblk m c 5 t (ix2 0 j)) (s : Fin 64) (j : Fin 1024) :
    k0_pay13 (k0_pay11 x3 b w3 x2 w2 x1 w1 x0 w0) (ix2 s j) = (inK m c).a (seqOf t) s j := by
  refine act_of ((inK m c).x (seqOf t)) (inK m c).cw (inK m c).cb x3 x2 x1 x0 b w3 w2 w1 w0 (fun s j => ?_) h2 h1 h0
    (fun j => (hb j).trans (blk6 ..)) (fun j => (k3 j).trans (blk5 ..)) (fun j => (k2 j).trans (blk5 ..))
    (fun j => (k1 j).trans (blk5 ..)) (fun j => (k0 j).trans (blk5 ..)) s j
  rw [h3, blk0]
  unfold In.x
  rw [dif_neg (by simp only; omega)]
  exact congrArg (fun r => (inK m c).u r _) (Fin.ext (by simp only; omega))

/-- The output's row and column, split by head. -/
theorem y_of (I : In) (b : Fin 8) (h : Fin 4) (t : Fin 64) (e : Fin 256) (r : Fin 64) (j : Fin 1024) (hr : r.val = t.val)
    (hj : j.val = h.val * 256 + e.val) :
    I.y b h t e = I.y b ⟨j.val / 256, by omega⟩ r ⟨j.val % 256, by omega⟩ := by
  obtain rfl : r = t := Fin.ext hr
  rw [show (⟨j.val / 256, by omega⟩ : Fin 4) = h from Fin.ext (by simp only; omega),
    show (⟨j.val % 256, by omega⟩ : Fin 256) = e from Fin.ext (by simp only; omega)]

/-- The output block. -/
theorem o1 (c : Dev nD) (t : Fin cfg0.N) (y : S64x1024.Idx) :
    (outsAt0 (F := Ideal) m c t).1 y = (inK m c).y (seqOf t) ⟨(y 1).val / 256, by have := (y 1).isLt; dsimp at this; omega⟩ (y 0)
      ⟨(y 1).val % 256, by omega⟩ := by
  unfold outsAt0
  dsimp only
  frame_open
  simp (disch := decide) only [↓ View.readCov_skip, ↓ View.readCov_cons_toLoadRect, ↓ View.readCov_fill]
  frame_out
  canon_tiles x h
  · refine Eq.trans (congrArg _ (ix2_eta x).symm) ?_
    refine Eq.trans (gated_3 (gatesAt m c t _ _ (fun r s => rfl) ?_) (a := (inK m c).a (seqOf t)) (m0 := (inK m c).m0 (seqOf t) 3) (V := (inK m c).v (seqOf t) 3)
      (CC := (inK m c).c0 (seqOf t) 3) (N := (inK m c).n0 (seqOf t) 3) (NG := (inK m c).gain 3) (O := (inK m c).o (seqOf t) 3) ?_ ?_ ?_ ?_ ?_ ?_ ?_ _ _) ?_
    · intro r; pointwise
    · pointwise [k0_pay8]; exact blk11 ..
    · intro s j
      refine actAt m c t _ _ _ _ _ _ _ _ _ (fun s j => rfl) (fun s j => stream m c t 7 64 _ (by omega) (by omega) s j)
        (fun s j => stream m c t 6 64 _ (by omega) (by omega) s j) (fun s j => stream m c t 5 64 _ (by omega) (by omega) s j) (fun j => rfl) ?_ ?_ ?_ ?_ s j
      all_goals (intro j; pointwise)
    · intro s e; pointwise; rw [blk1]; unfold In.v; exact congrArg (fun r => (inK m c).ub _ r) (Fin.ext (by simp; try omega))
    · intro d e; pointwise [k0_pay6]; exact blk9 ..
    · intro d; pointwise [k0_pay7]; exact blk10 ..
    · intro e; pointwise; rw [blk8]; unfold In.gain; exact congrArg (inK m c).ng (Fin.ext (by simp; try omega))
    · intro s e; pointwise; rw [blk2]; unfold In.o; exact congrArg (fun r => (inK m c).ub _ r) (Fin.ext (by simp; try omega))
    · exact y_of (inK m c) (seqOf t) 3 (x 0) (x 1) (y 0) (y 1) (by simpa using h0) (by simpa using h1)
  · refine Eq.trans (congrArg _ (ix2_eta x).symm) ?_
    refine Eq.trans (gated_2 (gatesAt m c t _ _ (fun r s => rfl) ?_) (a := (inK m c).a (seqOf t)) (m0 := (inK m c).m0 (seqOf t) 2) (V := (inK m c).v (seqOf t) 2)
      (CC := (inK m c).c0 (seqOf t) 2) (N := (inK m c).n0 (seqOf t) 2) (NG := (inK m c).gain 2) (O := (inK m c).o (seqOf t) 2) ?_ ?_ ?_ ?_ ?_ ?_ ?_ _ _) ?_
    · intro r; pointwise
    · pointwise [k0_pay8]; exact blk11 ..
    · intro s j
      refine actAt m c t _ _ _ _ _ _ _ _ _ (fun s j => rfl) (fun s j => stream m c t 7 64 _ (by omega) (by omega) s j)
        (fun s j => stream m c t 6 64 _ (by omega) (by omega) s j) (fun s j => stream m c t 5 64 _ (by omega) (by omega) s j) (fun j => rfl) ?_ ?_ ?_ ?_ s j
      all_goals (intro j; pointwise)
    · intro s e; pointwise; rw [blk1]; unfold In.v; exact congrArg (fun r => (inK m c).ub _ r) (Fin.ext (by simp; try omega))
    · intro d e; pointwise [k0_pay6]; exact blk9 ..
    · intro d; pointwise [k0_pay7]; exact blk10 ..
    · intro e; pointwise; rw [blk8]; unfold In.gain; exact congrArg (inK m c).ng (Fin.ext (by simp; try omega))
    · intro s e; pointwise; rw [blk2]; unfold In.o; exact congrArg (fun r => (inK m c).ub _ r) (Fin.ext (by simp; try omega))
    · exact y_of (inK m c) (seqOf t) 2 (x 0) (x 1) (y 0) (y 1) (by simpa using h0) (by simpa using h1)
  · refine Eq.trans (congrArg _ (ix2_eta x).symm) ?_
    refine Eq.trans (gated_1 (gatesAt m c t _ _ (fun r s => rfl) ?_) (a := (inK m c).a (seqOf t)) (m0 := (inK m c).m0 (seqOf t) 1) (V := (inK m c).v (seqOf t) 1)
      (CC := (inK m c).c0 (seqOf t) 1) (N := (inK m c).n0 (seqOf t) 1) (NG := (inK m c).gain 1) (O := (inK m c).o (seqOf t) 1) ?_ ?_ ?_ ?_ ?_ ?_ ?_ _ _) ?_
    · intro r; pointwise
    · pointwise [k0_pay8]; exact blk11 ..
    · intro s j
      refine actAt m c t _ _ _ _ _ _ _ _ _ (fun s j => rfl) (fun s j => stream m c t 7 64 _ (by omega) (by omega) s j)
        (fun s j => stream m c t 6 64 _ (by omega) (by omega) s j) (fun s j => stream m c t 5 64 _ (by omega) (by omega) s j) (fun j => rfl) ?_ ?_ ?_ ?_ s j
      all_goals (intro j; pointwise)
    · intro s e; pointwise; rw [blk1]; unfold In.v; exact congrArg (fun r => (inK m c).ub _ r) (Fin.ext (by simp; try omega))
    · intro d e; pointwise [k0_pay6]; exact blk9 ..
    · intro d; pointwise [k0_pay7]; exact blk10 ..
    · intro e; pointwise; rw [blk8]; unfold In.gain; exact congrArg (inK m c).ng (Fin.ext (by simp; try omega))
    · intro s e; pointwise; rw [blk2]; unfold In.o; exact congrArg (fun r => (inK m c).ub _ r) (Fin.ext (by simp; try omega))
    · exact y_of (inK m c) (seqOf t) 1 (x 0) (x 1) (y 0) (y 1) (by simpa using h0) (by simpa using h1)
  · refine Eq.trans (congrArg _ (ix2_eta x).symm) ?_
    refine Eq.trans (gated_0 (gatesAt m c t _ _ (fun r s => rfl) ?_) (a := (inK m c).a (seqOf t)) (m0 := (inK m c).m0 (seqOf t) 0) (V := (inK m c).v (seqOf t) 0)
      (CC := (inK m c).c0 (seqOf t) 0) (N := (inK m c).n0 (seqOf t) 0) (NG := (inK m c).gain 0) (O := (inK m c).o (seqOf t) 0) ?_ ?_ ?_ ?_ ?_ ?_ ?_ _ _) ?_
    · intro r; pointwise
    · pointwise [k0_pay8]; exact blk11 ..
    · intro s j
      refine actAt m c t _ _ _ _ _ _ _ _ _ (fun s j => rfl) (fun s j => stream m c t 7 64 _ (by omega) (by omega) s j)
        (fun s j => stream m c t 6 64 _ (by omega) (by omega) s j) (fun s j => stream m c t 5 64 _ (by omega) (by omega) s j) (fun j => rfl) ?_ ?_ ?_ ?_ s j
      all_goals (intro j; pointwise)
    · intro s e; pointwise; rw [blk1]; unfold In.v; exact congrArg (fun r => (inK m c).ub _ r) (Fin.ext (by simp; try omega))
    · intro d e; pointwise [k0_pay6]; exact blk9 ..
    · intro d; pointwise [k0_pay7]; exact blk10 ..
    · intro e; pointwise; rw [blk8]; unfold In.gain; exact congrArg (inK m c).ng (Fin.ext (by simp; try omega))
    · intro s e; pointwise; rw [blk2]; unfold In.o; exact congrArg (fun r => (inK m c).ub _ r) (Fin.ext (by simp; try omega))
    · exact y_of (inK m c) (seqOf t) 0 (x 0) (x 1) (y 0) (y 1) (by simpa using h0) (by simpa using h1)

theorem idx_zero {n0 n1 n2 : ℕ} (inb) (i : (⟨3, ![n0, n1, n2]⟩ : Shape).Idx) :
    (Rect.unit (s := ⟨3, ![n0, n1, n2]⟩) ![0, 0, 0] ![n0, n1, n2] inb).idx i = i := by
  funext a
  refine Fin.ext ((Rect.idx_unit_val _ _ inb _ a).trans ?_)
  fin_cases a <;> exact Nat.zero_add _

/-- A buffer of four slabs, read after a store to one of them. -/
theorem slab {n1 n2 : ℕ} (k : ℕ) (inb) (w : (⟨3, ![1, n1, n2]⟩ : Shape).Idx → Elt Ideal .f32)
    (L : List (View.Piece (Elt Ideal) ⟨3, ![4, n1, n2]⟩ .f32)) (h : Fin 4) (i : Fin n1) (j : Fin n2) :
    View.canon (⟨Rect.unit (s := ⟨3, ![4, n1, n2]⟩) ![k, 0, 0] ![1, n1, n2] inb, w⟩ :: L) (ix3 h i j)
      = if h.val = k then w (ix3 0 i j) else View.canon L (ix3 h i j) := by
  split
  · next hk =>
    have e : ix3 h i j = (Rect.unit (s := ⟨3, ![4, n1, n2]⟩) ![k, 0, 0] ![1, n1, n2] inb).emb (ix3 0 i j) := by
      funext a
      refine Fin.ext (Eq.trans ?_ (Rect.idx_unit_val _ _ inb _ a).symm)
      fin_cases a
      · exact hk
      · exact (Nat.zero_add _).symm
      · exact (Nat.zero_add _).symm
    exact (congrArg _ e).trans (View.canon_cons_emb _ _ _ _)
  · next hk =>
    refine View.canon_cons_of_not_mem _ _ fun hm => ?_
    rw [Rect.mem_set_unit] at hm
    have h1 : k ≤ h.val := (hm 0).1
    have h2 : h.val < k + 1 := (hm 0).2
    omega

/-- The matrix state. -/
theorem o2 (c : Dev nD) (t : Fin cfg0.N) (y : S1x4x128x256.Idx) :
    (outsAt0 (F := Ideal) m c t).2.1 y = (inK m c).outC (seqOf t) (y 1) (y 2) (y 3) := by
  unfold outsAt0
  dsimp only
  frame_open
  simp (disch := decide) only [↓ View.readCov_skip, ↓ View.readCov_cons_toLoadRect, ↓ View.readCov_fill]
  frame_out
  refine Eq.trans (congrArg _ (ix4_eta y).symm) ?_
  generalize y 1 = h
  generalize y 2 = d
  generalize y 3 = e
  change (Fin 4) at h
  change (Fin 128) at d
  change (Fin 256) at e
  pointwise [k0_pay2]
  rw [View.readCov_eq_canon']
  refine (congrArg (View.canon _) (idx_zero (n0 := 4) (n1 := 128) (n2 := 256) _ (ix3 h d e))).trans ?_
  rw [slab, slab, slab, slab]
  fin_cases h
  · refine Eq.trans ((if_neg (by decide)).trans ((if_neg (by decide)).trans ((if_neg (by decide)).trans (if_pos rfl)))) ?_
    refine Eq.trans (newC_0 (gatesAt m c t _ _ (fun r s => rfl) ?_) (m0 := (inK m c).m0 (seqOf t) 0) (a := (inK m c).a (seqOf t)) (V := (inK m c).v (seqOf t) 0) (CC := (inK m c).c0 (seqOf t) 0)  ?_ ?_ ?_ ?_  d e) ?_
    · intro r; pointwise
    · pointwise [k0_pay8]; exact blk11 ..
    · intro s j
      refine actAt m c t _ _ _ _ _ _ _ _ _ (fun s j => rfl) (fun s j => stream m c t 7 64 _ (by omega) (by omega) s j)
        (fun s j => stream m c t 6 64 _ (by omega) (by omega) s j) (fun s j => stream m c t 5 64 _ (by omega) (by omega) s j) (fun j => rfl) ?_ ?_ ?_ ?_ s j
      all_goals (intro j; pointwise)
    · intro s e; pointwise; rw [blk1]; unfold In.v; exact congrArg (fun r => (inK m c).ub _ r) (Fin.ext (by simp; try omega))
    · intro d e; pointwise [k0_pay6]; exact blk9 ..
    · rfl
  · refine Eq.trans ((if_neg (by decide)).trans ((if_neg (by decide)).trans (if_pos rfl))) ?_
    refine Eq.trans (newC_1 (gatesAt m c t _ _ (fun r s => rfl) ?_) (m0 := (inK m c).m0 (seqOf t) 1) (a := (inK m c).a (seqOf t)) (V := (inK m c).v (seqOf t) 1) (CC := (inK m c).c0 (seqOf t) 1)  ?_ ?_ ?_ ?_  d e) ?_
    · intro r; pointwise
    · pointwise [k0_pay8]; exact blk11 ..
    · intro s j
      refine actAt m c t _ _ _ _ _ _ _ _ _ (fun s j => rfl) (fun s j => stream m c t 7 64 _ (by omega) (by omega) s j)
        (fun s j => stream m c t 6 64 _ (by omega) (by omega) s j) (fun s j => stream m c t 5 64 _ (by omega) (by omega) s j) (fun j => rfl) ?_ ?_ ?_ ?_ s j
      all_goals (intro j; pointwise)
    · intro s e; pointwise; rw [blk1]; unfold In.v; exact congrArg (fun r => (inK m c).ub _ r) (Fin.ext (by simp; try omega))
    · intro d e; pointwise [k0_pay6]; exact blk9 ..
    · rfl
  · refine Eq.trans ((if_neg (by decide)).trans (if_pos rfl)) ?_
    refine Eq.trans (newC_2 (gatesAt m c t _ _ (fun r s => rfl) ?_) (m0 := (inK m c).m0 (seqOf t) 2) (a := (inK m c).a (seqOf t)) (V := (inK m c).v (seqOf t) 2) (CC := (inK m c).c0 (seqOf t) 2)  ?_ ?_ ?_ ?_  d e) ?_
    · intro r; pointwise
    · pointwise [k0_pay8]; exact blk11 ..
    · intro s j
      refine actAt m c t _ _ _ _ _ _ _ _ _ (fun s j => rfl) (fun s j => stream m c t 7 64 _ (by omega) (by omega) s j)
        (fun s j => stream m c t 6 64 _ (by omega) (by omega) s j) (fun s j => stream m c t 5 64 _ (by omega) (by omega) s j) (fun j => rfl) ?_ ?_ ?_ ?_ s j
      all_goals (intro j; pointwise)
    · intro s e; pointwise; rw [blk1]; unfold In.v; exact congrArg (fun r => (inK m c).ub _ r) (Fin.ext (by simp; try omega))
    · intro d e; pointwise [k0_pay6]; exact blk9 ..
    · rfl
  · refine Eq.trans (if_pos rfl) ?_
    refine Eq.trans (newC_3 (gatesAt m c t _ _ (fun r s => rfl) ?_) (m0 := (inK m c).m0 (seqOf t) 3) (a := (inK m c).a (seqOf t)) (V := (inK m c).v (seqOf t) 3) (CC := (inK m c).c0 (seqOf t) 3)  ?_ ?_ ?_ ?_  d e) ?_
    · intro r; pointwise
    · pointwise [k0_pay8]; exact blk11 ..
    · intro s j
      refine actAt m c t _ _ _ _ _ _ _ _ _ (fun s j => rfl) (fun s j => stream m c t 7 64 _ (by omega) (by omega) s j)
        (fun s j => stream m c t 6 64 _ (by omega) (by omega) s j) (fun s j => stream m c t 5 64 _ (by omega) (by omega) s j) (fun j => rfl) ?_ ?_ ?_ ?_ s j
      all_goals (intro j; pointwise)
    · intro s e; pointwise; rw [blk1]; unfold In.v; exact congrArg (fun r => (inK m c).ub _ r) (Fin.ext (by simp; try omega))
    · intro d e; pointwise [k0_pay6]; exact blk9 ..
    · rfl

/-- The normaliser. -/
theorem o3 (c : Dev nD) (t : Fin cfg0.N) (y : S1x4x1x128.Idx) :
    (outsAt0 (F := Ideal) m c t).2.2.1 y = (inK m c).outN (seqOf t) (y 1) (y 3) := by
  unfold outsAt0
  dsimp only
  frame_open
  simp (disch := decide) only [↓ View.readCov_skip, ↓ View.readCov_cons_toLoadRect, ↓ View.readCov_fill]
  frame_out
  refine Eq.trans (congrArg _ (ix4_eta y).symm) ?_
  generalize y 1 = h
  generalize y 2 = d
  generalize y 3 = e
  change (Fin 4) at h
  change (Fin 1) at d
  change (Fin 128) at e
  pointwise [k0_pay3]
  rw [View.readCov_eq_canon']
  refine (congrArg (View.canon _) (idx_zero (n0 := 4) (n1 := 1) (n2 := 128) _ (ix3 h 0 e))).trans ?_
  rw [slab, slab, slab, slab]
  fin_cases h
  · refine Eq.trans ((if_neg (by decide)).trans ((if_neg (by decide)).trans ((if_neg (by decide)).trans (if_pos rfl)))) ?_
    refine Eq.trans (newN_0 (gatesAt m c t _ _ (fun r s => rfl) ?_) (m0 := (inK m c).m0 (seqOf t) 0) (a := (inK m c).a (seqOf t))   (N := (inK m c).n0 (seqOf t) 0) ?_ ?_ ?_  e) ?_
    · intro r; pointwise
    · pointwise [k0_pay8]; exact blk11 ..
    · intro s j
      refine actAt m c t _ _ _ _ _ _ _ _ _ (fun s j => rfl) (fun s j => stream m c t 7 64 _ (by omega) (by omega) s j)
        (fun s j => stream m c t 6 64 _ (by omega) (by omega) s j) (fun s j => stream m c t 5 64 _ (by omega) (by omega) s j) (fun j => rfl) ?_ ?_ ?_ ?_ s j
      all_goals (intro j; pointwise)
    · intro d; pointwise [k0_pay7]; exact blk10 ..
    · rfl
  · refine Eq.trans ((if_neg (by decide)).trans ((if_neg (by decide)).trans (if_pos rfl))) ?_
    refine Eq.trans (newN_1 (gatesAt m c t _ _ (fun r s => rfl) ?_) (m0 := (inK m c).m0 (seqOf t) 1) (a := (inK m c).a (seqOf t))   (N := (inK m c).n0 (seqOf t) 1) ?_ ?_ ?_  e) ?_
    · intro r; pointwise
    · pointwise [k0_pay8]; exact blk11 ..
    · intro s j
      refine actAt m c t _ _ _ _ _ _ _ _ _ (fun s j => rfl) (fun s j => stream m c t 7 64 _ (by omega) (by omega) s j)
        (fun s j => stream m c t 6 64 _ (by omega) (by omega) s j) (fun s j => stream m c t 5 64 _ (by omega) (by omega) s j) (fun j => rfl) ?_ ?_ ?_ ?_ s j
      all_goals (intro j; pointwise)
    · intro d; pointwise [k0_pay7]; exact blk10 ..
    · rfl
  · refine Eq.trans ((if_neg (by decide)).trans (if_pos rfl)) ?_
    refine Eq.trans (newN_2 (gatesAt m c t _ _ (fun r s => rfl) ?_) (m0 := (inK m c).m0 (seqOf t) 2) (a := (inK m c).a (seqOf t))   (N := (inK m c).n0 (seqOf t) 2) ?_ ?_ ?_  e) ?_
    · intro r; pointwise
    · pointwise [k0_pay8]; exact blk11 ..
    · intro s j
      refine actAt m c t _ _ _ _ _ _ _ _ _ (fun s j => rfl) (fun s j => stream m c t 7 64 _ (by omega) (by omega) s j)
        (fun s j => stream m c t 6 64 _ (by omega) (by omega) s j) (fun s j => stream m c t 5 64 _ (by omega) (by omega) s j) (fun j => rfl) ?_ ?_ ?_ ?_ s j
      all_goals (intro j; pointwise)
    · intro d; pointwise [k0_pay7]; exact blk10 ..
    · rfl
  · refine Eq.trans (if_pos rfl) ?_
    refine Eq.trans (newN_3 (gatesAt m c t _ _ (fun r s => rfl) ?_) (m0 := (inK m c).m0 (seqOf t) 3) (a := (inK m c).a (seqOf t))   (N := (inK m c).n0 (seqOf t) 3) ?_ ?_ ?_  e) ?_
    · intro r; pointwise
    · pointwise [k0_pay8]; exact blk11 ..
    · intro s j
      refine actAt m c t _ _ _ _ _ _ _ _ _ (fun s j => rfl) (fun s j => stream m c t 7 64 _ (by omega) (by omega) s j)
        (fun s j => stream m c t 6 64 _ (by omega) (by omega) s j) (fun s j => stream m c t 5 64 _ (by omega) (by omega) s j) (fun j => rfl) ?_ ?_ ?_ ?_ s j
      all_goals (intro j; pointwise)
    · intro d; pointwise [k0_pay7]; exact blk10 ..
    · rfl

/-- The stabiliser. -/
theorem o4 (c : Dev nD) (t : Fin cfg0.N) (y : S1x4x1x128.Idx) :
    (outsAt0 (F := Ideal) m c t).2.2.2.1 y = (inK m c).outM (seqOf t) (y 1) := by
  unfold outsAt0
  dsimp only
  frame_open
  simp (disch := decide) only [↓ View.readCov_skip, ↓ View.readCov_cons_toLoadRect, ↓ View.readCov_fill]
  frame_out
  refine Eq.trans (congrArg _ (ix4_eta y).symm) ?_
  generalize y 1 = h
  generalize y 2 = d
  generalize y 3 = e
  change (Fin 4) at h
  change (Fin 1) at d
  change (Fin 128) at e
  pointwise [k0_pay4]
  rw [View.readCov_eq_canon']
  refine (congrArg (View.canon _) (idx_zero (n0 := 4) (n1 := 1) (n2 := 128) _ (ix3 h 0 e))).trans ?_
  rw [slab, slab, slab, slab]
  fin_cases h
  · refine Eq.trans ((if_neg (by decide)).trans ((if_neg (by decide)).trans ((if_neg (by decide)).trans (if_pos rfl)))) ?_
    refine Eq.trans (newM_0 (gatesAt m c t _ _ (fun r s => rfl) ?_) (m0 := (inK m c).m0 (seqOf t) 0)     ?_  e) ?_
    · intro r; pointwise
    · pointwise [k0_pay8]; exact blk11 ..
    · rfl
  · refine Eq.trans ((if_neg (by decide)).trans ((if_neg (by decide)).trans (if_pos rfl))) ?_
    refine Eq.trans (newM_1 (gatesAt m c t _ _ (fun r s => rfl) ?_) (m0 := (inK m c).m0 (seqOf t) 1)     ?_  e) ?_
    · intro r; pointwise
    · pointwise [k0_pay8]; exact blk11 ..
    · rfl
  · refine Eq.trans ((if_neg (by decide)).trans (if_pos rfl)) ?_
    refine Eq.trans (newM_2 (gatesAt m c t _ _ (fun r s => rfl) ?_) (m0 := (inK m c).m0 (seqOf t) 2)     ?_  e) ?_
    · intro r; pointwise
    · pointwise [k0_pay8]; exact blk11 ..
    · rfl
  · refine Eq.trans (if_pos rfl) ?_
    refine Eq.trans (newM_3 (gatesAt m c t _ _ (fun r s => rfl) ?_) (m0 := (inK m c).m0 (seqOf t) 3)     ?_  e) ?_
    · intro r; pointwise
    · pointwise [k0_pay8]; exact blk11 ..
    · rfl

/-- The end of the stream. -/
theorem o5 (c : Dev nD) (t : Fin cfg0.N) (y : S1x8x1024.Idx) : (outsAt0 (F := Ideal) m c t).2.2.2.2 y = (inK m c).outX (seqOf t) (y 1) (y 2) := by
  unfold outsAt0
  dsimp only
  frame_open
  simp (disch := decide) only [↓ View.readCov_skip, ↓ View.readCov_cons_toLoadRect, ↓ View.readCov_fill]
  frame_out
  refine Eq.trans (congrArg _ (ix3_eta y).symm) ?_
  pointwise [k0_pay5, k0_pay12]
  refine (stream m c t 64 8 _ (by omega) (by omega) _ _).trans ?_
  unfold In.outX
  exact congrArg (fun r => (inK m c).x _ r _) (Fin.ext (by simp only; omega))

end Cert.KernelIdeal.Value
end
-- ==== Proof.Arrays.lean ====
module

public import proofs.«01_k».proof.Proof.Outs
public import proofs.«01_k».proof.Proof.Gen.KernelIdeal.Value
public import Idealize.ShloMosaic.Lib.Pipeline.ValueKit.Partial

/-! # The five arrays after the launch -/

@[expose] public section
noncomputable section
namespace Cert.KernelIdeal.Value
open Cert.KernelIdeal Cert.KernelIdeal.Gen Idealize.ShloMosaic Idealize.ShloMosaic.TcCoe Idealize.SL.Sem Cert.Mlstm
set_option maxRecDepth 16384

variable (m : (ℓ : Loc nD τ sig) → Buf (Elt Ideal) ℓ)

/-- Where each point writes its results. -/
theorem idxOut (t : Fin cfg0.N) : win0_12.index t 0 = 256 + t.val ∧ win0_12.index t 1 = 0
    ∧ win0_13.index t 0 = t.val ∧ win0_13.index t 1 = 0 ∧ win0_13.index t 2 = 0 ∧ win0_13.index t 3 = 0
    ∧ win0_14.index t 0 = t.val ∧ win0_14.index t 1 = 0 ∧ win0_14.index t 2 = 0 ∧ win0_14.index t 3 = 0
    ∧ win0_15.index t 0 = t.val ∧ win0_15.index t 1 = 0 ∧ win0_15.index t 2 = 0 ∧ win0_15.index t 3 = 0
    ∧ win0_16.index t 0 = t.val ∧ win0_16.index t 1 = 0 ∧ win0_16.index t 2 = 0 :=
  (by decide +kernel : ∀ t : Fin grid0.N, win0_12.index t 0 = 256 + t.val ∧ win0_12.index t 1 = 0
    ∧ win0_13.index t 0 = t.val ∧ win0_13.index t 1 = 0 ∧ win0_13.index t 2 = 0 ∧ win0_13.index t 3 = 0
    ∧ win0_14.index t 0 = t.val ∧ win0_14.index t 1 = 0 ∧ win0_14.index t 2 = 0 ∧ win0_14.index t 3 = 0
    ∧ win0_15.index t 0 = t.val ∧ win0_15.index t 1 = 0 ∧ win0_15.index t 2 = 0 ∧ win0_15.index t 3 = 0
    ∧ win0_16.index t 0 = t.val ∧ win0_16.index t 1 = 0 ∧ win0_16.index t 2 = 0) t

/-- The matrix state after the launch. -/
theorem arr13 (c : Dev nD) : (dats m 0 c).arrAt 13 cfg0.N = fun i => (inK m c).outC (i 0) (i 1) (i 2) (i 3) := by
  refine (dats m 0 c).arrAt_eq_of_covers 13 _ (by decide +kernel) fun t hf y => ?_
  blk_simp
  rw [after0_13]
  refine (o2 m c t _).trans ?_
  obtain ⟨-, -, e0, e1, e2, e3, -⟩ := idxOut t
  have h0 := (y 0).isLt
  congr 1 <;> refine Fin.ext ?_ <;> blk_simp [e0, e1, e2, e3]
/-- The normaliser after the launch. -/
theorem arr14 (c : Dev nD) : (dats m 0 c).arrAt 14 cfg0.N = fun i => (inK m c).outN (i 0) (i 1) (i 3) := by
  refine (dats m 0 c).arrAt_eq_of_covers 14 _ (by decide +kernel) fun t hf y => ?_
  blk_simp
  rw [after0_14]
  refine (o3 m c t _).trans ?_
  obtain ⟨-, -, -, -, -, -, e0, e1, e2, e3, -⟩ := idxOut t
  congr 1 <;> refine Fin.ext ?_ <;> blk_simp [e0, e1, e2, e3]
/-- The stabiliser after the launch, in every lane. -/
theorem arr15 (c : Dev nD) : (dats m 0 c).arrAt 15 cfg0.N = fun i => (inK m c).outM (i 0) (i 1) := by
  refine (dats m 0 c).arrAt_eq_of_covers 15 _ (by decide +kernel) fun t hf y => ?_
  blk_simp
  rw [after0_15]
  refine (o4 m c t _).trans ?_
  obtain ⟨-, -, -, -, -, -, -, -, -, -, e0, e1, e2, e3, -⟩ := idxOut t
  congr 1 <;> refine Fin.ext ?_ <;> blk_simp [e0, e1, e2, e3]
/-- The end of the stream after the launch. -/
theorem arr16 (c : Dev nD) : (dats m 0 c).arrAt 16 cfg0.N = fun i => (inK m c).outX (i 0) (i 1) (i 2) := by
  refine (dats m 0 c).arrAt_eq_of_covers 16 _ (by decide +kernel) fun t hf y => ?_
  blk_simp
  rw [after0_16]
  refine (o5 m c t _).trans ?_
  obtain ⟨-, -, -, -, -, -, -, -, -, -, -, -, -, -, e0, e1, e2⟩ := idxOut t
  congr 1 <;> refine Fin.ext ?_ <;> blk_simp [e0, e1, e2]
/-- A row of one of the eight sequences in the output array. -/
theorem outY_at (I : In) (b : Fin 8) (s : Fin 64) (j : Fin 1024) (r : Fin 16896) (l : Fin 1024) (hr : r.val = 16384 + (b.val * 64 + s.val))
    (hl : l.val = j.val) : I.y b ⟨j.val / 256, by omega⟩ s ⟨j.val % 256, by omega⟩ = I.outY r l := by
  obtain rfl : l = j := Fin.ext hl
  unfold In.outY
  rw [dif_pos (by omega), show (⟨(r.val - 16384) / 64, by omega⟩ : Fin 8) = b from Fin.ext (by simp only; omega),
    show (⟨(r.val - 16384) % 64, by omega⟩ : Fin 64) = s from Fin.ext (by simp only; omega)]
/-- The mixer's output after the launch: the given rows above, the eight sequences below. -/
theorem arr12 (c : Dev nD) : (dats m 0 c).arrAt 12 cfg0.N = fun i => (inK m c).outY (i 0) (i 1) := by
  refine ((dats m 0 c).arrAt_eq_of_coversWhere 12 (P := fun i => 16384 ≤ (i 0).val) (fun i => (inK m c).outY (i 0) (i 1))
    (Q := fun β => 256 ≤ β 0) (by decide +kernel) (fun t hf y => ?_) (fun j => by blk_simp [Pipeline.Window.cell_apply]; omega)).trans ?_
  · blk_simp
    rw [after0_12]
    refine (o1 m c t _).trans ?_
    obtain ⟨e0, e1, -⟩ := idxOut t
    have k0 : ((((cfg0.win 12).blk t).view.emb y) 0 : ℕ) = 16384 + (t.val * 64 + (y 0).val) := by blk_simp [e0]; omega
    have k1 : ((((cfg0.win 12).blk t).view.emb y) 1 : ℕ) = (y 1).val := by blk_simp [e1]
    exact outY_at _ _ _ _ _ _ k0 k1
  · funext i
    split_ifs with h
    · rfl
    · rw [A_eq m c 12]
      refine (congrFun (V12 m c) i).trans ?_
      unfold In.outY
      rw [dif_neg h]

/-- The kernel as run: its five arrays as functions of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c : Thread nD τ).loc main_v12_0) = (fun i => (inK m c).outY (i 0) (i 1))
      ∧ r.2.mem ((c : Thread nD τ).loc main_v12_1) = (fun i => (inK m c).outC (i 0) (i 1) (i 2) (i 3))
      ∧ r.2.mem ((c : Thread nD τ).loc main_v12_2) = (fun i => (inK m c).outN (i 0) (i 1) (i 3))
      ∧ r.2.mem ((c : Thread nD τ).loc main_v12_3) = (fun i => (inK m c).outM (i 0) (i 1))
      ∧ r.2.mem ((c : Thread nD τ).loc main_v12_4) = (fun i => (inK m c).outX (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => by
    obtain ⟨h12, h13, h14, h15, h16, hk⟩ := h c
    exact ⟨h12.trans (arr12 m c), h13.trans (arr13 m c), h14.trans (arr14 m c), h15.trans (arr15 m c), h16.trans (arr16 m c), hk⟩)
    (run_blocks m ρ)

end Cert.KernelIdeal.Value
end
-- ==== Proof.Ref.lean ====
module

public import proofs.«01_k».proof.Proof.Data
public import proofs.«01_k».proof.Proof.Gen.ReferenceIdeal.Read
public import Idealize.ShloMosaic.Lib.Pipeline.ValueKit

/-! # What the reference computes -/

@[expose] public section
noncomputable section
namespace Cert.ReferenceIdeal.Read
open Cert.ReferenceIdeal Cert.ReferenceIdeal.Gen Idealize.ShloMosaic Cert.Mlstm
set_option maxRecDepth 16384

/-- The arguments, entry by entry. -/
def inR (x0 : (⟨S16896x3328, .f32⟩ : BufTy).Contents (Elt Ideal)) (x1 : (⟨S16896x5120, .bf16⟩ : BufTy).Contents (Elt Ideal))
    (x2 : (⟨S8x16896, .f32⟩ : BufTy).Contents (Elt Ideal)) (x3 : (⟨S8x3x1024, .f32⟩ : BufTy).Contents (Elt Ideal))
    (x4 : (⟨S4x1024, .f32⟩ : BufTy).Contents (Elt Ideal)) (x5 : (⟨S1024, .f32⟩ : BufTy).Contents (Elt Ideal))
    (x6 : (⟨S8, .f32⟩ : BufTy).Contents (Elt Ideal)) (x7 : (⟨S1024, .f32⟩ : BufTy).Contents (Elt Ideal))
    (x8 : (⟨S8x4x128x256, .f32⟩ : BufTy).Contents (Elt Ideal)) (x9 : (⟨S8x4x128, .f32⟩ : BufTy).Contents (Elt Ideal))
    (x10 : (⟨S8x4, .f32⟩ : BufTy).Contents (Elt Ideal)) (x11 : (⟨S16896x1024, .bf16⟩ : BufTy).Contents (Elt Ideal)) : In where
  u i j := x0 (ix2 i j)
  ub i j := x1 (ix2 i j)
  gT i j := x2 (ix2 i j)
  hist b i j := x3 (ix3 b i j)
  cw i j := x4 (ix2 i j)
  cb i := x5 (ix1 i)
  gateB i := x6 (ix1 i)
  ng i := x7 (ix1 i)
  c0 b h d e := x8 (ix4 b h d e)
  n0 b h d := x9 (ix3 b h d)
  m0 b h := x10 (ix2 b h)
  yb i j := x11 (ix2 i j)

/-- Position `n` of a column of a window of one column and 64 rows. -/
theorem symm_mid (n : Fin (⟨3, ![1, 64, 1]⟩ : Shape).numel) (h : n.val < 64) :
    (⟨3, ![1, 64, 1]⟩ : Shape).rowMajor.symm n = ix3 0 ⟨n.val, h⟩ 0 :=
  (Equiv.symm_apply_eq _).2 (Fin.ext
    ((by decide +kernel : ∀ k : Fin 64, k.val = ((⟨3, ![1, 64, 1]⟩ : Shape).rowMajor (ix3 0 k 0) : ℕ)) ⟨n.val, h⟩))

/-- A sum over a window of 64 that ends at `t`, term by term. -/
theorem sum_window (f : Fin 64 → EReal) (t : Fin 64) :
    (∑ n : Fin 64, if h : 63 ≤ t.val + n.val then f ⟨t.val + n.val - 63, by omega⟩ else 0) = ∑ j : Fin 64, if j ≤ t then f j else 0 := by
  have e : (∑ n : Fin 64, if h : 63 ≤ t.val + n.val then f ⟨t.val + n.val - 63, by omega⟩ else 0)
      = ∑ n : Fin 64, if 63 ≤ t.val + n.val then f ⟨t.val + n.val - 63, by omega⟩ else 0 :=
    Finset.sum_congr rfl fun n _ => by split_ifs <;> rfl
  rw [e, ← Finset.sum_filter, ← Finset.sum_filter]
  refine Finset.sum_bij' (fun n _ => ⟨t.val + n.val - 63, by omega⟩) (fun j hj => ⟨63 + j.val - t.val, ?_⟩) ?_ ?_ ?_ ?_ ?_
  · have := (Finset.mem_filter.1 hj).2
    have := Fin.le_def.1 this
    omega
  · intro n hn
    have := (Finset.mem_filter.1 hn).2
    exact Finset.mem_filter.2 ⟨Finset.mem_univ _, Fin.le_def.2 (by simp only; omega)⟩
  · intro j hj
    have := Fin.le_def.1 (Finset.mem_filter.1 hj).2
    exact Finset.mem_filter.2 ⟨Finset.mem_univ _, by simp only; omega⟩
  · intro n hn
    have := (Finset.mem_filter.1 hn).2
    exact Fin.ext (by simp only; omega)
  · intro j hj
    have := Fin.le_def.1 (Finset.mem_filter.1 hj).2
    exact Fin.ext (by simp only; omega)
  · intro n hn
    rfl

/-- A running sum over the middle axis of three. -/
theorem cumsum_mid (x : FVec Ideal S8x64x4 .f32) (z : FVec Ideal S_ .f32) (hz : z (Shape.Idx.first h_S_) = 0) (b : Fin 8) (t : Fin 64) (h : Fin 4) :
    Host.reduceWindowAdd ![1, 64, 1] ![1, 1, 1] ![0, 63, 0] ![0, 0, 0] x z reduceWindows_S8x64x4_S8x64x4_w1s1p0_0_w64s1p63_0_w1s1p0_0 h_S_ (ix3 b t h)
      = ∑ j : Fin 64, if j ≤ t then x (ix3 b j h) else 0 := by
  have hN : (⟨3, ![1, 64, 1]⟩ : Shape).numel = 64 := by decide +kernel
  refine Eq.trans ?_ (sum_window (fun j => x (ix3 b j h)) t)
  change Host.reduceWindow (fun p q : EReal => p + q) ![1, 64, 1] ![1, 1, 1] ![0, 63, 0] ![0, 0, 0] x z reduceWindows_S8x64x4_S8x64x4_w1s1p0_0_w64s1p63_0_w1s1p0_0 h_S_ (ix3 b t h) = _
  unfold Host.reduceWindow
  refine (foldl_add_sum _ _).trans ?_
  rw [hz, zero_add]
  refine (Equiv.sum_comp (finCongr hN.symm) _).symm.trans (Finset.sum_congr rfl fun n _ => ?_)
  have hs := symm_mid (finCongr hN.symm n) n.isLt
  have h0 : ((⟨3, ![1, 64, 1]⟩ : Shape).rowMajor.symm (finCongr hN.symm n) 0).val = 0 := by rw [hs]; rfl
  have h1 : ((⟨3, ![1, 64, 1]⟩ : Shape).rowMajor.symm (finCongr hN.symm n) 1).val = n.val := by rw [hs]; rfl
  have h2 : ((⟨3, ![1, 64, 1]⟩ : Shape).rowMajor.symm (finCongr hN.symm n) 2).val = 0 := by rw [hs]; rfl
  dsimp only
  split
  · next hin =>
    have k1 := hin 1
    change 63 ≤ t.val * 1 + ((⟨3, ![1, 64, 1]⟩ : Shape).rowMajor.symm (finCongr hN.symm n) 1).val ∧ _ at k1
    rw [h1] at k1
    rw [dif_pos (by omega)]
    refine congrArg x (funext fun a => Fin.ext ?_)
    match a with
    | ⟨0, _⟩ =>
      change b.val * 1 + ((⟨3, ![1, 64, 1]⟩ : Shape).rowMajor.symm (finCongr hN.symm n) 0).val - 0 = b.val
      rw [h0]; omega
    | ⟨1, _⟩ =>
      change t.val * 1 + ((⟨3, ![1, 64, 1]⟩ : Shape).rowMajor.symm (finCongr hN.symm n) 1).val - 63 = t.val + n.val - 63
      rw [h1]; omega
    | ⟨2, _⟩ =>
      change h.val * 1 + ((⟨3, ![1, 64, 1]⟩ : Shape).rowMajor.symm (finCongr hN.symm n) 2).val - 0 = h.val
      rw [h2]; omega
  · next hin =>
    rw [dif_neg fun hle => hin fun a => ?_]
    match a with
    | ⟨0, _⟩ =>
      change 0 ≤ b.val * 1 + ((⟨3, ![1, 64, 1]⟩ : Shape).rowMajor.symm (finCongr hN.symm n) 0).val
        ∧ b.val * 1 + ((⟨3, ![1, 64, 1]⟩ : Shape).rowMajor.symm (finCongr hN.symm n) 0).val - 0 < 8
      rw [h0]; omega
    | ⟨1, _⟩ =>
      change 63 ≤ t.val * 1 + ((⟨3, ![1, 64, 1]⟩ : Shape).rowMajor.symm (finCongr hN.symm n) 1).val
        ∧ t.val * 1 + ((⟨3, ![1, 64, 1]⟩ : Shape).rowMajor.symm (finCongr hN.symm n) 1).val - 63 < 64
      rw [h1]; omega
    | ⟨2, _⟩ =>
      change 0 ≤ h.val * 1 + ((⟨3, ![1, 64, 1]⟩ : Shape).rowMajor.symm (finCongr hN.symm n) 2).val
        ∧ h.val * 1 + ((⟨3, ![1, 64, 1]⟩ : Shape).rowMajor.symm (finCongr hN.symm n) 2).val - 0 < 4
      rw [h2]; omega

/-- The causal mask at an entry. -/
theorem causal (t s : Fin 64) :
    Scalar.select (IntOp.cmpi CmpIPredicate.sge (IntOp.addi (BitVec.ofNat 32 t.val) 0#32) (BitVec.ofNat 32 s.val)) 1#1 0#1
      = if s ≤ t then 1#1 else 0#1 :=
  (by decide +kernel : ∀ t s : Fin 64,
    Scalar.select (IntOp.cmpi CmpIPredicate.sge (IntOp.addi (BitVec.ofNat 32 t.val) 0#32) (BitVec.ofNat 32 s.val)) 1#1 0#1
      = if s ≤ t then 1#1 else 0#1) t s

section Values
variable (x0 : (⟨S16896x3328, .f32⟩ : BufTy).Contents (Elt Ideal))
  (x1 : (⟨S16896x5120, .bf16⟩ : BufTy).Contents (Elt Ideal))
  (x2 : (⟨S8x16896, .f32⟩ : BufTy).Contents (Elt Ideal))
  (x3 : (⟨S8x3x1024, .f32⟩ : BufTy).Contents (Elt Ideal))
  (x4 : (⟨S4x1024, .f32⟩ : BufTy).Contents (Elt Ideal))
  (x5 : (⟨S1024, .f32⟩ : BufTy).Contents (Elt Ideal))
  (x6 : (⟨S8, .f32⟩ : BufTy).Contents (Elt Ideal))
  (x7 : (⟨S1024, .f32⟩ : BufTy).Contents (Elt Ideal))
  (x8 : (⟨S8x4x128x256, .f32⟩ : BufTy).Contents (Elt Ideal))
  (x9 : (⟨S8x4x128, .f32⟩ : BufTy).Contents (Elt Ideal))
  (x10 : (⟨S8x4, .f32⟩ : BufTy).Contents (Elt Ideal))
  (x11 : (⟨S16896x1024, .bf16⟩ : BufTy).Contents (Elt Ideal))

/-- The forget gates before their nonlinearity. -/
theorem r_g (b : Fin 8) (t : Fin 64) (h : Fin 4) :
    val_main_v53 (F := Ideal) x2 x6 (ix3 b t h) = (inR x0 x1 x2 x3 x4 x5 x6 x7 x8 x9 x10 x11).g b ⟨4 + h.val, by omega⟩ t := by
  pointwise [val_main_v53, val_main_v51, val_main_v50, val_main_v49, val_main_v9, val_main_v8, val_main_v7]
  rfl
/-- The input gates. -/
theorem r_i (b : Fin 8) (t : Fin 64) (h : Fin 4) :
    val_main_v52 (F := Ideal) x2 x6 (ix3 b t h) = (inR x0 x1 x2 x3 x4 x5 x6 x7 x8 x9 x10 x11).ig b h t := by
  pointwise [val_main_v52, val_main_v51, val_main_v50, val_main_v49, val_main_v9, val_main_v8, val_main_v7]
  rfl
/-- The log forget gates. -/
theorem r_ls (b : Fin 8) (t : Fin 64) (h : Fin 4) :
    val_main_v54 (F := Ideal) x2 x6 (ix3 b t h) = logSigm ((inR x0 x1 x2 x3 x4 x5 x6 x7 x8 x9 x10 x11).g b ⟨4 + h.val, by omega⟩ t) := by
  pointwise [val_main_v54, val_main_call1_v1, val_main_call1_v0, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst]
  rw [← guarded_logSigm, ← r_g x0 x1 x2 x3 x4 x5 x6 x7 x8 x9 x10 x11]
  rfl
/-- Their running sums. -/
theorem r_b (b : Fin 8) (t : Fin 64) (h : Fin 4) :
    val_main_v55 (F := Ideal) x2 x6 (ix3 b t h) = (inR x0 x1 x2 x3 x4 x5 x6 x7 x8 x9 x10 x11).bb b h t := by
  change _ = bcum ((inR x0 x1 x2 x3 x4 x5 x6 x7 x8 x9 x10 x11).g b) h t
  unfold bcum val_main_v55
  refine (cumsum_mid _ _ ?_ b t h).trans (Finset.sum_congr rfl fun j _ => ?_)
  · rw [val_main_call2_call0_v0_apply]; exact Ideal.ofBits_zero .f32
  · rw [r_ls x0 x1 x2 x3 x4 x5 x6 x7 x8 x9 x10 x11]
/-- The convolution. -/
theorem r_conv (b : Fin 8) (t : Fin 64) (c : Fin 1024) :
    val_main_v40 (F := Ideal) x0 x3 x4 x5 (ix3 b t c) = conv ((inR x0 x1 x2 x3 x4 x5 x6 x7 x8 x9 x10 x11).x b) (inR x0 x1 x2 x3 x4 x5 x6 x7 x8 x9 x10 x11).cw (inR x0 x1 x2 x3 x4 x5 x6 x7 x8 x9 x10 x11).cb t c := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v1, val_main_v0]
  have hx : ∀ (k : ℕ) (hk : k ≤ 3), (if h : k + t.val < 3 then x3 (ix3 b ⟨k + t.val, h⟩ c)
      else x0 (ix2 ⟨16384 + (b.val * 64 + (k + t.val - 3)), by omega⟩ ⟨2048 + c.val, by omega⟩)) = (inR x0 x1 x2 x3 x4 x5 x6 x7 x8 x9 x10 x11).x b ⟨t.val + k, by omega⟩ c := fun k hk => by
    have e : (⟨t.val + k, by omega⟩ : Fin 67) = ⟨k + t.val, by omega⟩ := Fin.ext (Nat.add_comm _ _)
    rw [e]; rfl
  refine congrArg₂ (· + ·) (congrArg₂ (· + ·) (congrArg₂ (· + ·) (congrArg₂ (· + ·) rfl ?_) ?_) ?_) ?_
  · rfl
  · exact congrArg (· * x4 (ix2 1 c)) (hx 1 (by omega))
  · exact congrArg (· * x4 (ix2 2 c)) (hx 2 (by omega))
  · refine congrArg (· * x4 (ix2 3 c)) (Eq.trans ?_ (hx 3 (by omega)))
    rw [dif_neg (by omega)]
    exact congrArg (fun r => x0 (ix2 r _)) (Fin.ext (by simp only; omega))
/-- The queries and unscaled keys. -/
theorem r_a (b : Fin 8) (t : Fin 64) (c : Fin 1024) :
    val_main_v41 (F := Ideal) x0 x3 x4 x5 (ix3 b t c) = (inR x0 x1 x2 x3 x4 x5 x6 x7 x8 x9 x10 x11).a b t c := by
  pointwise [val_main_v41, val_main_call0_v5, val_main_call0_v4, val_main_call0_v3, val_main_call0_v2, val_main_call0_v1, val_main_call0_v0, val_main_call0_cst, val_main_call0_cst_0]
  rw [r_conv x0 x1 x2 x3 x4 x5 x6 x7 x8 x9 x10 x11]
  rfl
/-- The queries. -/
theorem r_q (b : Fin 8) (t : Fin 64) (h : Fin 4) (d : Fin 128) :
    val_main_v43 (F := Ideal) x0 x3 x4 x5 (ix4 b t h d) = qry ((inR x0 x1 x2 x3 x4 x5 x6 x7 x8 x9 x10 x11).a b) h t d := by
  pointwise [val_main_v43, val_main_v42]
  rw [r_a x0 x1 x2 x3 x4 x5 x6 x7 x8 x9 x10 x11]
  rfl
/-- The scaled keys. -/
theorem r_k (b : Fin 8) (t : Fin 64) (h : Fin 4) (d : Fin 128) :
    val_main_v47 (F := Ideal) x0 x3 x4 x5 (ix4 b t h d) = key ((inR x0 x1 x2 x3 x4 x5 x6 x7 x8 x9 x10 x11).a b) h t d := by
  pointwise [val_main_v47, val_main_v46, val_main_v45, val_main_v44, val_main_cst]
  rw [r_a x0 x1 x2 x3 x4 x5 x6 x7 x8 x9 x10 x11]
  rfl
/-- The values. -/
theorem r_v (b : Fin 8) (t : Fin 64) (h : Fin 4) (e : Fin 256) :
    val_main_v48 (F := Ideal) x1 (ix4 b t h e) = (inR x0 x1 x2 x3 x4 x5 x6 x7 x8 x9 x10 x11).v b h t e := by
  pointwise [val_main_v48, val_main_v5, val_main_v4, val_main_v3, val_main_v2, val_main_v1, val_main_v0]
  rfl
/-- The decay matrix in logarithms. -/
theorem r_logD (b : Fin 8) (t s : Fin 64) (h : Fin 4) :
    val_main_v67 (F := Ideal) x2 x6 (ix4 b t s h) = logD ((inR x0 x1 x2 x3 x4 x5 x6 x7 x8 x9 x10 x11).ig b h) ((inR x0 x1 x2 x3 x4 x5 x6 x7 x8 x9 x10 x11).bb b h) t s := by
  pointwise [val_main_v67, val_main_call4_v2, val_main_call4_v1, val_main_call4_v0, val_main_v66, val_main_v65, val_main_v64, val_main_v63, val_main_v62, val_main_v61, val_main_v60, val_main_v59, val_main_v58, val_main_v57, val_main_v56, val_main_call3_v5, val_main_call3_v4, val_main_call3_v3, val_main_call3_v2, val_main_call3_v1, val_main_call3_v0, val_main_cst_0, val_main_c, val_main_call3_c, val_main_call3_c_0]
  rw [r_b x0 x1 x2 x3 x4 x5 x6 x7 x8 x9 x10 x11, r_b x0 x1 x2 x3 x4 x5 x6 x7 x8 x9 x10 x11, r_i x0 x1 x2 x3 x4 x5 x6 x7 x8 x9 x10 x11, causal t s]
  unfold logD
  by_cases hs : s ≤ t
  · rw [if_pos hs, if_pos hs]; rfl
  · rw [if_neg hs, if_neg hs]; rfl
/-- The stabiliser. -/
theorem r_stab (b : Fin 8) (t : Fin 64) (h : Fin 4) :
    val_main_v72 (F := Ideal) x2 x6 x10 (ix3 b t h) = stab ((inR x0 x1 x2 x3 x4 x5 x6 x7 x8 x9 x10 x11).ig b h) ((inR x0 x1 x2 x3 x4 x5 x6 x7 x8 x9 x10 x11).bb b h) ((inR x0 x1 x2 x3 x4 x5 x6 x7 x8 x9 x10 x11).m0 b h) t := by
  pointwise [val_main_v72, val_main_v71, val_main_cst_1, val_main_v70, val_main_v69, val_main_v68]
  rw [r_b x0 x1 x2 x3 x4 x5 x6 x7 x8 x9 x10 x11]
  refine congrArg (max _) (Finset.fold_congr fun s _ => ?_)
  exact r_logD x0 x1 x2 x3 x4 x5 x6 x7 x8 x9 x10 x11 b t s h
/-- The stabilised decay. -/
theorem r_wIn (b : Fin 8) (t s : Fin 64) (h : Fin 4) :
    val_main_v76 (F := Ideal) x2 x6 x10 (ix4 b t s h) = wIn ((inR x0 x1 x2 x3 x4 x5 x6 x7 x8 x9 x10 x11).ig b h) ((inR x0 x1 x2 x3 x4 x5 x6 x7 x8 x9 x10 x11).bb b h) ((inR x0 x1 x2 x3 x4 x5 x6 x7 x8 x9 x10 x11).m0 b h) t s := by
  pointwise [val_main_v76, val_main_v75, val_main_v74, val_main_v73]
  rw [r_logD x0 x1 x2 x3 x4 x5 x6 x7 x8 x9 x10 x11, r_stab x0 x1 x2 x3 x4 x5 x6 x7 x8 x9 x10 x11]
  rfl
/-- The stabilised decay of the incoming state. -/
theorem r_wPrev (b : Fin 8) (t : Fin 64) (h : Fin 4) :
    val_main_v78 (F := Ideal) x2 x6 x10 (ix3 b t h) = wPrev ((inR x0 x1 x2 x3 x4 x5 x6 x7 x8 x9 x10 x11).ig b h) ((inR x0 x1 x2 x3 x4 x5 x6 x7 x8 x9 x10 x11).bb b h) ((inR x0 x1 x2 x3 x4 x5 x6 x7 x8 x9 x10 x11).m0 b h) t := by
  pointwise [val_main_v78, val_main_v77, val_main_v70, val_main_v69, val_main_v68]
  rw [r_b x0 x1 x2 x3 x4 x5 x6 x7 x8 x9 x10 x11, r_stab x0 x1 x2 x3 x4 x5 x6 x7 x8 x9 x10 x11]
  rfl
/-- The weighted scores. -/
theorem r_att (b : Fin 8) (t s : Fin 64) (h : Fin 4) :
    val_main_v81 (F := Ideal) x0 x2 x3 x4 x5 x6 x10 (ix4 b t s h) = att ((inR x0 x1 x2 x3 x4 x5 x6 x7 x8 x9 x10 x11).ig b h) ((inR x0 x1 x2 x3 x4 x5 x6 x7 x8 x9 x10 x11).bb b h) ((inR x0 x1 x2 x3 x4 x5 x6 x7 x8 x9 x10 x11).m0 b h) (qry ((inR x0 x1 x2 x3 x4 x5 x6 x7 x8 x9 x10 x11).a b) h) (key ((inR x0 x1 x2 x3 x4 x5 x6 x7 x8 x9 x10 x11).a b) h) t s := by
  pointwise [val_main_v81, val_main_v80, val_main_v79]
  simp only [r_k x0 x1 x2 x3 x4 x5 x6 x7 x8 x9 x10 x11, r_q x0 x1 x2 x3 x4 x5 x6 x7 x8 x9 x10 x11, r_wIn x0 x1 x2 x3 x4 x5 x6 x7 x8 x9 x10 x11]
  rfl
/-- The numerator. -/
theorem r_num (b : Fin 8) (t : Fin 64) (h : Fin 4) (e : Fin 256) :
    val_main_v89 (F := Ideal) x0 x1 x2 x3 x4 x5 x6 x8 x10 (ix4 b t h e) = numer ((inR x0 x1 x2 x3 x4 x5 x6 x7 x8 x9 x10 x11).ig b h) ((inR x0 x1 x2 x3 x4 x5 x6 x7 x8 x9 x10 x11).bb b h) ((inR x0 x1 x2 x3 x4 x5 x6 x7 x8 x9 x10 x11).m0 b h) (qry ((inR x0 x1 x2 x3 x4 x5 x6 x7 x8 x9 x10 x11).a b) h) (key ((inR x0 x1 x2 x3 x4 x5 x6 x7 x8 x9 x10 x11).a b) h) ((inR x0 x1 x2 x3 x4 x5 x6 x7 x8 x9 x10 x11).v b h) ((inR x0 x1 x2 x3 x4 x5 x6 x7 x8 x9 x10 x11).c0 b h) t e := by
  pointwise [val_main_v89, val_main_v88, val_main_v87, val_main_v86, val_main_v85, val_main_v84, val_main_v83, val_main_v82]
  simp only [r_v x0 x1 x2 x3 x4 x5 x6 x7 x8 x9 x10 x11, r_att x0 x1 x2 x3 x4 x5 x6 x7 x8 x9 x10 x11, r_wPrev x0 x1 x2 x3 x4 x5 x6 x7 x8 x9 x10 x11, r_q x0 x1 x2 x3 x4 x5 x6 x7 x8 x9 x10 x11]
  rfl
/-- The denominator. -/
theorem r_den (b : Fin 8) (t : Fin 64) (h : Fin 4) :
    val_main_v94 (F := Ideal) x0 x2 x3 x4 x5 x6 x9 x10 (ix3 b t h) = denom ((inR x0 x1 x2 x3 x4 x5 x6 x7 x8 x9 x10 x11).ig b h) ((inR x0 x1 x2 x3 x4 x5 x6 x7 x8 x9 x10 x11).bb b h) ((inR x0 x1 x2 x3 x4 x5 x6 x7 x8 x9 x10 x11).m0 b h) (qry ((inR x0 x1 x2 x3 x4 x5 x6 x7 x8 x9 x10 x11).a b) h) (key ((inR x0 x1 x2 x3 x4 x5 x6 x7 x8 x9 x10 x11).a b) h) ((inR x0 x1 x2 x3 x4 x5 x6 x7 x8 x9 x10 x11).n0 b h) t := by
  pointwise [val_main_v94, val_main_v93, val_main_v92, val_main_v91, val_main_v90, val_main_cst_2]
  simp only [r_att x0 x1 x2 x3 x4 x5 x6 x7 x8 x9 x10 x11, r_wPrev x0 x1 x2 x3 x4 x5 x6 x7 x8 x9 x10 x11, r_q x0 x1 x2 x3 x4 x5 x6 x7 x8 x9 x10 x11]
  rfl
/-- The read-out. -/
theorem r_read (b : Fin 8) (t : Fin 64) (h : Fin 4) (e : Fin 256) :
    val_main_v101 (F := Ideal) x0 x1 x2 x3 x4 x5 x6 x8 x9 x10 (ix4 b t h e) = readout ((inR x0 x1 x2 x3 x4 x5 x6 x7 x8 x9 x10 x11).ig b h) ((inR x0 x1 x2 x3 x4 x5 x6 x7 x8 x9 x10 x11).bb b h) ((inR x0 x1 x2 x3 x4 x5 x6 x7 x8 x9 x10 x11).m0 b h) (qry ((inR x0 x1 x2 x3 x4 x5 x6 x7 x8 x9 x10 x11).a b) h) (key ((inR x0 x1 x2 x3 x4 x5 x6 x7 x8 x9 x10 x11).a b) h) ((inR x0 x1 x2 x3 x4 x5 x6 x7 x8 x9 x10 x11).v b h) ((inR x0 x1 x2 x3 x4 x5 x6 x7 x8 x9 x10 x11).c0 b h) ((inR x0 x1 x2 x3 x4 x5 x6 x7 x8 x9 x10 x11).n0 b h) t e := by
  pointwise [val_main_v101, val_main_v100, val_main_v99, val_main_v98, val_main_v97, val_main_v96, val_main_v95]
  rw [r_num x0 x1 x2 x3 x4 x5 x6 x7 x8 x9 x10 x11, r_den x0 x1 x2 x3 x4 x5 x6 x7 x8 x9 x10 x11, r_stab x0 x1 x2 x3 x4 x5 x6 x7 x8 x9 x10 x11]
  rfl
/-- The gated output. -/
theorem r_gated (b : Fin 8) (t : Fin 64) (h : Fin 4) (e : Fin 256) :
    val_main_v140 (F := Ideal) x0 x1 x2 x3 x4 x5 x6 x7 x8 x9 x10 (ix3 b t ⟨h.val * 256 + e.val, by omega⟩) = (inR x0 x1 x2 x3 x4 x5 x6 x7 x8 x9 x10 x11).y b h t e := by
  pointwise [val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_cst_3, val_main_cst_4, val_main_cst_5, val_main_cst_6, val_main_cst_7, val_main_cst_8, val_main_v6, val_main_v5, val_main_v4, val_main_v3, val_main_v2, val_main_v1, val_main_v0]
  simp only [r_read x0 x1 x2 x3 x4 x5 x6 x7 x8 x9 x10 x11]
  rfl
/-- The keys weighted for the state. -/
theorem r_keyW (b : Fin 8) (t : Fin 64) (h : Fin 4) (d : Fin 128) :
    val_main_v108 (F := Ideal) x0 x2 x3 x4 x5 x6 x10 (ix4 b t h d) = keyW ((inR x0 x1 x2 x3 x4 x5 x6 x7 x8 x9 x10 x11).ig b h) ((inR x0 x1 x2 x3 x4 x5 x6 x7 x8 x9 x10 x11).bb b h) ((inR x0 x1 x2 x3 x4 x5 x6 x7 x8 x9 x10 x11).m0 b h) (key ((inR x0 x1 x2 x3 x4 x5 x6 x7 x8 x9 x10 x11).a b) h) t d := by
  pointwise [val_main_v108, val_main_v107, val_main_v106, val_main_v103, val_main_v102]
  rw [r_k x0 x1 x2 x3 x4 x5 x6 x7 x8 x9 x10 x11, r_wIn x0 x1 x2 x3 x4 x5 x6 x7 x8 x9 x10 x11]
  rfl
/-- The matrix state carried on. -/
theorem r_C (b : Fin 8) (h : Fin 4) (d : Fin 128) (e : Fin 256) :
    val_main_v113 (F := Ideal) x0 x1 x2 x3 x4 x5 x6 x8 x10 (ix4 b h d e) = (inR x0 x1 x2 x3 x4 x5 x6 x7 x8 x9 x10 x11).outC b h d e := by
  pointwise [val_main_v113, val_main_v112, val_main_v111, val_main_v110, val_main_v109, val_main_v105, val_main_v104, val_main_v103]
  simp only [r_wPrev x0 x1 x2 x3 x4 x5 x6 x7 x8 x9 x10 x11, r_keyW x0 x1 x2 x3 x4 x5 x6 x7 x8 x9 x10 x11, r_v x0 x1 x2 x3 x4 x5 x6 x7 x8 x9 x10 x11]
  rfl
/-- The normaliser carried on. -/
theorem r_n (b : Fin 8) (h : Fin 4) (d : Fin 128) :
    val_main_v149 (F := Ideal) x0 x2 x3 x4 x5 x6 x9 x10 (ix4 b h 0 d) = (inR x0 x1 x2 x3 x4 x5 x6 x7 x8 x9 x10 x11).outN b h d := by
  pointwise [val_main_v149, val_main_v118, val_main_v117, val_main_v116, val_main_v115, val_main_v114, val_main_v105, val_main_v104, val_main_v103, val_main_cst_3]
  simp only [r_wPrev x0 x1 x2 x3 x4 x5 x6 x7 x8 x9 x10 x11, r_keyW x0 x1 x2 x3 x4 x5 x6 x7 x8 x9 x10 x11]
  rfl
/-- The stabiliser carried on. -/
theorem r_m (b : Fin 8) (h : Fin 4) (l : Fin 128) :
    val_main_v146 (F := Ideal) x2 x6 x10 (ix4 b h 0 l) = (inR x0 x1 x2 x3 x4 x5 x6 x7 x8 x9 x10 x11).outM b h := by
  pointwise [val_main_v146, val_main_v145, val_main_v144, val_main_v143]
  exact r_stab x0 x1 x2 x3 x4 x5 x6 x7 x8 x9 x10 x11 b 63 h
/-- The end of the stream. -/
theorem r_x (b j : Fin 8) (c : Fin 1024) :
    val_main_v150 (F := Ideal) x0 x3 (ix3 b j c) = (inR x0 x1 x2 x3 x4 x5 x6 x7 x8 x9 x10 x11).outX b j c := by
  pointwise [val_main_v150, val_main_v10, val_main_v1, val_main_v0]
  rfl
/-- The output array. -/
theorem r_y (r : Fin 16896) (l : Fin 1024) :
    val_main_v148 (F := Ideal) x0 x1 x2 x3 x4 x5 x6 x7 x8 x9 x10 x11 (ix2 r l) = (inR x0 x1 x2 x3 x4 x5 x6 x7 x8 x9 x10 x11).outY r l := by
  pointwise [val_main_v148, val_main_v147, val_main_v142, val_main_v141]
  unfold In.outY
  by_cases hr : r.val < 16384
  · rw [dif_pos hr, dif_neg (by omega)]; rfl
  · rw [dif_neg hr, dif_pos (by omega), ← r_gated x0 x1 x2 x3 x4 x5 x6 x7 x8 x9 x10 x11]
    exact congrArg (fun z => val_main_v140 (F := Ideal) x0 x1 x2 x3 x4 x5 x6 x7 x8 x9 x10 (ix3 _ _ z)) (Fin.ext (by simp only; omega))
end Values

end Cert.ReferenceIdeal.Read
end
-- ==== Proof.RefRun.lean ====
module

public import proofs.«01_k».proof.Proof.Ref
public import proofs.«01_k».proof.Proof.Gen.ReferenceIdeal.Run

/-! # The reference as run -/

@[expose] public section
noncomputable section
namespace Cert.ReferenceIdeal.Value
open Cert.ReferenceIdeal Cert.ReferenceIdeal.Gen Cert.ReferenceIdeal.Read Idealize.ShloMosaic Idealize.ShloMosaic.TcCoe Idealize.SL.Sem Cert.Mlstm
set_option maxRecDepth 16384

variable (m : (ℓ : Loc nD τ sig) → Buf (Elt Ideal) ℓ)

/-- The reference's arguments as launched, entry by entry. -/
def inArgs (c : Dev nD) : In :=
  inR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- The reference as run: its five arrays as functions of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c.tc : Thread nD τ).loc main_v148) = (fun i => (inArgs m c).outY (i 0) (i 1))
      ∧ r.2.mem ((c.tc : Thread nD τ).loc main_v113) = (fun i => (inArgs m c).outC (i 0) (i 1) (i 2) (i 3))
      ∧ r.2.mem ((c.tc : Thread nD τ).loc main_v149) = (fun i => (inArgs m c).outN (i 0) (i 1) (i 3))
      ∧ r.2.mem ((c.tc : Thread nD τ).loc main_v146) = (fun i => (inArgs m c).outM (i 0) (i 1))
      ∧ r.2.mem ((c.tc : Thread nD τ).loc main_v150) = (fun i => (inArgs m c).outX (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => by
    obtain ⟨h0, h1, h2, h3, h4, hk⟩ := h c
    refine ⟨(h0.trans (val_main_v148_eq _)).trans ?_, (h1.trans (val_main_v113_eq _)).trans ?_, (h2.trans (val_main_v149_eq _)).trans ?_,
      (h3.trans (val_main_v146_eq _)).trans ?_, (h4.trans (val_main_v150_eq _)).trans ?_, hk⟩
    · funext i
      exact (congrArg _ (ix2_eta i).symm).trans (r_y _ _ _ _ _ _ _ _ _ _ _ _ (i 0) (i 1))
    · funext i
      exact (congrArg _ (ix4_eta i).symm).trans (r_C (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1) (i 2) (i 3))
    · funext i
      have e : i 2 = (0 : Fin 1) := Subsingleton.elim (α := Fin 1) _ _
      refine (congrArg _ (ix4_eta i).symm).trans ?_
      rw [e]
      exact r_n (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1) (i 3)
    · funext i
      have e : i 2 = (0 : Fin 1) := Subsingleton.elim (α := Fin 1) _ _
      refine (congrArg _ (ix4_eta i).symm).trans ?_
      rw [e]
      exact r_m (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1) (i 3)
    · funext i
      exact (congrArg _ (ix3_eta i).symm).trans (r_x (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) (i 1) (i 2)))
    (run m ρ)

end Cert.ReferenceIdeal.Value
end
-- ==== Proof.Rows.lean ====
module

public import Idealize.ShloMosaic.PureOps.Ideal.Laws
public import Idealize.ShloMosaic.Lib.Pipeline.ValueKit
public import Idealize.ShloMosaic.Lib.Routing.Ops

/-! # The rows of the two batches laid end to end

Eight sequences of 2048 rows, then eight of 64. -/

@[expose] public section
noncomputable section
namespace Cert.Rows
open Idealize.ShloMosaic

/-- The sequence that a row belongs to. -/
def batch (r : Fin 16896) : Fin 16 := if h : r.val < 16384 then ⟨r.val / 2048, by omega⟩ else ⟨8 + (r.val - 16384) / 64, by omega⟩
/-- The sequence that a group of 64 rows belongs to. -/
def group (c : Fin 264) : Fin 16 := if h : c.val < 256 then ⟨c.val / 32, by omega⟩ else ⟨c.val - 248, by omega⟩

/-- A row's sequence is its group's. -/
theorem group_of (c : Fin 264) (r : Fin 16896) (h : c.val = r.val / 64) : group c = batch r := by
  unfold group batch
  by_cases hc : c.val < 256
  · rw [dif_pos hc, dif_pos (by omega)]
    exact Fin.ext (by simp only; omega)
  · rw [dif_neg hc, dif_neg (by omega)]
    exact Fin.ext (by simp only; omega)

/-- The sequence of a row among the first eight. -/
theorem batch_lo (b : Fin 8) (s : Fin 2048) (r : Fin 16896) (h : r.val = b.val * 2048 + s.val) : batch r = ⟨b.val, by omega⟩ := by
  unfold batch
  rw [dif_pos (by omega)]
  exact Fin.ext (by simp only; omega)
/-- The sequence of a row among the last eight. -/
theorem batch_hi (b : Fin 8) (s : Fin 64) (r : Fin 16896) (h : r.val = 16384 + (b.val * 64 + s.val)) : batch r = ⟨8 + b.val, by omega⟩ := by
  unfold batch
  rw [dif_neg (by omega)]
  exact Fin.ext (by simp only; omega)

/-- A row of the first eight sequences. -/
abbrev rowLo (b : Fin 8) (s : Fin 2048) : Fin 16896 := ⟨b.val * 2048 + s.val, by omega⟩
/-- A row of the last eight sequences. -/
abbrev rowHi (b : Fin 8) (s : Fin 64) : Fin 16896 := ⟨16384 + (b.val * 64 + s.val), by omega⟩

/-- A row normalised by its mean square, with the gain, the scale and the shift. -/
def normRow (x g sh sc : Fin 1024 → EReal) (k : Fin 1024) : EReal :=
  x k * Ideal.rsqrt (Ideal.div (∑ i, x i * x i) (Ideal.ofBits FTy.f32 1149239296#32) + Ideal.ofBits FTy.f32 897988541#32) * g k * (1 + sc k) + sh k

/-- A sum over 2816 terms as three sums over 768 and one over 512. -/
theorem sum_chunks (f : Fin 2816 → EReal) : ∑ i, f i = (∑ x : Fin 768, f ⟨x.val, by omega⟩) + (∑ x : Fin 768, f ⟨768 + x.val, by omega⟩)
    + (∑ x : Fin 768, f ⟨1536 + x.val, by omega⟩) + ∑ x : Fin 512, f ⟨2304 + x.val, by omega⟩ := by
  have e1 := Fin.sum_univ_add (M := EReal) (a := 768 + 768 + 768) (b := 512) f
  have e2 := Fin.sum_univ_add (M := EReal) (a := 768 + 768) (b := 768) (fun i => f (Fin.castAdd 512 i))
  have e3 := Fin.sum_univ_add (M := EReal) (a := 768) (b := 768) (fun i => f (Fin.castAdd 512 (Fin.castAdd 768 i)))
  exact e1.trans (congrArg (· + _) (e2.trans (congrArg (· + _) e3)))

end Cert.Rows
end
-- ==== Proof.InProj.lean ====
module

public import proofs.«01_k».proof.Proof.Rows

/-! # The input projections -/

@[expose] public section
noncomputable section
namespace Cert.InProj
open Idealize.ShloMosaic Cert.Rows

/-- The arguments, entry by entry. -/
structure In where
  x : Fin 16896 → Fin 1024 → EReal
  mod : Fin 16 → Fin 6144 → EReal
  g : Fin 1024 → EReal
  wlo : Fin 1024 → Fin 3584 → EReal
  whi : Fin 1024 → Fin 4864 → EReal
  wif : Fin 8 → Fin 1024 → EReal

/-- The normalised, modulated row. -/
def In.h (I : In) (r : Fin 16896) (k : Fin 1024) : EReal :=
  normRow (I.x r) I.g (fun k => I.mod (batch r) ⟨k.val, by omega⟩) (fun k => I.mod (batch r) ⟨1024 + k.val, by omega⟩) k
/-- The projection by the first weights. -/
def In.lo (I : In) (r : Fin 16896) (j : Fin 3584) : EReal := ∑ k, I.h r k * I.wlo k j
/-- The projection by the second weights. -/
def In.hi (I : In) (r : Fin 16896) (j : Fin 4864) : EReal := ∑ k, I.h r k * I.whi k j
/-- The input and forget gates, one row each. -/
def In.gt (I : In) (i : Fin 8) (r : Fin 16896) : EReal := ∑ k, I.wif i k * I.h r k
/-- The columns kept in single precision. -/
def In.u (I : In) (r : Fin 16896) (l : Fin 3328) : EReal :=
  if h : l.val < 1536 then I.lo r ⟨l.val, by omega⟩ else if h : l.val < 2048 then I.hi r ⟨l.val - 512, by omega⟩
  else if h : l.val < 3072 then I.lo r ⟨l.val - 512, by omega⟩ else I.hi r ⟨l.val - 1536, by omega⟩
/-- The columns kept in half precision. -/
def In.ub (I : In) (r : Fin 16896) (l : Fin 5120) : EReal :=
  if h : l.val < 3072 then I.hi r ⟨1792 + l.val, by omega⟩ else if h : l.val < 4096 then I.lo r ⟨l.val - 512, by omega⟩
  else I.hi r ⟨l.val - 4096, by omega⟩

/-- A column of the first group. -/
theorem In.u_0 (I : In) (r r' : Fin 16896) (l : Fin 3328) (j : Fin 3584) (hr : r'.val = r.val) (h : l.val < 1536) (hj : j.val = l.val) :
    I.lo r j = I.u r' l := by
  obtain rfl : r' = r := Fin.ext hr
  unfold In.u
  rw [dif_pos h]
  exact congrArg (I.lo r') (Fin.ext (by simp only; omega))
/-- A column of the second group. -/
theorem In.u_1 (I : In) (r r' : Fin 16896) (l : Fin 3328) (j : Fin 4864) (hr : r'.val = r.val) (h : 1536 ≤ l.val) (h' : l.val < 2048)
    (hj : j.val + 512 = l.val) : I.hi r j = I.u r' l := by
  obtain rfl : r' = r := Fin.ext hr
  unfold In.u
  rw [dif_neg (by omega), dif_pos h']
  exact congrArg (I.hi r') (Fin.ext (by simp only; omega))
/-- A column of the third group. -/
theorem In.u_2 (I : In) (r r' : Fin 16896) (l : Fin 3328) (j : Fin 3584) (hr : r'.val = r.val) (h : 2048 ≤ l.val) (h' : l.val < 3072)
    (hj : j.val + 512 = l.val) : I.lo r j = I.u r' l := by
  obtain rfl : r' = r := Fin.ext hr
  unfold In.u
  rw [dif_neg (by omega), dif_neg (by omega), dif_pos h']
  exact congrArg (I.lo r') (Fin.ext (by simp only; omega))
/-- A column of the fourth group. -/
theorem In.u_3 (I : In) (r r' : Fin 16896) (l : Fin 3328) (j : Fin 4864) (hr : r'.val = r.val) (h : 3072 ≤ l.val)
    (hj : j.val + 1536 = l.val) : I.hi r j = I.u r' l := by
  obtain rfl : r' = r := Fin.ext hr
  unfold In.u
  rw [dif_neg (by omega), dif_neg (by omega), dif_neg (by omega)]
  exact congrArg (I.hi r') (Fin.ext (by simp only; omega))
/-- A gate column. -/
theorem In.ub_0 (I : In) (r r' : Fin 16896) (l : Fin 5120) (j : Fin 4864) (hr : r'.val = r.val) (h : l.val < 3072) (hj : j.val = 1792 + l.val) :
    I.hi r j = I.ub r' l := by
  obtain rfl : r' = r := Fin.ext hr
  unfold In.ub
  rw [dif_pos h]
  exact congrArg (I.hi r') (Fin.ext (by simp only; omega))
/-- A value column. -/
theorem In.ub_1 (I : In) (r r' : Fin 16896) (l : Fin 5120) (j : Fin 3584) (hr : r'.val = r.val) (h : 3072 ≤ l.val) (h' : l.val < 4096)
    (hj : j.val + 512 = l.val) : I.lo r j = I.ub r' l := by
  obtain rfl : r' = r := Fin.ext hr
  unfold In.ub
  rw [dif_neg (by omega), dif_pos h']
  exact congrArg (I.lo r') (Fin.ext (by simp only; omega))
/-- An output gate column. -/
theorem In.ub_2 (I : In) (r r' : Fin 16896) (l : Fin 5120) (j : Fin 4864) (hr : r'.val = r.val) (h : 4096 ≤ l.val)
    (hj : j.val + 4096 = l.val) : I.hi r j = I.ub r' l := by
  obtain rfl : r' = r := Fin.ext hr
  unfold In.ub
  rw [dif_neg (by omega), dif_neg (by omega)]
  exact congrArg (I.hi r') (Fin.ext (by simp only; omega))

end Cert.InProj
end
-- ==== Proof.InProjK.lean ====
module

public import proofs.«01_k».proof.Proof.InProj
public import proofs.«01_k».proof.Proof.Gen.Kernel2Ideal.Value
public import Idealize.ShloMosaic.Lib.Pipeline.ValueKit.Partial
public import Idealize.ShloMosaic.Lib.Pipeline.ReadBack
public import Idealize.ShloMosaic.Lib.StableHlo.ReadAt

/-! # The input projections as the kernel computes it -/

@[expose] public section
noncomputable section
namespace Cert.Kernel2Ideal.Value
open Cert.Kernel2Ideal Cert.Kernel2Ideal.Gen Idealize.ShloMosaic Idealize.ShloMosaic.TcCoe Idealize.SL.Sem Cert.Rows Cert.InProj
set_option maxRecDepth 16384

variable (m : (ℓ : Loc nD τ sig) → Buf (Elt Ideal) ℓ)

/-- The arguments as launched, entry by entry. -/
def inK (c : Dev nD) : In where
  x i j := m ((c : Thread nD τ).loc main_arg0) (ix2 i j)
  mod i j := m ((c : Thread nD τ).loc main_arg1) (ix2 i j)
  g i := m ((c : Thread nD τ).loc main_arg2) (ix1 i)
  wlo i j := m ((c : Thread nD τ).loc main_arg3) (ix2 i j)
  whi i j := m ((c : Thread nD τ).loc main_arg4) (ix2 i j)
  wif i j := m ((c : Thread nD τ).loc main_arg5) (ix2 i j)

/-- The launch has 33 grid points. -/
theorem lt33 (t : Fin cfg0.N) : t.val < 33 := t.isLt

/-- The table of groups. -/
theorem table : ∀ c : Fin 264, lit0 c = BitVec.ofNat 32 (group c).val := by decide +kernel

/-- The modulation row that the host code lays out for a group of 64 rows. -/
theorem V5 (c : Dev nD) (g : Fin 264) (l : Fin 6144) : V m c main_v5 (ix3 g 0 l) = m ((c : Thread nD τ).loc main_arg1) (ix2 (group g) l) := by
  unfold V
  after_reads_at
  exact Routing.gather_row _ rfl rfl rfl rfl rfl _ _ g l (group g) ((congrArg lit0 (Fin.ext (Shape.rowMajor_val_one _))).trans (table g)) (by omega)
/-- The gain, as a row. -/
theorem V6 (c : Dev nD) (j : Fin 1024) : V m c main_v6 (ix2 0 j) = (inK m c).g j := by
  unfold V
  after_reads_at
  rfl

/-- The blocks that the windows stage at a point. -/
theorem idx : ∀ t : Fin grid0.N, win0_0.index t = ![t.val, 0] ∧ win0_1.index t = ![t.val, 0, 0] ∧ win0_2.index t = ![t.val, 0, 1]
    ∧ win0_3.index t = ![0, 0] ∧ win0_4.index t = ![0, 0] ∧ win0_5.index t = ![0, 0] ∧ win0_6.index t = ![0, 0] := by decide +kernel

/-- The row of the arrays that a point's row is. -/
abbrev rowOf (t : Fin cfg0.N) (s : Fin 512) : Fin 16896 := ⟨t.val * 512 + s.val, by have := lt33 t; omega⟩
/-- The group of 64 rows that a point's row is in. -/
abbrev groupOf (t : Fin cfg0.N) (g : Fin 8) : Fin 264 := ⟨t.val * 8 + g.val, by have := lt33 t; omega⟩
/-- A row's sequence is its group's. -/
theorem group_row (t : Fin cfg0.N) (s : Fin 512) : group (groupOf t ⟨s.val / 64, by omega⟩) = batch (rowOf t s) :=
  group_of _ _ (by simp only; omega)

/-- The rows. -/
theorem blk0 (c : Dev nD) (t : Fin cfg0.N) (s : Fin 512) (j : Fin 1024) : iblk m c 0 t (ix2 s j) = (inK m c).x (rowOf t s) j := by
  unfold inK
  blk_ext [iblk, V, idx t]
/-- The shift. -/
theorem blk1 (c : Dev nD) (t : Fin cfg0.N) (g : Fin 8) (j : Fin 1024) :
    iblk m c 1 t (ix3 g 0 j) = (inK m c).mod (group (groupOf t g)) ⟨j.val, by omega⟩ := by
  refine Eq.trans ?_ (V5 m c (groupOf t g) ⟨j.val, by omega⟩)
  blk_ext [iblk, idx t]
/-- The scale. -/
theorem blk2 (c : Dev nD) (t : Fin cfg0.N) (g : Fin 8) (j : Fin 1024) :
    iblk m c 2 t (ix3 g 0 j) = (inK m c).mod (group (groupOf t g)) ⟨1024 + j.val, by omega⟩ := by
  refine Eq.trans ?_ (V5 m c (groupOf t g) ⟨1024 + j.val, by omega⟩)
  blk_ext [iblk, idx t]
/-- The gain. -/
theorem blk3 (c : Dev nD) (t : Fin cfg0.N) (j : Fin 1024) : iblk m c 3 t (ix2 0 j) = (inK m c).g j := by
  refine Eq.trans ?_ (V6 m c j)
  blk_ext [iblk, idx t]
/-- The first weights. -/
theorem blk4 (c : Dev nD) (t : Fin cfg0.N) (i : Fin 1024) (j : Fin 3584) : iblk m c 4 t (ix2 i j) = (inK m c).wlo i j := by
  unfold inK
  blk_ext [iblk, V, idx t]
/-- The second weights. -/
theorem blk5 (c : Dev nD) (t : Fin cfg0.N) (i : Fin 1024) (j : Fin 4864) : iblk m c 5 t (ix2 i j) = (inK m c).whi i j := by
  unfold inK
  blk_ext [iblk, V, idx t]
/-- The gates' weights. -/
theorem blk6 (c : Dev nD) (t : Fin cfg0.N) (i : Fin 8) (j : Fin 1024) : iblk m c 6 t (ix2 i j) = (inK m c).wif i j := by
  unfold inK
  blk_ext [iblk, V, idx t]

/-- The normalised rows of a point. -/
theorem hAt (c : Dev nD) (t : Fin cfg0.N) (s : Fin 512) (k : Fin 1024) :
    k0_pay1 (iblk m c 0 t) (iblk m c 3 t) (iblk m c 2 t) (iblk m c 1 t) (ix2 s k) = (inK m c).h (rowOf t s) k := by
  pointwise [k0_pay1]
  simp only [blk0, blk1, blk2, blk3]
  rw [group_row]
  rfl

/-- The single-precision columns of a point. -/
theorem o7 (c : Dev nD) (t : Fin cfg0.N) (y : S512x3328.Idx) : (outsAt0 m c t).1 y = (inK m c).u (rowOf t (y 0)) (y 1) := by
  unfold outsAt0
  frame_open
  simp (disch := decide) only [↓ View.readCov_skip, ↓ View.readCov_cons_toLoadRect, ↓ View.readCov_fill]
  frame_out
  have hH := hAt m c t
  generalize k0_pay1 (iblk m c 0 t) (iblk m c 3 t) (iblk m c 2 t) (iblk m c 1 t) = H at hH ⊢
  canon_tiles x h using (View.cover_of_tiledBy _ ![512, 256] (by sl_kernel_rfl) _)
  · refine Eq.trans (congrArg _ (ix2_eta x).symm) ?_
    generalize x 0 = s at *
    generalize x 1 = j at *
    change (Fin 512) at s
    change (Fin 256) at j
    pointwise [k0_pay8]
    simp only [hH, blk5]
    exact In.u_3 (inK m c) (rowOf t s) _ _ ⟨1536 + j.val, by omega⟩ (by first | omega | (simp only; omega)) (by first | omega | (simp only; omega)) (by first | omega | (simp only; omega))
  · refine Eq.trans (congrArg _ (ix2_eta x).symm) ?_
    generalize x 0 = s at *
    generalize x 1 = j at *
    change (Fin 512) at s
    change (Fin 256) at j
    pointwise [k0_pay7]
    simp only [hH, blk4]
    exact In.u_2 (inK m c) (rowOf t s) _ _ ⟨2304 + j.val, by omega⟩ (by first | omega | (simp only; omega)) (by first | omega | (simp only; omega)) (by first | omega | (simp only; omega)) (by first | omega | (simp only; omega))
  · refine Eq.trans (congrArg _ (ix2_eta x).symm) ?_
    generalize x 0 = s at *
    generalize x 1 = j at *
    change (Fin 512) at s
    change (Fin 768) at j
    pointwise [k0_pay6]
    simp only [hH, blk4]
    exact In.u_2 (inK m c) (rowOf t s) _ _ ⟨1536 + j.val, by omega⟩ (by first | omega | (simp only; omega)) (by first | omega | (simp only; omega)) (by first | omega | (simp only; omega)) (by first | omega | (simp only; omega))
  · refine Eq.trans (congrArg _ (ix2_eta x).symm) ?_
    generalize x 0 = s at *
    generalize x 1 = j at *
    change (Fin 512) at s
    change (Fin 512) at j
    pointwise [k0_pay5]
    simp only [hH, blk5]
    exact In.u_1 (inK m c) (rowOf t s) _ _ ⟨1024 + j.val, by omega⟩ (by first | omega | (simp only; omega)) (by first | omega | (simp only; omega)) (by first | omega | (simp only; omega)) (by first | omega | (simp only; omega))
  · refine Eq.trans (congrArg _ (ix2_eta x).symm) ?_
    generalize x 0 = s at *
    generalize x 1 = j at *
    change (Fin 512) at s
    change (Fin 768) at j
    pointwise [k0_pay4]
    simp only [hH, blk4]
    exact In.u_0 (inK m c) (rowOf t s) _ _ ⟨768 + j.val, by omega⟩ (by first | omega | (simp only; omega)) (by first | omega | (simp only; omega)) (by first | omega | (simp only; omega))
  · refine Eq.trans (congrArg _ (ix2_eta x).symm) ?_
    generalize x 0 = s at *
    generalize x 1 = j at *
    change (Fin 512) at s
    change (Fin 768) at j
    pointwise [k0_pay3]
    simp only [hH, blk4]
    exact In.u_0 (inK m c) (rowOf t s) _ _ ⟨j.val, by omega⟩ (by first | omega | (simp only; omega)) (by first | omega | (simp only; omega)) (by first | omega | (simp only; omega))
/-- The half-precision columns of a point. -/
theorem o8 (c : Dev nD) (t : Fin cfg0.N) (y : S512x5120.Idx) : (outsAt0 m c t).2.1 y = (inK m c).ub (rowOf t (y 0)) (y 1) := by
  unfold outsAt0
  frame_open
  simp (disch := decide) only [↓ View.readCov_skip, ↓ View.readCov_cons_toLoadRect, ↓ View.readCov_fill]
  frame_out
  have hH := hAt m c t
  generalize k0_pay1 (iblk m c 0 t) (iblk m c 3 t) (iblk m c 2 t) (iblk m c 1 t) = H at hH ⊢
  canon_tiles x h using (View.cover_of_tiledBy _ ![512, 256] (by sl_kernel_rfl) _)
  · refine Eq.trans (congrArg _ (ix2_eta x).symm) ?_
    generalize x 0 = s at *
    generalize x 1 = j at *
    change (Fin 512) at s
    change (Fin 256) at j
    pointwise [k0_pay17]
    simp only [hH, blk5]
    exact In.ub_2 (inK m c) (rowOf t s) _ _ ⟨768 + j.val, by omega⟩ (by first | omega | (simp only; omega)) (by first | omega | (simp only; omega)) (by first | omega | (simp only; omega))
  · refine Eq.trans (congrArg _ (ix2_eta x).symm) ?_
    generalize x 0 = s at *
    generalize x 1 = j at *
    change (Fin 512) at s
    change (Fin 768) at j
    pointwise [k0_pay16]
    simp only [hH, blk5]
    exact In.ub_2 (inK m c) (rowOf t s) _ _ ⟨j.val, by omega⟩ (by first | omega | (simp only; omega)) (by first | omega | (simp only; omega)) (by first | omega | (simp only; omega))
  · refine Eq.trans (congrArg _ (ix2_eta x).symm) ?_
    generalize x 0 = s at *
    generalize x 1 = j at *
    change (Fin 512) at s
    change (Fin 256) at j
    pointwise [k0_pay15]
    simp only [hH, blk4]
    exact In.ub_1 (inK m c) (rowOf t s) _ _ ⟨3328 + j.val, by omega⟩ (by first | omega | (simp only; omega)) (by first | omega | (simp only; omega)) (by first | omega | (simp only; omega)) (by first | omega | (simp only; omega))
  · refine Eq.trans (congrArg _ (ix2_eta x).symm) ?_
    generalize x 0 = s at *
    generalize x 1 = j at *
    change (Fin 512) at s
    change (Fin 768) at j
    pointwise [k0_pay14]
    simp only [hH, blk4]
    exact In.ub_1 (inK m c) (rowOf t s) _ _ ⟨2560 + j.val, by omega⟩ (by first | omega | (simp only; omega)) (by first | omega | (simp only; omega)) (by first | omega | (simp only; omega)) (by first | omega | (simp only; omega))
  · refine Eq.trans (congrArg _ (ix2_eta x).symm) ?_
    generalize x 0 = s at *
    generalize x 1 = j at *
    change (Fin 512) at s
    change (Fin 768) at j
    pointwise [k0_pay13, k0_pay12]
    simp only [hH, blk5]
    exact In.ub_0 (inK m c) (rowOf t s) _ _ ⟨4096 + j.val, by omega⟩ (by first | omega | (simp only; omega)) (by first | omega | (simp only; omega)) (by first | omega | (simp only; omega))
  · refine Eq.trans (congrArg _ (ix2_eta x).symm) ?_
    generalize x 0 = s at *
    generalize x 1 = j at *
    change (Fin 512) at s
    change (Fin 768) at j
    pointwise [k0_pay11]
    simp only [hH, blk5]
    exact In.ub_0 (inK m c) (rowOf t s) _ _ ⟨3328 + j.val, by omega⟩ (by first | omega | (simp only; omega)) (by first | omega | (simp only; omega)) (by first | omega | (simp only; omega))
  · refine Eq.trans (congrArg _ (ix2_eta x).symm) ?_
    generalize x 0 = s at *
    generalize x 1 = j at *
    change (Fin 512) at s
    change (Fin 768) at j
    pointwise [k0_pay10]
    simp only [hH, blk5]
    exact In.ub_0 (inK m c) (rowOf t s) _ _ ⟨2560 + j.val, by omega⟩ (by first | omega | (simp only; omega)) (by first | omega | (simp only; omega)) (by first | omega | (simp only; omega))
  · refine Eq.trans (congrArg _ (ix2_eta x).symm) ?_
    generalize x 0 = s at *
    generalize x 1 = j at *
    change (Fin 512) at s
    change (Fin 768) at j
    pointwise [k0_pay9]
    simp only [hH, blk5]
    exact In.ub_0 (inK m c) (rowOf t s) _ _ ⟨1792 + j.val, by omega⟩ (by first | omega | (simp only; omega)) (by first | omega | (simp only; omega)) (by first | omega | (simp only; omega))
/-- The gates of a point. -/
theorem o9 (c : Dev nD) (t : Fin cfg0.N) (y : S8x512.Idx) : (outsAt0 m c t).2.2 y = (inK m c).gt (y 0) (rowOf t (y 1)) := by
  unfold outsAt0
  frame_open
  simp (disch := decide) only [↓ View.readCov_skip, ↓ View.readCov_cons_toLoadRect, ↓ View.readCov_fill]
  frame_out
  refine Eq.trans (congrArg _ (ix2_eta y).symm) ?_
  generalize y 0 = i
  generalize y 1 = s
  change (Fin 8) at i
  change (Fin 512) at s
  have hH := hAt m c t
  generalize k0_pay1 (iblk m c 0 t) (iblk m c 3 t) (iblk m c 2 t) (iblk m c 1 t) = H at hH ⊢
  pointwise [k0_pay2]
  simp only [hH, blk6]
  rfl

/-- Where each point writes its results. -/
theorem idxOut (t : Fin cfg0.N) : win0_7.index t 0 = t.val ∧ win0_7.index t 1 = 0 ∧ win0_8.index t 0 = t.val ∧ win0_8.index t 1 = 0
    ∧ win0_9.index t 0 = 0 ∧ win0_9.index t 1 = t.val :=
  (by decide +kernel : ∀ t : Fin grid0.N, win0_7.index t 0 = t.val ∧ win0_7.index t 1 = 0 ∧ win0_8.index t 0 = t.val ∧ win0_8.index t 1 = 0
    ∧ win0_9.index t 0 = 0 ∧ win0_9.index t 1 = t.val) t
/-- The single-precision columns after the launch. -/
theorem arr7 (c : Dev nD) : (dats m 0 c).arrAt 7 cfg0.N = fun i => (inK m c).u (i 0) (i 1) := by
  refine (dats m 0 c).arrAt_eq_of_covers 7 _ (by decide +kernel) fun t hf y => ?_
  blk_simp
  rw [after0_7]
  refine (o7 m c t _).trans ?_
  obtain ⟨e0, e1, -⟩ := idxOut t
  have k0 : ((((cfg0.win 7).blk t).view.emb y) 0 : ℕ) = t.val * 512 + (y 0).val := by blk_simp [e0]
  have k1 : ((((cfg0.win 7).blk t).view.emb y) 1 : ℕ) = (y 1).val := by blk_simp [e1]
  exact congrArg₂ (inK m c).u (Fin.ext k0.symm) (Fin.ext k1.symm)
/-- The half-precision columns after the launch. -/
theorem arr8 (c : Dev nD) : (dats m 0 c).arrAt 8 cfg0.N = fun i => (inK m c).ub (i 0) (i 1) := by
  refine (dats m 0 c).arrAt_eq_of_covers 8 _ (by decide +kernel) fun t hf y => ?_
  blk_simp
  rw [after0_8]
  refine (o8 m c t _).trans ?_
  obtain ⟨-, -, e0, e1, -⟩ := idxOut t
  have k0 : ((((cfg0.win 8).blk t).view.emb y) 0 : ℕ) = t.val * 512 + (y 0).val := by blk_simp [e0]
  have k1 : ((((cfg0.win 8).blk t).view.emb y) 1 : ℕ) = (y 1).val := by blk_simp [e1]
  exact congrArg₂ (inK m c).ub (Fin.ext k0.symm) (Fin.ext k1.symm)
/-- The gates after the launch. -/
theorem arr9 (c : Dev nD) : (dats m 0 c).arrAt 9 cfg0.N = fun i => (inK m c).gt (i 0) (i 1) := by
  refine (dats m 0 c).arrAt_eq_of_covers 9 _ (by decide +kernel) fun t hf y => ?_
  blk_simp
  rw [after0_9]
  refine (o9 m c t _).trans ?_
  obtain ⟨-, -, -, -, e0, e1⟩ := idxOut t
  have k0 : ((((cfg0.win 9).blk t).view.emb y) 0 : ℕ) = (y 0).val := by blk_simp [e0]
  have k1 : ((((cfg0.win 9).blk t).view.emb y) 1 : ℕ) = t.val * 512 + (y 1).val := by blk_simp [e1]
  exact congrArg₂ (inK m c).gt (Fin.ext k0.symm) (Fin.ext k1.symm)

/-- The kernel as run: its arrays as functions of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c : Thread nD τ).loc main_v7_0) = (fun i => (inK m c).u (i 0) (i 1))
      ∧ r.2.mem ((c : Thread nD τ).loc main_v7_1) = (fun i => (inK m c).ub (i 0) (i 1))
      ∧ r.2.mem ((c : Thread nD τ).loc main_v7_2) = (fun i => (inK m c).gt (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨h7, h8, h9, hk⟩ := h c
    exact ⟨h7.trans (arr7 m c), h8.trans (arr8 m c), h9.trans (arr9 m c), hk⟩) (run_blocks m ρ)

end Cert.Kernel2Ideal.Value
end
-- ==== Proof.InProjR.lean ====
module

public import proofs.«01_k».proof.Proof.InProj
public import proofs.«01_k».proof.Proof.Gen.Reference2Ideal.Read
public import Idealize.ShloMosaic.Lib.Pipeline.ValueKit

/-! # The input projections as the reference computes them -/

@[expose] public section
noncomputable section
namespace Cert.Reference2Ideal.Read
open Cert.Reference2Ideal Cert.Reference2Ideal.Gen Idealize.ShloMosaic Cert.Rows Cert.InProj
set_option maxRecDepth 16384

/-- The arguments, entry by entry. -/
def inR (x0 : (⟨S16896x1024, .f32⟩ : BufTy).Contents (Elt Ideal)) (x1 : (⟨S16x6144, .f32⟩ : BufTy).Contents (Elt Ideal))
    (x2 : (⟨S1024, .f32⟩ : BufTy).Contents (Elt Ideal)) (x3 : (⟨S1024x3584, .bf16⟩ : BufTy).Contents (Elt Ideal))
    (x4 : (⟨S1024x4864, .bf16⟩ : BufTy).Contents (Elt Ideal)) (x5 : (⟨S8x1024, .bf16⟩ : BufTy).Contents (Elt Ideal)) : In where
  x i j := x0 (ix2 i j)
  mod i j := x1 (ix2 i j)
  g i := x2 (ix1 i)
  wlo i j := x3 (ix2 i j)
  whi i j := x4 (ix2 i j)
  wif i j := x5 (ix2 i j)

variable (x0 : (⟨S16896x1024, .f32⟩ : BufTy).Contents (Elt Ideal))
  (x1 : (⟨S16x6144, .f32⟩ : BufTy).Contents (Elt Ideal))
  (x2 : (⟨S1024, .f32⟩ : BufTy).Contents (Elt Ideal))
  (x3 : (⟨S1024x3584, .bf16⟩ : BufTy).Contents (Elt Ideal))
  (x4 : (⟨S1024x4864, .bf16⟩ : BufTy).Contents (Elt Ideal))
  (x5 : (⟨S8x1024, .bf16⟩ : BufTy).Contents (Elt Ideal))

/-- The normalised rows of the first batch. -/
theorem h_lo (b : Fin 8) (s : Fin 2048) (k : Fin 1024) : val_main_v26 (F := Ideal) x0 x1 x2 (ix3 b s k) = (inR x0 x1 x2 x3 x4 x5).h (rowLo b s) k := by
  pointwise [val_main_v26, val_main_v25, val_main_v24, val_main_v23, val_main_v22, val_main_v21, val_main_v20, val_main_cst_2, val_main_v19, val_main_v18, val_main_v17, val_main_v16, val_main_v15, val_main_v14, val_main_v13, val_main_v12, val_main_v11, val_main_cst_1, val_main_v10, val_main_v9, val_main_cst_0, val_main_v8, val_main_v7, val_main_cst, val_main_v6, val_main_v5, val_main_v4, val_main_v3, val_main_v2, val_main_v1, val_main_v0]
  unfold In.h
  rw [batch_lo b s (rowLo b s) rfl]
  rfl
/-- The normalised rows of the second batch. -/
theorem h_hi (b : Fin 8) (s : Fin 64) (k : Fin 1024) : val_main_v50 (F := Ideal) x0 x1 x2 (ix3 b s k) = (inR x0 x1 x2 x3 x4 x5).h (rowHi b s) k := by
  pointwise [val_main_v50, val_main_v49, val_main_v48, val_main_v47, val_main_v46, val_main_v45, val_main_v44, val_main_cst_6, val_main_v43, val_main_v42, val_main_v41, val_main_v40, val_main_v39, val_main_v38, val_main_v37, val_main_v36, val_main_v35, val_main_cst_5, val_main_v34, val_main_v33, val_main_cst_4, val_main_v32, val_main_v31, val_main_cst_3, val_main_v30, val_main_v29, val_main_v28, val_main_v3, val_main_v2]
  unfold In.h
  rw [batch_hi b s (rowHi b s) rfl]
  rfl
/-- The normalised rows. -/
theorem r_h (r : Fin 16896) (k : Fin 1024) : val_main_v52 (F := Ideal) x0 x1 x2 (ix2 r k) = (inR x0 x1 x2 x3 x4 x5).h r k := by
  pointwise [val_main_v52, val_main_v51, val_main_v27]
  by_cases h : r.val < 16384
  · rw [dif_pos h, h_lo x0 x1 x2 x3 x4 x5]
    exact congrArg (fun r => (inR x0 x1 x2 x3 x4 x5).h r k) (Fin.ext (by simp only; omega))
  · rw [dif_neg h, h_hi x0 x1 x2 x3 x4 x5]
    exact congrArg (fun r => (inR x0 x1 x2 x3 x4 x5).h r k) (Fin.ext (by simp only; omega))
/-- The projection by the first weights. -/
theorem r_lo (r : Fin 16896) (j : Fin 3584) : val_main_v54 (F := Ideal) x0 x1 x2 x3 (ix2 r j) = (inR x0 x1 x2 x3 x4 x5).lo r j := by
  pointwise [val_main_v54, val_main_v53]
  simp only [r_h x0 x1 x2 x3 x4 x5]
  rfl
/-- The projection by the second weights. -/
theorem r_hi (r : Fin 16896) (j : Fin 4864) : val_main_v56 (F := Ideal) x0 x1 x2 x4 (ix2 r j) = (inR x0 x1 x2 x3 x4 x5).hi r j := by
  pointwise [val_main_v56, val_main_v55]
  simp only [r_h x0 x1 x2 x3 x4 x5]
  rfl
/-- The gates. -/
theorem r_gt (i : Fin 8) (r : Fin 16896) : val_main_v59 (F := Ideal) x0 x1 x2 x5 (ix2 i r) = (inR x0 x1 x2 x3 x4 x5).gt i r := by
  pointwise [val_main_v59, val_main_v58, val_main_v57]
  simp only [r_h x0 x1 x2 x3 x4 x5]
  rfl
/-- The single-precision columns. -/
theorem r_u (r : Fin 16896) (l : Fin 3328) : val_main_v64 (F := Ideal) x0 x1 x2 x3 x4 (ix2 r l) = (inR x0 x1 x2 x3 x4 x5).u r l := by
  pointwise [val_main_v64, val_main_v63, val_main_v62, val_main_v61, val_main_v60]
  simp only [r_lo x0 x1 x2 x3 x4 x5, r_hi x0 x1 x2 x3 x4 x5]
  split_ifs
  all_goals first
    | exact In.u_0 _ r r l _ rfl (by omega) (by first | omega | (simp only; omega) | simp only)
    | exact In.u_1 _ r r l _ rfl (by omega) (by omega) (by first | omega | (simp only; omega))
    | exact In.u_2 _ r r l _ rfl (by omega) (by omega) (by first | omega | (simp only; omega))
    | exact In.u_3 _ r r l _ rfl (by omega) (by first | omega | (simp only; omega))
/-- The half-precision columns. -/
theorem r_ub (r : Fin 16896) (l : Fin 5120) : val_main_v69 (F := Ideal) x0 x1 x2 x3 x4 (ix2 r l) = (inR x0 x1 x2 x3 x4 x5).ub r l := by
  pointwise [val_main_v69, val_main_v68, val_main_v67, val_main_v66, val_main_v65]
  simp only [r_lo x0 x1 x2 x3 x4 x5, r_hi x0 x1 x2 x3 x4 x5]
  split_ifs
  all_goals first
    | exact In.ub_0 _ r r l _ rfl (by omega) (by first | omega | (simp only; omega) | simp only)
    | exact In.ub_1 _ r r l _ rfl (by omega) (by omega) (by first | omega | (simp only; omega))
    | exact In.ub_2 _ r r l _ rfl (by omega) (by first | omega | (simp only; omega))

end Cert.Reference2Ideal.Read
end
-- ==== Proof.InProjRefRun.lean ====
module

public import proofs.«01_k».proof.Proof.InProjR
public import proofs.«01_k».proof.Proof.Gen.Reference2Ideal.Run

/-! # The input projections of the reference as run -/

@[expose] public section
noncomputable section
namespace Cert.Reference2Ideal.Value
open Cert.Reference2Ideal Cert.Reference2Ideal.Gen Cert.Reference2Ideal.Read Idealize.ShloMosaic Idealize.ShloMosaic.TcCoe Idealize.SL.Sem Cert.InProj
set_option maxRecDepth 16384

variable (m : (ℓ : Loc nD τ sig) → Buf (Elt Ideal) ℓ)

/-- The reference's arguments as launched, entry by entry. -/
def inArgs (c : Dev nD) : In :=
  inR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The reference as run: its results as functions of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c.tc : Thread nD τ).loc main_v64) = (fun i => (inArgs m c).u (i 0) (i 1))
      ∧ r.2.mem ((c.tc : Thread nD τ).loc main_v69) = (fun i => (inArgs m c).ub (i 0) (i 1))
      ∧ r.2.mem ((c.tc : Thread nD τ).loc main_v59) = (fun i => (inArgs m c).gt (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, hk⟩ := h c
    refine ⟨(h0.trans (val_main_v64_eq _ _)).trans ?_, (h1.trans (val_main_v69_eq _ _)).trans ?_, (h2.trans (val_main_v59_eq _ _ _ _)).trans ?_, hk⟩
    · funext i
      exact (congrArg _ (ix2_eta i).symm).trans (r_u (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1))
    · funext i
      exact (congrArg _ (ix2_eta i).symm).trans (r_ub (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1))
    · funext i
      exact (congrArg _ (ix2_eta i).symm).trans (r_gt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1)))
    (run m ρ)

end Cert.Reference2Ideal.Value
end
-- ==== Proof.Ffn.lean ====
module

public import proofs.«01_k».proof.Proof.Rows

/-! # The dense feed-forward layer -/

@[expose] public section
noncomputable section
namespace Cert.Ffn
open Idealize.ShloMosaic Cert.Rows

/-- The arguments, entry by entry. -/
structure In where
  x : Fin 16896 → Fin 1024 → EReal
  mod : Fin 16 → Fin 6144 → EReal
  g : Fin 1024 → EReal
  w1 : Fin 1024 → Fin 2816 → EReal
  w3 : Fin 1024 → Fin 2816 → EReal
  w2 : Fin 2816 → Fin 1024 → EReal

/-- The normalised, modulated row. -/
def In.h (I : In) (r : Fin 16896) (k : Fin 1024) : EReal :=
  normRow (I.x r) I.g (fun k => I.mod (batch r) ⟨3072 + k.val, by omega⟩) (fun k => I.mod (batch r) ⟨4096 + k.val, by omega⟩) k
/-- The gate projection. -/
def In.a (I : In) (r : Fin 16896) (f : Fin 2816) : EReal := ∑ k, I.h r k * I.w1 k f
/-- The hidden layer. -/
def In.hid (I : In) (r : Fin 16896) (f : Fin 2816) : EReal := I.a r f * Ideal.logistic (I.a r f) * ∑ k, I.h r k * I.w3 k f
/-- The residual stream after the layer. -/
def In.out (I : In) (r : Fin 16896) (j : Fin 1024) : EReal :=
  I.x r j + (∑ f, I.hid r f * I.w2 f j) * I.mod (batch r) ⟨5120 + j.val, by omega⟩

end Cert.Ffn
end
-- ==== Proof.FfnK.lean ====
module

public import proofs.«01_k».proof.Proof.Ffn
public import proofs.«01_k».proof.Proof.Gen.Kernel3Ideal.Value
public import Idealize.ShloMosaic.Lib.Pipeline.ValueKit.Partial
public import Idealize.ShloMosaic.Lib.Pipeline.ReadBack
public import Idealize.ShloMosaic.Lib.StableHlo.ReadAt

/-! # The dense feed-forward layer as the kernel computes it -/

@[expose] public section
noncomputable section
namespace Cert.Kernel3Ideal.Value
open Cert.Kernel3Ideal Cert.Kernel3Ideal.Gen Idealize.ShloMosaic Idealize.ShloMosaic.TcCoe Idealize.SL.Sem Cert.Rows Cert.Ffn
set_option maxRecDepth 16384

variable (m : (ℓ : Loc nD τ sig) → Buf (Elt Ideal) ℓ)

/-- The arguments as launched, entry by entry. -/
def inK (c : Dev nD) : In where
  x i j := m ((c : Thread nD τ).loc main_arg0) (ix2 i j)
  mod i j := m ((c : Thread nD τ).loc main_arg1) (ix2 i j)
  g i := m ((c : Thread nD τ).loc main_arg2) (ix1 i)
  w1 i j := m ((c : Thread nD τ).loc main_arg3) (ix2 i j)
  w3 i j := m ((c : Thread nD τ).loc main_arg4) (ix2 i j)
  w2 i j := m ((c : Thread nD τ).loc main_arg5) (ix2 i j)

/-- The launch has 33 grid points. -/
theorem lt33 (t : Fin cfg0.N) : t.val < 33 := t.isLt

/-- The table of groups. -/
theorem table : ∀ c : Fin 264, lit0 c = BitVec.ofNat 32 (group c).val := by decide +kernel

/-- The modulation row that the host code lays out for a group of 64 rows. -/
theorem V5 (c : Dev nD) (g : Fin 264) (l : Fin 6144) : V m c main_v5 (ix3 g 0 l) = m ((c : Thread nD τ).loc main_arg1) (ix2 (group g) l) := by
  unfold V
  after_reads_at
  exact Routing.gather_row _ rfl rfl rfl rfl rfl _ _ g l (group g) ((congrArg lit0 (Fin.ext (Shape.rowMajor_val_one _))).trans (table g)) (by omega)
/-- The first projection's weights, cast. -/
theorem V6 (c : Dev nD) (i : Fin 1024) (j : Fin 2816) : V m c main_v6 (ix2 i j) = (inK m c).w1 i j := by
  unfold V
  after_reads_at
  rfl
/-- The second projection's weights, cast. -/
theorem V7 (c : Dev nD) (i : Fin 1024) (j : Fin 2816) : V m c main_v7 (ix2 i j) = (inK m c).w3 i j := by
  unfold V
  after_reads_at
  rfl
/-- The last projection's weights, cast. -/
theorem V8 (c : Dev nD) (i : Fin 2816) (j : Fin 1024) : V m c main_v8 (ix2 i j) = (inK m c).w2 i j := by
  unfold V
  after_reads_at
  rfl
/-- The gain, as a row. -/
theorem V9 (c : Dev nD) (j : Fin 1024) : V m c main_v9 (ix2 0 j) = (inK m c).g j := by
  unfold V
  after_reads_at
  rfl

/-- The blocks that the windows stage at a point. -/
theorem idx : ∀ t : Fin grid0.N, win0_0.index t = ![t.val, 0] ∧ win0_1.index t = ![t.val, 0, 3] ∧ win0_2.index t = ![t.val, 0, 4]
    ∧ win0_3.index t = ![0, 0] ∧ win0_4.index t = ![t.val, 0, 5] ∧ win0_5.index t = ![0, 0] ∧ win0_6.index t = ![0, 0]
    ∧ win0_7.index t = ![0, 0] := by decide +kernel

/-- The row of the arrays that a point's row is. -/
abbrev rowOf (t : Fin cfg0.N) (s : Fin 512) : Fin 16896 := ⟨t.val * 512 + s.val, by have := lt33 t; omega⟩
/-- The group of 64 rows that a point's row is in. -/
abbrev groupOf (t : Fin cfg0.N) (g : Fin 8) : Fin 264 := ⟨t.val * 8 + g.val, by have := lt33 t; omega⟩
/-- A row's sequence is its group's. -/
theorem group_row (t : Fin cfg0.N) (s : Fin 512) : group (groupOf t ⟨s.val / 64, by omega⟩) = batch (rowOf t s) :=
  group_of _ _ (by simp only; omega)

/-- The rows. -/
theorem blk0 (c : Dev nD) (t : Fin cfg0.N) (s : Fin 512) (j : Fin 1024) : iblk m c 0 t (ix2 s j) = (inK m c).x (rowOf t s) j := by
  unfold inK
  blk_ext [iblk, V, idx t]
/-- The shift. -/
theorem blk1 (c : Dev nD) (t : Fin cfg0.N) (g : Fin 8) (j : Fin 1024) :
    iblk m c 1 t (ix3 g 0 j) = (inK m c).mod (group (groupOf t g)) ⟨3072 + j.val, by omega⟩ := by
  refine Eq.trans ?_ (V5 m c (groupOf t g) ⟨3072 + j.val, by omega⟩)
  blk_ext [iblk, idx t]
/-- The scale. -/
theorem blk2 (c : Dev nD) (t : Fin cfg0.N) (g : Fin 8) (j : Fin 1024) :
    iblk m c 2 t (ix3 g 0 j) = (inK m c).mod (group (groupOf t g)) ⟨4096 + j.val, by omega⟩ := by
  refine Eq.trans ?_ (V5 m c (groupOf t g) ⟨4096 + j.val, by omega⟩)
  blk_ext [iblk, idx t]
/-- The gate. -/
theorem blk4 (c : Dev nD) (t : Fin cfg0.N) (g : Fin 8) (j : Fin 1024) :
    iblk m c 4 t (ix3 g 0 j) = (inK m c).mod (group (groupOf t g)) ⟨5120 + j.val, by omega⟩ := by
  refine Eq.trans ?_ (V5 m c (groupOf t g) ⟨5120 + j.val, by omega⟩)
  blk_ext [iblk, idx t]
/-- The gain. -/
theorem blk3 (c : Dev nD) (t : Fin cfg0.N) (j : Fin 1024) : iblk m c 3 t (ix2 0 j) = (inK m c).g j := by
  refine Eq.trans ?_ (V9 m c j)
  blk_ext [iblk, idx t]
/-- The first projection's weights. -/
theorem blk5 (c : Dev nD) (t : Fin cfg0.N) (i : Fin 1024) (j : Fin 2816) : iblk m c 5 t (ix2 i j) = (inK m c).w1 i j := by
  refine Eq.trans ?_ (V6 m c i j)
  blk_ext [iblk, idx t]
/-- The second projection's weights. -/
theorem blk6 (c : Dev nD) (t : Fin cfg0.N) (i : Fin 1024) (j : Fin 2816) : iblk m c 6 t (ix2 i j) = (inK m c).w3 i j := by
  refine Eq.trans ?_ (V7 m c i j)
  blk_ext [iblk, idx t]
/-- The last projection's weights. -/
theorem blk7 (c : Dev nD) (t : Fin cfg0.N) (i : Fin 2816) (j : Fin 1024) : iblk m c 7 t (ix2 i j) = (inK m c).w2 i j := by
  refine Eq.trans ?_ (V8 m c i j)
  blk_ext [iblk, idx t]

/-- The normalised rows of a point. -/
theorem hAt (c : Dev nD) (t : Fin cfg0.N) (s : Fin 512) (k : Fin 1024) :
    k0_pay1 (iblk m c 0 t) (iblk m c 3 t) (iblk m c 2 t) (iblk m c 1 t) (ix2 s k) = (inK m c).h (rowOf t s) k := by
  pointwise [k0_pay1]
  simp only [blk0, blk1, blk2, blk3]
  rw [group_row]
  rfl

/-- What one run of the body leaves in its output window. -/
theorem o8 (c : Dev nD) (t : Fin cfg0.N) (y : S512x1024.Idx) : outsAt0 m c t y = (inK m c).out (rowOf t (y 0)) (y 1) := by
  unfold outsAt0
  frame_open
  simp (disch := decide) only [↓ View.readCov_skip, ↓ View.readCov_cons_toLoadRect, ↓ View.readCov_fill]
  frame_out
  refine Eq.trans (congrArg _ (ix2_eta y).symm) ?_
  generalize y 0 = s
  generalize y 1 = j
  change (Fin 512) at s
  change (Fin 1024) at j
  have hH := hAt m c t
  generalize k0_pay1 (iblk m c 0 t) (iblk m c 3 t) (iblk m c 2 t) (iblk m c 1 t) = H at hH ⊢
  pointwise [k0_pay5, k0_pay4, k0_pay3, k0_pay2]
  simp only [hH, blk0, blk4, blk5, blk6, blk7]
  rw [group_row]
  unfold In.out
  rw [sum_chunks]
  rfl

/-- Where each point writes its result. -/
theorem idxOut (t : Fin cfg0.N) : win0_8.index t 0 = t.val ∧ win0_8.index t 1 = 0 :=
  (by decide +kernel : ∀ t : Fin grid0.N, win0_8.index t 0 = t.val ∧ win0_8.index t 1 = 0) t
/-- The output array after the launch. -/
theorem arr8 (c : Dev nD) : (dats m 0 c).arrAt 8 cfg0.N = fun i => (inK m c).out (i 0) (i 1) := by
  refine (dats m 0 c).arrAt_eq_of_covers 8 _ (by decide +kernel) fun t hf y => ?_
  blk_simp
  rw [after0_8]
  refine (o8 m c t _).trans ?_
  obtain ⟨e0, e1⟩ := idxOut t
  have k0 : ((((cfg0.win 8).blk t).view.emb y) 0 : ℕ) = t.val * 512 + (y 0).val := by blk_simp [e0]
  have k1 : ((((cfg0.win 8).blk t).view.emb y) 1 : ℕ) = (y 1).val := by blk_simp [e1]
  exact congrArg₂ (inK m c).out (Fin.ext k0.symm) (Fin.ext k1.symm)

/-- The kernel as run: its array as a function of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c : Thread nD τ).loc main_v10) = (fun i => (inK m c).out (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (arr8 m c), (h c).2⟩) (run_blocks m ρ)

end Cert.Kernel3Ideal.Value
end
-- ==== Proof.FfnR.lean ====
module

public import proofs.«01_k».proof.Proof.Ffn
public import proofs.«01_k».proof.Proof.Gen.Reference3Ideal.Read
public import Idealize.ShloMosaic.Lib.Pipeline.ValueKit

/-! # The dense feed-forward layer as the reference computes it -/

@[expose] public section
noncomputable section
namespace Cert.Reference3Ideal.Read
open Cert.Reference3Ideal Cert.Reference3Ideal.Gen Idealize.ShloMosaic Cert.Rows Cert.Ffn
set_option maxRecDepth 16384

/-- The arguments, entry by entry. -/
def inR (x0 : (⟨S16896x1024, .f32⟩ : BufTy).Contents (Elt Ideal)) (x1 : (⟨S16x6144, .f32⟩ : BufTy).Contents (Elt Ideal))
    (x2 : (⟨S1024, .f32⟩ : BufTy).Contents (Elt Ideal)) (x3 : (⟨S1024x2816, .f32⟩ : BufTy).Contents (Elt Ideal))
    (x4 : (⟨S1024x2816, .f32⟩ : BufTy).Contents (Elt Ideal)) (x5 : (⟨S2816x1024, .f32⟩ : BufTy).Contents (Elt Ideal)) : In where
  x i j := x0 (ix2 i j)
  mod i j := x1 (ix2 i j)
  g i := x2 (ix1 i)
  w1 i j := x3 (ix2 i j)
  w3 i j := x4 (ix2 i j)
  w2 i j := x5 (ix2 i j)

variable (x0 : (⟨S16896x1024, .f32⟩ : BufTy).Contents (Elt Ideal))
  (x1 : (⟨S16x6144, .f32⟩ : BufTy).Contents (Elt Ideal))
  (x2 : (⟨S1024, .f32⟩ : BufTy).Contents (Elt Ideal))
  (x3 : (⟨S1024x2816, .f32⟩ : BufTy).Contents (Elt Ideal))
  (x4 : (⟨S1024x2816, .f32⟩ : BufTy).Contents (Elt Ideal))
  (x5 : (⟨S2816x1024, .f32⟩ : BufTy).Contents (Elt Ideal))

/-- The normalised rows of the first batch. -/
theorem h_lo (b : Fin 8) (s : Fin 2048) (k : Fin 1024) : val_main_v27 (F := Ideal) x0 x1 x2 (ix3 b s k) = (inR x0 x1 x2 x3 x4 x5).h (rowLo b s) k := by
  pointwise [val_main_v27, val_main_v26, val_main_v25, val_main_v24, val_main_v23, val_main_v22, val_main_v21, val_main_cst_2, val_main_v20, val_main_v19, val_main_v18, val_main_v17, val_main_v16, val_main_v15, val_main_v14, val_main_v13, val_main_v12, val_main_cst_1, val_main_v11, val_main_v10, val_main_cst_0, val_main_v9, val_main_v8, val_main_cst, val_main_v7, val_main_v6, val_main_v5, val_main_v4, val_main_v1, val_main_v0]
  unfold In.h
  rw [batch_lo b s (rowLo b s) rfl]
  rfl
/-- The hidden layer of the first batch. -/
theorem hid_lo (b : Fin 8) (s : Fin 2048) (f : Fin 2816) : val_main_v31 (F := Ideal) x0 x1 x2 x3 x4 (ix3 b s f) = (inR x0 x1 x2 x3 x4 x5).hid (rowLo b s) f := by
  pointwise [val_main_v31, val_main_v30, val_main_v29, val_main_call0_v5, val_main_call0_v4, val_main_call0_cst_0, val_main_call0_v3, val_main_call0_v2, val_main_call0_cst, val_main_call0_v1, val_main_call0_v0, val_main_v28]
  simp only [h_lo x0 x1 x2 x3 x4 x5]
  rfl
/-- The layer's rows of the first batch. -/
theorem f_lo (b : Fin 8) (s : Fin 2048) (j : Fin 1024) : val_main_v36 (F := Ideal) x0 x1 x2 x3 x4 x5 (ix3 b s j) = (inR x0 x1 x2 x3 x4 x5).out (rowLo b s) j := by
  pointwise [val_main_v36, val_main_v35, val_main_v34, val_main_v33, val_main_v32, val_main_v6, val_main_v1, val_main_v0]
  simp only [hid_lo x0 x1 x2 x3 x4 x5]
  unfold In.out
  rw [batch_lo b s (rowLo b s) rfl]
  rfl
/-- The normalised rows of the second batch. -/
theorem h_hi (b : Fin 8) (s : Fin 64) (k : Fin 1024) : val_main_v60 (F := Ideal) x0 x1 x2 (ix3 b s k) = (inR x0 x1 x2 x3 x4 x5).h (rowHi b s) k := by
  pointwise [val_main_v60, val_main_v59, val_main_v58, val_main_v57, val_main_v56, val_main_v55, val_main_v54, val_main_cst_6, val_main_v53, val_main_v52, val_main_v51, val_main_v50, val_main_v49, val_main_v48, val_main_v47, val_main_v46, val_main_v45, val_main_cst_5, val_main_v44, val_main_v43, val_main_cst_4, val_main_v42, val_main_v41, val_main_cst_3, val_main_v40, val_main_v39, val_main_v38, val_main_v37, val_main_v3, val_main_v2]
  unfold In.h
  rw [batch_hi b s (rowHi b s) rfl]
  rfl
/-- The hidden layer of the second batch. -/
theorem hid_hi (b : Fin 8) (s : Fin 64) (f : Fin 2816) : val_main_v64 (F := Ideal) x0 x1 x2 x3 x4 (ix3 b s f) = (inR x0 x1 x2 x3 x4 x5).hid (rowHi b s) f := by
  pointwise [val_main_v64, val_main_v63, val_main_v62, val_main_call1_v5, val_main_call1_v4, val_main_call1_cst_0, val_main_call1_v3, val_main_call1_v2, val_main_call1_cst, val_main_call1_v1, val_main_call1_v0, val_main_v61]
  simp only [h_hi x0 x1 x2 x3 x4 x5]
  rfl
/-- The layer's rows of the second batch. -/
theorem f_hi (b : Fin 8) (s : Fin 64) (j : Fin 1024) : val_main_v69 (F := Ideal) x0 x1 x2 x3 x4 x5 (ix3 b s j) = (inR x0 x1 x2 x3 x4 x5).out (rowHi b s) j := by
  pointwise [val_main_v69, val_main_v68, val_main_v67, val_main_v66, val_main_v65, val_main_v39, val_main_v3, val_main_v2]
  simp only [hid_hi x0 x1 x2 x3 x4 x5]
  unfold In.out
  rw [batch_hi b s (rowHi b s) rfl]
  rfl
/-- The residual stream after the layer. -/
theorem r_out (r : Fin 16896) (j : Fin 1024) : val_main_v72 (F := Ideal) x0 x1 x2 x3 x4 x5 (ix2 r j) = (inR x0 x1 x2 x3 x4 x5).out r j := by
  pointwise [val_main_v72, val_main_v71, val_main_v70]
  by_cases h : r.val < 16384
  · rw [dif_pos h, f_lo]
    exact congrArg (fun r => (inR x0 x1 x2 x3 x4 x5).out r j) (Fin.ext (by simp only; omega))
  · rw [dif_neg h, f_hi]
    exact congrArg (fun r => (inR x0 x1 x2 x3 x4 x5).out r j) (Fin.ext (by simp only; omega))

end Cert.Reference3Ideal.Read
end
-- ==== Proof.FfnRefRun.lean ====
module

public import proofs.«01_k».proof.Proof.FfnR
public import proofs.«01_k».proof.Proof.Gen.Reference3Ideal.Run

/-! # The dense feed-forward layer of the reference as run -/

@[expose] public section
noncomputable section
namespace Cert.Reference3Ideal.Value
open Cert.Reference3Ideal Cert.Reference3Ideal.Gen Cert.Reference3Ideal.Read Idealize.ShloMosaic Idealize.ShloMosaic.TcCoe Idealize.SL.Sem Cert.Ffn
set_option maxRecDepth 16384

variable (m : (ℓ : Loc nD τ sig) → Buf (Elt Ideal) ℓ)

/-- The reference's arguments as launched, entry by entry. -/
def inArgs (c : Dev nD) : In :=
  inR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The reference as run: its results as functions of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c.tc : Thread nD τ).loc main_v72) = (fun i => (inArgs m c).out (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, hk⟩ := h c
    refine ⟨(h0.trans (val_main_v72_eq _ _)).trans ?_, hk⟩
    · funext i
      exact (congrArg _ (ix2_eta i).symm).trans (r_out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1)))
    (run m ρ)

end Cert.Reference3Ideal.Value
end
-- ==== Proof.Merge.lean ====
module

public import proofs.«01_k».proof.Proof.Rows

/-! # The merge of the three mixers -/

@[expose] public section
noncomputable section
namespace Cert.Merge
open Idealize.ShloMosaic Cert.Rows

/-- The arguments, entry by entry. -/
@[ext] structure In where
  ya : Fin 16896 → Fin 512 → EReal
  yb : Fin 16896 → Fin 1024 → EReal
  yc : Fin 16896 → Fin 512 → EReal
  ub : Fin 16896 → Fin 5120 → EReal
  x : Fin 16896 → Fin 1024 → EReal
  mod : Fin 16 → Fin 6144 → EReal
  wa : Fin 512 → Fin 1024 → EReal
  wb : Fin 1024 → Fin 1024 → EReal
  wc : Fin 512 → Fin 1024 → EReal
  wo : Fin 1024 → Fin 1024 → EReal

/-- The gated sum of the three projections. -/
def In.merged (I : In) (r : Fin 16896) (k : Fin 1024) : EReal :=
  Ideal.logistic (I.ub r ⟨k.val, by omega⟩) * ∑ i, I.ya r i * I.wa i k
    + Ideal.logistic (I.ub r ⟨1024 + k.val, by omega⟩) * ∑ i, I.yb r i * I.wb i k
    + Ideal.logistic (I.ub r ⟨2048 + k.val, by omega⟩) * ∑ i, I.yc r i * I.wc i k
/-- Its projection. -/
def In.o (I : In) (r : Fin 16896) (j : Fin 1024) : EReal := ∑ k, I.merged r k * I.wo k j
/-- The residual stream after the merge. -/
def In.out (I : In) (r : Fin 16896) (j : Fin 1024) : EReal := I.x r j + I.o r j * I.mod (batch r) ⟨2048 + j.val, by omega⟩

end Cert.Merge
end
-- ==== Proof.MergeK.lean ====
module

public import proofs.«01_k».proof.Proof.Merge
public import proofs.«01_k».proof.Proof.Gen.Kernel4Ideal.Value
public import Idealize.ShloMosaic.Lib.Pipeline.ValueKit.Partial
public import Idealize.ShloMosaic.Lib.Pipeline.ReadBack
public import Idealize.ShloMosaic.Lib.StableHlo.ReadAt

/-! # The merge of the three mixers as the kernel computes it -/

@[expose] public section
noncomputable section
namespace Cert.Kernel4Ideal.Value
open Cert.Kernel4Ideal Cert.Kernel4Ideal.Gen Idealize.ShloMosaic Idealize.ShloMosaic.TcCoe Idealize.SL.Sem Cert.Rows Cert.Merge
set_option maxRecDepth 16384

variable (m : (ℓ : Loc nD τ sig) → Buf (Elt Ideal) ℓ)

/-- The arguments as launched, entry by entry. -/
def inK (c : Dev nD) : In where
  ya i j := m ((c : Thread nD τ).loc main_arg0) (ix2 i j)
  yb i j := m ((c : Thread nD τ).loc main_arg1) (ix2 i j)
  yc i j := m ((c : Thread nD τ).loc main_arg2) (ix2 i j)
  ub i j := m ((c : Thread nD τ).loc main_arg3) (ix2 i j)
  x i j := m ((c : Thread nD τ).loc main_arg4) (ix2 i j)
  mod i j := m ((c : Thread nD τ).loc main_arg5) (ix2 i j)
  wa i j := m ((c : Thread nD τ).loc main_arg6) (ix2 i j)
  wb i j := m ((c : Thread nD τ).loc main_arg7) (ix2 i j)
  wc i j := m ((c : Thread nD τ).loc main_arg8) (ix2 i j)
  wo i j := m ((c : Thread nD τ).loc main_arg9) (ix2 i j)

/-- The launch has 33 grid points. -/
theorem lt33 (t : Fin cfg0.N) : t.val < 33 := t.isLt

/-- The table of groups. -/
theorem table : ∀ c : Fin 264, lit0 c = BitVec.ofNat 32 (group c).val := by decide +kernel

/-- The modulation row that the host code lays out for a group of 64 rows. -/
theorem V5 (c : Dev nD) (g : Fin 264) (l : Fin 6144) : V m c main_v5 (ix3 g 0 l) = m ((c : Thread nD τ).loc main_arg5) (ix2 (group g) l) := by
  unfold V
  after_reads_at
  exact Routing.gather_row _ rfl rfl rfl rfl rfl _ _ g l (group g) ((congrArg lit0 (Fin.ext (Shape.rowMajor_val_one _))).trans (table g)) (by omega)

/-- The blocks that the windows stage at a point. -/
theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0, 2] ∧ win0_6.index t = ![0, 0]
    ∧ win0_7.index t = ![0, 0] ∧ win0_8.index t = ![0, 0] ∧ win0_9.index t = ![0, 0] ∧ win0_10.index t = ![t.val, 0] := by decide +kernel

/-- The row of the arrays that a point's row is. -/
abbrev rowOf (t : Fin cfg0.N) (s : Fin 512) : Fin 16896 := ⟨t.val * 512 + s.val, by have := lt33 t; omega⟩

/-- The rows of the first mixer. -/
theorem blk0 (c : Dev nD) (t : Fin cfg0.N) (s : Fin 512) (j : Fin 512) : iblk m c 0 t (ix2 s j) = (inK m c).ya (rowOf t s) j := by
  unfold inK
  blk_ext [iblk, V, idx t]
/-- The rows of the second mixer. -/
theorem blk1 (c : Dev nD) (t : Fin cfg0.N) (s : Fin 512) (j : Fin 1024) : iblk m c 1 t (ix2 s j) = (inK m c).yb (rowOf t s) j := by
  unfold inK
  blk_ext [iblk, V, idx t]
/-- The rows of the third mixer. -/
theorem blk2 (c : Dev nD) (t : Fin cfg0.N) (s : Fin 512) (j : Fin 512) : iblk m c 2 t (ix2 s j) = (inK m c).yc (rowOf t s) j := by
  unfold inK
  blk_ext [iblk, V, idx t]
/-- The gates' columns. -/
theorem blk3 (c : Dev nD) (t : Fin cfg0.N) (s : Fin 512) (j : Fin 3072) : X0_3 m c t (ix2 s j) = (inK m c).ub (rowOf t s) ⟨j.val, by omega⟩ := by
  unfold X0_3 Pipeline.Window.fill
  rw [dif_pos (moved0_3 t _)]
  unfold inK
  blk_ext [iblk, V, idx t]
/-- The residual stream. -/
theorem blk4 (c : Dev nD) (t : Fin cfg0.N) (s : Fin 512) (j : Fin 1024) : iblk m c 4 t (ix2 s j) = (inK m c).x (rowOf t s) j := by
  unfold inK
  blk_ext [iblk, V, idx t]
/-- The first mixer's weights. -/
theorem V6 (c : Dev nD) (i : Fin 512) (j : Fin 1024) : V m c main_v6 (ix2 i j) = (inK m c).wa i j := by
  unfold V
  after_reads_at
  rfl
/-- The second mixer's weights. -/
theorem V7 (c : Dev nD) (i : Fin 1024) (j : Fin 1024) : V m c main_v7 (ix2 i j) = (inK m c).wb i j := by
  unfold V
  after_reads_at
  rfl
/-- The third mixer's weights. -/
theorem V8 (c : Dev nD) (i : Fin 512) (j : Fin 1024) : V m c main_v8 (ix2 i j) = (inK m c).wc i j := by
  unfold V
  after_reads_at
  rfl
/-- The output weights. -/
theorem V9 (c : Dev nD) (i : Fin 1024) (j : Fin 1024) : V m c main_v9 (ix2 i j) = (inK m c).wo i j := by
  unfold V
  after_reads_at
  rfl
/-- The output gate of a group. -/
theorem blk5 (c : Dev nD) (t : Fin cfg0.N) (g : Fin 8) (j : Fin 1024) :
    iblk m c 5 t (ix3 g 0 j) = (inK m c).mod (group ⟨t.val * 8 + g.val, by have := lt33 t; omega⟩) ⟨2048 + j.val, by omega⟩ := by
  refine Eq.trans ?_ (V5 m c ⟨t.val * 8 + g.val, by have := lt33 t; omega⟩ ⟨2048 + j.val, by omega⟩)
  blk_ext [iblk, idx t]
/-- The first mixer's weights, staged. -/
theorem blk6 (c : Dev nD) (t : Fin cfg0.N) (i : Fin 512) (j : Fin 1024) : iblk m c 6 t (ix2 i j) = (inK m c).wa i j := by
  refine Eq.trans ?_ (V6 m c i j)
  blk_ext [iblk, idx t]
/-- The second mixer's weights, staged. -/
theorem blk7 (c : Dev nD) (t : Fin cfg0.N) (i : Fin 1024) (j : Fin 1024) : iblk m c 7 t (ix2 i j) = (inK m c).wb i j := by
  refine Eq.trans ?_ (V7 m c i j)
  blk_ext [iblk, idx t]
/-- The third mixer's weights, staged. -/
theorem blk8 (c : Dev nD) (t : Fin cfg0.N) (i : Fin 512) (j : Fin 1024) : iblk m c 8 t (ix2 i j) = (inK m c).wc i j := by
  refine Eq.trans ?_ (V8 m c i j)
  blk_ext [iblk, idx t]
/-- The output weights, staged. -/
theorem blk9 (c : Dev nD) (t : Fin cfg0.N) (i : Fin 1024) (j : Fin 1024) : iblk m c 9 t (ix2 i j) = (inK m c).wo i j := by
  refine Eq.trans ?_ (V9 m c i j)
  blk_ext [iblk, idx t]

/-- What one run of the body leaves in its output window. -/
theorem o10 (c : Dev nD) (t : Fin cfg0.N) (y : S512x1024.Idx) : outsAt0 m c t y = (inK m c).out (rowOf t (y 0)) (y 1) := by
  unfold outsAt0
  frame_open
  simp (disch := decide) only [↓ View.readCov_skip, ↓ View.readCov_cons_toLoadRect, ↓ View.readCov_fill]
  frame_out
  refine Eq.trans (congrArg _ (ix2_eta y).symm) ?_
  generalize y 0 = s
  generalize y 1 = j
  change (Fin 512) at s
  change (Fin 1024) at j
  pointwise [k0_pay1, k0_pay2]
  simp only [blk0, blk1, blk2, blk3, blk4, blk5, blk6, blk7, blk8, blk9]
  rw [group_of _ (rowOf t s) (by simp only; omega)]
  rfl

/-- Where each point writes its result. -/
theorem idxOut (t : Fin cfg0.N) : win0_10.index t 0 = t.val ∧ win0_10.index t 1 = 0 :=
  (by decide +kernel : ∀ t : Fin grid0.N, win0_10.index t 0 = t.val ∧ win0_10.index t 1 = 0) t
/-- The output array after the launch. -/
theorem arr10 (c : Dev nD) : (dats m 0 c).arrAt 10 cfg0.N = fun i => (inK m c).out (i 0) (i 1) := by
  refine (dats m 0 c).arrAt_eq_of_covers 10 _ (by decide +kernel) fun t hf y => ?_
  blk_simp
  rw [after0_10]
  refine (o10 m c t _).trans ?_
  obtain ⟨e0, e1⟩ := idxOut t
  have k0 : ((((cfg0.win 10).blk t).view.emb y) 0 : ℕ) = t.val * 512 + (y 0).val := by blk_simp [e0]
  have k1 : ((((cfg0.win 10).blk t).view.emb y) 1 : ℕ) = (y 1).val := by blk_simp [e1]
  exact congrArg₂ (inK m c).out (Fin.ext k0.symm) (Fin.ext k1.symm)

/-- The kernel as run: its array as a function of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c : Thread nD τ).loc main_v10) = (fun i => (inK m c).out (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (arr10 m c), (h c).2⟩) (run_blocks m ρ)

end Cert.Kernel4Ideal.Value
end
-- ==== Proof.MergeR.lean ====
module

public import proofs.«01_k».proof.Proof.Merge
public import proofs.«01_k».proof.Proof.Gen.Reference4Ideal.Read
public import Idealize.ShloMosaic.Lib.Pipeline.ValueKit

/-! # The merge of the three mixers as the reference computes it -/

@[expose] public section
noncomputable section
namespace Cert.Reference4Ideal.Read
open Cert.Reference4Ideal Cert.Reference4Ideal.Gen Idealize.ShloMosaic Cert.Rows Cert.Merge
set_option maxRecDepth 16384

/-- The arguments, entry by entry. -/
def inR (x0 : (⟨S16896x512, .bf16⟩ : BufTy).Contents (Elt Ideal)) (x1 : (⟨S16896x1024, .bf16⟩ : BufTy).Contents (Elt Ideal))
    (x2 : (⟨S16896x512, .bf16⟩ : BufTy).Contents (Elt Ideal)) (x3 : (⟨S16896x5120, .bf16⟩ : BufTy).Contents (Elt Ideal))
    (x4 : (⟨S16896x1024, .f32⟩ : BufTy).Contents (Elt Ideal)) (x5 : (⟨S16x6144, .f32⟩ : BufTy).Contents (Elt Ideal))
    (x6 : (⟨S512x1024, .f32⟩ : BufTy).Contents (Elt Ideal)) (x7 : (⟨S1024x1024, .f32⟩ : BufTy).Contents (Elt Ideal))
    (x8 : (⟨S512x1024, .f32⟩ : BufTy).Contents (Elt Ideal)) (x9 : (⟨S1024x1024, .f32⟩ : BufTy).Contents (Elt Ideal)) : In where
  ya i j := x0 (ix2 i j)
  yb i j := x1 (ix2 i j)
  yc i j := x2 (ix2 i j)
  ub i j := x3 (ix2 i j)
  x i j := x4 (ix2 i j)
  mod i j := x5 (ix2 i j)
  wa i j := x6 (ix2 i j)
  wb i j := x7 (ix2 i j)
  wc i j := x8 (ix2 i j)
  wo i j := x9 (ix2 i j)

variable (x0 : (⟨S16896x512, .bf16⟩ : BufTy).Contents (Elt Ideal))
  (x1 : (⟨S16896x1024, .bf16⟩ : BufTy).Contents (Elt Ideal))
  (x2 : (⟨S16896x512, .bf16⟩ : BufTy).Contents (Elt Ideal))
  (x3 : (⟨S16896x5120, .bf16⟩ : BufTy).Contents (Elt Ideal))
  (x4 : (⟨S16896x1024, .f32⟩ : BufTy).Contents (Elt Ideal))
  (x5 : (⟨S16x6144, .f32⟩ : BufTy).Contents (Elt Ideal))
  (x6 : (⟨S512x1024, .f32⟩ : BufTy).Contents (Elt Ideal))
  (x7 : (⟨S1024x1024, .f32⟩ : BufTy).Contents (Elt Ideal))
  (x8 : (⟨S512x1024, .f32⟩ : BufTy).Contents (Elt Ideal))
  (x9 : (⟨S1024x1024, .f32⟩ : BufTy).Contents (Elt Ideal))

/-- The projected sum. -/
theorem r_o (r : Fin 16896) (j : Fin 1024) : val_main_v22 (F := Ideal) x0 x1 x2 x3 x6 x7 x8 x9 (ix2 r j) = (inR x0 x1 x2 x3 x4 x5 x6 x7 x8 x9).o r j := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst_0, val_main_v5, val_main_v4, val_main_cst, val_main_v3, val_main_v2, val_main_v1, val_main_v0]
  rfl

/-- The gated rows of the first batch. -/
theorem r_lo (r : Fin 16384) (j : Fin 1024) : val_main_v36 (F := Ideal) x0 x1 x2 x3 x5 x6 x7 x8 x9 (ix2 r j)
    = (inR x0 x1 x2 x3 x4 x5 x6 x7 x8 x9).o ⟨r.val, by omega⟩ j * x5 (ix2 ⟨r.val / 2048, by omega⟩ ⟨2048 + j.val, by omega⟩) := by
  pointwise [val_main_v36, val_main_v29, val_main_v28, val_main_v27, val_main_v26, val_main_v25, val_main_v24, val_main_v23]
  rw [r_o x0 x1 x2 x3 x4 x5 x6 x7 x8 x9]

/-- The gated rows of the second batch. -/
theorem r_hi (r : Fin 512) (j : Fin 1024) : val_main_v37 (F := Ideal) x0 x1 x2 x3 x5 x6 x7 x8 x9 (ix2 r j)
    = (inR x0 x1 x2 x3 x4 x5 x6 x7 x8 x9).o ⟨16384 + r.val, by omega⟩ j * x5 (ix2 ⟨8 + r.val / 64, by omega⟩ ⟨2048 + j.val, by omega⟩) := by
  pointwise [val_main_v37, val_main_v35, val_main_v34, val_main_v33, val_main_v32, val_main_v31, val_main_v30, val_main_v23]
  rw [r_o x0 x1 x2 x3 x4 x5 x6 x7 x8 x9]

/-- The residual stream after the merge. -/
theorem r_out (r : Fin 16896) (j : Fin 1024) : val_main_v39 (F := Ideal) x0 x1 x2 x3 x4 x5 x6 x7 x8 x9 (ix2 r j) = (inR x0 x1 x2 x3 x4 x5 x6 x7 x8 x9).out r j := by
  pointwise [val_main_v39, val_main_v38]
  unfold In.out batch
  by_cases h : r.val < 16384
  · rw [dif_pos h, dif_pos h, r_lo]
    rfl
  · rw [dif_neg h, dif_neg h, r_hi]
    have e : (⟨16384 + (r.val - 16384), by omega⟩ : Fin 16896) = r := Fin.ext (by simp only; omega)
    rw [e]
    rfl

end Cert.Reference4Ideal.Read
end
-- ==== Proof.MergeRefRun.lean ====
module

public import proofs.«01_k».proof.Proof.MergeR
public import proofs.«01_k».proof.Proof.Gen.Reference4Ideal.Run

/-! # The merge of the three mixers of the reference as run -/

@[expose] public section
noncomputable section
namespace Cert.Reference4Ideal.Value
open Cert.Reference4Ideal Cert.Reference4Ideal.Gen Cert.Reference4Ideal.Read Idealize.ShloMosaic Idealize.ShloMosaic.TcCoe Idealize.SL.Sem Cert.Merge
set_option maxRecDepth 16384

variable (m : (ℓ : Loc nD τ sig) → Buf (Elt Ideal) ℓ)

/-- The reference's arguments as launched, entry by entry. -/
def inArgs (c : Dev nD) : In :=
  inR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The reference as run: its results as functions of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c.tc : Thread nD τ).loc main_v39) = (fun i => (inArgs m c).out (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => by
    obtain ⟨h0, hk⟩ := h c
    refine ⟨(h0.trans (val_main_v39_eq _ _)).trans ?_, hk⟩
    · funext i
      exact (congrArg _ (ix2_eta i).symm).trans (r_out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (i 0) (i 1)))
    (run m ρ)

end Cert.Reference4Ideal.Value
end
-- ==== Proof.Experts.lean ====
module

public import proofs.«01_k».proof.Pre_bounded
public import proofs.«01_k».proof.Pre_routed
public import proofs.«01_k».proof.Proof.Rows
public import Idealize.ShloMosaic.Lib.ReduceAll

/-! # The experts' routing tables: what the precondition says of them -/

@[expose] public section
noncomputable section
namespace Cert.Experts
open Idealize.ShloMosaic

/-- A list of 41 words. -/
abbrev Words41 : Type := (⟨1, ![41]⟩ : Shape).Idx → BitVec 32
/-- One word. -/
abbrev Word1 : Type := (⟨1, ![1]⟩ : Shape).Idx → BitVec 32

/-- Tables that name blocks there are: each tile's expert is one of the eight, and at least one tile is used. -/
structure Bounded (te : Words41) (nu : Word1) : Prop where
  te_lo : ∀ k : Fin 41, 0 ≤ (te (ix1 k)).toInt
  te_hi : ∀ k : Fin 41, (te (ix1 k)).toInt < 8
  nu_lo : 1 ≤ (nu (ix1 0)).toInt

/-- Tables that count rows as well: at most a tile's, and none in an unused tile. -/
structure Routed (te nv : Words41) (nu : Word1) : Prop extends Bounded te nu where
  nv_hi : ∀ k : Fin 41, (nv (ix1 k)).toInt ≤ 1024
  unused : ∀ k : Fin 41, (nu (ix1 0)).toInt ≤ k.val → (nv (ix1 k)).toInt ≤ 0

/-- A flag made from a truth value. -/
theorem flag_bool (b : Bool) : BitVec.ofBool b = 1#1 ↔ b = true := by cases b <;> decide

/-- The condition read off a flag widened to a word is the flag. -/
theorem flag_word (b : BitVec 1) : Scalar.cmpi .ne (Scalar.extui b : BitVec 32) 0#32 = 1#1 ↔ b = 1#1 := by
  revert b; decide

/-- Both flags of a conjunction. -/
theorem flag_and (a b : BitVec 1) : Scalar.andi a b = 1#1 ↔ a = 1#1 ∧ b = 1#1 := by
  revert a b; decide

/-- Either flag of a disjunction. -/
theorem flag_or (a b : BitVec 1) : Scalar.ori a b = 1#1 ↔ a = 1#1 ∨ b = 1#1 := by
  revert a b; decide

/-- Signed greater-than, in integers. -/
theorem sgt_iff (w a : BitVec 32) : Scalar.cmpi .sgt w a = 1#1 ↔ a.toInt < w.toInt := by
  show BitVec.ofBool (BitVec.slt a w) = 1#1 ↔ _
  rw [flag_bool, BitVec.slt_iff_toInt_lt]

/-- Signed at-most, in integers. -/
theorem sle_iff (w a : BitVec 32) : Scalar.cmpi .sle w a = 1#1 ↔ w.toInt ≤ a.toInt := by
  show BitVec.ofBool (BitVec.sle w a) = 1#1 ↔ _
  rw [flag_bool, BitVec.sle_iff_toInt_le]

/-- Signed at-least, in integers. -/
theorem sge_iff (w a : BitVec 32) : Scalar.cmpi .sge w a = 1#1 ↔ a.toInt ≤ w.toInt := by
  show BitVec.ofBool (BitVec.sle a w) = 1#1 ↔ _
  rw [flag_bool, BitVec.sle_iff_toInt_le]

/-- Signed less-than, in integers. -/
theorem slt_iff (w a : BitVec 32) : Scalar.cmpi .slt w a = 1#1 ↔ w.toInt < a.toInt := by
  show BitVec.ofBool (BitVec.slt w a) = 1#1 ↔ _
  rw [flag_bool, BitVec.slt_iff_toInt_lt]

/-- Equality of words. -/
theorem eq_iff (w a : BitVec 32) : Scalar.cmpi .eq w a = 1#1 ↔ w = a := by
  show BitVec.ofBool (w == a) = 1#1 ↔ _
  rw [flag_bool, beq_iff_eq]

/-- A small number as a signed word. -/
theorem toInt_small (n : ℕ) (h : n < 2 ^ 31) : (BitVec.ofNat 32 n).toInt = n := by
  rw [BitVec.toInt_eq_toNat_cond, BitVec.toNat_ofNat, Nat.mod_eq_of_lt (by omega)]
  split <;> omega

/-- A word that is not negative, as a number. -/
theorem toNat_of_nonneg (w : BitVec 32) (h : 0 ≤ w.toInt) : (w.toNat : Int) = w.toInt := by
  have := w.isLt
  rw [BitVec.toInt_eq_toNat_cond] at h ⊢
  split at h <;> omega

/-- A tile's number, capped at the last used tile, as the kernel's words compute it. -/
theorem min_word (i : ℕ) (hi : i < 41) (w : BitVec 32) (h1 : 1 ≤ w.toInt) :
    (Scalar.minsi (BitVec.ofNat 32 i) (Scalar.subi w 1#32)).toNat = min i (min w.toNat 41 - 1) := by
  have hw := toNat_of_nonneg w (by omega)
  have e : w = BitVec.ofNat 32 w.toNat := (BitVec.ofNat_toNat 32 w).symm.trans rfl |>.symm ▸ by simp
  have hlt := w.toInt_lt
  have hn : 1 ≤ w.toNat ∧ w.toNat < 2 ^ 31 := by omega
  clear hlt
  generalize hk : w.toNat = k at hn e ⊢
  subst e
  have hs : (BitVec.ofNat 32 k - 1#32) = BitVec.ofNat 32 (k - 1) := by
    apply BitVec.eq_of_toNat_eq
    rw [BitVec.toNat_sub]
    simp only [BitVec.toNat_ofNat]
    omega
  show (if BitVec.slt (BitVec.ofNat 32 i) (BitVec.ofNat 32 k - 1#32) then BitVec.ofNat 32 i else (BitVec.ofNat 32 k - 1#32)).toNat = _
  rw [hs]
  have hlt : BitVec.slt (BitVec.ofNat 32 i) (BitVec.ofNat 32 (k - 1)) = true ↔ i < k - 1 := by
    rw [BitVec.slt_iff_toInt_lt, toInt_small _ (by omega), toInt_small _ (by omega)]
    omega
  by_cases c : i < k - 1
  · rw [if_pos (hlt.mpr c), BitVec.toNat_ofNat, Nat.mod_eq_of_lt (by omega)]; omega
  · rw [if_neg (mt hlt.mp c), BitVec.toNat_ofNat, Nat.mod_eq_of_lt (by omega)]; omega

/-- A tile's column step: its own while the tile is used, the last one after. -/
theorem col_word (i j : ℕ) (hi : i < 41) (hj : j < 7) (w : BitVec 32) (h1 : 1 ≤ w.toInt) :
    (Scalar.select (Scalar.cmpi .slt (BitVec.ofNat 32 i) w) (BitVec.ofNat 32 j) 6#32).toNat = if i < min w.toNat 41 then j else 6 := by
  have hw := toNat_of_nonneg w (by omega)
  have hlt := slt_iff (BitVec.ofNat 32 i) w
  rw [toInt_small _ (by omega)] at hlt
  by_cases c : i < w.toNat
  · rw [hlt.mpr (by omega), if_pos (by omega)]
    show (BitVec.ofNat 32 j).toNat = j
    rw [BitVec.toNat_ofNat, Nat.mod_eq_of_lt (by omega)]
  · have hz : Scalar.cmpi .slt (BitVec.ofNat 32 i) w = 0#1 := by
      have hne : ¬ Scalar.cmpi .slt (BitVec.ofNat 32 i) w = 1#1 := mt hlt.mp (by omega)
      generalize Scalar.cmpi .slt (BitVec.ofNat 32 i) w = b at hne ⊢
      revert b; decide
    rw [hz, if_neg (by omega)]
    rfl

/-- A conjunction of two flags, at an index. -/
theorem andi_at {s : Shape} (a b : IVec s 1) (j : s.Idx) : andi a b j = 1#1 ↔ a j = 1#1 ∧ b j = 1#1 := by
  show Scalar.andi (a j) (b j) = 1#1 ↔ _
  generalize a j = p; generalize b j = q; revert p q; decide

/-- The one word of a table of one. -/
theorem word_one {t : Shape} (nu : Word1) (hs : Shape.ShapeCasts ⟨1, ![1]⟩ t) :
    (shapeCast t nu hs : t.Idx → BitVec 32) = fun _ => nu (ix1 0) := by
  funext z
  exact congrArg nu (funext fun a => by
    have : a = 0 := Subsingleton.elim (α := Fin 1) _ _
    subst this
    exact Subsingleton.elim (α := Fin 1) _ _)

/-- The frames' precondition gives bounded tables. -/
theorem bounded_of {F : FTy → Type} [FloatOps F] [Cert.Pre_bounded.Facts] {x : FVec F Cert.Pre_bounded.S44032x1024 .f32} {te nv : Words41} {nu : Word1}
    {w1 w3 : FVec F Cert.Pre_bounded.S8x1024x3584 .f32} {w2 : FVec F Cert.Pre_bounded.S8x3584x1024 .f32}
    (h : Cert.Pre_bounded.fn x te nv nu w1 w3 w2 = fun _ => 1#1) : Bounded te nu := by
  have h0 := congrFun h (fun a => a.elim0)
  unfold Cert.Pre_bounded.fn at h0
  simp only [andi_at] at h0
  obtain ⟨a, d⟩ := h0
  haveI : Subsingleton Cert.Pre_bounded.S_.Idx := ⟨fun p q => funext fun z => z.elim0⟩
  have a' := fun k : Fin 41 => Host.reduce_andi_all _ _ _ _ _ a (ix1 k)
  simp only [andi_at] at a'
  rw [word_one] at d
  exact ⟨fun k => (sge_iff _ _).mp (a' k).1, fun k => (slt_iff _ _).mp (a' k).2, (sge_iff _ _).mp d⟩

/-- The value claim's precondition gives routed tables. -/
theorem routed_of {F : FTy → Type} [FloatOps F] [Cert.Pre_routed.Facts] {x : FVec F Cert.Pre_routed.S44032x1024 .f32} {te nv : Words41} {nu : Word1}
    {w1 w3 : FVec F Cert.Pre_routed.S8x1024x3584 .f32} {w2 : FVec F Cert.Pre_routed.S8x3584x1024 .f32}
    (h : Cert.Pre_routed.fn x te nv nu w1 w3 w2 = fun _ => 1#1) : Routed te nv nu := by
  have h0 := congrFun h (fun a => a.elim0)
  unfold Cert.Pre_routed.fn Cert.Pre_routed.fn_part1 at h0
  simp only [andi_at] at h0
  obtain ⟨⟨⟨a, d⟩, b⟩, f⟩ := h0
  haveI : Subsingleton Cert.Pre_routed.S_.Idx := ⟨fun p q => funext fun z => z.elim0⟩
  have a' := fun k : Fin 41 => Host.reduce_andi_all _ _ _ _ _ a (ix1 k)
  have b' := fun k : Fin 41 => Host.reduce_andi_all _ _ _ _ _ b (ix1 k)
  have f' := fun k : Fin 41 => Host.reduce_andi_all _ _ _ _ _ f (ix1 k)
  simp only [andi_at] at a'
  rw [word_one] at d
  simp only [word_one] at f'
  refine ⟨⟨fun k => (sge_iff _ _).mp (a' k).1, fun k => (slt_iff _ _).mp (a' k).2, (sge_iff _ _).mp d⟩,
    fun k => (sle_iff _ _).mp (b' k), fun k hk => ?_⟩
  rcases (flag_or _ _).mp (f' k) with g | g
  · exfalso
    have g' := (slt_iff (BitVec.ofNat 32 k.val) (nu (ix1 0))).mp g
    rw [toInt_small _ (by omega)] at g'
    omega
  · exact (sle_iff _ _).mp g

end Cert.Experts
end
-- ==== Proof.ExpRunK.lean ====
module

public import proofs.«01_k».proof.Proof.Gen.Kernel5.Skeleton
public import proofs.«01_k».proof.Proof.Gen.Kernel5.Launch
public import Idealize.ShloMosaic.Lib.Pipeline.Frame
public import Idealize.ShloMosaic.Lib.VecWindow
public import Idealize.ShloMosaic.Lib.Claim
public import proofs.«01_k».proof.Proof.Experts

/-!
One run of the experts kernel's body at a grid point, case by case: the tile's row count picks how many leading rows
are worked on (256, 512, 768 or 1024, or none where it is not positive or above 1024), and the column step picks whether the accumulator is started, carried
on, or written out.
-/

@[expose] public section

set_option maxRecDepth 16384

noncomputable section

namespace Cert.Kernel5.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5 Cert.Kernel5.Gen Cert.Experts

variable {F : FTy → Type} [FloatOps F]

/-- The row-count table's contents. -/
abbrev Tab (F : FTy → Type) : Type := (Memref.whole main_arg2 : Memref sig .tc .smem S41 .i32).view.ty.Contents (Elt F)

/-- The word of the row-count table that the body loads at grid point `i`. -/
def rows (f : Tab F) (i : grid0.Coords) : BitVec 32 :=
  ((Memref.whole main_arg2 : Memref sig .tc .smem S41 .i32).access (Rect.unit (s := S41) (k0_off1 i) S1.size (Gen.k0_off1_inb i))).read (Elt F) f
    (Shape.Idx.first (Gen.numel1_S1.symm ▸ Nat.one_pos))

/-- Whether the word `w` lies in `(a, b]`, as the body asks it. -/
abbrev within (w a b : BitVec 32) : Prop :=
  Scalar.cmpi .ne (Scalar.extui (Scalar.andi (Scalar.cmpi .sgt w a) (Scalar.cmpi .sle w b)) : BitVec 32) 0#32 = 1#1

/-- Whether grid point `i` is the first column step of its tile, as the body asks it. -/
abbrev isFirst (i : grid0.Coords) : Prop :=
  Scalar.cmpi .ne (Scalar.extui (Scalar.cmpi .eq (BitVec.ofNat 32 (i 1).val) 0#32) : BitVec 32) 0#32 = 1#1

/-- A run over no rows leaves everything as it was. -/
theorem run_none (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : ¬ k0_cond1 w = 1#1)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run over the leading 256 rows at a tile's first column step. -/
theorem run256_first (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : isFirst i) (hj6 : ¬ k0_cond11 i = 1#1)
    (hm1 : within w 0#32 256#32)
    (hm2 : ¬ within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run over the leading 256 rows at a column step between the first and the last. -/
theorem run256_mid (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : ¬ k0_cond11 i = 1#1)
    (hm1 : within w 0#32 256#32)
    (hm2 : ¬ within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run over the leading 256 rows at a tile's last column step. -/
theorem run256_last (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : k0_cond11 i = 1#1)
    (hm1 : within w 0#32 256#32)
    (hm2 : ¬ within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run over the leading 512 rows at a tile's first column step. -/
theorem run512_first (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : isFirst i) (hj6 : ¬ k0_cond11 i = 1#1)
    (hm1 : ¬ within w 0#32 256#32)
    (hm2 : within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run over the leading 512 rows at a column step between the first and the last. -/
theorem run512_mid (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : ¬ k0_cond11 i = 1#1)
    (hm1 : ¬ within w 0#32 256#32)
    (hm2 : within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run over the leading 512 rows at a tile's last column step. -/
theorem run512_last (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : k0_cond11 i = 1#1)
    (hm1 : ¬ within w 0#32 256#32)
    (hm2 : within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run over the leading 768 rows at a tile's first column step. -/
theorem run768_first (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : isFirst i) (hj6 : ¬ k0_cond11 i = 1#1)
    (hm1 : ¬ within w 0#32 256#32)
    (hm2 : ¬ within w 256#32 512#32)
    (hm3 : within w 512#32 768#32)
    (hm4 : ¬ within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run over the leading 768 rows at a column step between the first and the last. -/
theorem run768_mid (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : ¬ k0_cond11 i = 1#1)
    (hm1 : ¬ within w 0#32 256#32)
    (hm2 : ¬ within w 256#32 512#32)
    (hm3 : within w 512#32 768#32)
    (hm4 : ¬ within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run over the leading 768 rows at a tile's last column step. -/
theorem run768_last (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : k0_cond11 i = 1#1)
    (hm1 : ¬ within w 0#32 256#32)
    (hm2 : ¬ within w 256#32 512#32)
    (hm3 : within w 512#32 768#32)
    (hm4 : ¬ within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run over the leading 1024 rows at a tile's first column step. -/
theorem run1024_first (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : isFirst i) (hj6 : ¬ k0_cond11 i = 1#1)
    (hm1 : ¬ within w 0#32 256#32)
    (hm2 : ¬ within w 256#32 512#32)
    (hm3 : ¬ within w 512#32 768#32)
    (hm4 : within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run over the leading 1024 rows at a column step between the first and the last. -/
theorem run1024_mid (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : ¬ k0_cond11 i = 1#1)
    (hm1 : ¬ within w 0#32 256#32)
    (hm2 : ¬ within w 256#32 512#32)
    (hm3 : ¬ within w 512#32 768#32)
    (hm4 : within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run over the leading 1024 rows at a tile's last column step. -/
theorem run1024_last (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : k0_cond11 i = 1#1)
    (hm1 : ¬ within w 0#32 256#32)
    (hm2 : ¬ within w 256#32 512#32)
    (hm3 : ¬ within w 512#32 768#32)
    (hm4 : within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run whose row count is above 1024 works on no rows, at a tile's first column step. -/
theorem over_first (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : isFirst i) (hj6 : ¬ k0_cond11 i = 1#1)
    (hm1 : ¬ within w 0#32 256#32)
    (hm2 : ¬ within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run whose row count is above 1024 works on no rows, at a column step between the first and the last. -/
theorem over_mid (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : ¬ k0_cond11 i = 1#1)
    (hm1 : ¬ within w 0#32 256#32)
    (hm2 : ¬ within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run whose row count is above 1024 works on no rows, at a tile's last column step. -/
theorem over_last (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : k0_cond11 i = 1#1)
    (hm1 : ¬ within w 0#32 256#32)
    (hm2 : ¬ within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- `within`, in integers. -/
theorem within_iff (w a b : BitVec 32) : within w a b ↔ a.toInt < w.toInt ∧ w.toInt ≤ b.toInt := by
  unfold within; rw [flag_word, flag_and, sgt_iff, sle_iff]

/-- The body works on a tile exactly where its row count is positive. -/
theorem cond1_iff (w : BitVec 32) : k0_cond1 w = 1#1 ↔ 0 < w.toInt := by
  show Scalar.cmpi .ne (Scalar.extui (Scalar.cmpi .sgt w 0#32) : BitVec 32) 0#32 = 1#1 ↔ _
  rw [flag_word, sgt_iff]; rfl

/-- The first column step is step 0. -/
theorem isFirst_iff (i : grid0.Coords) : isFirst i ↔ (i 1).val = 0 := by
  have h : ∀ j : Fin 7, Scalar.cmpi .ne (Scalar.extui (Scalar.cmpi .eq (BitVec.ofNat 32 j.val) 0#32) : BitVec 32) 0#32 = 1#1 ↔ j.val = 0 := by
    decide
  exact h (i 1)

/-- The last column step is step 6. -/
theorem isLast_iff (i : grid0.Coords) : k0_cond11 i = 1#1 ↔ (i 1).val = 6 := by
  have h : ∀ j : Fin 7, Scalar.cmpi .ne (Scalar.extui (Scalar.cmpi .eq (BitVec.ofNat 32 j.val) 6#32) : BitVec 32) 0#32 = 1#1 ↔ j.val = 6 := by
    decide
  exact h (i 1)

/-- One run of the body at any grid point. -/
theorem run_any (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  have hF := isFirst_iff i
  have hL := isLast_iff i
  have e0 : (0#32 : BitVec 32).toInt = 0 := rfl
  have e256 : (256#32 : BitVec 32).toInt = 256 := rfl
  have e512 : (512#32 : BitVec 32).toInt = 512 := rfl
  have e768 : (768#32 : BitVec 32).toInt = 768 := rfl
  have e1024 : (1024#32 : BitVec 32).toInt = 1024 := rfl
  have b1 := within_iff w 0#32 256#32
  have b2 := within_iff w 256#32 512#32
  have b3 := within_iff w 512#32 768#32
  have b4 := within_iff w 768#32 1024#32
  have hc := cond1_iff w
  rw [e0, e256] at b1; rw [e256, e512] at b2; rw [e512, e768] at b3; rw [e768, e1024] at b4
  by_cases h0 : 0 < w.toInt
  swap
  · exact run_none c i q arg2 harg2 arg4 harg4 arg5 harg5 arg6 harg6 arg7 harg7 arg8 harg8 arg9 harg9 arg10 harg10 arg11 harg11 T x w1 w3 w2 y xb acc w hw (mt hc.mp h0) Post (fun _ _ _ h => hPost _ _ _ trivial) E K
  by_cases g256 : w.toInt ≤ 256
  · by_cases f : isFirst i
    · exact run256_first c i q arg2 harg2 arg4 harg4 arg5 harg5 arg6 harg6 arg7 harg7 arg8 harg8 arg9 harg9 arg10 harg10 arg11 harg11 T x w1 w3 w2 y xb acc w hw (hc.mpr h0) f (mt hL.mp (by have := hF.mp f; omega)) (b1.mpr (by omega)) (mt b2.mp (by omega)) (mt b3.mp (by omega)) (mt b4.mp (by omega)) Post (fun _ _ _ h => hPost _ _ _ trivial) E K
    by_cases l : k0_cond11 i = 1#1
    · exact run256_last c i q arg2 harg2 arg4 harg4 arg5 harg5 arg6 harg6 arg7 harg7 arg8 harg8 arg9 harg9 arg10 harg10 arg11 harg11 T x w1 w3 w2 y xb acc w hw (hc.mpr h0) f l (b1.mpr (by omega)) (mt b2.mp (by omega)) (mt b3.mp (by omega)) (mt b4.mp (by omega)) Post (fun _ _ _ h => hPost _ _ _ trivial) E K
    · exact run256_mid c i q arg2 harg2 arg4 harg4 arg5 harg5 arg6 harg6 arg7 harg7 arg8 harg8 arg9 harg9 arg10 harg10 arg11 harg11 T x w1 w3 w2 y xb acc w hw (hc.mpr h0) f l (b1.mpr (by omega)) (mt b2.mp (by omega)) (mt b3.mp (by omega)) (mt b4.mp (by omega)) Post (fun _ _ _ h => hPost _ _ _ trivial) E K
  by_cases g512 : w.toInt ≤ 512
  · by_cases f : isFirst i
    · exact run512_first c i q arg2 harg2 arg4 harg4 arg5 harg5 arg6 harg6 arg7 harg7 arg8 harg8 arg9 harg9 arg10 harg10 arg11 harg11 T x w1 w3 w2 y xb acc w hw (hc.mpr h0) f (mt hL.mp (by have := hF.mp f; omega)) (mt b1.mp (by omega)) (b2.mpr (by omega)) (mt b3.mp (by omega)) (mt b4.mp (by omega)) Post (fun _ _ _ h => hPost _ _ _ trivial) E K
    by_cases l : k0_cond11 i = 1#1
    · exact run512_last c i q arg2 harg2 arg4 harg4 arg5 harg5 arg6 harg6 arg7 harg7 arg8 harg8 arg9 harg9 arg10 harg10 arg11 harg11 T x w1 w3 w2 y xb acc w hw (hc.mpr h0) f l (mt b1.mp (by omega)) (b2.mpr (by omega)) (mt b3.mp (by omega)) (mt b4.mp (by omega)) Post (fun _ _ _ h => hPost _ _ _ trivial) E K
    · exact run512_mid c i q arg2 harg2 arg4 harg4 arg5 harg5 arg6 harg6 arg7 harg7 arg8 harg8 arg9 harg9 arg10 harg10 arg11 harg11 T x w1 w3 w2 y xb acc w hw (hc.mpr h0) f l (mt b1.mp (by omega)) (b2.mpr (by omega)) (mt b3.mp (by omega)) (mt b4.mp (by omega)) Post (fun _ _ _ h => hPost _ _ _ trivial) E K
  by_cases g768 : w.toInt ≤ 768
  · by_cases f : isFirst i
    · exact run768_first c i q arg2 harg2 arg4 harg4 arg5 harg5 arg6 harg6 arg7 harg7 arg8 harg8 arg9 harg9 arg10 harg10 arg11 harg11 T x w1 w3 w2 y xb acc w hw (hc.mpr h0) f (mt hL.mp (by have := hF.mp f; omega)) (mt b1.mp (by omega)) (mt b2.mp (by omega)) (b3.mpr (by omega)) (mt b4.mp (by omega)) Post (fun _ _ _ h => hPost _ _ _ trivial) E K
    by_cases l : k0_cond11 i = 1#1
    · exact run768_last c i q arg2 harg2 arg4 harg4 arg5 harg5 arg6 harg6 arg7 harg7 arg8 harg8 arg9 harg9 arg10 harg10 arg11 harg11 T x w1 w3 w2 y xb acc w hw (hc.mpr h0) f l (mt b1.mp (by omega)) (mt b2.mp (by omega)) (b3.mpr (by omega)) (mt b4.mp (by omega)) Post (fun _ _ _ h => hPost _ _ _ trivial) E K
    · exact run768_mid c i q arg2 harg2 arg4 harg4 arg5 harg5 arg6 harg6 arg7 harg7 arg8 harg8 arg9 harg9 arg10 harg10 arg11 harg11 T x w1 w3 w2 y xb acc w hw (hc.mpr h0) f l (mt b1.mp (by omega)) (mt b2.mp (by omega)) (b3.mpr (by omega)) (mt b4.mp (by omega)) Post (fun _ _ _ h => hPost _ _ _ trivial) E K
  by_cases g1024 : w.toInt ≤ 1024
  · by_cases f : isFirst i
    · exact run1024_first c i q arg2 harg2 arg4 harg4 arg5 harg5 arg6 harg6 arg7 harg7 arg8 harg8 arg9 harg9 arg10 harg10 arg11 harg11 T x w1 w3 w2 y xb acc w hw (hc.mpr h0) f (mt hL.mp (by have := hF.mp f; omega)) (mt b1.mp (by omega)) (mt b2.mp (by omega)) (mt b3.mp (by omega)) (b4.mpr (by omega)) Post (fun _ _ _ h => hPost _ _ _ trivial) E K
    by_cases l : k0_cond11 i = 1#1
    · exact run1024_last c i q arg2 harg2 arg4 harg4 arg5 harg5 arg6 harg6 arg7 harg7 arg8 harg8 arg9 harg9 arg10 harg10 arg11 harg11 T x w1 w3 w2 y xb acc w hw (hc.mpr h0) f l (mt b1.mp (by omega)) (mt b2.mp (by omega)) (mt b3.mp (by omega)) (b4.mpr (by omega)) Post (fun _ _ _ h => hPost _ _ _ trivial) E K
    · exact run1024_mid c i q arg2 harg2 arg4 harg4 arg5 harg5 arg6 harg6 arg7 harg7 arg8 harg8 arg9 harg9 arg10 harg10 arg11 harg11 T x w1 w3 w2 y xb acc w hw (hc.mpr h0) f l (mt b1.mp (by omega)) (mt b2.mp (by omega)) (mt b3.mp (by omega)) (b4.mpr (by omega)) Post (fun _ _ _ h => hPost _ _ _ trivial) E K
  by_cases f : isFirst i
  · exact over_first c i q arg2 harg2 arg4 harg4 arg5 harg5 arg6 harg6 arg7 harg7 arg8 harg8 arg9 harg9 arg10 harg10 arg11 harg11 T x w1 w3 w2 y xb acc w hw (hc.mpr h0) f (mt hL.mp (by have := hF.mp f; omega)) (mt b1.mp (by omega)) (mt b2.mp (by omega)) (mt b3.mp (by omega)) (mt b4.mp (by omega)) Post (fun _ _ _ _ => hPost _ _ _ trivial) E K
  by_cases l : k0_cond11 i = 1#1
  · exact over_last c i q arg2 harg2 arg4 harg4 arg5 harg5 arg6 harg6 arg7 harg7 arg8 harg8 arg9 harg9 arg10 harg10 arg11 harg11 T x w1 w3 w2 y xb acc w hw (hc.mpr h0) f l (mt b1.mp (by omega)) (mt b2.mp (by omega)) (mt b3.mp (by omega)) (mt b4.mp (by omega)) Post (fun _ _ _ _ => hPost _ _ _ trivial) E K
  · exact over_mid c i q arg2 harg2 arg4 harg4 arg5 harg5 arg6 harg6 arg7 harg7 arg8 harg8 arg9 harg9 arg10 harg10 arg11 harg11 T x w1 w3 w2 y xb acc w hw (hc.mpr h0) f l (mt b1.mp (by omega)) (mt b2.mp (by omega)) (mt b3.mp (by omega)) (mt b4.mp (by omega)) Post (fun _ _ _ _ => hPost _ _ _ trivial) E K

end Cert.Kernel5.Exp
end
-- ==== Proof.ExpRun.lean ====
module

public import proofs.«01_k».proof.Proof.Gen.Kernel5Ideal.Skeleton
public import proofs.«01_k».proof.Proof.Gen.Kernel5Ideal.Launch
public import Idealize.ShloMosaic.Lib.Pipeline.Frame
public import Idealize.ShloMosaic.Lib.VecWindow
public import Idealize.ShloMosaic.Lib.Claim
public import proofs.«01_k».proof.Proof.Experts

/-!
One run of the experts kernel's body at a grid point, case by case: the tile's row count picks how many leading rows
are worked on (256, 512, 768 or 1024, or none where it is not positive or above 1024), and the column step picks whether the accumulator is started, carried
on, or written out.
-/

@[expose] public section

set_option maxRecDepth 16384

noncomputable section

namespace Cert.Kernel5Ideal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen Cert.Experts

variable {F : FTy → Type} [FloatOps F]

/-- The row-count table's contents. -/
abbrev Tab (F : FTy → Type) : Type := (Memref.whole main_arg2 : Memref sig .tc .smem S41 .i32).view.ty.Contents (Elt F)

/-- The word of the row-count table that the body loads at grid point `i`. -/
def rows (f : Tab F) (i : grid0.Coords) : BitVec 32 :=
  ((Memref.whole main_arg2 : Memref sig .tc .smem S41 .i32).access (Rect.unit (s := S41) (k0_off1 i) S1.size (Gen.k0_off1_inb i))).read (Elt F) f
    (Shape.Idx.first (Gen.numel1_S1.symm ▸ Nat.one_pos))

/-- Whether the word `w` lies in `(a, b]`, as the body asks it. -/
abbrev within (w a b : BitVec 32) : Prop :=
  Scalar.cmpi .ne (Scalar.extui (Scalar.andi (Scalar.cmpi .sgt w a) (Scalar.cmpi .sle w b)) : BitVec 32) 0#32 = 1#1

/-- Whether grid point `i` is the first column step of its tile, as the body asks it. -/
abbrev isFirst (i : grid0.Coords) : Prop :=
  Scalar.cmpi .ne (Scalar.extui (Scalar.cmpi .eq (BitVec.ofNat 32 (i 1).val) 0#32) : BitVec 32) 0#32 = 1#1

/-- The leading 256 rows of a tile. -/
def top256 {e : EltTy} (x : Vec F S1024x1024 e) : Vec F S256x1024 e :=
  VecWindow.window (s := S1024x1024) x ![0, 0] S256x1024.size Gen.inb_S1024x1024_S256x1024_0_0

/-- A load of the leading 256 rows reads those rows of what is held. -/
theorem top256_readAt {sp : Space} {e : EltTy} (v : View sig .tc sp S1024x1024 e) (f : v.ty.Contents (Elt F)) :
    v.readAt (Elt F) (Rect.unit (s := S1024x1024) ![0, 0] S256x1024.size Gen.inb_S1024x1024_S256x1024_0_0).toLoadRect f = top256 (v.read (Elt F) f) := rfl

/-- A store of the leading 256 rows leaves them as stored. -/
theorem top256_writes {sp : Space} {e : EltTy} (v : View sig .tc sp S1024x1024 e) (f : v.ty.Contents (Elt F)) (p : Vec F S256x1024 e)
    (L : List (View.Piece (Elt F) S1024x1024 e)) :
    top256 (v.read (Elt F) (v.writes (Elt F) f
      (⟨Rect.unit (s := S1024x1024) ![0, 0] S256x1024.size Gen.inb_S1024x1024_S256x1024_0_0, p⟩ :: L))) = p := by
  rw [View.read_writes_cons_put v f Gen.inb_S1024x1024_S256x1024_0_0 p L rfl]
  exact VecWindow.window_put_same (s := S1024x1024) _ ![0, 0] S256x1024.size _ p

/-- A load of the leading 256 rows just stored reads what was stored. -/
theorem top256_readCov {sp : Space} {e : EltTy} (v : View sig .tc sp S1024x1024 e) (p : Vec F S256x1024 e)
    (L : List (View.Piece (Elt F) S1024x1024 e)) :
    v.readCov (⟨Rect.unit (s := S1024x1024) ![0, 0] S256x1024.size Gen.inb_S1024x1024_S256x1024_0_0, p⟩ :: L)
      (Rect.unit (s := S1024x1024) ![0, 0] S256x1024.size Gen.inb_S1024x1024_S256x1024_0_0).toLoadRect = p :=
  top256_writes v v.junk p L

/-- A load of the leading 256 rows after a store of the whole tile reads those rows of what was stored. -/
theorem top256_readCov_full {sp : Space} {e : EltTy} (v : View sig .tc sp S1024x1024 e) (p : Vec F S1024x1024 e)
    (L : List (View.Piece (Elt F) S1024x1024 e)) :
    v.readCov (⟨Rect.unit (s := S1024x1024) ![0, 0] S1024x1024.size Gen.inb_S1024x1024_S1024x1024_0_0, p⟩ :: L)
      (Rect.unit (s := S1024x1024) ![0, 0] S256x1024.size Gen.inb_S1024x1024_S256x1024_0_0).toLoadRect = top256 p := by
  show top256 (v.read (Elt F) (v.writes (Elt F) v.junk _)) = _
  rw [View.read_writes_full]

/-- What a run over the leading 256 rows leaves in the cast tile `X10`, the accumulator `X11` and the result `Y9`. -/
structure Left256 (first last : Prop) (x : Vec F S1024x1024 .f32) (w1 w3 : Vec F S1x1024x512 .f32) (w2 : Vec F S1x512x1024 .f32)
    (y : Vec F S1024x1024 .f32) (xb : Vec F S1024x1024 .bf16) (acc : Vec F S1024x1024 .f32)
    (Y9 : Vec F S1024x1024 .f32) (X10 : Vec F S1024x1024 .bf16) (X11 : Vec F S1024x1024 .f32) : Prop where
  xb_first : first → top256 X10 = k0_pay2 (top256 x)
  xb_later : ¬ first → top256 X10 = top256 xb
  acc_first : first → top256 X11 = k0_pay3 (top256 X10) w1 w3 (top256 (k0_pay1 (F := F))) w2
  acc_later : ¬ first → top256 X11 = k0_pay3 (top256 X10) w1 w3 (top256 acc) w2
  out_last : last → Y9 = X11
  out_before : ¬ last → Y9 = y

/-- The leading 512 rows of a tile. -/
def top512 {e : EltTy} (x : Vec F S1024x1024 e) : Vec F S512x1024 e :=
  VecWindow.window (s := S1024x1024) x ![0, 0] S512x1024.size Gen.inb_S1024x1024_S512x1024_0_0

/-- A load of the leading 512 rows reads those rows of what is held. -/
theorem top512_readAt {sp : Space} {e : EltTy} (v : View sig .tc sp S1024x1024 e) (f : v.ty.Contents (Elt F)) :
    v.readAt (Elt F) (Rect.unit (s := S1024x1024) ![0, 0] S512x1024.size Gen.inb_S1024x1024_S512x1024_0_0).toLoadRect f = top512 (v.read (Elt F) f) := rfl

/-- A store of the leading 512 rows leaves them as stored. -/
theorem top512_writes {sp : Space} {e : EltTy} (v : View sig .tc sp S1024x1024 e) (f : v.ty.Contents (Elt F)) (p : Vec F S512x1024 e)
    (L : List (View.Piece (Elt F) S1024x1024 e)) :
    top512 (v.read (Elt F) (v.writes (Elt F) f
      (⟨Rect.unit (s := S1024x1024) ![0, 0] S512x1024.size Gen.inb_S1024x1024_S512x1024_0_0, p⟩ :: L))) = p := by
  rw [View.read_writes_cons_put v f Gen.inb_S1024x1024_S512x1024_0_0 p L rfl]
  exact VecWindow.window_put_same (s := S1024x1024) _ ![0, 0] S512x1024.size _ p

/-- A load of the leading 512 rows just stored reads what was stored. -/
theorem top512_readCov {sp : Space} {e : EltTy} (v : View sig .tc sp S1024x1024 e) (p : Vec F S512x1024 e)
    (L : List (View.Piece (Elt F) S1024x1024 e)) :
    v.readCov (⟨Rect.unit (s := S1024x1024) ![0, 0] S512x1024.size Gen.inb_S1024x1024_S512x1024_0_0, p⟩ :: L)
      (Rect.unit (s := S1024x1024) ![0, 0] S512x1024.size Gen.inb_S1024x1024_S512x1024_0_0).toLoadRect = p :=
  top512_writes v v.junk p L

/-- A load of the leading 512 rows after a store of the whole tile reads those rows of what was stored. -/
theorem top512_readCov_full {sp : Space} {e : EltTy} (v : View sig .tc sp S1024x1024 e) (p : Vec F S1024x1024 e)
    (L : List (View.Piece (Elt F) S1024x1024 e)) :
    v.readCov (⟨Rect.unit (s := S1024x1024) ![0, 0] S1024x1024.size Gen.inb_S1024x1024_S1024x1024_0_0, p⟩ :: L)
      (Rect.unit (s := S1024x1024) ![0, 0] S512x1024.size Gen.inb_S1024x1024_S512x1024_0_0).toLoadRect = top512 p := by
  show top512 (v.read (Elt F) (v.writes (Elt F) v.junk _)) = _
  rw [View.read_writes_full]

/-- What a run over the leading 512 rows leaves in the cast tile `X10`, the accumulator `X11` and the result `Y9`. -/
structure Left512 (first last : Prop) (x : Vec F S1024x1024 .f32) (w1 w3 : Vec F S1x1024x512 .f32) (w2 : Vec F S1x512x1024 .f32)
    (y : Vec F S1024x1024 .f32) (xb : Vec F S1024x1024 .bf16) (acc : Vec F S1024x1024 .f32)
    (Y9 : Vec F S1024x1024 .f32) (X10 : Vec F S1024x1024 .bf16) (X11 : Vec F S1024x1024 .f32) : Prop where
  xb_first : first → top512 X10 = k0_pay4 (top512 x)
  xb_later : ¬ first → top512 X10 = top512 xb
  acc_first : first → top512 X11 = k0_pay5 (top512 X10) w1 w3 (top512 (k0_pay1 (F := F))) w2
  acc_later : ¬ first → top512 X11 = k0_pay5 (top512 X10) w1 w3 (top512 acc) w2
  out_last : last → Y9 = X11
  out_before : ¬ last → Y9 = y

/-- The leading 768 rows of a tile. -/
def top768 {e : EltTy} (x : Vec F S1024x1024 e) : Vec F S768x1024 e :=
  VecWindow.window (s := S1024x1024) x ![0, 0] S768x1024.size Gen.inb_S1024x1024_S768x1024_0_0

/-- A load of the leading 768 rows reads those rows of what is held. -/
theorem top768_readAt {sp : Space} {e : EltTy} (v : View sig .tc sp S1024x1024 e) (f : v.ty.Contents (Elt F)) :
    v.readAt (Elt F) (Rect.unit (s := S1024x1024) ![0, 0] S768x1024.size Gen.inb_S1024x1024_S768x1024_0_0).toLoadRect f = top768 (v.read (Elt F) f) := rfl

/-- A store of the leading 768 rows leaves them as stored. -/
theorem top768_writes {sp : Space} {e : EltTy} (v : View sig .tc sp S1024x1024 e) (f : v.ty.Contents (Elt F)) (p : Vec F S768x1024 e)
    (L : List (View.Piece (Elt F) S1024x1024 e)) :
    top768 (v.read (Elt F) (v.writes (Elt F) f
      (⟨Rect.unit (s := S1024x1024) ![0, 0] S768x1024.size Gen.inb_S1024x1024_S768x1024_0_0, p⟩ :: L))) = p := by
  rw [View.read_writes_cons_put v f Gen.inb_S1024x1024_S768x1024_0_0 p L rfl]
  exact VecWindow.window_put_same (s := S1024x1024) _ ![0, 0] S768x1024.size _ p

/-- A load of the leading 768 rows just stored reads what was stored. -/
theorem top768_readCov {sp : Space} {e : EltTy} (v : View sig .tc sp S1024x1024 e) (p : Vec F S768x1024 e)
    (L : List (View.Piece (Elt F) S1024x1024 e)) :
    v.readCov (⟨Rect.unit (s := S1024x1024) ![0, 0] S768x1024.size Gen.inb_S1024x1024_S768x1024_0_0, p⟩ :: L)
      (Rect.unit (s := S1024x1024) ![0, 0] S768x1024.size Gen.inb_S1024x1024_S768x1024_0_0).toLoadRect = p :=
  top768_writes v v.junk p L

/-- A load of the leading 768 rows after a store of the whole tile reads those rows of what was stored. -/
theorem top768_readCov_full {sp : Space} {e : EltTy} (v : View sig .tc sp S1024x1024 e) (p : Vec F S1024x1024 e)
    (L : List (View.Piece (Elt F) S1024x1024 e)) :
    v.readCov (⟨Rect.unit (s := S1024x1024) ![0, 0] S1024x1024.size Gen.inb_S1024x1024_S1024x1024_0_0, p⟩ :: L)
      (Rect.unit (s := S1024x1024) ![0, 0] S768x1024.size Gen.inb_S1024x1024_S768x1024_0_0).toLoadRect = top768 p := by
  show top768 (v.read (Elt F) (v.writes (Elt F) v.junk _)) = _
  rw [View.read_writes_full]

/-- What a run over the leading 768 rows leaves in the cast tile `X10`, the accumulator `X11` and the result `Y9`. -/
structure Left768 (first last : Prop) (x : Vec F S1024x1024 .f32) (w1 w3 : Vec F S1x1024x512 .f32) (w2 : Vec F S1x512x1024 .f32)
    (y : Vec F S1024x1024 .f32) (xb : Vec F S1024x1024 .bf16) (acc : Vec F S1024x1024 .f32)
    (Y9 : Vec F S1024x1024 .f32) (X10 : Vec F S1024x1024 .bf16) (X11 : Vec F S1024x1024 .f32) : Prop where
  xb_first : first → top768 X10 = k0_pay6 (top768 x)
  xb_later : ¬ first → top768 X10 = top768 xb
  acc_first : first → top768 X11 = k0_pay7 (top768 X10) w1 w3 (top768 (k0_pay1 (F := F))) w2
  acc_later : ¬ first → top768 X11 = k0_pay7 (top768 X10) w1 w3 (top768 acc) w2
  out_last : last → Y9 = X11
  out_before : ¬ last → Y9 = y

/-- The leading 1024 rows of a tile. -/
def top1024 {e : EltTy} (x : Vec F S1024x1024 e) : Vec F S1024x1024 e :=
  VecWindow.window (s := S1024x1024) x ![0, 0] S1024x1024.size Gen.inb_S1024x1024_S1024x1024_0_0

/-- A load of the leading 1024 rows reads those rows of what is held. -/
theorem top1024_readAt {sp : Space} {e : EltTy} (v : View sig .tc sp S1024x1024 e) (f : v.ty.Contents (Elt F)) :
    v.readAt (Elt F) (Rect.unit (s := S1024x1024) ![0, 0] S1024x1024.size Gen.inb_S1024x1024_S1024x1024_0_0).toLoadRect f = top1024 (v.read (Elt F) f) := rfl

/-- A store of the leading 1024 rows leaves them as stored. -/
theorem top1024_writes {sp : Space} {e : EltTy} (v : View sig .tc sp S1024x1024 e) (f : v.ty.Contents (Elt F)) (p : Vec F S1024x1024 e)
    (L : List (View.Piece (Elt F) S1024x1024 e)) :
    top1024 (v.read (Elt F) (v.writes (Elt F) f
      (⟨Rect.unit (s := S1024x1024) ![0, 0] S1024x1024.size Gen.inb_S1024x1024_S1024x1024_0_0, p⟩ :: L))) = p := by
  rw [View.read_writes_cons_put v f Gen.inb_S1024x1024_S1024x1024_0_0 p L rfl]
  exact VecWindow.window_put_same (s := S1024x1024) _ ![0, 0] S1024x1024.size _ p

/-- A load of the leading 1024 rows just stored reads what was stored. -/
theorem top1024_readCov {sp : Space} {e : EltTy} (v : View sig .tc sp S1024x1024 e) (p : Vec F S1024x1024 e)
    (L : List (View.Piece (Elt F) S1024x1024 e)) :
    v.readCov (⟨Rect.unit (s := S1024x1024) ![0, 0] S1024x1024.size Gen.inb_S1024x1024_S1024x1024_0_0, p⟩ :: L)
      (Rect.unit (s := S1024x1024) ![0, 0] S1024x1024.size Gen.inb_S1024x1024_S1024x1024_0_0).toLoadRect = p :=
  top1024_writes v v.junk p L

/-- A load of the leading 1024 rows after a store of the whole tile reads those rows of what was stored. -/
theorem top1024_readCov_full {sp : Space} {e : EltTy} (v : View sig .tc sp S1024x1024 e) (p : Vec F S1024x1024 e)
    (L : List (View.Piece (Elt F) S1024x1024 e)) :
    v.readCov (⟨Rect.unit (s := S1024x1024) ![0, 0] S1024x1024.size Gen.inb_S1024x1024_S1024x1024_0_0, p⟩ :: L)
      (Rect.unit (s := S1024x1024) ![0, 0] S1024x1024.size Gen.inb_S1024x1024_S1024x1024_0_0).toLoadRect = top1024 p := by
  show top1024 (v.read (Elt F) (v.writes (Elt F) v.junk _)) = _
  rw [View.read_writes_full]

/-- What a run over the leading 1024 rows leaves in the cast tile `X10`, the accumulator `X11` and the result `Y9`. -/
structure Left1024 (first last : Prop) (x : Vec F S1024x1024 .f32) (w1 w3 : Vec F S1x1024x512 .f32) (w2 : Vec F S1x512x1024 .f32)
    (y : Vec F S1024x1024 .f32) (xb : Vec F S1024x1024 .bf16) (acc : Vec F S1024x1024 .f32)
    (Y9 : Vec F S1024x1024 .f32) (X10 : Vec F S1024x1024 .bf16) (X11 : Vec F S1024x1024 .f32) : Prop where
  xb_first : first → top1024 X10 = k0_pay8 (top1024 x)
  xb_later : ¬ first → top1024 X10 = top1024 xb
  acc_first : first → top1024 X11 = k0_pay9 (top1024 X10) w1 w3 (top1024 (k0_pay1 (F := F))) w2
  acc_later : ¬ first → top1024 X11 = k0_pay9 (top1024 X10) w1 w3 (top1024 acc) w2
  out_last : last → Y9 = X11
  out_before : ¬ last → Y9 = y

/-- A run over no rows leaves everything as it was. -/
theorem run_none (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : ¬ k0_cond1 w = 1#1)
    (Post : Vec F S1024x1024 .f32 → Vec F S1024x1024 .bf16 → Vec F S1024x1024 .f32 → Prop)
    (hPost : ∀ Y9 X10 X11, Y9 = y ∧ X10 = xb ∧ X11 = acc → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  exact ⟨harg9.read_unread y, harg10.read_unread xb, harg11.read_unread acc⟩

/-- A run over the leading 256 rows at a tile's first column step. -/
theorem run256_first (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : isFirst i) (hj6 : ¬ k0_cond11 i = 1#1)
    (hm1 : within w 0#32 256#32)
    (hm2 : ¬ within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, Left256 (isFirst i) (k0_cond11 i = 1#1) x w1 w3 w2 y xb acc Y9 X10 X11 → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  refine ⟨fun h => ?_, fun h => ?_, fun h => ?_, fun h => ?_, fun h => ?_, fun h => ?_⟩
  · unfold run256_first.sl.H10_1
    refine (top256_writes _ _ _ _).trans ?_
    exact congrArg (fun z => k0_pay2 (F := F) (top256 z)) (harg5.read_unread x)
  · exact absurd hj h
  · refine (top256_writes _ _ _ _).trans ?_
    unfold run256_first.sl.v34 run256_first.sl.H10_1 run256_first.sl.v47 run256_first.sl.H11_1
    refine congr (congr (congr (congr (congrArg (k0_pay3 (F := F)) ?_) ?_) ?_) ?_) ?_
    · exact Eq.trans (top256_readCov (F := F) arg10.view _ _) (Eq.symm (top256_writes (F := F) arg10.view _ _ _))
    · exact (View.readAt_full _ _ _).trans (harg6.read_unread w1)
    · exact (View.readAt_full _ _ _).trans (harg7.read_unread w3)
    · exact top256_readCov_full _ _ _
    · exact (View.readAt_full _ _ _).trans (harg8.read_unread w2)
  · exact absurd hj h
  · exact absurd h hj6
  · exact harg9.read_unread y

/-- A run over the leading 256 rows at a column step between the first and the last. -/
theorem run256_mid (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : ¬ k0_cond11 i = 1#1)
    (hm1 : within w 0#32 256#32)
    (hm2 : ¬ within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, Left256 (isFirst i) (k0_cond11 i = 1#1) x w1 w3 w2 y xb acc Y9 X10 X11 → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  refine ⟨fun h => ?_, fun h => ?_, fun h => ?_, fun h => ?_, fun h => ?_, fun h => ?_⟩
  · exact absurd h hj
  · rw [harg10.read_unread]
  · exact absurd h hj
  · refine (top256_writes _ _ _ _).trans ?_
    refine congr (congr (congr (congr (congrArg (k0_pay3 (F := F)) ?_) ?_) ?_) ?_) ?_
    · rfl
    · exact (View.readAt_full _ _ _).trans (harg6.read_unread w1)
    · exact (View.readAt_full _ _ _).trans (harg7.read_unread w3)
    · exact congrArg top256 (harg11.read_unread acc)
    · exact (View.readAt_full _ _ _).trans (harg8.read_unread w2)
  · exact absurd h hj6
  · exact harg9.read_unread y

/-- A run over the leading 256 rows at a tile's last column step. -/
theorem run256_last (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : k0_cond11 i = 1#1)
    (hm1 : within w 0#32 256#32)
    (hm2 : ¬ within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, Left256 (isFirst i) (k0_cond11 i = 1#1) x w1 w3 w2 y xb acc Y9 X10 X11 → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  refine ⟨fun h => ?_, fun h => ?_, fun h => ?_, fun h => ?_, fun h => ?_, fun h => ?_⟩
  · exact absurd h hj
  · rw [harg10.read_unread]
  · exact absurd h hj
  · unfold run256_last.sl.H11_1
    refine (top256_writes _ _ _ _).trans ?_
    refine congr (congr (congr (congr (congrArg (k0_pay3 (F := F)) ?_) ?_) ?_) ?_) ?_
    · rfl
    · exact (View.readAt_full _ _ _).trans (harg6.read_unread w1)
    · exact (View.readAt_full _ _ _).trans (harg7.read_unread w3)
    · exact congrArg top256 (harg11.read_unread acc)
    · exact (View.readAt_full _ _ _).trans (harg8.read_unread w2)
  · refine (View.read_writes_full _ _ _ _ _).trans ?_
    unfold run256_last.sl.v31
    exact View.readAt_full _ _ _
  · exact absurd hj6 h

/-- A run over the leading 512 rows at a tile's first column step. -/
theorem run512_first (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : isFirst i) (hj6 : ¬ k0_cond11 i = 1#1)
    (hm1 : ¬ within w 0#32 256#32)
    (hm2 : within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, Left512 (isFirst i) (k0_cond11 i = 1#1) x w1 w3 w2 y xb acc Y9 X10 X11 → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  refine ⟨fun h => ?_, fun h => ?_, fun h => ?_, fun h => ?_, fun h => ?_, fun h => ?_⟩
  · unfold run512_first.sl.H10_1
    refine (top512_writes _ _ _ _).trans ?_
    exact congrArg (fun z => k0_pay4 (F := F) (top512 z)) (harg5.read_unread x)
  · exact absurd hj h
  · refine (top512_writes _ _ _ _).trans ?_
    unfold run512_first.sl.v34 run512_first.sl.H10_1 run512_first.sl.v47 run512_first.sl.H11_1
    refine congr (congr (congr (congr (congrArg (k0_pay5 (F := F)) ?_) ?_) ?_) ?_) ?_
    · exact Eq.trans (top512_readCov (F := F) arg10.view _ _) (Eq.symm (top512_writes (F := F) arg10.view _ _ _))
    · exact (View.readAt_full _ _ _).trans (harg6.read_unread w1)
    · exact (View.readAt_full _ _ _).trans (harg7.read_unread w3)
    · exact top512_readCov_full _ _ _
    · exact (View.readAt_full _ _ _).trans (harg8.read_unread w2)
  · exact absurd hj h
  · exact absurd h hj6
  · exact harg9.read_unread y

/-- A run over the leading 512 rows at a column step between the first and the last. -/
theorem run512_mid (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : ¬ k0_cond11 i = 1#1)
    (hm1 : ¬ within w 0#32 256#32)
    (hm2 : within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, Left512 (isFirst i) (k0_cond11 i = 1#1) x w1 w3 w2 y xb acc Y9 X10 X11 → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  refine ⟨fun h => ?_, fun h => ?_, fun h => ?_, fun h => ?_, fun h => ?_, fun h => ?_⟩
  · exact absurd h hj
  · rw [harg10.read_unread]
  · exact absurd h hj
  · refine (top512_writes _ _ _ _).trans ?_
    refine congr (congr (congr (congr (congrArg (k0_pay5 (F := F)) ?_) ?_) ?_) ?_) ?_
    · rfl
    · exact (View.readAt_full _ _ _).trans (harg6.read_unread w1)
    · exact (View.readAt_full _ _ _).trans (harg7.read_unread w3)
    · exact congrArg top512 (harg11.read_unread acc)
    · exact (View.readAt_full _ _ _).trans (harg8.read_unread w2)
  · exact absurd h hj6
  · exact harg9.read_unread y

/-- A run over the leading 512 rows at a tile's last column step. -/
theorem run512_last (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : k0_cond11 i = 1#1)
    (hm1 : ¬ within w 0#32 256#32)
    (hm2 : within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, Left512 (isFirst i) (k0_cond11 i = 1#1) x w1 w3 w2 y xb acc Y9 X10 X11 → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  refine ⟨fun h => ?_, fun h => ?_, fun h => ?_, fun h => ?_, fun h => ?_, fun h => ?_⟩
  · exact absurd h hj
  · rw [harg10.read_unread]
  · exact absurd h hj
  · unfold run512_last.sl.H11_1
    refine (top512_writes _ _ _ _).trans ?_
    refine congr (congr (congr (congr (congrArg (k0_pay5 (F := F)) ?_) ?_) ?_) ?_) ?_
    · rfl
    · exact (View.readAt_full _ _ _).trans (harg6.read_unread w1)
    · exact (View.readAt_full _ _ _).trans (harg7.read_unread w3)
    · exact congrArg top512 (harg11.read_unread acc)
    · exact (View.readAt_full _ _ _).trans (harg8.read_unread w2)
  · refine (View.read_writes_full _ _ _ _ _).trans ?_
    unfold run512_last.sl.v31
    exact View.readAt_full _ _ _
  · exact absurd hj6 h

/-- A run over the leading 768 rows at a tile's first column step. -/
theorem run768_first (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : isFirst i) (hj6 : ¬ k0_cond11 i = 1#1)
    (hm1 : ¬ within w 0#32 256#32)
    (hm2 : ¬ within w 256#32 512#32)
    (hm3 : within w 512#32 768#32)
    (hm4 : ¬ within w 768#32 1024#32)
    (Post : Vec F S1024x1024 .f32 → Vec F S1024x1024 .bf16 → Vec F S1024x1024 .f32 → Prop)
    (hPost : ∀ Y9 X10 X11, Left768 (isFirst i) (k0_cond11 i = 1#1) x w1 w3 w2 y xb acc Y9 X10 X11 → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  refine ⟨fun h => ?_, fun h => ?_, fun h => ?_, fun h => ?_, fun h => ?_, fun h => ?_⟩
  · unfold run768_first.sl.H10_1
    refine (top768_writes _ _ _ _).trans ?_
    exact congrArg (fun z => k0_pay6 (F := F) (top768 z)) (harg5.read_unread x)
  · exact absurd hj h
  · refine (top768_writes _ _ _ _).trans ?_
    unfold run768_first.sl.v34 run768_first.sl.H10_1 run768_first.sl.v47 run768_first.sl.H11_1
    refine congr (congr (congr (congr (congrArg (k0_pay7 (F := F)) ?_) ?_) ?_) ?_) ?_
    · exact Eq.trans (top768_readCov (F := F) arg10.view _ _) (Eq.symm (top768_writes (F := F) arg10.view _ _ _))
    · exact (View.readAt_full _ _ _).trans (harg6.read_unread w1)
    · exact (View.readAt_full _ _ _).trans (harg7.read_unread w3)
    · exact top768_readCov_full _ _ _
    · exact (View.readAt_full _ _ _).trans (harg8.read_unread w2)
  · exact absurd hj h
  · exact absurd h hj6
  · exact harg9.read_unread y

/-- A run over the leading 768 rows at a column step between the first and the last. -/
theorem run768_mid (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : ¬ k0_cond11 i = 1#1)
    (hm1 : ¬ within w 0#32 256#32)
    (hm2 : ¬ within w 256#32 512#32)
    (hm3 : within w 512#32 768#32)
    (hm4 : ¬ within w 768#32 1024#32)
    (Post : Vec F S1024x1024 .f32 → Vec F S1024x1024 .bf16 → Vec F S1024x1024 .f32 → Prop)
    (hPost : ∀ Y9 X10 X11, Left768 (isFirst i) (k0_cond11 i = 1#1) x w1 w3 w2 y xb acc Y9 X10 X11 → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  refine ⟨fun h => ?_, fun h => ?_, fun h => ?_, fun h => ?_, fun h => ?_, fun h => ?_⟩
  · exact absurd h hj
  · rw [harg10.read_unread]
  · exact absurd h hj
  · refine (top768_writes _ _ _ _).trans ?_
    refine congr (congr (congr (congr (congrArg (k0_pay7 (F := F)) ?_) ?_) ?_) ?_) ?_
    · rfl
    · exact (View.readAt_full _ _ _).trans (harg6.read_unread w1)
    · exact (View.readAt_full _ _ _).trans (harg7.read_unread w3)
    · exact congrArg top768 (harg11.read_unread acc)
    · exact (View.readAt_full _ _ _).trans (harg8.read_unread w2)
  · exact absurd h hj6
  · exact harg9.read_unread y

/-- A run over the leading 768 rows at a tile's last column step. -/
theorem run768_last (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : k0_cond11 i = 1#1)
    (hm1 : ¬ within w 0#32 256#32)
    (hm2 : ¬ within w 256#32 512#32)
    (hm3 : within w 512#32 768#32)
    (hm4 : ¬ within w 768#32 1024#32)
    (Post : Vec F S1024x1024 .f32 → Vec F S1024x1024 .bf16 → Vec F S1024x1024 .f32 → Prop)
    (hPost : ∀ Y9 X10 X11, Left768 (isFirst i) (k0_cond11 i = 1#1) x w1 w3 w2 y xb acc Y9 X10 X11 → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  refine ⟨fun h => ?_, fun h => ?_, fun h => ?_, fun h => ?_, fun h => ?_, fun h => ?_⟩
  · exact absurd h hj
  · rw [harg10.read_unread]
  · exact absurd h hj
  · unfold run768_last.sl.H11_1
    refine (top768_writes _ _ _ _).trans ?_
    refine congr (congr (congr (congr (congrArg (k0_pay7 (F := F)) ?_) ?_) ?_) ?_) ?_
    · rfl
    · exact (View.readAt_full _ _ _).trans (harg6.read_unread w1)
    · exact (View.readAt_full _ _ _).trans (harg7.read_unread w3)
    · exact congrArg top768 (harg11.read_unread acc)
    · exact (View.readAt_full _ _ _).trans (harg8.read_unread w2)
  · refine (View.read_writes_full _ _ _ _ _).trans ?_
    unfold run768_last.sl.v31
    exact View.readAt_full _ _ _
  · exact absurd hj6 h

/-- A run over the leading 1024 rows at a tile's first column step. -/
theorem run1024_first (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : isFirst i) (hj6 : ¬ k0_cond11 i = 1#1)
    (hm1 : ¬ within w 0#32 256#32)
    (hm2 : ¬ within w 256#32 512#32)
    (hm3 : ¬ within w 512#32 768#32)
    (hm4 : within w 768#32 1024#32)
    (Post : Vec F S1024x1024 .f32 → Vec F S1024x1024 .bf16 → Vec F S1024x1024 .f32 → Prop)
    (hPost : ∀ Y9 X10 X11, Left1024 (isFirst i) (k0_cond11 i = 1#1) x w1 w3 w2 y xb acc Y9 X10 X11 → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  refine ⟨fun h => ?_, fun h => ?_, fun h => ?_, fun h => ?_, fun h => ?_, fun h => ?_⟩
  · unfold run1024_first.sl.H10_1
    refine (top1024_writes _ _ _ _).trans ?_
    exact congrArg (fun z => k0_pay8 (F := F) (top1024 z)) (harg5.read_unread x)
  · exact absurd hj h
  · refine (top1024_writes _ _ _ _).trans ?_
    unfold run1024_first.sl.v34 run1024_first.sl.H10_1 run1024_first.sl.v47 run1024_first.sl.H11_1
    refine congr (congr (congr (congr (congrArg (k0_pay9 (F := F)) ?_) ?_) ?_) ?_) ?_
    · exact Eq.trans (top1024_readCov (F := F) arg10.view _ _) (Eq.symm (top1024_writes (F := F) arg10.view _ _ _))
    · exact (View.readAt_full _ _ _).trans (harg6.read_unread w1)
    · exact (View.readAt_full _ _ _).trans (harg7.read_unread w3)
    · exact top1024_readCov_full _ _ _
    · exact (View.readAt_full _ _ _).trans (harg8.read_unread w2)
  · exact absurd hj h
  · exact absurd h hj6
  · exact harg9.read_unread y

/-- A run over the leading 1024 rows at a column step between the first and the last. -/
theorem run1024_mid (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : ¬ k0_cond11 i = 1#1)
    (hm1 : ¬ within w 0#32 256#32)
    (hm2 : ¬ within w 256#32 512#32)
    (hm3 : ¬ within w 512#32 768#32)
    (hm4 : within w 768#32 1024#32)
    (Post : Vec F S1024x1024 .f32 → Vec F S1024x1024 .bf16 → Vec F S1024x1024 .f32 → Prop)
    (hPost : ∀ Y9 X10 X11, Left1024 (isFirst i) (k0_cond11 i = 1#1) x w1 w3 w2 y xb acc Y9 X10 X11 → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  refine ⟨fun h => ?_, fun h => ?_, fun h => ?_, fun h => ?_, fun h => ?_, fun h => ?_⟩
  · exact absurd h hj
  · rw [harg10.read_unread]
  · exact absurd h hj
  · refine (top1024_writes _ _ _ _).trans ?_
    refine congr (congr (congr (congr (congrArg (k0_pay9 (F := F)) ?_) ?_) ?_) ?_) ?_
    · rfl
    · exact (View.readAt_full _ _ _).trans (harg6.read_unread w1)
    · exact (View.readAt_full _ _ _).trans (harg7.read_unread w3)
    · exact congrArg top1024 (harg11.read_unread acc)
    · exact (View.readAt_full _ _ _).trans (harg8.read_unread w2)
  · exact absurd h hj6
  · exact harg9.read_unread y

/-- A run over the leading 1024 rows at a tile's last column step. -/
theorem run1024_last (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : k0_cond11 i = 1#1)
    (hm1 : ¬ within w 0#32 256#32)
    (hm2 : ¬ within w 256#32 512#32)
    (hm3 : ¬ within w 512#32 768#32)
    (hm4 : within w 768#32 1024#32)
    (Post : Vec F S1024x1024 .f32 → Vec F S1024x1024 .bf16 → Vec F S1024x1024 .f32 → Prop)
    (hPost : ∀ Y9 X10 X11, Left1024 (isFirst i) (k0_cond11 i = 1#1) x w1 w3 w2 y xb acc Y9 X10 X11 → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  refine ⟨fun h => ?_, fun h => ?_, fun h => ?_, fun h => ?_, fun h => ?_, fun h => ?_⟩
  · exact absurd h hj
  · rw [harg10.read_unread]
  · exact absurd h hj
  · unfold run1024_last.sl.H11_1
    refine (top1024_writes _ _ _ _).trans ?_
    refine congr (congr (congr (congr (congrArg (k0_pay9 (F := F)) ?_) ?_) ?_) ?_) ?_
    · rfl
    · exact (View.readAt_full _ _ _).trans (harg6.read_unread w1)
    · exact (View.readAt_full _ _ _).trans (harg7.read_unread w3)
    · exact congrArg top1024 (harg11.read_unread acc)
    · exact (View.readAt_full _ _ _).trans (harg8.read_unread w2)
  · refine (View.read_writes_full _ _ _ _ _).trans ?_
    unfold run1024_last.sl.v31
    unfold run1024_last.sl.H11_1
    exact Eq.trans (View.readCov_full _ _ _ _ _) (Eq.symm (View.read_writes_full _ _ _ _ _))
  · exact absurd hj6 h

/-- A run whose row count is above 1024 works on no rows, at a tile's first column step. -/
theorem over_first (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : isFirst i) (hj6 : ¬ k0_cond11 i = 1#1)
    (hm1 : ¬ within w 0#32 256#32)
    (hm2 : ¬ within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run whose row count is above 1024 works on no rows, at a column step between the first and the last. -/
theorem over_mid (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : ¬ k0_cond11 i = 1#1)
    (hm1 : ¬ within w 0#32 256#32)
    (hm2 : ¬ within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- A run whose row count is above 1024 works on no rows, at a tile's last column step. -/
theorem over_last (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (hc1 : k0_cond1 w = 1#1) (hj : ¬ isFirst i) (hj6 : k0_cond11 i = 1#1)
    (hm1 : ¬ within w 0#32 256#32)
    (hm2 : ¬ within w 256#32 512#32)
    (hm3 : ¬ within w 512#32 768#32)
    (hm4 : ¬ within w 768#32 1024#32)
    (Post : Vec F S1024x1024 .f32 → Vec F S1024x1024 .bf16 → Vec F S1024x1024 .f32 → Prop)
    (hPost : ∀ Y9 X10 X11, True → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨HT, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  unfold smemLoad
  rw [smemLoadElt_bind]
  named_smem HT w hw
  sl_exec
  sl_step
  iapply Hk
  iexists _; iexists _; iexists _
  isplitl [HT]; · iexact HT
  isplitl [H5]; · iexists _; isplitr; · ipureintro; exact harg5.read_unread x
                  iexact H5
  isplitl [H6]; · iexists _; isplitr; · ipureintro; exact harg6.read_unread w1
                  iexact H6
  isplitl [H7]; · iexists _; isplitr; · ipureintro; exact harg7.read_unread w3
                  iexact H7
  isplitl [H8]; · iexists _; isplitr; · ipureintro; exact harg8.read_unread w2
                  iexact H8
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  ipureintro
  refine hPost _ _ _ ?_
  trivial

/-- `within`, in integers. -/
theorem within_iff (w a b : BitVec 32) : within w a b ↔ a.toInt < w.toInt ∧ w.toInt ≤ b.toInt := by
  unfold within; rw [flag_word, flag_and, sgt_iff, sle_iff]

/-- The body works on a tile exactly where its row count is positive. -/
theorem cond1_iff (w : BitVec 32) : k0_cond1 w = 1#1 ↔ 0 < w.toInt := by
  show Scalar.cmpi .ne (Scalar.extui (Scalar.cmpi .sgt w 0#32) : BitVec 32) 0#32 = 1#1 ↔ _
  rw [flag_word, sgt_iff]; rfl

/-- The first column step is step 0. -/
theorem isFirst_iff (i : grid0.Coords) : isFirst i ↔ (i 1).val = 0 := by
  have h : ∀ j : Fin 7, Scalar.cmpi .ne (Scalar.extui (Scalar.cmpi .eq (BitVec.ofNat 32 j.val) 0#32) : BitVec 32) 0#32 = 1#1 ↔ j.val = 0 := by
    decide
  exact h (i 1)

/-- The last column step is step 6. -/
theorem isLast_iff (i : grid0.Coords) : k0_cond11 i = 1#1 ↔ (i 1).val = 6 := by
  have h : ∀ j : Fin 7, Scalar.cmpi .ne (Scalar.extui (Scalar.cmpi .eq (BitVec.ofNat 32 j.val) 6#32) : BitVec 32) 0#32 = 1#1 ↔ j.val = 6 := by
    decide
  exact h (i 1)

/-- What one run of the body at grid point `i` leaves, over the row count `n` of its tile. -/
structure Left (n : Int) (i : grid0.Coords) (x : Vec F S1024x1024 .f32) (w1 w3 : Vec F S1x1024x512 .f32) (w2 : Vec F S1x512x1024 .f32)
    (y : Vec F S1024x1024 .f32) (xb : Vec F S1024x1024 .bf16) (acc : Vec F S1024x1024 .f32)
    (Y9 : Vec F S1024x1024 .f32) (X10 : Vec F S1024x1024 .bf16) (X11 : Vec F S1024x1024 .f32) : Prop where
  none : n ≤ 0 → Y9 = y ∧ X10 = xb ∧ X11 = acc
  upto256 : 0 < n → n ≤ 256 → Left256 (isFirst i) (k0_cond11 i = 1#1) x w1 w3 w2 y xb acc Y9 X10 X11
  upto512 : 256 < n → n ≤ 512 → Left512 (isFirst i) (k0_cond11 i = 1#1) x w1 w3 w2 y xb acc Y9 X10 X11
  upto768 : 512 < n → n ≤ 768 → Left768 (isFirst i) (k0_cond11 i = 1#1) x w1 w3 w2 y xb acc Y9 X10 X11
  upto1024 : 768 < n → n ≤ 1024 → Left1024 (isFirst i) (k0_cond11 i = 1#1) x w1 w3 w2 y xb acc Y9 X10 X11

/-- One run of the body at any grid point. -/
theorem run_any (c : Dev nD) (i : grid0.Coords) (q : PosShare TreeShare)
    (arg2 : Memref sig .tc .smem S41 .i32) (harg2 : arg2.IsWhole) (arg4 : Memref sig .tc .smem S1 .i32) (harg4 : arg4.IsWhole)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (T : Tab F)
    (x : Vec F S1024x1024 .f32) (w1 w3 : Vec F S1x1024x512 .f32) (w2 : Vec F S1x512x1024 .f32) (y : Vec F S1024x1024 .f32)
    (xb : Vec F S1024x1024 .bf16) (acc : Vec F S1024x1024 .f32)
    (w : BitVec 32) (hw : w = rows T i)
    (Post : Vec F S1024x1024 .f32 → Vec F S1024x1024 .bf16 → Vec F S1024x1024 .f32 → Prop)
    (hPost : ∀ Y9 X10 X11, Left (rows T i).toInt i x w1 w3 w2 y xb acc Y9 X10 X11 → Post Y9 X10 X11) (E : Set ℕ) (K : PUnit → sProp (MT nD τ sig Unit (Elt F) ℕ (UR sig nD τ) ℕ)) :
    iprop((((c : Thread nD τ).loc main_arg2) ↦{q} T)
      ∗ owns (c : Thread nD τ) arg5 fullShare x ∗ owns (c : Thread nD τ) arg6 fullShare w1 ∗ owns (c : Thread nD τ) arg7 fullShare w3
      ∗ owns (c : Thread nD τ) arg8 fullShare w2 ∗ owns (c : Thread nD τ) arg9 fullShare y ∗ owns (c : Thread nD τ) arg10 fullShare xb
      ∗ owns (c : Thread nD τ) arg11 fullShare acc
      ∗ (iprop(∃ Y9 X10 X11, (((c : Thread nD τ).loc main_arg2) ↦{q} T)
          ∗ owns (c : Thread nD τ) arg5 fullShare x ∗ owns (c : Thread nD τ) arg6 fullShare w1 ∗ owns (c : Thread nD τ) arg7 fullShare w3
          ∗ owns (c : Thread nD τ) arg8 fullShare w2 ∗ owns (c : Thread nD τ) arg9 fullShare Y9 ∗ owns (c : Thread nD τ) arg10 fullShare X10
          ∗ owns (c : Thread nD τ) arg11 fullShare X11 ∗ ⌜Post Y9 X10 X11⌝) -∗ K ⟨⟩))
    ⊢ wp frame (wpE (defs₀ (F := F)) Variants.none c none) E
        (cc0_moe_experts i arg2 harg2 (Memref.whole main_arg2) (Memref.isWhole_whole _) arg4 harg4 arg5 harg5 arg6 harg6 arg7 harg7 arg8 harg8 arg9 harg9 arg10 harg10 arg11 harg11) K := by
  have hF := isFirst_iff i
  have hL := isLast_iff i
  have e0 : (0#32 : BitVec 32).toInt = 0 := rfl
  have e256 : (256#32 : BitVec 32).toInt = 256 := rfl
  have e512 : (512#32 : BitVec 32).toInt = 512 := rfl
  have e768 : (768#32 : BitVec 32).toInt = 768 := rfl
  have e1024 : (1024#32 : BitVec 32).toInt = 1024 := rfl
  have b1 := within_iff w 0#32 256#32
  have b2 := within_iff w 256#32 512#32
  have b3 := within_iff w 512#32 768#32
  have b4 := within_iff w 768#32 1024#32
  have hc := cond1_iff w
  rw [e0, e256] at b1; rw [e256, e512] at b2; rw [e512, e768] at b3; rw [e768, e1024] at b4
  by_cases h0 : 0 < w.toInt
  swap
  · exact run_none c i q arg2 harg2 arg4 harg4 arg5 harg5 arg6 harg6 arg7 harg7 arg8 harg8 arg9 harg9 arg10 harg10 arg11 harg11 T x w1 w3 w2 y xb acc w hw (mt hc.mp h0) Post (fun _ _ _ h => hPost _ _ _ (by subst hw; exact ⟨fun _ => h, fun a _ => absurd a (by omega), fun a _ => absurd a (by omega), fun a _ => absurd a (by omega), fun a _ => absurd a (by omega)⟩)) E K
  by_cases g256 : w.toInt ≤ 256
  · by_cases f : isFirst i
    · exact run256_first c i q arg2 harg2 arg4 harg4 arg5 harg5 arg6 harg6 arg7 harg7 arg8 harg8 arg9 harg9 arg10 harg10 arg11 harg11 T x w1 w3 w2 y xb acc w hw (hc.mpr h0) f (mt hL.mp (by have := hF.mp f; omega)) (b1.mpr (by omega)) (mt b2.mp (by omega)) (mt b3.mp (by omega)) (mt b4.mp (by omega)) Post (fun _ _ _ h => hPost _ _ _ (by subst hw; exact ⟨fun a => absurd a (by omega), fun _ _ => h, fun a b => absurd a (by omega), fun a b => absurd a (by omega), fun a b => absurd a (by omega)⟩)) E K
    by_cases l : k0_cond11 i = 1#1
    · exact run256_last c i q arg2 harg2 arg4 harg4 arg5 harg5 arg6 harg6 arg7 harg7 arg8 harg8 arg9 harg9 arg10 harg10 arg11 harg11 T x w1 w3 w2 y xb acc w hw (hc.mpr h0) f l (b1.mpr (by omega)) (mt b2.mp (by omega)) (mt b3.mp (by omega)) (mt b4.mp (by omega)) Post (fun _ _ _ h => hPost _ _ _ (by subst hw; exact ⟨fun a => absurd a (by omega), fun _ _ => h, fun a b => absurd a (by omega), fun a b => absurd a (by omega), fun a b => absurd a (by omega)⟩)) E K
    · exact run256_mid c i q arg2 harg2 arg4 harg4 arg5 harg5 arg6 harg6 arg7 harg7 arg8 harg8 arg9 harg9 arg10 harg10 arg11 harg11 T x w1 w3 w2 y xb acc w hw (hc.mpr h0) f l (b1.mpr (by omega)) (mt b2.mp (by omega)) (mt b3.mp (by omega)) (mt b4.mp (by omega)) Post (fun _ _ _ h => hPost _ _ _ (by subst hw; exact ⟨fun a => absurd a (by omega), fun _ _ => h, fun a b => absurd a (by omega), fun a b => absurd a (by omega), fun a b => absurd a (by omega)⟩)) E K
  by_cases g512 : w.toInt ≤ 512
  · by_cases f : isFirst i
    · exact run512_first c i q arg2 harg2 arg4 harg4 arg5 harg5 arg6 harg6 arg7 harg7 arg8 harg8 arg9 harg9 arg10 harg10 arg11 harg11 T x w1 w3 w2 y xb acc w hw (hc.mpr h0) f (mt hL.mp (by have := hF.mp f; omega)) (mt b1.mp (by omega)) (b2.mpr (by omega)) (mt b3.mp (by omega)) (mt b4.mp (by omega)) Post (fun _ _ _ h => hPost _ _ _ (by subst hw; exact ⟨fun a => absurd a (by omega), fun a b => absurd b (by omega), fun _ _ => h, fun a b => absurd a (by omega), fun a b => absurd a (by omega)⟩)) E K
    by_cases l : k0_cond11 i = 1#1
    · exact run512_last c i q arg2 harg2 arg4 harg4 arg5 harg5 arg6 harg6 arg7 harg7 arg8 harg8 arg9 harg9 arg10 harg10 arg11 harg11 T x w1 w3 w2 y xb acc w hw (hc.mpr h0) f l (mt b1.mp (by omega)) (b2.mpr (by omega)) (mt b3.mp (by omega)) (mt b4.mp (by omega)) Post (fun _ _ _ h => hPost _ _ _ (by subst hw; exact ⟨fun a => absurd a (by omega), fun a b => absurd b (by omega), fun _ _ => h, fun a b => absurd a (by omega), fun a b => absurd a (by omega)⟩)) E K
    · exact run512_mid c i q arg2 harg2 arg4 harg4 arg5 harg5 arg6 harg6 arg7 harg7 arg8 harg8 arg9 harg9 arg10 harg10 arg11 harg11 T x w1 w3 w2 y xb acc w hw (hc.mpr h0) f l (mt b1.mp (by omega)) (b2.mpr (by omega)) (mt b3.mp (by omega)) (mt b4.mp (by omega)) Post (fun _ _ _ h => hPost _ _ _ (by subst hw; exact ⟨fun a => absurd a (by omega), fun a b => absurd b (by omega), fun _ _ => h, fun a b => absurd a (by omega), fun a b => absurd a (by omega)⟩)) E K
  by_cases g768 : w.toInt ≤ 768
  · by_cases f : isFirst i
    · exact run768_first c i q arg2 harg2 arg4 harg4 arg5 harg5 arg6 harg6 arg7 harg7 arg8 harg8 arg9 harg9 arg10 harg10 arg11 harg11 T x w1 w3 w2 y xb acc w hw (hc.mpr h0) f (mt hL.mp (by have := hF.mp f; omega)) (mt b1.mp (by omega)) (mt b2.mp (by omega)) (b3.mpr (by omega)) (mt b4.mp (by omega)) Post (fun _ _ _ h => hPost _ _ _ (by subst hw; exact ⟨fun a => absurd a (by omega), fun a b => absurd b (by omega), fun a b => absurd b (by omega), fun _ _ => h, fun a b => absurd a (by omega)⟩)) E K
    by_cases l : k0_cond11 i = 1#1
    · exact run768_last c i q arg2 harg2 arg4 harg4 arg5 harg5 arg6 harg6 arg7 harg7 arg8 harg8 arg9 harg9 arg10 harg10 arg11 harg11 T x w1 w3 w2 y xb acc w hw (hc.mpr h0) f l (mt b1.mp (by omega)) (mt b2.mp (by omega)) (b3.mpr (by omega)) (mt b4.mp (by omega)) Post (fun _ _ _ h => hPost _ _ _ (by subst hw; exact ⟨fun a => absurd a (by omega), fun a b => absurd b (by omega), fun a b => absurd b (by omega), fun _ _ => h, fun a b => absurd a (by omega)⟩)) E K
    · exact run768_mid c i q arg2 harg2 arg4 harg4 arg5 harg5 arg6 harg6 arg7 harg7 arg8 harg8 arg9 harg9 arg10 harg10 arg11 harg11 T x w1 w3 w2 y xb acc w hw (hc.mpr h0) f l (mt b1.mp (by omega)) (mt b2.mp (by omega)) (b3.mpr (by omega)) (mt b4.mp (by omega)) Post (fun _ _ _ h => hPost _ _ _ (by subst hw; exact ⟨fun a => absurd a (by omega), fun a b => absurd b (by omega), fun a b => absurd b (by omega), fun _ _ => h, fun a b => absurd a (by omega)⟩)) E K
  by_cases g1024 : w.toInt ≤ 1024
  · by_cases f : isFirst i
    · exact run1024_first c i q arg2 harg2 arg4 harg4 arg5 harg5 arg6 harg6 arg7 harg7 arg8 harg8 arg9 harg9 arg10 harg10 arg11 harg11 T x w1 w3 w2 y xb acc w hw (hc.mpr h0) f (mt hL.mp (by have := hF.mp f; omega)) (mt b1.mp (by omega)) (mt b2.mp (by omega)) (mt b3.mp (by omega)) (b4.mpr (by omega)) Post (fun _ _ _ h => hPost _ _ _ (by subst hw; exact ⟨fun a => absurd a (by omega), fun a b => absurd b (by omega), fun a b => absurd b (by omega), fun a b => absurd b (by omega), fun _ _ => h⟩)) E K
    by_cases l : k0_cond11 i = 1#1
    · exact run1024_last c i q arg2 harg2 arg4 harg4 arg5 harg5 arg6 harg6 arg7 harg7 arg8 harg8 arg9 harg9 arg10 harg10 arg11 harg11 T x w1 w3 w2 y xb acc w hw (hc.mpr h0) f l (mt b1.mp (by omega)) (mt b2.mp (by omega)) (mt b3.mp (by omega)) (b4.mpr (by omega)) Post (fun _ _ _ h => hPost _ _ _ (by subst hw; exact ⟨fun a => absurd a (by omega), fun a b => absurd b (by omega), fun a b => absurd b (by omega), fun a b => absurd b (by omega), fun _ _ => h⟩)) E K
    · exact run1024_mid c i q arg2 harg2 arg4 harg4 arg5 harg5 arg6 harg6 arg7 harg7 arg8 harg8 arg9 harg9 arg10 harg10 arg11 harg11 T x w1 w3 w2 y xb acc w hw (hc.mpr h0) f l (mt b1.mp (by omega)) (mt b2.mp (by omega)) (mt b3.mp (by omega)) (b4.mpr (by omega)) Post (fun _ _ _ h => hPost _ _ _ (by subst hw; exact ⟨fun a => absurd a (by omega), fun a b => absurd b (by omega), fun a b => absurd b (by omega), fun a b => absurd b (by omega), fun _ _ => h⟩)) E K
  by_cases f : isFirst i
  · exact over_first c i q arg2 harg2 arg4 harg4 arg5 harg5 arg6 harg6 arg7 harg7 arg8 harg8 arg9 harg9 arg10 harg10 arg11 harg11 T x w1 w3 w2 y xb acc w hw (hc.mpr h0) f (mt hL.mp (by have := hF.mp f; omega)) (mt b1.mp (by omega)) (mt b2.mp (by omega)) (mt b3.mp (by omega)) (mt b4.mp (by omega)) Post (fun _ _ _ _ => hPost _ _ _ (by subst hw; exact ⟨fun a => absurd a (by omega), fun a b => absurd b (by omega), fun a b => absurd b (by omega), fun a b => absurd b (by omega), fun a b => absurd b (by omega)⟩)) E K
  by_cases l : k0_cond11 i = 1#1
  · exact over_last c i q arg2 harg2 arg4 harg4 arg5 harg5 arg6 harg6 arg7 harg7 arg8 harg8 arg9 harg9 arg10 harg10 arg11 harg11 T x w1 w3 w2 y xb acc w hw (hc.mpr h0) f l (mt b1.mp (by omega)) (mt b2.mp (by omega)) (mt b3.mp (by omega)) (mt b4.mp (by omega)) Post (fun _ _ _ _ => hPost _ _ _ (by subst hw; exact ⟨fun a => absurd a (by omega), fun a b => absurd b (by omega), fun a b => absurd b (by omega), fun a b => absurd b (by omega), fun a b => absurd b (by omega)⟩)) E K
  · exact over_mid c i q arg2 harg2 arg4 harg4 arg5 harg5 arg6 harg6 arg7 harg7 arg8 harg8 arg9 harg9 arg10 harg10 arg11 harg11 T x w1 w3 w2 y xb acc w hw (hc.mpr h0) f l (mt b1.mp (by omega)) (mt b2.mp (by omega)) (mt b3.mp (by omega)) (mt b4.mp (by omega)) Post (fun _ _ _ _ => hPost _ _ _ (by subst hw; exact ⟨fun a => absurd a (by omega), fun a b => absurd b (by omega), fun a b => absurd b (by omega), fun a b => absurd b (by omega), fun a b => absurd b (by omega)⟩)) E K

end Cert.Kernel5Ideal.Exp
end
-- ==== Proof.ExpTab.lean ====
module

public import proofs.«01_k».proof.Proof.Gen.Kernel5Ideal.Launch
public import proofs.«01_k».proof.Proof.Experts

/-! # The blocks that the experts kernel stages, from its routing tables -/

@[expose] public section
set_option maxRecDepth 16384
noncomputable section
namespace Cert.Kernel5Ideal.Exp
open Idealize.ShloMosaic Idealize.ShloMosaic.TcCoe
open Cert.Kernel5Ideal Cert.Kernel5Ideal.Gen Cert.Experts

variable {F : FTy → Type} [FloatOps F]

/-- The tables' contents name blocks there are. -/
abbrev Ok (pf : pre0.Contents (Elt F)) : Prop := Bounded (pf 0) (pf 2)
/-- The tables' contents are routed. -/
abbrev Counted (pf : pre0.Contents (Elt F)) : Prop := Routed (pf 0) (pf 1) (pf 2)

/-- The expert of a tile. -/
def expert (pf : pre0.Contents (Elt F)) (k : Fin 41) : ℕ := ((pf 0 : Words41) (ix1 k)).toNat
/-- The row count of a tile. -/
def count (pf : pre0.Contents (Elt F)) (k : Fin 41) : ℕ := ((pf 1 : Words41) (ix1 k)).toInt.toNat
/-- The number of used tiles, of the 41 there are. -/
def used (pf : pre0.Contents (Elt F)) : ℕ := min ((pf 2 : Word1) (ix1 0)).toNat 41

variable {pf : pre0.Contents (Elt F)}

/-- An expert is one of the eight. -/
theorem expert_lt (h : Ok pf) (k : Fin 41) : expert pf k < 8 := by
  have := toNat_of_nonneg _ (h.te_lo k); have := h.te_hi k
  unfold expert; omega
/-- A row count is at most 1024. -/
theorem count_le (h : Counted pf) (k : Fin 41) : count pf k ≤ 1024 := by
  have := h.nv_hi k
  unfold count; omega
/-- At least one tile is used. -/
theorem used_pos (h : Ok pf) : 1 ≤ used pf := by
  have := toNat_of_nonneg ((pf 2 : Word1) (ix1 0)) (by have := h.nu_lo; omega); have := h.nu_lo
  unfold used; omega
/-- At most 41 tiles are used. -/
theorem used_le (h : Ok pf) : used pf ≤ 41 := by
  unfold used; omega
/-- A tile with rows is used. -/
theorem lt_used (h : Counted pf) (k : Fin 41) (hk : 0 < count pf k) : k.val < used pf := by
  by_contra hc
  have e := toNat_of_nonneg ((pf 2 : Word1) (ix1 0)) (by have := h.nu_lo; omega)
  have := k.isLt
  have := h.unused k (by unfold used at hc; omega)
  unfold count at hk
  omega

/-- The place of the one entry of a unit rectangle of a 41-word table. -/
theorem emb41 (k : Fin 41) {off : Fin 1 → ℕ} (ho : off 0 = k.val) (hb : ∀ a, off a + S1.size a ≤ S41.size a)
    (z : (Rect.unit (s := S41) off S1.size hb).shape.Idx) : (Rect.unit (s := S41) off S1.size hb).emb z = ix1 k := by
  funext a
  have : a = 0 := Subsingleton.elim (α := Fin 1) _ _
  subst this
  apply Fin.ext
  have hz : (z 0 : ℕ) < 1 := (z 0).isLt
  show off 0 + 1 * (z 0 : ℕ) = k.val
  omega

/-- The word of a 41-word table at a tile. -/
theorem at41 (f : Words41) (i : grid0.Coords) (hb : ∀ a, (![(Scalar.indexCast (BitVec.ofNat 32 (i 0).val) : BitVec 32).toNat] : Fin 1 → ℕ) a + S1.size a ≤ S41.size a)
    (z : (Rect.unit (s := S41) ![(Scalar.indexCast (BitVec.ofNat 32 (i 0).val) : BitVec 32).toNat] S1.size hb).shape.Idx) :
    f ((Rect.unit (s := S41) ![(Scalar.indexCast (BitVec.ofNat 32 (i 0).val) : BitVec 32).toNat] S1.size hb).emb z) = f (ix1 (i 0)) := by
  have hi : (i 0 : ℕ) < 41 := (i 0).isLt
  refine congrArg f (emb41 (i 0) ?_ hb z)
  show (BitVec.ofNat 32 (i 0).val).toNat = (i 0).val
  rw [BitVec.toNat_ofNat, Nat.mod_eq_of_lt (by omega)]

/-- The one word of the third table. -/
theorem at1 (f : Word1) (x : (⟨1, ![1]⟩ : Shape).Idx) : f x = f (ix1 0) :=
  congrArg f (funext fun a => by
    have : a = 0 := Subsingleton.elim (α := Fin 1) _ _
    subst this
    exact Subsingleton.elim (α := Fin 1) _ _)

/-- The third table's word, as an index map reads it. -/
theorem at_used (pf : pre0.Contents (Elt F)) : pf.at 2 (Rect.unit ![0] S1.size Gen.inb_S1_S1_0) Gen.numel1_S1 = (pf 2 : Word1) (ix1 0) :=
  at1 _ _
/-- A tile's expert, as an index map reads it. -/
theorem at_expert (pf : pre0.Contents (Elt F)) (i : grid0.Coords) :
    pf.at 0 (Rect.unit ![(Scalar.indexCast (BitVec.ofNat 32 (i 0).val)).toNat] S1.size (Gen.k0_off1_inb i)) Gen.numel1_S1 = (pf 0 : Words41) (ix1 (i 0)) :=
  at41 _ i _ _

/-- The block of rows staged at a point: its tile's, capped at the last used one. -/
theorem ix_rows (h : Ok pf) (i : grid0.Coords) : ix0 pf 0 i = ![min (i 0).val (used pf - 1), 0] := by
  show cc0_transform_0 Gen.inb_S1_S1_0 Gen.numel1_S1 pf i = _
  unfold cc0_transform_0
  have e := min_word (i 0).val (i 0).isLt _ h.nu_lo
  refine (congrArg (fun w : BitVec 32 => (![(Scalar.minsi (BitVec.ofNat 32 (i 0).val) (Scalar.subi w 1#32)).toNat, 0] : Fin 2 → ℕ)) (at_used pf)).trans ?_
  exact congrArg (fun z => (![z, 0] : Fin 2 → ℕ)) e
/-- The block of the first weights staged at a point. -/
theorem ix_w1 (h : Ok pf) (i : grid0.Coords) : ix0 pf 1 i = ![expert pf (i 0), 0, if (i 0).val < used pf then (i 1).val else 6] := by
  show cc0_transform_1 Gen.k0_off1_inb Gen.numel1_S1 Gen.inb_S1_S1_0 pf i = _
  unfold cc0_transform_1
  have e := col_word (i 0).val (i 1).val (i 0).isLt (i 1).isLt _ h.nu_lo
  refine (congrArg₂ (fun u w : BitVec 32 => (![u.toNat, 0, (Scalar.select (Scalar.cmpi .slt (BitVec.ofNat 32 (i 0).val) w) (BitVec.ofNat 32 (i 1).val) 6#32).toNat] : Fin 3 → ℕ)) (at_expert pf i) (at_used pf)).trans ?_
  exact congrArg (fun z => (![expert pf (i 0), 0, z] : Fin 3 → ℕ)) e
/-- The block of the third weights staged at a point. -/
theorem ix_w3 (h : Ok pf) (i : grid0.Coords) : ix0 pf 2 i = ![expert pf (i 0), 0, if (i 0).val < used pf then (i 1).val else 6] :=
  (show ix0 pf 2 i = ix0 pf 1 i from rfl).trans (ix_w1 h i)
/-- The block of the second weights staged at a point. -/
theorem ix_w2 (h : Ok pf) (i : grid0.Coords) : ix0 pf 3 i = ![expert pf (i 0), if (i 0).val < used pf then (i 1).val else 6, 0] := by
  show cc0_transform_3 Gen.k0_off1_inb Gen.numel1_S1 Gen.inb_S1_S1_0 pf i = _
  unfold cc0_transform_3
  have e := col_word (i 0).val (i 1).val (i 0).isLt (i 1).isLt _ h.nu_lo
  refine (congrArg₂ (fun u w : BitVec 32 => (![u.toNat, (Scalar.select (Scalar.cmpi .slt (BitVec.ofNat 32 (i 0).val) w) (BitVec.ofNat 32 (i 1).val) 6#32).toNat, 0] : Fin 3 → ℕ)) (at_expert pf i) (at_used pf)).trans ?_
  exact congrArg (fun z => (![expert pf (i 0), z, 0] : Fin 3 → ℕ)) e
/-- The block of the result that a point works on. -/
theorem ix_out (h : Ok pf) (i : grid0.Coords) : ix0 pf 4 i = ![min (i 0).val (used pf - 1), 0] :=
  (show ix0 pf 4 i = ix0 pf 0 i from rfl).trans (ix_rows h i)

/-- Every staged block lies inside its array. -/
theorem ok_of (h : Ok pf) : ok0 pf := by
  have hu := used_pos h
  have hv := used_le h
  refine ⟨fun i => ⟨?_, Or.inl rfl⟩, fun i => ⟨?_, Or.inl rfl⟩, fun i => ⟨?_, Or.inl rfl⟩, fun i => ⟨?_, Or.inl rfl⟩, fun i => ⟨?_, Or.inl rfl⟩⟩
  · show ∀ a, (ix0 pf 0 i a + 1) * S1024x1024.size a ≤ S44032x1024.size a
    rw [ix_rows h]
    have := (i 0).isLt
    intro a; fin_cases a
    · show (min (i 0).val (used pf - 1) + 1) * 1024 ≤ 44032; omega
    · show (0 + 1) * 1024 ≤ 1024; omega
  · show ∀ a, (ix0 pf 1 i a + 1) * S1x1024x512.size a ≤ S8x1024x3584.size a
    rw [ix_w1 h]
    have := expert_lt h (i 0)
    have hj : (i 1).val < 7 := (i 1).isLt
    intro a; fin_cases a
    · show (expert pf (i 0) + 1) * 1 ≤ 8; omega
    · show (0 + 1) * 1024 ≤ 1024; omega
    · show ((if (i 0).val < used pf then (i 1).val else 6) + 1) * 512 ≤ 3584; split <;> omega
  · show ∀ a, (ix0 pf 2 i a + 1) * S1x1024x512.size a ≤ S8x1024x3584.size a
    rw [ix_w3 h]
    have := expert_lt h (i 0)
    have hj : (i 1).val < 7 := (i 1).isLt
    intro a; fin_cases a
    · show (expert pf (i 0) + 1) * 1 ≤ 8; omega
    · show (0 + 1) * 1024 ≤ 1024; omega
    · show ((if (i 0).val < used pf then (i 1).val else 6) + 1) * 512 ≤ 3584; split <;> omega
  · show ∀ a, (ix0 pf 3 i a + 1) * S1x512x1024.size a ≤ S8x3584x1024.size a
    rw [ix_w2 h]
    have := expert_lt h (i 0)
    have hj : (i 1).val < 7 := (i 1).isLt
    intro a; fin_cases a
    · show (expert pf (i 0) + 1) * 1 ≤ 8; omega
    · show ((if (i 0).val < used pf then (i 1).val else 6) + 1) * 512 ≤ 3584; split <;> omega
    · show (0 + 1) * 1024 ≤ 1024; omega
  · show ∀ a, (ix0 pf 4 i a + 1) * S1024x1024.size a ≤ S41984x1024.size a
    rw [ix_out h]
    have := (i 0).isLt
    intro a; fin_cases a
    · show (min (i 0).val (used pf - 1) + 1) * 1024 ≤ 41984; omega
    · show (0 + 1) * 1024 ≤ 1024; omega

end Cert.Kernel5Ideal.Exp
end
-- ==== Proof.ExpLaunch.lean ====
module

public import proofs.«01_k».proof.Proof.ExpRun
public import proofs.«01_k».proof.Proof.ExpTab

/-! # The launch of the experts kernel, from what one run of its body leaves -/

@[expose] public section
set_option maxRecDepth 16384
noncomputable section
namespace Cert.Kernel5Ideal.Exp
open Idealize.ShloMosaic Idealize.ShloMosaic.TcCoe Idealize.ShloMosaic.Tactic
open Idealize.SL Idealize.SL.RA Idealize.SL.BI
open scoped Idealize.SL.BI
open Idealize.SL.BI.BIBase Idealize.SL.Sem
open Cert.Kernel5Ideal Cert.Kernel5Ideal.Gen Cert.Experts

variable {F : FTy → Type} [FloatOps F]

/-- The routing tables' contents at entry. -/
abbrev tabs (m : (ℓ : Loc nD τ sig) → Buf (Elt F) ℓ) : pre0.Contents (Elt F) := fun k => m (((0 : Dev nD).tc : Thread nD τ).loc (pre0.ref k))

/-- Tables that name blocks there are, are admissible. -/
def adm (m : (ℓ : Loc nD τ sig) → Buf (Elt F) ℓ) (h : Ok (tabs m)) : (p : Fin 1) → (pcfgs (F := F) p).Adm
  | 0 => ⟨tabs m, ok_of h⟩

/-- The launched pipeline at the tables. -/
abbrev pipe (m : (ℓ : Loc nD τ sig) → Buf (Elt F) ℓ) (h : Ok (tabs m)) : Pipeline.Cfg sig Λ₀ := Pipeline.pin (pcfgs (F := F)) (adm m h) 0

/-- The tables' halves, one by one. -/
theorem tables_eq (v : pre0.Contents (Elt F)) (c : Dev nD) :
    (Pipeline.ΦT (U := UR sig nD τ) pre0 v c : sProp (MT nD τ sig Unit (Elt F) ℕ (UR sig nD τ) ℕ))
      = iprop((((c : Thread nD τ).loc main_arg1) ↦{fullShare.right} v 0) ∗ (((c : Thread nD τ).loc main_arg2) ↦{fullShare.right} v 1)
        ∗ (((c : Thread nD τ).loc main_arg3) ↦{fullShare.right} v 2)) :=
  bigSep_univ_eq_bigSepL [(0 : Fin 3), (1 : Fin 3), (2 : Fin 3)] (by decide) (by decide) _

/-- Scratch buffer 0 owned whole is its points-to. -/
theorem owns_scratch0 (c : Dev nD) (f : Vec F S1024x1024 .bf16) :
    (owns (c : Thread nD τ) (Memref.whole cc0_scratch0) fullShare f : sProp (MT nD τ sig Unit (Elt F) ℕ (UR sig nD τ) ℕ))
      ⊣⊢ (((c : Thread nD τ).loc cc0_scratch0) ↦{fullShare} f) := by
  rw [owns_whole]

/-- Scratch buffer 1 owned whole is its points-to. -/
theorem owns_scratch1 (c : Dev nD) (f : Vec F S1024x1024 .f32) :
    (owns (c : Thread nD τ) (Memref.whole cc0_scratch1) fullShare f : sProp (MT nD τ sig Unit (Elt F) ℕ (UR sig nD τ) ℕ))
      ⊣⊢ (((c : Thread nD τ).loc cc0_scratch1) ↦{fullShare} f) := by
  rw [owns_whole]

variable (m : (ℓ : Loc nD τ sig) → Buf (Elt F) ℓ) (h : Ok (tabs m))
  (Inv : Fin (287 + 1) → Vec F S1024x1024 .bf16 → Vec F S1024x1024 .f32 → Prop)
  (OutR : Fin 287 → Vec F S1024x1024 .f32 → Vec F S1024x1024 .f32 → Prop)

/-- What a run of the body may leave in a window's buffer: an input's as it was, the output's as `OutR` says. -/
def left : (w : Fin 5) → Fin grid0.N → (Y X : (spec0 w).block.Idx → Elt F (spec0 w).elt) → Prop
  | 0, _, Y, X => X = Y
  | 1, _, Y, X => X = Y
  | 2, _, Y, X => X = Y
  | 3, _, Y, X => X = Y
  | 4, t, Y, X => OutR (t.cast N_0) Y X

/-- What is held before point `t`: the tables' halves, the generator register, and the scratch buffers as `Inv` says. -/
def held (c : Dev nD) (t : Fin (287 + 1)) : sProp (MT nD τ sig Unit (Elt F) ℕ (UR sig nD τ) ℕ) :=
  iprop(((((c : Thread nD τ).loc main_arg1) ↦{fullShare.right} tabs m 0) ∗ (((c : Thread nD τ).loc main_arg2) ↦{fullShare.right} tabs m 1)
      ∗ (((c : Thread nD τ).loc main_arg3) ↦{fullShare.right} tabs m 2)) ∗ (∃ r, prngReg c r) ∗ ∃ xb acc, ⌜Inv t xb acc⌝
    ∗ owns (c : Thread nD τ) (Memref.whole cc0_scratch0) fullShare xb ∗ owns (c : Thread nD τ) (Memref.whole cc0_scratch1) fullShare acc)

/-- The launch's data: the scratch buffers kept as `Inv` says, the windows as `left` says. -/
def data (c : Dev nD) : Pipeline.RDat τ (Elt F) Unit ℕ (UR sig nD τ) ℕ (pipe m h) c where
  A w := m ((c.tc : Thread nD τ).loc (Pipeline.arrRef spec0 w))
  after := left OutR
  Φ t := held m Inv c (t.cast (congrArg (· + 1) N_0))
  q _ := fullShare
  owed _ := 0

/-- The row count that a run reads is a table's entry. -/
theorem rows_eq (T : Tab F) (i : grid0.Coords) : rows T i = (T : Words41) (ix1 (i 0)) :=
  at41 (T : Words41) i (Gen.k0_off1_inb i) (Shape.Idx.first (Gen.numel1_S1.symm ▸ Nat.one_pos))

/-- The body meets its obligation at every point, if each of its runs keeps `Inv` and `OutR`. -/
theorem body_ok (c : Dev nD)
    (hstep : ∀ (t : Fin grid0.N) (Y : (w : Fin 5) → (spec0 w).block.Idx → Elt F (spec0 w).elt), (∀ w, (data m h Inv OutR c).Finds w t (Y w)) →
      ∀ xb acc, Inv (t.cast N_0).castSucc xb acc → ∀ Y9 X10 X11,
        Left (rows (tabs m 1) (grid0.coords t)).toInt (grid0.coords t) (Y 0) (Y 1) (Y 2) (Y 3) (Y 4) xb acc Y9 X10 X11 →
        OutR (t.cast N_0) (Y 4) Y9 ∧ Inv (t.cast N_0).succ X10 X11) :
    (data m h Inv OutR c).BodyObligation defs₀ Variants.none () Set.univ := by
  intro t Y hY
  rw [bigSep_W0, bigSep_W0]
  rw [show (data m h Inv OutR c).Φ t.castSucc = held m Inv c (t.cast N_0).castSucc from rfl,
    show (data m h Inv OutR c).Φ t.succ = held m Inv c (t.cast N_0).succ from rfl]
  unfold held
  unfold defs₀
  rw [Defs.onTc_tc]
  iintro ⟨⟨⟨HT1, HT2, HT3⟩, Hp, %xb, %acc, %hI, H10, H11⟩, HO, H5, H6, H7, H8, H9⟩
  have hs := hstep t Y hY xb acc hI
  iapply (run_any c (grid0.coords t) fullShare.right (Memref.whole main_arg1) (Memref.isWhole_whole _) (Memref.whole main_arg3) (Memref.isWhole_whole _)
    (spec0_0.stage _) (hstage0_0 _) (spec0_1.stage _) (hstage0_1 _) (spec0_2.stage _) (hstage0_2 _) (spec0_3.stage _) (hstage0_3 _)
    (spec0_4.stage _) (hstage0_4 _) (Memref.whole cc0_scratch0) (Memref.isWhole_whole _) (Memref.whole cc0_scratch1) (Memref.isWhole_whole _)
    (tabs m 1) (Y 0) (Y 1) (Y 2) (Y 3) (Y 4) xb acc _ rfl
    (fun Y9 X10 X11 => OutR (t.cast N_0) (Y 4) Y9 ∧ Inv (t.cast N_0).succ X10 X11) hs Set.univ _)
  isplitl [HT2]; · iexact HT2
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨%Y9, %X10, %X11, HT2, H5, H6, H7, H8, H9, H10, H11, %hP⟩
  isplitl [HT1 HT2 HT3 Hp H10 H11]
  · isplitl [HT1 HT2 HT3]
    · isplitl [HT1]; · iexact HT1
      isplitl [HT2]; · iexact HT2
      iexact HT3
    isplitl [Hp]; · iexact Hp
    iexists X10; iexists X11
    isplitr; · ipureintro; exact hP.2
    isplitl [H10]; · iexact H10
    iexact H11
  isplitl [HO]; · iexact HO
  isplitl [H5]
  · iexists Y 0
    isplitr; · ipureintro; rfl
    iexact H5
  isplitl [H6]
  · iexists Y 1
    isplitr; · ipureintro; rfl
    iexact H6
  isplitl [H7]
  · iexists Y 2
    isplitr; · ipureintro; rfl
    iexact H7
  isplitl [H8]
  · iexists Y 3
    isplitr; · ipureintro; rfl
    iexact H8
  iexists Y9
  isplitr; · ipureintro; exact hP.1
  iexact H9

include h in
/-- The launch: the arrays end as the data's relation says and the tables unchanged. -/
theorem launched (ρ : Dev nD → PrngReg) (hI : ∀ xb acc, Inv 0 xb acc)
    (hstep : ∀ (t : Fin grid0.N) (Y : (w : Fin 5) → (spec0 w).block.Idx → Elt F (spec0 w).elt), (∀ w, (data m h Inv OutR 0).Finds w t (Y w)) →
      ∀ xb acc, Inv (t.cast N_0).castSucc xb acc → ∀ Y9 X10 X11,
        Left (rows (tabs m 1) (grid0.coords t)).toInt (grid0.coords t) (Y 0) (Y 1) (Y 2) (Y 3) (Y 4) xb acc Y9 X10 X11 →
        OutR (t.cast N_0) (Y 4) Y9 ∧ Inv (t.cast N_0).succ X10 X11) :
    θ_run (defs (F := F)) (onTc (τ := τ) (main (F := F))) ⟨m, fun _ => 0, ρ⟩ fun r =>
      Pipeline.RDat.FramePost (pipe m h) (data m h Inv OutR) (fun c b => m ((c.tc : Thread nD τ).loc b)) r ∧ r.2.sem = fun _ => 0 := by
  refine Pipeline.RDat.θ_run_frameP_track (pcfgs (F := F)) (adm m h) 0 launch0 defs₀ Variants.none (data m h Inv OutR) m ρ main
    (fun c => ?_) (fun c w => Pipeline.RDat.share_full _ (fun _ => rfl) w) (fun _ _ => rfl) (fun c b => m ((c.tc : Thread nD τ).loc b))
    (Pipeline.hmainP_region _ 0 defs₀ Variants.none m main fun c => rfl) (fun _ _ => rfl) (fun c k => ?_) (fun c => ?_) (fun c => ?_) _ (fun _ hr => hr)
  · have hc : c = 0 := Subsingleton.elim (α := Fin 1) _ _
    subst hc
    exact body_ok m h Inv OutR 0 hstep
  · have hc : c = 0 := Subsingleton.elim (α := Fin 1) _ _
    subst hc
    rfl
  · rw [show (data m h Inv OutR c).Φ 0 = held m Inv c 0 from rfl]
    unfold Pipeline.ΦA held
    rw [show (Pipeline.scopedRest (Ix := Unit) (Name := ℕ) (U := UR sig nD τ) (Lvl := ℕ) (Val := Elt F) (pipe m h).spec c) = _ from scopedRest0_eq c]
    rw [show (Pipeline.ΦT (U := UR sig nD τ) (pcfgs (F := F) 0).pre (adm m h 0).1 c : sProp (MT nD τ sig Unit (Elt F) ℕ (UR sig nD τ) ℕ)) = _ from tables_eq (tabs m) c]
    iintro ⟨⟨⟨⟨%f, H10⟩, ⟨%g, H11⟩⟩, Hp⟩, HT⟩
    isplitl [HT]; · iexact HT
    isplitl [Hp]; · iexact Hp
    iexists f; iexists g
    isplitr; · ipureintro; exact hI f g
    isplitl [H10]
    · iapply (owns_scratch0 c f).2
      iexact H10
    · iapply (owns_scratch1 c g).2
      iexact H11
  · rw [show (data m h Inv OutR c).Φ (Fin.last _) = held m Inv c (Fin.last 287) from rfl]
    unfold Pipeline.ΦA held
    rw [show (Pipeline.scopedRest (Ix := Unit) (Name := ℕ) (U := UR sig nD τ) (Lvl := ℕ) (Val := Elt F) (pipe m h).spec c) = _ from scopedRest0_eq c]
    iintro ⟨HT, Hp, %xb, %acc, %hI, H10, H11⟩
    isplitl [H10 H11]
    · isplitl [H10]
      · iexists xb
        iapply (owns_scratch0 c xb).1
        iexact H10
      · iexists acc
        iapply (owns_scratch1 c acc).1
        iexact H11
    iexact Hp

/-- Every argument array ends as it was. -/
theorem kept (r : PUnit × MemSt nD τ sig (Elt F))
    (hr : Pipeline.RDat.FramePost (pipe m h) (data m h Inv OutR) (fun c b => m ((c.tc : Thread nD τ).loc b)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨hr.arr_in c 0 rfl, (hr c).2 main_arg1 (show main_arg1 ∈ Pipeline.restRefs sig spec0 by decide), (hr c).2 main_arg2 (show main_arg2 ∈ Pipeline.restRefs sig spec0 by decide), (hr c).2 main_arg3 (show main_arg3 ∈ Pipeline.restRefs sig spec0 by decide),
    hr.arr_in c 1 rfl, hr.arr_in c 2 rfl, hr.arr_in c 3 rfl⟩

include h in
/-- The kernel runs, and its arguments end unchanged. -/
theorem runs (ρ : Dev nD → PrngReg) :
    θ_run (defs (F := F)) (onTc (τ := τ) (main (F := F))) ⟨m, fun _ => 0, ρ⟩ fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r hr => ⟨fun c => kept m h _ _ r hr.1 c, hr.2⟩)
    (launched m h (fun _ _ _ => True) (fun _ _ _ => True) ρ (fun _ _ => trivial) fun _ _ _ _ _ _ _ _ _ _ => ⟨trivial, trivial⟩)

end Cert.Kernel5Ideal.Exp
end
-- ==== Proof.ExpSpec.lean ====
module

public import proofs.«01_k».proof.Proof.Experts

/-! # The routed experts' feed-forward -/

@[expose] public section
noncomputable section
namespace Cert.Experts
open Idealize.ShloMosaic

/-- The routed rows and the experts' weights, entry by entry. -/
structure In where
  x : Fin 44032 → Fin 1024 → EReal
  w1 : Fin 8 → Fin 1024 → Fin 3584 → EReal
  w3 : Fin 8 → Fin 1024 → Fin 3584 → EReal
  w2 : Fin 8 → Fin 3584 → Fin 1024 → EReal

/-- The gated value of two projections. -/
def gated (h : Fin 1024 → EReal) (u v : Fin 1024 → EReal) : EReal :=
  (∑ k, h k * u k) * Ideal.logistic (∑ k, h k * u k) * ∑ k, h k * v k

/-- An expert's hidden layer, for a row. -/
def In.hid (I : In) (e : Fin 8) (r : Fin 44032) (f : Fin 3584) : EReal := gated (I.x r) (I.w1 e · f) (I.w3 e · f)
/-- An expert's result, for a row. -/
def In.out (I : In) (e : Fin 8) (r : Fin 44032) (d : Fin 1024) : EReal := ∑ f, I.hid e r f * I.w2 e f d
/-- What one column step adds to it. -/
def In.part (I : In) (e : Fin 8) (r : Fin 44032) (d : Fin 1024) (j : ℕ) : EReal :=
  if hj : j < 7 then ∑ f : Fin 512, I.hid e r ⟨512 * j + f.val, by omega⟩ * I.w2 e ⟨512 * j + f.val, by omega⟩ d else 0

/-- Seven column steps make the result. -/
theorem In.sum_part (I : In) (e : Fin 8) (r : Fin 44032) (d : Fin 1024) : ∑ j ∈ Finset.range 7, I.part e r d j = I.out e r d := by
  rw [Finset.sum_range]
  unfold In.out In.part
  rw [← Equiv.sum_comp (finProdFinEquiv (m := 7) (n := 512)) (fun f : Fin 3584 => I.hid e r f * I.w2 e f d), Fintype.sum_prod_type]
  refine Finset.sum_congr rfl fun j _ => ?_
  rw [dif_pos j.isLt]
  refine Finset.sum_congr rfl fun f _ => ?_
  have e1 : (⟨512 * j.val + f.val, by omega⟩ : Fin 3584) = finProdFinEquiv (m := 7) (n := 512) (j, f) := Fin.ext (by
    show 512 * j.val + f.val = f.val + 512 * j.val; omega)
  rw [e1]

end Cert.Experts
end
-- ==== Proof.ExpStep.lean ====
module

public import proofs.«01_k».proof.Proof.ExpLaunch
public import proofs.«01_k».proof.Proof.ExpSpec

/-! # What one run of the experts kernel's body does to a row -/

@[expose] public section
set_option maxRecDepth 16384
noncomputable section
namespace Cert.Kernel5Ideal.Exp
open Idealize.ShloMosaic Idealize.ShloMosaic.TcCoe Idealize.ShloMosaic.Tactic
open Cert.Kernel5Ideal Cert.Kernel5Ideal.Gen Cert.Experts

/-- What a column step adds to a row's result, from the staged weights. -/
def adds (h : Fin 1024 → EReal) (w1 w3 : Vec Ideal S1x1024x512 .f32) (w2 : Vec Ideal S1x512x1024 .f32) (d : Fin 1024) : EReal :=
  ∑ f : Fin 512, gated h (fun k => w1 (ix3 0 k f)) (fun k => w3 (ix3 0 k f)) * w2 (ix3 0 f d)

/-- The accumulator's start is zero. -/
theorem start_at (y : S1024x1024.Idx) : k0_pay1 (F := Ideal) y = (0 : EReal) := by
  pointwise [k0_pay1]

/-- What a run does to row `s`, whose tile starts at this point if `first` and ends if `last`. -/
structure Row (first last : Prop) (s : Fin 1024) (x : Vec Ideal S1024x1024 .f32) (w1 w3 : Vec Ideal S1x1024x512 .f32)
    (w2 : Vec Ideal S1x512x1024 .f32) (y : Vec Ideal S1024x1024 .f32) (xb : Vec Ideal S1024x1024 .bf16) (acc : Vec Ideal S1024x1024 .f32)
    (Y9 : Vec Ideal S1024x1024 .f32) (X10 : Vec Ideal S1024x1024 .bf16) (X11 : Vec Ideal S1024x1024 .f32) : Prop where
  xb_first : first → ∀ k, X10 (ix2 s k) = x (ix2 s k)
  xb_later : ¬ first → ∀ k, X10 (ix2 s k) = xb (ix2 s k)
  acc_first : first → ∀ d, (X11 (ix2 s d) : EReal) = 0 + adds (fun k => X10 (ix2 s k)) w1 w3 w2 d
  acc_later : ¬ first → ∀ d, (X11 (ix2 s d) : EReal) = acc (ix2 s d) + adds (fun k => X10 (ix2 s k)) w1 w3 w2 d
  out_last : last → Y9 = X11
  out_before : ¬ last → Y9 = y

/-- The leading 256 rows, entry by entry. -/
theorem top256_at {e : EltTy} (x : Vec Ideal S1024x1024 e) (s : Fin 256) (d : Fin 1024) :
    top256 x (ix2 s d) = x (ix2 ⟨s.val, by omega⟩ d) := by
  refine congrArg x ?_
  funext a; fin_cases a
  · exact Fin.ext (show 0 + 1 * s.val = s.val by omega)
  · exact Fin.ext (show 0 + 1 * d.val = d.val by omega)

/-- The cast of 256 rows, entry by entry. -/
theorem cast256_at (v : Vec Ideal S256x1024 .f32) (s : Fin 256) (d : Fin 1024) : k0_pay2 (F := Ideal) v (ix2 s d) = v (ix2 s d) := by
  pointwise [k0_pay2]

/-- A column step on 256 rows, entry by entry. -/
theorem step256_at (h : Vec Ideal S256x1024 .bf16) (w1 w3 : Vec Ideal S1x1024x512 .f32) (a : Vec Ideal S256x1024 .f32)
    (w2 : Vec Ideal S1x512x1024 .f32) (s : Fin 256) (d : Fin 1024) :
    (k0_pay3 (F := Ideal) h w1 w3 a w2 (ix2 s d) : EReal) = a (ix2 s d) + adds (fun k => h (ix2 s k)) w1 w3 w2 d := by
  pointwise [k0_pay3]
  rfl

/-- A run over 256 rows does to each what it should. -/
theorem rows256 {first last : Prop} {x : Vec Ideal S1024x1024 .f32} {w1 w3 : Vec Ideal S1x1024x512 .f32}
    {w2 : Vec Ideal S1x512x1024 .f32} {y : Vec Ideal S1024x1024 .f32} {xb : Vec Ideal S1024x1024 .bf16} {acc : Vec Ideal S1024x1024 .f32}
    {Y9 : Vec Ideal S1024x1024 .f32} {X10 : Vec Ideal S1024x1024 .bf16} {X11 : Vec Ideal S1024x1024 .f32}
    (h : Left256 first last x w1 w3 w2 y xb acc Y9 X10 X11) (s : Fin 1024) (hs : s.val < 256) :
    Row first last s x w1 w3 w2 y xb acc Y9 X10 X11 where
  xb_first hf k := ((top256_at X10 ⟨s.val, hs⟩ k).symm.trans (congrFun (h.xb_first hf) _)).trans ((cast256_at _ ⟨s.val, hs⟩ k).trans (top256_at x ⟨s.val, hs⟩ k))
  xb_later hf k := (top256_at X10 ⟨s.val, hs⟩ k).symm.trans ((congrFun (h.xb_later hf) _).trans (top256_at xb ⟨s.val, hs⟩ k))
  acc_first hf d := by
    refine ((top256_at X11 ⟨s.val, hs⟩ d).symm.trans (congrFun (h.acc_first hf) _)).trans ((step256_at _ w1 w3 _ w2 ⟨s.val, hs⟩ d).trans ?_)
    refine congrArg₂ (fun p q : EReal => p + q) ((top256_at _ ⟨s.val, hs⟩ d).trans (start_at _)) ?_
    exact congrArg (fun g => adds g w1 w3 w2 d) (funext fun k => top256_at X10 ⟨s.val, hs⟩ k)
  acc_later hf d := by
    refine ((top256_at X11 ⟨s.val, hs⟩ d).symm.trans (congrFun (h.acc_later hf) _)).trans ((step256_at _ w1 w3 _ w2 ⟨s.val, hs⟩ d).trans ?_)
    refine congrArg₂ (fun p q : EReal => p + q) (top256_at acc ⟨s.val, hs⟩ d) ?_
    exact congrArg (fun g => adds g w1 w3 w2 d) (funext fun k => top256_at X10 ⟨s.val, hs⟩ k)
  out_last := h.out_last
  out_before := h.out_before

/-- The leading 512 rows, entry by entry. -/
theorem top512_at {e : EltTy} (x : Vec Ideal S1024x1024 e) (s : Fin 512) (d : Fin 1024) :
    top512 x (ix2 s d) = x (ix2 ⟨s.val, by omega⟩ d) := by
  refine congrArg x ?_
  funext a; fin_cases a
  · exact Fin.ext (show 0 + 1 * s.val = s.val by omega)
  · exact Fin.ext (show 0 + 1 * d.val = d.val by omega)

/-- The cast of 512 rows, entry by entry. -/
theorem cast512_at (v : Vec Ideal S512x1024 .f32) (s : Fin 512) (d : Fin 1024) : k0_pay4 (F := Ideal) v (ix2 s d) = v (ix2 s d) := by
  pointwise [k0_pay4]

/-- A column step on 512 rows, entry by entry. -/
theorem step512_at (h : Vec Ideal S512x1024 .bf16) (w1 w3 : Vec Ideal S1x1024x512 .f32) (a : Vec Ideal S512x1024 .f32)
    (w2 : Vec Ideal S1x512x1024 .f32) (s : Fin 512) (d : Fin 1024) :
    (k0_pay5 (F := Ideal) h w1 w3 a w2 (ix2 s d) : EReal) = a (ix2 s d) + adds (fun k => h (ix2 s k)) w1 w3 w2 d := by
  pointwise [k0_pay5]
  rfl

/-- A run over 512 rows does to each what it should. -/
theorem rows512 {first last : Prop} {x : Vec Ideal S1024x1024 .f32} {w1 w3 : Vec Ideal S1x1024x512 .f32}
    {w2 : Vec Ideal S1x512x1024 .f32} {y : Vec Ideal S1024x1024 .f32} {xb : Vec Ideal S1024x1024 .bf16} {acc : Vec Ideal S1024x1024 .f32}
    {Y9 : Vec Ideal S1024x1024 .f32} {X10 : Vec Ideal S1024x1024 .bf16} {X11 : Vec Ideal S1024x1024 .f32}
    (h : Left512 first last x w1 w3 w2 y xb acc Y9 X10 X11) (s : Fin 1024) (hs : s.val < 512) :
    Row first last s x w1 w3 w2 y xb acc Y9 X10 X11 where
  xb_first hf k := ((top512_at X10 ⟨s.val, hs⟩ k).symm.trans (congrFun (h.xb_first hf) _)).trans ((cast512_at _ ⟨s.val, hs⟩ k).trans (top512_at x ⟨s.val, hs⟩ k))
  xb_later hf k := (top512_at X10 ⟨s.val, hs⟩ k).symm.trans ((congrFun (h.xb_later hf) _).trans (top512_at xb ⟨s.val, hs⟩ k))
  acc_first hf d := by
    refine ((top512_at X11 ⟨s.val, hs⟩ d).symm.trans (congrFun (h.acc_first hf) _)).trans ((step512_at _ w1 w3 _ w2 ⟨s.val, hs⟩ d).trans ?_)
    refine congrArg₂ (fun p q : EReal => p + q) ((top512_at _ ⟨s.val, hs⟩ d).trans (start_at _)) ?_
    exact congrArg (fun g => adds g w1 w3 w2 d) (funext fun k => top512_at X10 ⟨s.val, hs⟩ k)
  acc_later hf d := by
    refine ((top512_at X11 ⟨s.val, hs⟩ d).symm.trans (congrFun (h.acc_later hf) _)).trans ((step512_at _ w1 w3 _ w2 ⟨s.val, hs⟩ d).trans ?_)
    refine congrArg₂ (fun p q : EReal => p + q) (top512_at acc ⟨s.val, hs⟩ d) ?_
    exact congrArg (fun g => adds g w1 w3 w2 d) (funext fun k => top512_at X10 ⟨s.val, hs⟩ k)
  out_last := h.out_last
  out_before := h.out_before

/-- The leading 768 rows, entry by entry. -/
theorem top768_at {e : EltTy} (x : Vec Ideal S1024x1024 e) (s : Fin 768) (d : Fin 1024) :
    top768 x (ix2 s d) = x (ix2 ⟨s.val, by omega⟩ d) := by
  refine congrArg x ?_
  funext a; fin_cases a
  · exact Fin.ext (show 0 + 1 * s.val = s.val by omega)
  · exact Fin.ext (show 0 + 1 * d.val = d.val by omega)

/-- The cast of 768 rows, entry by entry. -/
theorem cast768_at (v : Vec Ideal S768x1024 .f32) (s : Fin 768) (d : Fin 1024) : k0_pay6 (F := Ideal) v (ix2 s d) = v (ix2 s d) := by
  pointwise [k0_pay6]

/-- A column step on 768 rows, entry by entry. -/
theorem step768_at (h : Vec Ideal S768x1024 .bf16) (w1 w3 : Vec Ideal S1x1024x512 .f32) (a : Vec Ideal S768x1024 .f32)
    (w2 : Vec Ideal S1x512x1024 .f32) (s : Fin 768) (d : Fin 1024) :
    (k0_pay7 (F := Ideal) h w1 w3 a w2 (ix2 s d) : EReal) = a (ix2 s d) + adds (fun k => h (ix2 s k)) w1 w3 w2 d := by
  pointwise [k0_pay7]
  rfl

/-- A run over 768 rows does to each what it should. -/
theorem rows768 {first last : Prop} {x : Vec Ideal S1024x1024 .f32} {w1 w3 : Vec Ideal S1x1024x512 .f32}
    {w2 : Vec Ideal S1x512x1024 .f32} {y : Vec Ideal S1024x1024 .f32} {xb : Vec Ideal S1024x1024 .bf16} {acc : Vec Ideal S1024x1024 .f32}
    {Y9 : Vec Ideal S1024x1024 .f32} {X10 : Vec Ideal S1024x1024 .bf16} {X11 : Vec Ideal S1024x1024 .f32}
    (h : Left768 first last x w1 w3 w2 y xb acc Y9 X10 X11) (s : Fin 1024) (hs : s.val < 768) :
    Row first last s x w1 w3 w2 y xb acc Y9 X10 X11 where
  xb_first hf k := ((top768_at X10 ⟨s.val, hs⟩ k).symm.trans (congrFun (h.xb_first hf) _)).trans ((cast768_at _ ⟨s.val, hs⟩ k).trans (top768_at x ⟨s.val, hs⟩ k))
  xb_later hf k := (top768_at X10 ⟨s.val, hs⟩ k).symm.trans ((congrFun (h.xb_later hf) _).trans (top768_at xb ⟨s.val, hs⟩ k))
  acc_first hf d := by
    refine ((top768_at X11 ⟨s.val, hs⟩ d).symm.trans (congrFun (h.acc_first hf) _)).trans ((step768_at _ w1 w3 _ w2 ⟨s.val, hs⟩ d).trans ?_)
    refine congrArg₂ (fun p q : EReal => p + q) ((top768_at _ ⟨s.val, hs⟩ d).trans (start_at _)) ?_
    exact congrArg (fun g => adds g w1 w3 w2 d) (funext fun k => top768_at X10 ⟨s.val, hs⟩ k)
  acc_later hf d := by
    refine ((top768_at X11 ⟨s.val, hs⟩ d).symm.trans (congrFun (h.acc_later hf) _)).trans ((step768_at _ w1 w3 _ w2 ⟨s.val, hs⟩ d).trans ?_)
    refine congrArg₂ (fun p q : EReal => p + q) (top768_at acc ⟨s.val, hs⟩ d) ?_
    exact congrArg (fun g => adds g w1 w3 w2 d) (funext fun k => top768_at X10 ⟨s.val, hs⟩ k)
  out_last := h.out_last
  out_before := h.out_before

/-- The leading 1024 rows, entry by entry. -/
theorem top1024_at {e : EltTy} (x : Vec Ideal S1024x1024 e) (s : Fin 1024) (d : Fin 1024) :
    top1024 x (ix2 s d) = x (ix2 ⟨s.val, by omega⟩ d) := by
  refine congrArg x ?_
  funext a; fin_cases a
  · exact Fin.ext (show 0 + 1 * s.val = s.val by omega)
  · exact Fin.ext (show 0 + 1 * d.val = d.val by omega)

/-- The cast of 1024 rows, entry by entry. -/
theorem cast1024_at (v : Vec Ideal S1024x1024 .f32) (s : Fin 1024) (d : Fin 1024) : k0_pay8 (F := Ideal) v (ix2 s d) = v (ix2 s d) := by
  pointwise [k0_pay8]

/-- A column step on 1024 rows, entry by entry. -/
theorem step1024_at (h : Vec Ideal S1024x1024 .bf16) (w1 w3 : Vec Ideal S1x1024x512 .f32) (a : Vec Ideal S1024x1024 .f32)
    (w2 : Vec Ideal S1x512x1024 .f32) (s : Fin 1024) (d : Fin 1024) :
    (k0_pay9 (F := Ideal) h w1 w3 a w2 (ix2 s d) : EReal) = a (ix2 s d) + adds (fun k => h (ix2 s k)) w1 w3 w2 d := by
  pointwise [k0_pay9]
  rfl

/-- A run over 1024 rows does to each what it should. -/
theorem rows1024 {first last : Prop} {x : Vec Ideal S1024x1024 .f32} {w1 w3 : Vec Ideal S1x1024x512 .f32}
    {w2 : Vec Ideal S1x512x1024 .f32} {y : Vec Ideal S1024x1024 .f32} {xb : Vec Ideal S1024x1024 .bf16} {acc : Vec Ideal S1024x1024 .f32}
    {Y9 : Vec Ideal S1024x1024 .f32} {X10 : Vec Ideal S1024x1024 .bf16} {X11 : Vec Ideal S1024x1024 .f32}
    (h : Left1024 first last x w1 w3 w2 y xb acc Y9 X10 X11) (s : Fin 1024) (hs : s.val < 1024) :
    Row first last s x w1 w3 w2 y xb acc Y9 X10 X11 where
  xb_first hf k := ((top1024_at X10 ⟨s.val, hs⟩ k).symm.trans (congrFun (h.xb_first hf) _)).trans ((cast1024_at _ ⟨s.val, hs⟩ k).trans (top1024_at x ⟨s.val, hs⟩ k))
  xb_later hf k := (top1024_at X10 ⟨s.val, hs⟩ k).symm.trans ((congrFun (h.xb_later hf) _).trans (top1024_at xb ⟨s.val, hs⟩ k))
  acc_first hf d := by
    refine ((top1024_at X11 ⟨s.val, hs⟩ d).symm.trans (congrFun (h.acc_first hf) _)).trans ((step1024_at _ w1 w3 _ w2 ⟨s.val, hs⟩ d).trans ?_)
    refine congrArg₂ (fun p q : EReal => p + q) ((top1024_at _ ⟨s.val, hs⟩ d).trans (start_at _)) ?_
    exact congrArg (fun g => adds g w1 w3 w2 d) (funext fun k => top1024_at X10 ⟨s.val, hs⟩ k)
  acc_later hf d := by
    refine ((top1024_at X11 ⟨s.val, hs⟩ d).symm.trans (congrFun (h.acc_later hf) _)).trans ((step1024_at _ w1 w3 _ w2 ⟨s.val, hs⟩ d).trans ?_)
    refine congrArg₂ (fun p q : EReal => p + q) (top1024_at acc ⟨s.val, hs⟩ d) ?_
    exact congrArg (fun g => adds g w1 w3 w2 d) (funext fun k => top1024_at X10 ⟨s.val, hs⟩ k)
  out_last := h.out_last
  out_before := h.out_before

/-- A run does to each counted row of its tile what it should. -/
theorem row_of {n : Int} {i : grid0.Coords} {x : Vec Ideal S1024x1024 .f32} {w1 w3 : Vec Ideal S1x1024x512 .f32}
    {w2 : Vec Ideal S1x512x1024 .f32} {y : Vec Ideal S1024x1024 .f32} {xb : Vec Ideal S1024x1024 .bf16} {acc : Vec Ideal S1024x1024 .f32}
    {Y9 : Vec Ideal S1024x1024 .f32} {X10 : Vec Ideal S1024x1024 .bf16} {X11 : Vec Ideal S1024x1024 .f32}
    (h : Left n i x w1 w3 w2 y xb acc Y9 X10 X11) (hn : n ≤ 1024) (s : Fin 1024) (hs : (s.val : Int) < n) :
    Row (isFirst i) (k0_cond11 i = 1#1) s x w1 w3 w2 y xb acc Y9 X10 X11 := by
  by_cases a : n ≤ 256
  · exact rows256 (h.upto256 (by omega) a) s (by omega)
  by_cases b : n ≤ 512
  · exact rows512 (h.upto512 (by omega) b) s (by omega)
  by_cases d : n ≤ 768
  · exact rows768 (h.upto768 (by omega) d) s (by omega)
  exact rows1024 (h.upto1024 (by omega) hn) s s.isLt

end Cert.Kernel5Ideal.Exp
end
-- ==== Proof.ExpValue.lean ====
module

public import proofs.«01_k».proof.Proof.ExpStep
public import Idealize.ShloMosaic.Lib.Pipeline.ArrRel

/-! # What the experts kernel leaves in its result array -/

@[expose] public section
set_option maxRecDepth 16384
noncomputable section
namespace Cert.Kernel5Ideal.Exp
open Idealize.ShloMosaic Idealize.ShloMosaic.TcCoe Idealize.ShloMosaic.Tactic
open Idealize.SL Idealize.SL.Sem
open Cert.Kernel5Ideal Cert.Kernel5Ideal.Gen Cert.Experts

/-- The grid's points: seven column steps to a tile. -/
theorem coords_val : ∀ t : Fin grid0.N, (grid0.coords t 0).val = t.val / 7 ∧ (grid0.coords t 1).val = t.val % 7 := by decide +kernel

variable (m : (ℓ : Loc nD τ sig) → Buf (Elt Ideal) ℓ) (h : Counted (tabs m))

/-- The arguments as launched, entry by entry. -/
def inK : In where
  x i j := m (((0 : Dev nD) : Thread nD τ).loc main_arg0) (ix2 i j)
  w1 e i j := m (((0 : Dev nD) : Thread nD τ).loc main_arg4) (ix3 e i j)
  w3 e i j := m (((0 : Dev nD) : Thread nD τ).loc main_arg5) (ix3 e i j)
  w2 e i j := m (((0 : Dev nD) : Thread nD τ).loc main_arg6) (ix3 e i j)

/-- A tile's expert. -/
def expertOf (h : Counted (tabs m)) (k : Fin 41) : Fin 8 := ⟨expert (tabs m) k, expert_lt h.toBounded k⟩
/-- A tile's row in the arrays. -/
abbrev rowOf (k : Fin 41) (s : Fin 1024) : Fin 44032 := ⟨1024 * k.val + s.val, by omega⟩
/-- What a row of a tile is to end at. -/
def final (h : Counted (tabs m)) (k : Fin 41) (s d : Fin 1024) : EReal := (inK m).out (expertOf m h k) (rowOf k s) d

/-- What the launch may know of the scratch buffers before point `t`. -/
def Inv (t : Fin (287 + 1)) (xb : Vec Ideal S1024x1024 .bf16) (acc : Vec Ideal S1024x1024 .f32) : Prop :=
  ∀ k : Fin 41, k.val = t.val / 7 → t.val % 7 ≠ 0 → ∀ s : Fin 1024, s.val < count (tabs m) k →
    (∀ j, (xb (ix2 s j) : EReal) = (inK m).x (rowOf k s) j)
    ∧ ∀ d, (acc (ix2 s d) : EReal) = ∑ j ∈ Finset.range (t.val % 7), (inK m).part (expertOf m h k) (rowOf k s) d j

/-- What a run at point `t` leaves in the result's buffer: the tile's rows at its last column step, what was there otherwise. -/
def OutR (t : Fin 287) (Y X : Vec Ideal S1024x1024 .f32) : Prop :=
  ∀ k : Fin 41, k.val = t.val / 7 →
    (t.val % 7 = 6 → ∀ s : Fin 1024, s.val < count (tabs m) k → ∀ d, (X (ix2 s d) : EReal) = final m h k s d)
    ∧ (count (tabs m) k = 0 → X = Y)

/-- The rows staged at a point of a used tile. -/
theorem found0 (t : Fin grid0.N) (Y : Vec Ideal S1024x1024 .f32) (hY : (data m h.toBounded (Inv m h) (OutR m h) 0).Finds 0 t Y)
    (hk : (grid0.coords t 0).val < used (tabs m)) (s j : Fin 1024) :
    Y (ix2 s j) = (inK m).x (rowOf (grid0.coords t 0) s) j := by
  obtain ⟨d, rfl⟩ := (data m h.toBounded (Inv m h) (OutR m h) 0).finds_in_eq_fetched 0 rfl (fun _ _ _ => rfl) (fun _ _ _ e => e) t Y hY
  refine congrArg (m (((0 : Dev nD) : Thread nD τ).loc main_arg0)) ?_
  have e := ix_rows h.toBounded (grid0.coords t)
  funext a; fin_cases a
  · refine Fin.ext ?_
    show ix0 (tabs m) 0 (grid0.coords t) 0 * 1024 + 1 * s.val = 1024 * (grid0.coords t 0).val + s.val
    rw [e]
    show min _ _ * 1024 + _ = _
    omega
  · refine Fin.ext ?_
    show ix0 (tabs m) 0 (grid0.coords t) 1 * 1024 + 1 * j.val = j.val
    rw [e]
    show 0 * 1024 + _ = _
    omega

/-- The first weights staged at a point of a used tile. -/
theorem found1 (t : Fin grid0.N) (Y : Vec Ideal S1x1024x512 .f32) (hY : (data m h.toBounded (Inv m h) (OutR m h) 0).Finds 1 t Y)
    (hk : (grid0.coords t 0).val < used (tabs m)) (i : Fin 1024) (f : Fin 512) :
    Y (ix3 0 i f) = (inK m).w1 (expertOf m h (grid0.coords t 0)) i
      ⟨512 * (grid0.coords t 1).val + f.val, by have hj : (grid0.coords t 1).val < 7 := (grid0.coords t 1).isLt; omega⟩ := by
  obtain ⟨d, rfl⟩ := (data m h.toBounded (Inv m h) (OutR m h) 0).finds_in_eq_fetched 1 rfl (fun _ _ _ => rfl) (fun _ _ _ e => e) t Y hY
  refine congrArg (m (((0 : Dev nD) : Thread nD τ).loc main_arg4)) ?_
  have e := ix_w1 h.toBounded (grid0.coords t)
  rw [if_pos hk] at e
  funext a; fin_cases a
  · refine Fin.ext ?_
    show ix0 (tabs m) 1 (grid0.coords t) 0 * 1 + 1 * 0 = expert (tabs m) (grid0.coords t 0)
    rw [e]
    show expert _ _ * 1 + _ = _
    omega
  · refine Fin.ext ?_
    show ix0 (tabs m) 1 (grid0.coords t) 1 * 1024 + 1 * i.val = i.val
    rw [e]
    show 0 * 1024 + _ = _
    omega
  · refine Fin.ext ?_
    show ix0 (tabs m) 1 (grid0.coords t) 2 * 512 + 1 * f.val = 512 * (grid0.coords t 1).val + f.val
    rw [e]
    show (grid0.coords t 1).val * 512 + _ = _
    omega

/-- The third weights staged at a point of a used tile. -/
theorem found2 (t : Fin grid0.N) (Y : Vec Ideal S1x1024x512 .f32) (hY : (data m h.toBounded (Inv m h) (OutR m h) 0).Finds 2 t Y)
    (hk : (grid0.coords t 0).val < used (tabs m)) (i : Fin 1024) (f : Fin 512) :
    Y (ix3 0 i f) = (inK m).w3 (expertOf m h (grid0.coords t 0)) i
      ⟨512 * (grid0.coords t 1).val + f.val, by have hj : (grid0.coords t 1).val < 7 := (grid0.coords t 1).isLt; omega⟩ := by
  obtain ⟨d, rfl⟩ := (data m h.toBounded (Inv m h) (OutR m h) 0).finds_in_eq_fetched 2 rfl (fun _ _ _ => rfl) (fun _ _ _ e => e) t Y hY
  refine congrArg (m (((0 : Dev nD) : Thread nD τ).loc main_arg5)) ?_
  have e := ix_w3 h.toBounded (grid0.coords t)
  rw [if_pos hk] at e
  funext a; fin_cases a
  · refine Fin.ext ?_
    show ix0 (tabs m) 2 (grid0.coords t) 0 * 1 + 1 * 0 = expert (tabs m) (grid0.coords t 0)
    rw [e]
    show expert _ _ * 1 + _ = _
    omega
  · refine Fin.ext ?_
    show ix0 (tabs m) 2 (grid0.coords t) 1 * 1024 + 1 * i.val = i.val
    rw [e]
    show 0 * 1024 + _ = _
    omega
  · refine Fin.ext ?_
    show ix0 (tabs m) 2 (grid0.coords t) 2 * 512 + 1 * f.val = 512 * (grid0.coords t 1).val + f.val
    rw [e]
    show (grid0.coords t 1).val * 512 + _ = _
    omega

/-- The second weights staged at a point of a used tile. -/
theorem found3 (t : Fin grid0.N) (Y : Vec Ideal S1x512x1024 .f32) (hY : (data m h.toBounded (Inv m h) (OutR m h) 0).Finds 3 t Y)
    (hk : (grid0.coords t 0).val < used (tabs m)) (f : Fin 512) (d : Fin 1024) :
    Y (ix3 0 f d) = (inK m).w2 (expertOf m h (grid0.coords t 0))
      ⟨512 * (grid0.coords t 1).val + f.val, by have hj : (grid0.coords t 1).val < 7 := (grid0.coords t 1).isLt; omega⟩ d := by
  obtain ⟨_, rfl⟩ := (data m h.toBounded (Inv m h) (OutR m h) 0).finds_in_eq_fetched 3 rfl (fun _ _ _ => rfl) (fun _ _ _ e => e) t Y hY
  refine congrArg (m (((0 : Dev nD) : Thread nD τ).loc main_arg6)) ?_
  have e := ix_w2 h.toBounded (grid0.coords t)
  rw [if_pos hk] at e
  funext a; fin_cases a
  · refine Fin.ext ?_
    show ix0 (tabs m) 3 (grid0.coords t) 0 * 1 + 1 * 0 = expert (tabs m) (grid0.coords t 0)
    rw [e]
    show expert _ _ * 1 + _ = _
    omega
  · refine Fin.ext ?_
    show ix0 (tabs m) 3 (grid0.coords t) 1 * 512 + 1 * f.val = 512 * (grid0.coords t 1).val + f.val
    rw [e]
    show (grid0.coords t 1).val * 512 + _ = _
    omega
  · refine Fin.ext ?_
    show ix0 (tabs m) 3 (grid0.coords t) 2 * 1024 + 1 * d.val = d.val
    rw [e]
    show 0 * 1024 + _ = _
    omega

/-- What a column step adds, from the arguments. -/
theorem adds_eq (t : Fin grid0.N) (Y : (w : Fin 5) → (spec0 w).block.Idx → Elt Ideal (spec0 w).elt)
    (hY : ∀ w, (data m h.toBounded (Inv m h) (OutR m h) 0).Finds w t (Y w)) (hk : (grid0.coords t 0).val < used (tabs m)) (s d : Fin 1024) :
    adds ((inK m).x (rowOf (grid0.coords t 0) s)) (Y 1) (Y 2) (Y 3) d
      = (inK m).part (expertOf m h (grid0.coords t 0)) (rowOf (grid0.coords t 0) s) d (grid0.coords t 1).val := by
  unfold In.part
  rw [dif_pos (show (grid0.coords t 1).val < 7 from (grid0.coords t 1).isLt)]
  refine Finset.sum_congr rfl fun f _ => ?_
  refine congrArg₂ (fun p q : EReal => p * q) ?_ (found3 m h t (Y 3) (hY 3) hk f d)
  exact congrArg₂ (gated _) (funext fun k => found1 m h t (Y 1) (hY 1) hk k f) (funext fun k => found2 m h t (Y 2) (hY 2) hk k f)

/-- One run keeps what is known of the scratch buffers and of the result. -/
theorem step (t : Fin grid0.N) (Y : (w : Fin 5) → (spec0 w).block.Idx → Elt Ideal (spec0 w).elt)
    (hY : ∀ w, (data m h.toBounded (Inv m h) (OutR m h) 0).Finds w t (Y w)) (xb : Vec Ideal S1024x1024 .bf16) (acc : Vec Ideal S1024x1024 .f32)
    (hI : Inv m h (t.cast N_0).castSucc xb acc) (Y9 : Vec Ideal S1024x1024 .f32) (X10 : Vec Ideal S1024x1024 .bf16) (X11 : Vec Ideal S1024x1024 .f32)
    (hL : Left (rows (tabs m 1) (grid0.coords t)).toInt (grid0.coords t) (Y 0) (Y 1) (Y 2) (Y 3) (Y 4) xb acc Y9 X10 X11) :
    OutR m h (t.cast N_0) (Y 4) Y9 ∧ Inv m h (t.cast N_0).succ X10 X11 := by
  obtain ⟨ct, cj⟩ := coords_val t
  have hn : (rows (tabs m 1) (grid0.coords t)).toInt.toNat = count (tabs m) (grid0.coords t 0) :=
    congrArg Int.toNat (congrArg BitVec.toInt (rows_eq (tabs m 1) (grid0.coords t)))
  have hc := count_le h (grid0.coords t 0)
  have hu := lt_used h (grid0.coords t 0)
  have hadds := adds_eq m h t Y hY
  have hx := found0 m h t (Y 0) (hY 0)
  have hF := isFirst_iff (grid0.coords t)
  have hE := isLast_iff (grid0.coords t)
  have hrow := row_of hL (by omega)
  have hnone := hL.none
  have hI' : ((grid0.coords t 1).val ≠ 0) → ∀ s : Fin 1024, s.val < count (tabs m) (grid0.coords t 0) →
      (∀ j, (xb (ix2 s j) : EReal) = (inK m).x (rowOf (grid0.coords t 0) s) j)
      ∧ ∀ d, (acc (ix2 s d) : EReal) = ∑ j ∈ Finset.range (grid0.coords t 1).val, (inK m).part (expertOf m h (grid0.coords t 0)) (rowOf (grid0.coords t 0) s) d j := by
    intro hj s hs
    have := hI (grid0.coords t 0) ct (by show t.val % 7 ≠ 0; omega) s hs
    rw [cj]
    exact this
  have hbf : ∀ s : Fin 1024, s.val < count (tabs m) (grid0.coords t 0) → ∀ j, (X10 (ix2 s j) : EReal) = (inK m).x (rowOf (grid0.coords t 0) s) j := by
    intro s hs j
    by_cases hf : (grid0.coords t 1).val = 0
    · exact ((hrow s (by omega)).xb_first (hF.mpr hf) j).trans (hx (hu (by omega)) s j)
    · exact ((hrow s (by omega)).xb_later (mt hF.mp hf) j).trans ((hI' hf s hs).1 j)
  have hacc : ∀ s : Fin 1024, s.val < count (tabs m) (grid0.coords t 0) → ∀ d,
      (X11 (ix2 s d) : EReal) = ∑ j ∈ Finset.range ((grid0.coords t 1).val + 1), (inK m).part (expertOf m h (grid0.coords t 0)) (rowOf (grid0.coords t 0) s) d j := by
    intro s hs d
    rw [Finset.sum_range_succ, ← hadds (hu (by omega)) s d, ← (funext (hbf s hs) : (fun j => (X10 (ix2 s j) : EReal)) = _)]
    by_cases hf : (grid0.coords t 1).val = 0
    · rw [hf, Finset.sum_range_zero]
      exact (hrow s (by omega)).acc_first (hF.mpr hf) d
    · rw [← (hI' hf s hs).2 d]
      exact (hrow s (by omega)).acc_later (mt hF.mp hf) d
  refine ⟨fun k hk => ?_, fun k hk hj s hs => ?_⟩
  · have ek : k = grid0.coords t 0 := Fin.ext (hk.trans ct.symm)
    subst ek
    refine ⟨fun h6 s hs d => ?_, fun h0 => (hnone (by omega)).1⟩
    have h6' : (grid0.coords t 1).val = 6 := cj.trans h6
    rw [(hrow s (by omega)).out_last (hE.mpr h6'), hacc s hs d, h6']
    exact In.sum_part _ _ _ _
  · have hj' : (t.val + 1) % 7 ≠ 0 := hj
    have hk' : k.val = (t.val + 1) / 7 := hk
    have ek : k = grid0.coords t 0 := Fin.ext (by omega)
    subst ek
    have ej : (t.val + 1) % 7 = (grid0.coords t 1).val + 1 := by omega
    refine ⟨hbf s hs, fun d => ?_⟩
    show _ = ∑ j ∈ Finset.range ((t.val + 1) % 7), _
    rw [ej]
    exact hacc s hs d

/-- The row of the result that a tile's row is. -/
abbrev outRow (k : Fin 41) (s : Fin 1024) : Fin 41984 := ⟨1024 * k.val + s.val, by omega⟩

/-- The block of the result that a point works on. -/
theorem out_index (h : Counted (tabs m)) (t : Fin grid0.N) : ix0 (tabs m) 4 (grid0.coords t) = ![min (t.val / 7) (used (tabs m) - 1), 0] := by
  rw [ix_out h.toBounded, (coords_val t).1]

/-- A tile's rows are written back at its last column step, the last used tile's at the launch's end. -/
theorem flush_iff (t : Fin grid0.N) :
    ((pipe m h.toBounded).win 4).flush t = true ↔ t.val + 1 = 287 ∨ (t.val % 7 = 6 ∧ t.val / 7 < used (tabs m) - 1) := by
  have hN : grid0.N = 287 := N_0
  rw [show ((pipe m h.toBounded).win 4).flush t = Pipeline.Window.flushOf grid0 true (ix0 (tabs m) 4) t from rfl]
  unfold Pipeline.Window.flushOf
  rw [Bool.true_and, Bool.or_eq_true, decide_eq_true_eq, decide_eq_true_eq]
  refine or_congr (by omega) ⟨fun ⟨hl, hne⟩ => ?_, fun ⟨h6, hl⟩ => ?_⟩
  · rw [out_index m h, out_index m h] at hne
    have hne' : min ((t.val + 1) / 7) (used (tabs m) - 1) ≠ min (t.val / 7) (used (tabs m) - 1) :=
      fun e => hne (congrArg (fun z => (![z, 0] : Fin 2 → ℕ)) e)
    omega
  · have hu := used_le h.toBounded
    refine ⟨by omega, fun e => ?_⟩
    rw [out_index m h, out_index m h] at e
    have e' : min ((t.val + 1) / 7) (used (tabs m) - 1) = min (t.val / 7) (used (tabs m) - 1) := congrFun e 0
    omega

/-- The result's buffer is never fetched. -/
theorem no_fetch (t : Fin grid0.N) : ((pipe m h.toBounded).win 4).fetch t = false := rfl

/-- From the last used tile's last column step on, the result's buffer holds that tile's rows. -/
theorem stays (k : Fin 41) (hk : k.val = used (tabs m) - 1) : ∀ (n : ℕ) (t : Fin grid0.N), t.val = n → 7 * k.val + 6 ≤ n →
    ∀ X : Vec Ideal S1024x1024 .f32, (data m h.toBounded (Inv m h) (OutR m h) 0).Leaves 4 t X →
    ∀ s : Fin 1024, s.val < count (tabs m) k → ∀ d, (X (ix2 s d) : EReal) = final m h k s d := by
  intro n
  induction n using Nat.strong_induction_on with
  | _ n ih =>
    intro t ht hn X hX s hs d
    have hN : t.val < 287 := N_0 ▸ t.isLt
    obtain ⟨Y, hY, hO⟩ := hX
    have hO' : OutR m h (t.cast N_0) Y X := hO
    by_cases e : t.val = 7 * k.val + 6
    · exact (hO' k (by show k.val = t.val / 7; omega)).1 (by show t.val % 7 = 6; omega) s hs d
    · have hu := used_pos h.toBounded
      let k' : Fin 41 := ⟨t.val / 7, by omega⟩
      have h0 : count (tabs m) k' = 0 := by
        by_contra hc
        have : t.val / 7 < used (tabs m) := lt_used h k' (by omega)
        omega
      have hXY : X = Y := (hO' k' rfl).2 h0
      subst hXY
      rcases ((data m h.toBounded (Inv m h) (OutR m h) 0).finds_of_pos (no_fetch m h t) (by omega) X).mp hY with hf | hl
      · have := (flush_iff m h _).mp hf
        simp only at this
        omega
      · exact ih (t.val - 1) (by omega) _ rfl (by omega) X hl s hs d

/-- What is written back of a tile is what its rows are to end at. -/
theorem written (t : Fin grid0.N) (hf : ((pipe m h.toBounded).win 4).flush t = true) (X : Vec Ideal S1024x1024 .f32)
    (hX : (data m h.toBounded (Inv m h) (OutR m h) 0).Leaves 4 t X) (k : Fin 41) (hk : k.val = min (t.val / 7) (used (tabs m) - 1))
    (s : Fin 1024) (hs : s.val < count (tabs m) k) (d : Fin 1024) : (X (ix2 s d) : EReal) = final m h k s d := by
  have hN : t.val < 287 := N_0 ▸ t.isLt
  have hu := used_le h.toBounded
  have hu1 := used_pos h.toBounded
  rcases (flush_iff m h t).mp hf with he | ⟨h6, hl⟩
  · exact stays m h k (by omega) t.val t rfl (by omega) X hX s hs d
  · obtain ⟨Y, hY, hO⟩ := hX
    have hO' : OutR m h (t.cast N_0) Y X := hO
    exact (hO' k (by show k.val = t.val / 7; omega)).1 h6 s hs d

/-- The place of a block's entry in the result. -/
theorem out_emb (t : Fin grid0.N) (s d : Fin 1024) (k : Fin 41) (hk : k.val = min (t.val / 7) (used (tabs m) - 1)) :
    (((pipe m h.toBounded).win 4).blk t).view.emb (ix2 s d) = ix2 (outRow k s) d := by
  have e := out_index m h t
  funext a; fin_cases a
  · refine Fin.ext ?_
    show ix0 (tabs m) 4 (grid0.coords t) 0 * 1024 + 1 * s.val = 1024 * k.val + s.val
    rw [e]
    show min _ _ * 1024 + _ = _
    omega
  · refine Fin.ext ?_
    show ix0 (tabs m) 4 (grid0.coords t) 1 * 1024 + 1 * d.val = d.val
    rw [e]
    show 0 * 1024 + _ = _
    omega

omit h in
/-- An index of a tile is a row and a column. -/
theorem tile_index (y : (⟨2, ![1024, 1024]⟩ : Shape).Idx) : ∃ s d : Fin 1024, y = ix2 s d :=
  ⟨y 0, y 1, (ix2_eta y).symm⟩

/-- The result array after the launch, at the counted rows of each tile. -/
theorem arr (r : PUnit × MemSt nD τ sig (Elt Ideal))
    (hr : Pipeline.RDat.FramePost (pipe m h.toBounded) (data m h.toBounded (Inv m h) (OutR m h)) (fun c b => m ((c.tc : Thread nD τ).loc b)) r)
    (k : Fin 41) (s : Fin 1024) (hs : s.val < count (tabs m) k) (d : Fin 1024) :
    r.2.mem (((0 : Dev nD) : Thread nD τ).loc main_v0) (ix2 (outRow k s) d) = final m h k s d := by
  have hu := used_le h.toBounded
  have hu1 := used_pos h.toBounded
  have hku := lt_used h k (by omega)
  obtain ⟨after, hL, hA⟩ := hr.exists_exact 0
  have e4 := hA 4
  rw [show r.2.mem (((0 : Dev nD) : Thread nD τ).loc main_v0) = _ from e4]
  let t : Fin grid0.N := ⟨if k.val < used (tabs m) - 1 then 7 * k.val + 6 else 286, by rw [N_0]; split <;> omega⟩
  have htv : t.val = if k.val < used (tabs m) - 1 then 7 * k.val + 6 else 286 := rfl
  have htk : k.val = min (t.val / 7) (used (tabs m) - 1) := by rw [htv]; split <;> omega
  have hf : ((pipe m h.toBounded).win 4).flush t = true := (flush_iff m h t).mpr (by rw [htv]; split <;> omega)
  refine ((data m h.toBounded (Inv m h) (OutR m h) 0).withAfter after).arrAt_forall_of_flushed 4
    (fun i v => ∀ (k : Fin 41) (s d : Fin 1024), s.val < count (tabs m) k →
      i = ix2 (outRow k s) d → v = final m h k s d)
    (fun u hu y => ?_) (pipe m h.toBounded).N t _ t.isLt hf ?_ k s d hs rfl
  · intro k' s' d' hs' hi
    have hN : u.val < 287 := N_0 ▸ u.isLt
    let k₀ : Fin 41 := ⟨min (u.val / 7) (used (tabs m) - 1), by omega⟩
    obtain ⟨s₀, d₀, hy⟩ := tile_index y
    subst hy
    rw [out_emb m h u s₀ d₀ k₀ rfl] at hi
    have h0 : 1024 * k₀.val + s₀.val = 1024 * k'.val + s'.val := congrArg Fin.val (congrFun hi 0)
    have h1 : d₀.val = d'.val := congrArg Fin.val (congrFun hi 1)
    have hk' : k' = k₀ := Fin.ext (by omega)
    have hs'' : s₀ = s' := Fin.ext (by omega)
    have hd'' : d₀ = d' := Fin.ext h1
    have hw := written m h u hu (after 4 u) (hL 4 u hu) k' (congrArg Fin.val hk') s' hs' d'
    subst hs'' hd''
    exact hw
  · exact Finset.mem_map.mpr ⟨ix2 s d, Finset.mem_univ _, out_emb m h t s d k htk⟩

omit h in
/-- An index of the result is a tile's row and a column. -/
theorem out_split (i : (⟨2, ![41984, 1024]⟩ : Shape).Idx) : ∃ (k : Fin 41) (s d : Fin 1024), i = ix2 (outRow k s) d := by
  have hi : (i 0).val < 41984 := (i 0).isLt
  refine ⟨⟨(i 0).val / 1024, by omega⟩, ⟨(i 0).val % 1024, by omega⟩, i 1, ?_⟩
  refine (ix2_eta i).symm.trans ?_
  have e : (i 0 : Fin 41984) = outRow ⟨(i 0).val / 1024, by omega⟩ ⟨(i 0).val % 1024, by omega⟩ := Fin.ext (by
    show (i 0).val = 1024 * ((i 0).val / 1024) + (i 0).val % 1024; omega)
  exact congrArg (fun a : Fin 41984 => (ix2 a (i 1) : (⟨2, ![41984, 1024]⟩ : Shape).Idx)) e

omit h in
/-- A row below its tile's row count, in integers, is one of the counted. -/
theorem lt_count {pf : pre0.Contents (Elt Ideal)} (k : Fin 41) (s : Fin 1024) (hs : (s.val : Int) < ((pf 1 : Words41) (ix1 k)).toInt) :
    s.val < count pf k := by
  unfold count
  omega

include h in
/-- The kernel as run: the counted rows of its result as functions of its arguments, which it leaves as they were. -/
theorem run_out (ρ : Dev nD → PrngReg) :
    θ_run (defs (F := Ideal)) (onTc (τ := τ) (main (F := Ideal))) ⟨m, fun _ => 0, ρ⟩ fun r => ∀ c : Dev nD,
      (∀ (k : Fin 41) (s : Fin 1024), s.val < count (tabs m) k → ∀ d : Fin 1024,
        r.2.mem ((c : Thread nD τ).loc main_v0) (ix2 (outRow k s) d) = final m h k s d)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r hr c => ⟨fun k s hs d => by
    have hc : c = 0 := Subsingleton.elim (α := Fin 1) _ _
    subst hc
    exact arr m h r hr.1 k s hs d, kept m h.toBounded _ _ r hr.1 c⟩)
    (launched m h.toBounded (Inv m h) (OutR m h) ρ (fun _ _ k _ hj => absurd (Nat.zero_mod 7) hj) (step m h))

end Cert.Kernel5Ideal.Exp
end
-- ==== Proof.ExpR.lean ====
module

public import proofs.«01_k».proof.Proof.ExpSpec
public import proofs.«01_k».proof.Proof.Gen.Reference5Ideal.Read
public import Idealize.ShloMosaic.Lib.Pipeline.ValueKit

/-! # The routed experts as the reference computes them -/

@[expose] public section
noncomputable section
namespace Cert.Reference5Ideal.Read
open Cert.Reference5Ideal Cert.Reference5Ideal.Gen Idealize.ShloMosaic Cert.Rows Cert.Experts
set_option maxRecDepth 16384

/-- The routed rows and the weights, entry by entry. -/
def inR (x0 : (⟨S44032x1024, .f32⟩ : BufTy).Contents (Elt Ideal)) (x4 x5 : (⟨S8x1024x3584, .f32⟩ : BufTy).Contents (Elt Ideal))
    (x6 : (⟨S8x3584x1024, .f32⟩ : BufTy).Contents (Elt Ideal)) : In where
  x i j := x0 (ix2 i j)
  w1 e i j := x4 (ix3 e i j)
  w3 e i j := x5 (ix3 e i j)
  w2 e i j := x6 (ix3 e i j)

/-- A row of the result among the routed rows. -/
abbrev up (r : Fin 41984) : Fin 44032 := ⟨r.val, by omega⟩
/-- The tile a row lies in. -/
abbrev tileOf (r : Fin 41984) : Fin 41 := ⟨r.val / 1024, by omega⟩

/-- A choice on the equality of two words. -/
theorem select_eq (a b : BitVec 32) (x y : EReal) :
    Scalar.select (IntOp.cmpi .eq a b) x y = if a = b then x else y := by
  by_cases c : a = b
  · rw [if_pos c, show IntOp.cmpi .eq a b = 1#1 from (eq_iff a b).mpr c]; rfl
  · have hz : IntOp.cmpi .eq a b = 0#1 := by
      have hne : ¬ IntOp.cmpi .eq a b = 1#1 := mt (eq_iff a b).mp c
      generalize IntOp.cmpi .eq a b = z at hne ⊢
      revert z; decide
    rw [if_neg c, hz]; rfl

variable (x0 : (⟨S44032x1024, .f32⟩ : BufTy).Contents (Elt Ideal)) (x1 : (⟨S41, .i32⟩ : BufTy).Contents (Elt Ideal))
  (x4 x5 : (⟨S8x1024x3584, .f32⟩ : BufTy).Contents (Elt Ideal)) (x6 : (⟨S8x3584x1024, .f32⟩ : BufTy).Contents (Elt Ideal))

/-- Expert 0's hidden layer, at every row. -/
theorem hid0 (r : Fin 41984) (f : Fin 3584) : val_main_v14 (F := Ideal) x0 x4 x5 (ix2 r f) = (inR x0 x4 x5 x6).hid 0 (up r) f := by
  pointwise [val_main_v14, val_main_v13, val_main_v12, val_main_v11, val_main_v10, val_main_call0_v5, val_main_call0_v4, val_main_call0_cst_0, val_main_call0_v3, val_main_call0_v2, val_main_call0_cst, val_main_call0_v1, val_main_call0_v0, val_main_v9, val_main_v8, val_main_v7, val_main_v0]
  rfl
/-- Expert 0's result, at every row. -/
theorem out0 (r : Fin 41984) (d : Fin 1024) : val_main_v17 (F := Ideal) x0 x4 x5 x6 (ix2 r d) = (inR x0 x4 x5 x6).out 0 (up r) d := by
  pointwise [val_main_v17, val_main_v16, val_main_v15]
  simp only [hid0 x0 x4 x5 x6]
  rfl
/-- Expert 0's result kept where it is the tile's expert. -/
theorem pick0 (r : Fin 41984) (d : Fin 1024) : val_main_v18 (F := Ideal) x0 x1 x4 x5 x6 (ix2 r d)
    = if x1 (ix1 (tileOf r)) = 0#32 then (inR x0 x4 x5 x6).out 0 (up r) d else val_main_v4 (F := Ideal) (ix2 r d) := by
  rw [← select_eq, ← out0 x0 x4 x5 x6]
  pointwise [val_main_v18, val_main_call1_v0, val_main_v6, val_main_v5, val_main_c, val_main_v3, val_main_v2, val_main_v1]

/-- Expert 1's hidden layer, at every row. -/
theorem hid1 (r : Fin 41984) (f : Fin 3584) : val_main_v28 (F := Ideal) x0 x4 x5 (ix2 r f) = (inR x0 x4 x5 x6).hid 1 (up r) f := by
  pointwise [val_main_v28, val_main_v27, val_main_v26, val_main_v25, val_main_v24, val_main_call2_v5, val_main_call2_v4, val_main_call2_cst_0, val_main_call2_v3, val_main_call2_v2, val_main_call2_cst, val_main_call2_v1, val_main_call2_v0, val_main_v23, val_main_v22, val_main_v21, val_main_v0]
  rfl
/-- Expert 1's result, at every row. -/
theorem out1 (r : Fin 41984) (d : Fin 1024) : val_main_v31 (F := Ideal) x0 x4 x5 x6 (ix2 r d) = (inR x0 x4 x5 x6).out 1 (up r) d := by
  pointwise [val_main_v31, val_main_v30, val_main_v29]
  simp only [hid1 x0 x4 x5 x6]
  rfl
/-- Expert 1's result kept where it is the tile's expert. -/
theorem pick1 (r : Fin 41984) (d : Fin 1024) : val_main_v32 (F := Ideal) x0 x1 x4 x5 x6 (ix2 r d)
    = if x1 (ix1 (tileOf r)) = 1#32 then (inR x0 x4 x5 x6).out 1 (up r) d else val_main_v18 (F := Ideal) x0 x1 x4 x5 x6 (ix2 r d) := by
  rw [← select_eq, ← out1 x0 x4 x5 x6]
  pointwise [val_main_v32, val_main_call3_v0, val_main_v20, val_main_v19, val_main_c_0, val_main_v3, val_main_v2, val_main_v1]

/-- Expert 2's hidden layer, at every row. -/
theorem hid2 (r : Fin 41984) (f : Fin 3584) : val_main_v42 (F := Ideal) x0 x4 x5 (ix2 r f) = (inR x0 x4 x5 x6).hid 2 (up r) f := by
  pointwise [val_main_v42, val_main_v41, val_main_v40, val_main_v39, val_main_v38, val_main_call4_v5, val_main_call4_v4, val_main_call4_cst_0, val_main_call4_v3, val_main_call4_v2, val_main_call4_cst, val_main_call4_v1, val_main_call4_v0, val_main_v37, val_main_v36, val_main_v35, val_main_v0]
  rfl
/-- Expert 2's result, at every row. -/
theorem out2 (r : Fin 41984) (d : Fin 1024) : val_main_v45 (F := Ideal) x0 x4 x5 x6 (ix2 r d) = (inR x0 x4 x5 x6).out 2 (up r) d := by
  pointwise [val_main_v45, val_main_v44, val_main_v43]
  simp only [hid2 x0 x4 x5 x6]
  rfl
/-- Expert 2's result kept where it is the tile's expert. -/
theorem pick2 (r : Fin 41984) (d : Fin 1024) : val_main_v46 (F := Ideal) x0 x1 x4 x5 x6 (ix2 r d)
    = if x1 (ix1 (tileOf r)) = 2#32 then (inR x0 x4 x5 x6).out 2 (up r) d else val_main_v32 (F := Ideal) x0 x1 x4 x5 x6 (ix2 r d) := by
  rw [← select_eq, ← out2 x0 x4 x5 x6]
  pointwise [val_main_v46, val_main_call5_v0, val_main_v34, val_main_v33, val_main_c_1, val_main_v3, val_main_v2, val_main_v1]

/-- Expert 3's hidden layer, at every row. -/
theorem hid3 (r : Fin 41984) (f : Fin 3584) : val_main_v56 (F := Ideal) x0 x4 x5 (ix2 r f) = (inR x0 x4 x5 x6).hid 3 (up r) f := by
  pointwise [val_main_v56, val_main_v55, val_main_v54, val_main_v53, val_main_v52, val_main_call6_v5, val_main_call6_v4, val_main_call6_cst_0, val_main_call6_v3, val_main_call6_v2, val_main_call6_cst, val_main_call6_v1, val_main_call6_v0, val_main_v51, val_main_v50, val_main_v49, val_main_v0]
  rfl
/-- Expert 3's result, at every row. -/
theorem out3 (r : Fin 41984) (d : Fin 1024) : val_main_v59 (F := Ideal) x0 x4 x5 x6 (ix2 r d) = (inR x0 x4 x5 x6).out 3 (up r) d := by
  pointwise [val_main_v59, val_main_v58, val_main_v57]
  simp only [hid3 x0 x4 x5 x6]
  rfl
/-- Expert 3's result kept where it is the tile's expert. -/
theorem pick3 (r : Fin 41984) (d : Fin 1024) : val_main_v60 (F := Ideal) x0 x1 x4 x5 x6 (ix2 r d)
    = if x1 (ix1 (tileOf r)) = 3#32 then (inR x0 x4 x5 x6).out 3 (up r) d else val_main_v46 (F := Ideal) x0 x1 x4 x5 x6 (ix2 r d) := by
  rw [← select_eq, ← out3 x0 x4 x5 x6]
  pointwise [val_main_v60, val_main_call7_v0, val_main_v48, val_main_v47, val_main_c_2, val_main_v3, val_main_v2, val_main_v1]

/-- Expert 4's hidden layer, at every row. -/
theorem hid4 (r : Fin 41984) (f : Fin 3584) : val_main_v70 (F := Ideal) x0 x4 x5 (ix2 r f) = (inR x0 x4 x5 x6).hid 4 (up r) f := by
  pointwise [val_main_v70, val_main_v69, val_main_v68, val_main_v67, val_main_v66, val_main_call8_v5, val_main_call8_v4, val_main_call8_cst_0, val_main_call8_v3, val_main_call8_v2, val_main_call8_cst, val_main_call8_v1, val_main_call8_v0, val_main_v65, val_main_v64, val_main_v63, val_main_v0]
  rfl
/-- Expert 4's result, at every row. -/
theorem out4 (r : Fin 41984) (d : Fin 1024) : val_main_v73 (F := Ideal) x0 x4 x5 x6 (ix2 r d) = (inR x0 x4 x5 x6).out 4 (up r) d := by
  pointwise [val_main_v73, val_main_v72, val_main_v71]
  simp only [hid4 x0 x4 x5 x6]
  rfl
/-- Expert 4's result kept where it is the tile's expert. -/
theorem pick4 (r : Fin 41984) (d : Fin 1024) : val_main_v74 (F := Ideal) x0 x1 x4 x5 x6 (ix2 r d)
    = if x1 (ix1 (tileOf r)) = 4#32 then (inR x0 x4 x5 x6).out 4 (up r) d else val_main_v60 (F := Ideal) x0 x1 x4 x5 x6 (ix2 r d) := by
  rw [← select_eq, ← out4 x0 x4 x5 x6]
  pointwise [val_main_v74, val_main_call9_v0, val_main_v62, val_main_v61, val_main_c_3, val_main_v3, val_main_v2, val_main_v1]

/-- Expert 5's hidden layer, at every row. -/
theorem hid5 (r : Fin 41984) (f : Fin 3584) : val_main_v84 (F := Ideal) x0 x4 x5 (ix2 r f) = (inR x0 x4 x5 x6).hid 5 (up r) f := by
  pointwise [val_main_v84, val_main_v83, val_main_v82, val_main_v81, val_main_v80, val_main_call10_v5, val_main_call10_v4, val_main_call10_cst_0, val_main_call10_v3, val_main_call10_v2, val_main_call10_cst, val_main_call10_v1, val_main_call10_v0, val_main_v79, val_main_v78, val_main_v77, val_main_v0]
  rfl
/-- Expert 5's result, at every row. -/
theorem out5 (r : Fin 41984) (d : Fin 1024) : val_main_v87 (F := Ideal) x0 x4 x5 x6 (ix2 r d) = (inR x0 x4 x5 x6).out 5 (up r) d := by
  pointwise [val_main_v87, val_main_v86, val_main_v85]
  simp only [hid5 x0 x4 x5 x6]
  rfl
/-- Expert 5's result kept where it is the tile's expert. -/
theorem pick5 (r : Fin 41984) (d : Fin 1024) : val_main_v88 (F := Ideal) x0 x1 x4 x5 x6 (ix2 r d)
    = if x1 (ix1 (tileOf r)) = 5#32 then (inR x0 x4 x5 x6).out 5 (up r) d else val_main_v74 (F := Ideal) x0 x1 x4 x5 x6 (ix2 r d) := by
  rw [← select_eq, ← out5 x0 x4 x5 x6]
  pointwise [val_main_v88, val_main_call11_v0, val_main_v76, val_main_v75, val_main_c_4, val_main_v3, val_main_v2, val_main_v1]

/-- Expert 6's hidden layer, at every row. -/
theorem hid6 (r : Fin 41984) (f : Fin 3584) : val_main_v98 (F := Ideal) x0 x4 x5 (ix2 r f) = (inR x0 x4 x5 x6).hid 6 (up r) f := by
  pointwise [val_main_v98, val_main_v97, val_main_v96, val_main_v95, val_main_v94, val_main_call12_v5, val_main_call12_v4, val_main_call12_cst_0, val_main_call12_v3, val_main_call12_v2, val_main_call12_cst, val_main_call12_v1, val_main_call12_v0, val_main_v93, val_main_v92, val_main_v91, val_main_v0]
  rfl
/-- Expert 6's result, at every row. -/
theorem out6 (r : Fin 41984) (d : Fin 1024) : val_main_v101 (F := Ideal) x0 x4 x5 x6 (ix2 r d) = (inR x0 x4 x5 x6).out 6 (up r) d := by
  pointwise [val_main_v101, val_main_v100, val_main_v99]
  simp only [hid6 x0 x4 x5 x6]
  rfl
/-- Expert 6's result kept where it is the tile's expert. -/
theorem pick6 (r : Fin 41984) (d : Fin 1024) : val_main_v102 (F := Ideal) x0 x1 x4 x5 x6 (ix2 r d)
    = if x1 (ix1 (tileOf r)) = 6#32 then (inR x0 x4 x5 x6).out 6 (up r) d else val_main_v88 (F := Ideal) x0 x1 x4 x5 x6 (ix2 r d) := by
  rw [← select_eq, ← out6 x0 x4 x5 x6]
  pointwise [val_main_v102, val_main_call13_v0, val_main_v90, val_main_v89, val_main_c_5, val_main_v3, val_main_v2, val_main_v1]

/-- Expert 7's hidden layer, at every row. -/
theorem hid7 (r : Fin 41984) (f : Fin 3584) : val_main_v112 (F := Ideal) x0 x4 x5 (ix2 r f) = (inR x0 x4 x5 x6).hid 7 (up r) f := by
  pointwise [val_main_v112, val_main_v111, val_main_v110, val_main_v109, val_main_v108, val_main_call14_v5, val_main_call14_v4, val_main_call14_cst_0, val_main_call14_v3, val_main_call14_v2, val_main_call14_cst, val_main_call14_v1, val_main_call14_v0, val_main_v107, val_main_v106, val_main_v105, val_main_v0]
  rfl
/-- Expert 7's result, at every row. -/
theorem out7 (r : Fin 41984) (d : Fin 1024) : val_main_v115 (F := Ideal) x0 x4 x5 x6 (ix2 r d) = (inR x0 x4 x5 x6).out 7 (up r) d := by
  pointwise [val_main_v115, val_main_v114, val_main_v113]
  simp only [hid7 x0 x4 x5 x6]
  rfl
/-- Expert 7's result kept where it is the tile's expert. -/
theorem pick7 (r : Fin 41984) (d : Fin 1024) : val_main_v116 (F := Ideal) x0 x1 x4 x5 x6 (ix2 r d)
    = if x1 (ix1 (tileOf r)) = 7#32 then (inR x0 x4 x5 x6).out 7 (up r) d else val_main_v102 (F := Ideal) x0 x1 x4 x5 x6 (ix2 r d) := by
  rw [← select_eq, ← out7 x0 x4 x5 x6]
  pointwise [val_main_v116, val_main_call15_v0, val_main_v104, val_main_v103, val_main_c_6, val_main_v3, val_main_v2, val_main_v1]

/-- The reference's result at a row: what the tile's expert makes of it. -/
theorem r_out (r : Fin 41984) (d : Fin 1024) (e : Fin 8) (he : (x1 (ix1 (tileOf r)) : BitVec 32).toNat = e.val) :
    val_main_v116 (F := Ideal) x0 x1 x4 x5 x6 (ix2 r d) = (inR x0 x4 x5 x6).out e (up r) d := by
  have hw : (x1 (ix1 (tileOf r)) : BitVec 32) = BitVec.ofNat 32 e.val := by
    rw [← he, BitVec.ofNat_toNat]; exact (BitVec.setWidth_eq _).symm
  rw [pick7, pick6, pick5, pick4, pick3, pick2, pick1, pick0, hw]
  generalize val_main_v4 (F := Ideal) (ix2 r d) = z
  generalize inR x0 x4 x5 x6 = I
  clear hw he
  revert e
  intro e
  fin_cases e <;> rfl

end Cert.Reference5Ideal.Read
end
-- ==== Proof.ExpMask.lean ====
module

public import proofs.«01_k».proof.On_occupied
public import proofs.«01_k».proof.Proof.Experts
public import Idealize.ShloMosaic.Lib.Pipeline.ValueKit

/-! # The rows the comparison is made at -/

@[expose] public section
noncomputable section
namespace Cert.Experts
open Idealize.ShloMosaic Cert.Rows
set_option maxRecDepth 16384

/-- A row the mask names lies below its tile's row count. -/
theorem occupied_of {F : FTy → Type} [FloatOps F] [Cert.On_occupied.Facts] {x : FVec F Cert.On_occupied.S44032x1024 .f32} {te nv : Words41} {nu : Word1}
    {w1 w3 : FVec F Cert.On_occupied.S8x1024x3584 .f32} {w2 : FVec F Cert.On_occupied.S8x3584x1024 .f32}
    (r : Fin 41984) (d : Fin 1024) (k : Fin 41) (s : Fin 1024) (hr : r.val = 1024 * k.val + s.val)
    (h : Cert.On_occupied.fn x te nv nu w1 w3 w2 (ix2 r d) = 1#1) : (s.val : Int) < (nv (ix1 k)).toInt := by
  unfold Cert.On_occupied.fn at h
  dsimp only at h
  rw [broadcastInDim_apply _ Cert.On_occupied.Facts.bcast_S41984x1_S41984x1024_0_1 _ (ix2 r d) (ix2 r 0 : Cert.On_occupied.S41984x1.Idx) (fun a => match a with
    | ⟨0, _⟩ => by show r.val = if (41984 : Nat) = 1 then 0 else r.val; rw [if_neg (by decide)]
    | ⟨1, _⟩ => by show 0 = if (1 : Nat) = 1 then 0 else d.val; rw [if_pos rfl])] at h
  rw [shapeCast_apply _ Cert.On_occupied.Facts.shapeCasts_S41x1024_S41984x1 (ix2 r 0 : Cert.On_occupied.S41984x1.Idx) (ix2 k s : Cert.On_occupied.S41x1024.Idx)
    (by rewrite [Shape.rowMajor_val_two, Shape.rowMajor_val_two]; show k.val * 1024 + s.val = r.val * 1 + 0; omega)] at h
  have h2 := ((andi_at _ _ _).mp h).2
  have h3 := (slt_iff _ _).mp h2
  rw [broadcastInDim_apply _ Cert.On_occupied.Facts.bcast_S1x1024_S41x1024_0_1 _ (ix2 k s) (ix2 0 s : Cert.On_occupied.S1x1024.Idx) (fun a => match a with
    | ⟨0, _⟩ => by show 0 = if (1 : Nat) = 1 then 0 else k.val; rw [if_pos rfl]
    | ⟨1, _⟩ => by show s.val = if (1024 : Nat) = 1 then 0 else s.val; rw [if_neg (by decide)])] at h3
  rw [broadcastInDim_apply _ Cert.On_occupied.Facts.bcast_S1024_S1x1024_1 _ (ix2 0 s : Cert.On_occupied.S1x1024.Idx) (ix1 s : Cert.On_occupied.S1024.Idx) (fun a => match a with
    | ⟨0, _⟩ => by show s.val = if (1024 : Nat) = 1 then 0 else s.val; rw [if_neg (by decide)])] at h3
  rw [broadcastInDim_apply _ Cert.On_occupied.Facts.bcast_S41x1_S41x1024_0_1 _ (ix2 k s) (ix2 k 0 : Cert.On_occupied.S41x1.Idx) (fun a => match a with
    | ⟨0, _⟩ => by show k.val = if (41 : Nat) = 1 then 0 else k.val; rw [if_neg (by decide)]
    | ⟨1, _⟩ => by show 0 = if (1 : Nat) = 1 then 0 else s.val; rw [if_pos rfl])] at h3
  rw [broadcastInDim_apply _ Cert.On_occupied.Facts.bcast_S41_S41x1_0 _ (ix2 k 0 : Cert.On_occupied.S41x1.Idx) (ix1 k : Cert.On_occupied.S41.Idx) (fun a => match a with
    | ⟨0, _⟩ => by show k.val = if (41 : Nat) = 1 then 0 else k.val; rw [if_neg (by decide)])] at h3
  have h4 : (BitVec.ofNat 32 s.val).toInt < (nv (ix1 k)).toInt := h3
  rw [toInt_small _ (by omega)] at h4
  exact h4

end Cert.Experts
end
-- ==== Proof.CSpec.lean ====
module

public import Idealize.ShloMosaic.PureOps.Ideal

/-! # The rotated keys of the windowed attention

The keys of the eight sequences that follow the prompt, at positions 2048 to 2111: of each of the two heads' 64
columns the first 16 are rotated in pairs, and the others stay. -/

@[expose] public section
noncomputable section
namespace Cert.WindowKeys
open Idealize.ShloMosaic

/-- The angle by which a pair of columns is turned at a position of a sequence, 2048 places into the stream. -/
def angle (s : Fin 64) (f : Fin 8) : EReal :=
  (FloatOps.sitofp FTy.f32 (IntOp.addi (2048#32) (BitVec.ofNat 32 s.val)) : Ideal .f32) *
    Ideal.div 1 (Ideal.pow (Ideal.ofBits FTy.f32 1223959552#32)
      ((FloatOps.sitofp FTy.f32 (BitVec.ofNat 32 f.val) : Ideal .f32) * Ideal.ofBits FTy.f32 1040187392#32))

/-- A row of one of the eight sequences among the projected rows. -/
abbrev rowOf (b : Fin 8) (s : Fin 64) : Fin 16896 := ⟨16384 + (b.val * 64 + s.val), by omega⟩

/-- The key at a position of a sequence: its column `l` of the two heads' 128, rotated where it is one of the first
sixteen of its head. -/
def rotated (u : Fin 16896 → Fin 3328 → EReal) (b : Fin 8) (s : Fin 64) (l : Fin 128) : EReal :=
  if h : l.val % 64 < 8 then
    u (rowOf b s) ⟨3072 + l.val, by omega⟩ * Ideal.cos (angle s ⟨l.val % 64, h⟩) - u (rowOf b s) ⟨3072 + (l.val + 8), by omega⟩ * Ideal.sin (angle s ⟨l.val % 64, h⟩)
  else if h' : l.val % 64 < 16 then
    u (rowOf b s) ⟨3072 + l.val, by omega⟩ * Ideal.cos (angle s ⟨l.val % 64 - 8, by omega⟩)
      + u (rowOf b s) ⟨3072 + (l.val - 8), by omega⟩ * Ideal.sin (angle s ⟨l.val % 64 - 8, by omega⟩)
  else u (rowOf b s) ⟨3072 + l.val, by omega⟩

/-- The value at a position of a sequence. -/
def value (u : Fin 16896 → Fin 3328 → EReal) (b : Fin 8) (s : Fin 64) (l : Fin 128) : EReal := u (rowOf b s) ⟨3200 + l.val, by omega⟩

end Cert.WindowKeys
end
-- ==== Proof.CKeys.lean ====
module

public import proofs.«01_k».proof.Proof.CSpec
public import proofs.«01_k».proof.Proof.Gen.Kernel6Ideal.Value
public import Idealize.ShloMosaic.Lib.Pipeline.ValueKit
public import Idealize.ShloMosaic.Lib.Pipeline.ReadBack
public import Idealize.ShloMosaic.Lib.StableHlo.ReadAt

/-! # What the windowed attention writes of its keys and values -/

@[expose] public section
noncomputable section
namespace Cert.Kernel6Ideal.Value
open Cert.Kernel6Ideal Cert.Kernel6Ideal.Gen Idealize.ShloMosaic Idealize.ShloMosaic.TcCoe Idealize.SL.Sem Cert.WindowKeys
set_option maxRecDepth 16384

variable (m : (ℓ : Loc nD τ sig) → Buf (Elt Ideal) ℓ)

/-- The projected rows as launched, entry by entry. -/
def proj (c : Dev nD) (i : Fin 16896) (j : Fin 3328) : EReal := m ((c : Thread nD τ).loc main_arg0) (ix2 i j)

/-- The launch has eight grid points, one for each sequence. -/
theorem lt8 (t : Fin cfg0.N) : t.val < 8 := t.isLt
/-- The sequence of a grid point. -/
abbrev seqOf (t : Fin cfg0.N) : Fin 8 := ⟨t.val, lt8 t⟩

/-- The blocks that the windows stage at a point. -/
theorem idx : ∀ t : Fin grid0.N, win0_1.index t = ![256 + t.val, 24] ∧ win0_2.index t = ![256 + t.val, 25]
    ∧ win0_5.index t = ![0, 0] ∧ win0_6.index t = ![0, 0] ∧ win0_7.index t = ![0, 0]
    ∧ win0_11.index t = ![t.val, 0, 0] ∧ win0_12.index t = ![t.val, 0, 0] := by decide +kernel

/-- The keys before rotation. -/
theorem blk1 (c : Dev nD) (t : Fin cfg0.N) (s : Fin 64) (l : Fin 128) :
    iblk m c 1 t (ix2 s l) = proj m c (rowOf (seqOf t) s) ⟨3072 + l.val, by omega⟩ := by
  unfold proj
  blk_ext [iblk, V, idx t]
/-- The values. -/
theorem blk2 (c : Dev nD) (t : Fin cfg0.N) (s : Fin 64) (l : Fin 128) :
    iblk m c 2 t (ix2 s l) = value (proj m c) (seqOf t) s l := by
  unfold value proj
  blk_ext [iblk, V, idx t]

/-- A row of a table of two heads side by side, each of eight columns, eight more and forty-eight alike. -/
theorem table (A B : Fin 8 → EReal) (C : Fin 48 → EReal) (a b : Fin 8 → EReal) (k : EReal) (hA : ∀ f, A f = a f) (hB : ∀ f, B f = b f)
    (hC : ∀ f, C f = k) (l : Fin 128) :
    (if h : l.val < 64 then
        if h1 : l.val < 8 then A ⟨l.val, h1⟩ else if h2 : l.val - 8 < 8 then B ⟨l.val - 8, h2⟩ else C ⟨l.val - 8 - 8, by omega⟩
      else if h1 : l.val - 64 < 8 then A ⟨l.val - 64, h1⟩
        else if h2 : l.val - 64 - 8 < 8 then B ⟨l.val - 64 - 8, h2⟩ else C ⟨l.val - 64 - 8 - 8, by omega⟩)
      = if h : l.val % 64 < 8 then a ⟨l.val % 64, h⟩ else if h' : l.val % 64 < 16 then b ⟨l.val % 64 - 8, by omega⟩ else k := by
  simp only [hA, hB, hC]
  split_ifs
  all_goals first
    | omega
    | rfl
    | exact congrArg a (Fin.ext (by simp only; omega))
    | exact congrArg b (Fin.ext (by simp only; omega))

/-- The cosines of the angles, as the host code computes them. -/
theorem cosAt (c : Dev nD) (s : Fin 64) (f : Fin 8) :
    Eq (α := EReal) (StableHlo.upto (Val := Elt Ideal) hostOps0 (fun b => m (c, b)) 31 (Proc.tc.devRef main_v18) (ix2 s f)) (Ideal.cos (angle s f)) := by
  after_reads_at
  rfl
/-- The ones that follow the cosines. -/
theorem oneAt (c : Dev nD) (s : Fin 64) (f : Fin 48) :
    Eq (α := EReal) (StableHlo.upto (Val := Elt Ideal) hostOps0 (fun b => m (c, b)) 31 (Proc.tc.devRef main_v20) (ix2 s f)) (1) := by
  after_reads_at
/-- The sines of the angles. -/
theorem sinAt (c : Dev nD) (s : Fin 64) (f : Fin 8) :
    Eq (α := EReal) (StableHlo.upto (Val := Elt Ideal) hostOps0 (fun b => m (c, b)) 32 (Proc.tc.devRef main_v19) (ix2 s f)) (Ideal.sin (angle s f)) := by
  after_reads_at
  rfl
/-- The sines, negated. -/
theorem negAt (c : Dev nD) (s : Fin 64) (f : Fin 8) :
    Eq (α := EReal) (StableHlo.upto (Val := Elt Ideal) hostOps0 (fun b => m (c, b)) 34 (Proc.tc.devRef main_v25) (ix2 s f)) (-Ideal.sin (angle s f)) := by
  after_reads_at
  rfl
/-- The zeros before the sines. -/
theorem zeroAt32 (c : Dev nD) (s : Fin 64) (f : Fin 8) :
    Eq (α := EReal) (StableHlo.upto (Val := Elt Ideal) hostOps0 (fun b => m (c, b)) 32 (Proc.tc.devRef main_v22) (ix2 s f)) (0) := by
  after_reads_at
/-- The zeros that follow the sines. -/
theorem zerosAt32 (c : Dev nD) (s : Fin 64) (f : Fin 48) :
    Eq (α := EReal) (StableHlo.upto (Val := Elt Ideal) hostOps0 (fun b => m (c, b)) 32 (Proc.tc.devRef main_v21) (ix2 s f)) (0) := by
  after_reads_at
/-- The zeros that follow the negated sines. -/
theorem zeroAt34 (c : Dev nD) (s : Fin 64) (f : Fin 8) :
    Eq (α := EReal) (StableHlo.upto (Val := Elt Ideal) hostOps0 (fun b => m (c, b)) 34 (Proc.tc.devRef main_v22) (ix2 s f)) (0) := by
  after_reads_at
/-- The zeros that fill up the row of negated sines. -/
theorem zerosAt34 (c : Dev nD) (s : Fin 64) (f : Fin 48) :
    Eq (α := EReal) (StableHlo.upto (Val := Elt Ideal) hostOps0 (fun b => m (c, b)) 34 (Proc.tc.devRef main_v21) (ix2 s f)) (0) := by
  after_reads_at

/-- The table of cosines as the host code lays it out. -/
theorem V27 (c : Dev nD) (s : Fin 64) (l : Fin 128) : V m c main_v27 (ix2 s l) =
    if h : l.val % 64 < 8 then Ideal.cos (angle s ⟨l.val % 64, h⟩)
    else if h' : l.val % 64 < 16 then Ideal.cos (angle s ⟨l.val % 64 - 8, by omega⟩) else 1 := by
  unfold V
  after_reads_at
  exact table _ _ _ _ _ _ (cosAt m c s) (cosAt m c s) (oneAt m c s) l
/-- The table of sines for the second column of each pair. -/
theorem V28 (c : Dev nD) (s : Fin 64) (l : Fin 128) : V m c main_v28 (ix2 s l) =
    if h : l.val % 64 < 8 then 0
    else if h' : l.val % 64 < 16 then Ideal.sin (angle s ⟨l.val % 64 - 8, by omega⟩) else 0 := by
  unfold V
  after_reads_at
  exact table _ _ _ _ _ _ (zeroAt32 m c s) (sinAt m c s) (zerosAt32 m c s) l
/-- The table of sines for the first column of each pair, negated. -/
theorem V29 (c : Dev nD) (s : Fin 64) (l : Fin 128) : V m c main_v29 (ix2 s l) =
    if h : l.val % 64 < 8 then -Ideal.sin (angle s ⟨l.val % 64, h⟩) else 0 := by
  unfold V
  after_reads_at
  refine (table _ _ _ _ _ _ (negAt m c s) (zeroAt34 m c s) (zerosAt34 m c s) l).trans ?_
  split_ifs <;> rfl
/-- The table of cosines as staged. -/
theorem blk5 (c : Dev nD) (t : Fin cfg0.N) (s : Fin 64) (l : Fin 128) : iblk m c 5 t (ix2 s l) = V m c main_v27 (ix2 s l) := by
  blk_ext [iblk, idx t]
/-- The table of sines for the second columns as staged. -/
theorem blk6 (c : Dev nD) (t : Fin cfg0.N) (s : Fin 64) (l : Fin 128) : iblk m c 6 t (ix2 s l) = V m c main_v28 (ix2 s l) := by
  blk_ext [iblk, idx t]
/-- The table of negated sines as staged. -/
theorem blk7 (c : Dev nD) (t : Fin cfg0.N) (s : Fin 64) (l : Fin 128) : iblk m c 7 t (ix2 s l) = V m c main_v29 (ix2 s l) := by
  blk_ext [iblk, idx t]

/-- The rotation as the kernel carries it out, a table's entry for each of a column and its two neighbours eight away,
is that of the pairs. -/
theorem rotation (u : Fin 16896 → Fin 3328 → EReal) (b : Fin 8) (s : Fin 64) (l : Fin 128) (hl : l.val < 128) :
    (u (rowOf b s) ⟨3072 + l.val, by omega⟩ * (if h : l.val % 64 < 8 then Ideal.cos (angle s ⟨l.val % 64, h⟩)
        else if h' : l.val % 64 < 16 then Ideal.cos (angle s ⟨l.val % 64 - 8, by omega⟩) else 1)
      + u (rowOf b s) ⟨3072 + (l.val + 128 - 8) % 128, by omega⟩ * (if h : l.val % 64 < 8 then 0
        else if h' : l.val % 64 < 16 then Ideal.sin (angle s ⟨l.val % 64 - 8, by omega⟩) else 0)
      + u (rowOf b s) ⟨3072 + (l.val + 128 - 120) % 128, by omega⟩ * (if h : l.val % 64 < 8 then -Ideal.sin (angle s ⟨l.val % 64, h⟩) else 0))
      = rotated u b s l := by
  unfold rotated
  by_cases h : l.val % 64 < 8
  · simp only [dif_pos h]
    rw [mul_zero, add_zero, mul_neg, ← sub_eq_add_neg]
    congr 2
    exact congrArg (u _) (Fin.ext (by simp only; omega))
  · simp only [dif_neg h]
    by_cases h' : l.val % 64 < 16
    · simp only [dif_pos h']
      rw [mul_zero, add_zero]
      congr 2
      exact congrArg (u _) (Fin.ext (by simp only; omega))
    · simp only [dif_neg h']
      rw [mul_zero, mul_zero, add_zero, add_zero, mul_one]

/-- What a run of the body computes of its keys. -/
theorem keysAt (c : Dev nD) (t : Fin cfg0.N) (s : Fin 64) (l : Fin 128) :
    k0_pay8 (iblk m c 1 t) (iblk m c 5 t) (iblk m c 6 t) (iblk m c 7 t) (ix3 0 s l) = rotated (proj m c) (seqOf t) s l := by
  pointwise [k0_pay8]
  rw [blk1, blk1, blk1, blk5, blk6, blk7, V27, V28, V29]
  exact rotation (proj m c) (seqOf t) s l l.isLt
/-- What a run of the body leaves of its keys. -/
theorem o11 (c : Dev nD) (t : Fin cfg0.N) (y : S1x64x128.Idx) : (outsAt0 (F := Ideal) m c t).2.1 y = rotated (proj m c) (seqOf t) (y 1) (y 2) := by
  unfold outsAt0
  dsimp only
  frame_open
  frame_out
  have e : y = ix3 0 (y 1) (y 2) := (ix3_eta y).symm.trans (congrArg (fun a => ix3 a (y 1) (y 2)) (Subsingleton.elim (α := Fin 1) _ _))
  exact (congrArg _ e).trans (keysAt m c t (y 1) (y 2))
/-- What a run of the body leaves of its values. -/
theorem o12 (c : Dev nD) (t : Fin cfg0.N) (y : S1x64x128.Idx) : (outsAt0 (F := Ideal) m c t).2.2 y = value (proj m c) (seqOf t) (y 1) (y 2) := by
  unfold outsAt0
  dsimp only
  frame_open
  frame_out
  refine Eq.trans (congrArg _ (ix3_eta y).symm) ?_
  pointwise [k0_pay9]
  exact blk2 m c t _ _

/-- Where each point writes its results. -/
theorem idxOut (t : Fin cfg0.N) : win0_11.index t 0 = t.val ∧ win0_11.index t 1 = 0 ∧ win0_11.index t 2 = 0
    ∧ win0_12.index t 0 = t.val ∧ win0_12.index t 1 = 0 ∧ win0_12.index t 2 = 0 :=
  (by decide +kernel : ∀ t : Fin grid0.N, win0_11.index t 0 = t.val ∧ win0_11.index t 1 = 0 ∧ win0_11.index t 2 = 0
    ∧ win0_12.index t 0 = t.val ∧ win0_12.index t 1 = 0 ∧ win0_12.index t 2 = 0) t

/-- The rotated keys after the launch. -/
theorem arr11 (c : Dev nD) : (dats m 0 c).arrAt 11 cfg0.N = fun i => rotated (proj m c) (i 0) (i 1) (i 2) := by
  refine (dats m 0 c).arrAt_eq_of_covers 11 _ (by decide +kernel) fun t hf y => ?_
  blk_simp
  rw [after0_11]
  refine (o11 m c t _).trans ?_
  obtain ⟨e0, e1, e2, -⟩ := idxOut t
  congr 1 <;> refine Fin.ext ?_ <;> blk_simp [e0, e1, e2]
/-- The values after the launch. -/
theorem arr12 (c : Dev nD) : (dats m 0 c).arrAt 12 cfg0.N = fun i => value (proj m c) (i 0) (i 1) (i 2) := by
  refine (dats m 0 c).arrAt_eq_of_covers 12 _ (by decide +kernel) fun t hf y => ?_
  blk_simp
  rw [after0_12]
  refine (o12 m c t _).trans ?_
  obtain ⟨-, -, -, e0, e1, e2⟩ := idxOut t
  congr 1 <;> refine Fin.ext ?_ <;> blk_simp [e0, e1, e2]

/-- The kernel as run: the keys and values it leaves as functions of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c : Thread nD τ).loc main_v32_1) = (fun i => rotated (proj m c) (i 0) (i 1) (i 2))
      ∧ r.2.mem ((c : Thread nD τ).loc main_v32_2) = (fun i => value (proj m c) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨-, h11, h12, hk⟩ := h c
    exact ⟨h11.trans (arr11 m c), h12.trans (arr12 m c), hk⟩)
    (run_blocks m ρ)

end Cert.Kernel6Ideal.Value
end
-- ==== Proof.CRef.lean ====
module

public import proofs.«01_k».proof.Proof.CSpec
public import proofs.«01_k».proof.Proof.Gen.Reference6Ideal.Read
public import Idealize.ShloMosaic.Lib.Pipeline.ValueKit

/-! # What the reference's rotated keys are -/

@[expose] public section
noncomputable section
namespace Cert.Reference6Ideal.Read
open Cert.Reference6Ideal Cert.Reference6Ideal.Gen Idealize.ShloMosaic Cert.WindowKeys
set_option maxRecDepth 16384

variable (x0 : (⟨S16896x3328, .f32⟩ : BufTy).Contents (Elt Ideal))

/-- The cosines of the angles. -/
theorem r_cos (s : Fin 64) (f : Fin 8) : val_main_v16 (F := Ideal) (ix2 s f) = Ideal.cos (angle s f) := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_cst, val_main_cst_0, val_main_cst_1]
  rfl
/-- The sines of the angles. -/
theorem r_sin (s : Fin 64) (f : Fin 8) : val_main_v18 (F := Ideal) (ix2 s f) = Ideal.sin (angle s f) := by
  pointwise [val_main_v18, val_main_v15, val_main_v14, val_main_v13, val_main_v12, val_main_v11, val_main_v10, val_main_v9, val_main_v8, val_main_v7, val_main_v6, val_main_v5, val_main_v4, val_main_v3, val_main_v2, val_main_v1, val_main_v0, val_main_c, val_main_cst, val_main_cst_0, val_main_cst_1]
  rfl
/-- A column of the projected rows, split by head. -/
theorem r_col (b : Fin 8) (s : Fin 64) (g : Fin 2) (d : Fin 64) :
    val_main_v21 (F := Ideal) x0 (ix4 b s g d) = x0 (ix2 (rowOf b s) ⟨3072 + (g.val * 64 + d.val), by omega⟩) := by
  pointwise [val_main_v21, val_main_v20]
/-- The rotated keys. -/
theorem r_keys (b : Fin 8) (s : Fin 64) (l : Fin 128) :
    val_main_v38 (F := Ideal) x0 (ix3 b s l) = rotated (fun i j => x0 (ix2 i j)) b s l := by
  pointwise [val_main_v38, val_main_v35, val_main_v34, val_main_v33, val_main_v32, val_main_v31, val_main_v30, val_main_v29, val_main_v28, val_main_v27, val_main_v26, val_main_v25, val_main_v24, val_main_v23, val_main_v22, val_main_v19, val_main_v17]
  simp only [r_cos, r_sin, r_col]
  unfold rotated
  by_cases h : l.val % 64 < 8
  · rw [dif_pos h, dif_pos h]
    congr 2 <;> exact congrArg (fun j => x0 (ix2 _ j)) (Fin.ext (by simp only; omega))
  · rw [dif_neg h, dif_neg h]
    by_cases h' : l.val % 64 < 16
    · rw [dif_pos (by omega), dif_pos h']
      congr 2 <;> exact congrArg (fun j => x0 (ix2 _ j)) (Fin.ext (by simp only; omega))
    · rw [dif_neg (by omega), dif_neg h']
      exact congrArg (fun j => x0 (ix2 _ j)) (Fin.ext (by simp only; omega))
/-- The values. -/
theorem r_values (b : Fin 8) (s : Fin 64) (l : Fin 128) :
    val_main_v39 (F := Ideal) x0 (ix3 b s l) = value (fun i j => x0 (ix2 i j)) b s l := by
  pointwise [val_main_v39, val_main_v37, val_main_v36]
  rfl

end Cert.Reference6Ideal.Read
end
-- ==== Proof.CRefRun.lean ====
module

public import proofs.«01_k».proof.Proof.CRef
public import proofs.«01_k».proof.Proof.Gen.Reference6Ideal.Run

/-! # The reference's rotated keys as run -/

@[expose] public section
noncomputable section
namespace Cert.Reference6Ideal.Value
open Cert.Reference6Ideal Cert.Reference6Ideal.Gen Cert.Reference6Ideal.Read Idealize.ShloMosaic Idealize.ShloMosaic.TcCoe Idealize.SL.Sem Cert.WindowKeys
set_option maxRecDepth 16384

variable (m : (ℓ : Loc nD τ sig) → Buf (Elt Ideal) ℓ)

/-- The projected rows as launched, entry by entry. -/
def proj (c : Dev nD) (i : Fin 16896) (j : Fin 3328) : EReal := m ((c.tc : Thread nD τ).loc main_arg0) (ix2 i j)

/-- The reference as run: its keys and values as functions of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c.tc : Thread nD τ).loc main_v38) = (fun i => rotated (proj m c) (i 0) (i 1) (i 2))
      ∧ r.2.mem ((c.tc : Thread nD τ).loc main_v39) = (fun i => value (proj m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, hk⟩ := h c
    refine ⟨(h0.trans (val_main_v38_eq _ _)).trans ?_, (h1.trans (val_main_v39_eq _)).trans ?_, hk⟩
    · funext i
      exact (congrArg _ (ix3_eta i).symm).trans (r_keys _ (i 0) (i 1) (i 2))
    · funext i
      exact (congrArg _ (ix3_eta i).symm).trans (r_values _ (i 0) (i 1) (i 2)))
    (run m ρ)

end Cert.Reference6Ideal.Value
end
-- ==== Proof.AdaSpec.lean ====
module

public import proofs.«01_k».proof.Proof.Rows

/-! # The modulation of a layer, and the parts of its input weights -/

@[expose] public section
noncomputable section
namespace Cert.Ada
open Idealize.ShloMosaic

/-- A layer's modulation: the gated conditioning times the layer's weights, plus its bias. -/
def modulation (x : Fin 16 → Fin 1024 → EReal) (w : Fin 2 → Fin 1024 → Fin 6144 → EReal) (b : Fin 2 → Fin 6144 → EReal)
    (l : Fin 2) (r : Fin 16) (j : Fin 6144) : EReal :=
  (∑ k, (x r k * Ideal.logistic (x r k)) * w l k j) + b l j

/-- The columns of a layer's input weights before the gates'. -/
def lower (w : Fin 2 → Fin 1024 → Fin 8456 → EReal) (l : Fin 2) (i : Fin 1024) (j : Fin 3584) : EReal := w l i ⟨j.val, by omega⟩
/-- The columns of a layer's input weights after the gates'. -/
def upper (w : Fin 2 → Fin 1024 → Fin 8456 → EReal) (l : Fin 2) (i : Fin 1024) (j : Fin 4864) : EReal := w l i ⟨3592 + j.val, by omega⟩
/-- The gates' columns of a layer's input weights, as rows. -/
def gates (w : Fin 2 → Fin 1024 → Fin 8456 → EReal) (l : Fin 2) (j : Fin 8) (i : Fin 1024) : EReal := w l i ⟨3584 + j.val, by omega⟩

end Cert.Ada
end
-- ==== Proof.AdaK0.lean ====
module

public import proofs.«01_k».proof.Proof.AdaSpec
public import proofs.«01_k».proof.Proof.Gen.Kernel7Ideal.Value
public import Idealize.ShloMosaic.Lib.Pipeline.ValueKit.Partial
public import Idealize.ShloMosaic.Lib.Pipeline.ReadBack
public import Idealize.ShloMosaic.Lib.StableHlo.ReadAt

/-! # The first layer's modulation as the kernel computes it -/

@[expose] public section
noncomputable section
namespace Cert.Kernel7Ideal.Value
open Cert.Kernel7Ideal Cert.Kernel7Ideal.Gen Idealize.ShloMosaic Idealize.ShloMosaic.TcCoe Idealize.SL.Sem Cert.Ada
set_option maxRecDepth 16384

variable (m : (ℓ : Loc nD τ sig) → Buf (Elt Ideal) ℓ)

/-- The conditioning as launched, entry by entry. -/
def cond (c : Dev nD) (i : Fin 16) (j : Fin 1024) : EReal := m ((c : Thread nD τ).loc main_arg0) (ix2 i j)
/-- The weights as launched, entry by entry. -/
def wts (c : Dev nD) (l : Fin 2) (i : Fin 1024) (j : Fin 6144) : EReal := m ((c : Thread nD τ).loc main_arg1) (ix3 l i j)
/-- The bias as launched, entry by entry. -/
def bias (c : Dev nD) (l : Fin 2) (j : Fin 6144) : EReal := m ((c : Thread nD τ).loc main_arg2) (ix2 l j)

/-- The launch has 4 grid points. -/
theorem lt4 (t : Fin cfg0.N) : t.val < 4 := t.isLt

/-- The bias, with a unit axis. -/
theorem V0 (c : Dev nD) (l : Fin 2) (j : Fin 6144) : V m c main_v0 (ix3 l 0 j) = bias m c l j := by
  unfold V
  after_reads_at
  rfl

/-- The blocks that the windows stage at a point. -/
theorem idx : ∀ t : Fin grid0.N, win0_0.index t = ![0, 0] ∧ win0_1.index t = ![0, 0, t.val] ∧ win0_2.index t = ![0, 0, t.val] := by decide +kernel

/-- The column of the array that a point's column is. -/
abbrev colOf (t : Fin cfg0.N) (j : Fin 1536) : Fin 6144 := ⟨t.val * 1536 + j.val, by have := lt4 t; omega⟩

/-- The conditioning. -/
theorem blk0 (c : Dev nD) (t : Fin cfg0.N) (i : Fin 16) (j : Fin 1024) : iblk m c 0 t (ix2 i j) = cond m c i j := by
  unfold cond
  blk_ext [iblk, V, idx t]
/-- The weights. -/
theorem blk1 (c : Dev nD) (t : Fin cfg0.N) (i : Fin 1024) (j : Fin 1536) : iblk m c 1 t (ix3 0 i j) = wts m c 0 i (colOf t j) := by
  unfold wts
  blk_ext [iblk, V, idx t]
/-- The bias. -/
theorem blk2 (c : Dev nD) (t : Fin cfg0.N) (j : Fin 1536) : iblk m c 2 t (ix3 0 0 j) = bias m c 0 (colOf t j) := by
  refine Eq.trans ?_ (V0 m c 0 (colOf t j))
  blk_ext [iblk, idx t]

/-- What one run of the body leaves in its output window. -/
theorem o3 (c : Dev nD) (t : Fin cfg0.N) (y : S16x1536.Idx) :
    out0_3 (iblk m c 0 t) (iblk m c 1 t) (iblk m c 2 t) y = modulation (cond m c) (wts m c) (bias m c) 0 (y 0) (colOf t (y 1)) := by
  refine Eq.trans (congrArg _ (ix2_eta y).symm) ?_
  generalize y 0 = s
  generalize y 1 = j
  change (Fin 16) at s
  change (Fin 1536) at j
  frame_open
  frame_out
  pointwise [k0_pay1]
  simp only [blk0, blk1, blk2]
  unfold modulation
  rfl

/-- Where each point writes its result. -/
theorem idxOut (t : Fin cfg0.N) : win0_3.index t 0 = 0 ∧ win0_3.index t 1 = t.val :=
  (by decide +kernel : ∀ t : Fin grid0.N, win0_3.index t 0 = 0 ∧ win0_3.index t 1 = t.val) t
/-- The output array after the launch. -/
theorem arr3 (c : Dev nD) : (dats m 0 c).arrAt 3 cfg0.N = fun i => modulation (cond m c) (wts m c) (bias m c) 0 (i 0) (i 1) := by
  refine (dats m 0 c).arrAt_eq_of_covers 3 _ (by decide +kernel) fun t hf y => ?_
  blk_simp
  rw [after0_3]
  refine (o3 m c t _).trans ?_
  obtain ⟨e0, e1⟩ := idxOut t
  have k0 : ((((cfg0.win 3).blk t).view.emb y) 0 : ℕ) = (y 0).val := by blk_simp [e0]
  have k1 : ((((cfg0.win 3).blk t).view.emb y) 1 : ℕ) = t.val * 1536 + (y 1).val := by blk_simp [e1]
  exact congrArg₂ (modulation (cond m c) (wts m c) (bias m c) 0) (Fin.ext k0.symm) (Fin.ext k1.symm)

/-- The kernel as run: its array as a function of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c : Thread nD τ).loc main_v1) = (fun i => modulation (cond m c) (wts m c) (bias m c) 0 (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2⟩) (run_blocks m ρ)

end Cert.Kernel7Ideal.Value
end
-- ==== Proof.AdaR0.lean ====
module

public import proofs.«01_k».proof.Proof.AdaSpec
public import proofs.«01_k».proof.Proof.Gen.Reference7Ideal.Read
public import proofs.«01_k».proof.Proof.Gen.Reference7Ideal.Run
public import Idealize.ShloMosaic.Lib.Pipeline.ValueKit

/-! # The first layer's modulation as the reference computes it -/

@[expose] public section
noncomputable section
namespace Cert.Reference7Ideal.Value
open Cert.Reference7Ideal Cert.Reference7Ideal.Gen Cert.Reference7Ideal.Read Idealize.ShloMosaic Idealize.ShloMosaic.TcCoe Idealize.SL.Sem Cert.Ada
set_option maxRecDepth 16384

/-- The reference's result, entry by entry. -/
theorem r_out (x0 : (⟨S16x1024, .f32⟩ : BufTy).Contents (Elt Ideal)) (x1 : (⟨S2x1024x6144, .f32⟩ : BufTy).Contents (Elt Ideal))
    (x2 : (⟨S2x6144, .f32⟩ : BufTy).Contents (Elt Ideal)) (r : Fin 16) (j : Fin 6144) :
    val_main_v8 (F := Ideal) x0 x1 x2 (ix2 r j)
      = modulation (fun i j => x0 (ix2 i j)) (fun l i j => x1 (ix3 l i j)) (fun l j => x2 (ix2 l j)) 0 r j := by
  pointwise [val_main_v8, val_main_v7, val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
  unfold modulation
  rfl

variable (m : (ℓ : Loc nD τ sig) → Buf (Elt Ideal) ℓ)

/-- The conditioning as launched, entry by entry. -/
def cond (c : Dev nD) (i : Fin 16) (j : Fin 1024) : EReal := m ((c.tc : Thread nD τ).loc main_arg0) (ix2 i j)
/-- The weights as launched, entry by entry. -/
def wts (c : Dev nD) (l : Fin 2) (i : Fin 1024) (j : Fin 6144) : EReal := m ((c.tc : Thread nD τ).loc main_arg1) (ix3 l i j)
/-- The bias as launched, entry by entry. -/
def bias (c : Dev nD) (l : Fin 2) (j : Fin 6144) : EReal := m ((c.tc : Thread nD τ).loc main_arg2) (ix2 l j)

/-- The reference as run: its result as a function of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c.tc : Thread nD τ).loc main_v8) = (fun i => modulation (cond m c) (wts m c) (bias m c) 0 (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, hk⟩ := h c
    refine ⟨(h0.trans (val_main_v8_eq _ _ _)).trans ?_, hk⟩
    funext i
    exact (congrArg _ (ix2_eta i).symm).trans (r_out _ _ _ (i 0) (i 1)))
    (run m ρ)

end Cert.Reference7Ideal.Value
end
-- ==== Proof.SplitK0.lean ====
module

public import proofs.«01_k».proof.Proof.AdaSpec
public import proofs.«01_k».proof.Proof.Gen.Kernel8Ideal.Frame
public import Idealize.ShloMosaic.Lib.Pipeline.Value
public import Idealize.ShloMosaic.Lib.Pipeline.ValueKit.Partial
public import Idealize.ShloMosaic.Lib.Pipeline.ReadBack
public import Idealize.ShloMosaic.Lib.StableHlo.ReadAt

/-! # The parts of the first layer's input weights as the kernel lays them out -/

@[expose] public section
noncomputable section
namespace Cert.Kernel8Ideal.Value
open Cert.Kernel8Ideal Cert.Kernel8Ideal.Gen Idealize.ShloMosaic Idealize.ShloMosaic.TcCoe Idealize.SL.Sem Cert.Ada
set_option maxRecDepth 16384

variable (m : (ℓ : Loc nD τ sig) → Buf (Elt Ideal) ℓ)

/-- The weights as launched, entry by entry. -/
def wts (c : Dev nD) (l : Fin 2) (i : Fin 1024) (j : Fin 8456) : EReal := m ((c : Thread nD τ).loc main_arg0) (ix3 l i j)

/-- The launch has 4 grid points. -/
theorem lt4 (t : Fin cfg0.N) : t.val < 4 := t.isLt

/-- The blocks that the windows stage at a point. -/
theorem idx : ∀ t : Fin grid0.N, win0_0.index t = ![0, t.val, 0] := by decide +kernel

/-- The row of the arrays that a point's row is. -/
abbrev rowOf (t : Fin cfg0.N) (s : Fin 256) : Fin 1024 := ⟨t.val * 256 + s.val, by have := lt4 t; omega⟩

/-- The weights that a point stages. -/
theorem blk0 (c : Dev nD) (t : Fin cfg0.N) (i : Fin 256) (j : Fin 8456) : iblk m c 0 t (ix3 0 i j) = wts m c 0 (rowOf t i) j := by
  unfold wts
  blk_ext [iblk, V, idx t]

/-- What one run of the body leaves of the columns before the gates'. -/
theorem o1 (c : Dev nD) (t : Fin cfg0.N) (y : S256x3584.Idx) : out0_1 (iblk m c 0 t) y = lower (wts m c) 0 (rowOf t (y 0)) (y 1) := by
  refine Eq.trans (congrArg _ (ix2_eta y).symm) ?_
  generalize y 0 = s
  generalize y 1 = j
  change (Fin 256) at s
  change (Fin 3584) at j
  frame_open
  frame_out
  pointwise [k0_pay2, k0_pay1]
  exact blk0 m c t s _
/-- What one run of the body leaves of the columns after the gates'. -/
theorem o2 (c : Dev nD) (t : Fin cfg0.N) (y : S256x4864.Idx) : out0_2 (iblk m c 0 t) y = upper (wts m c) 0 (rowOf t (y 0)) (y 1) := by
  refine Eq.trans (congrArg _ (ix2_eta y).symm) ?_
  generalize y 0 = s
  generalize y 1 = j
  change (Fin 256) at s
  change (Fin 4864) at j
  frame_open
  frame_out
  pointwise [k0_pay4, k0_pay1]
  exact blk0 m c t s _
/-- What one run of the body leaves of the gates' columns. -/
theorem o3 (c : Dev nD) (t : Fin cfg0.N) (y : S8x256.Idx) : out0_3 (iblk m c 0 t) y = gates (wts m c) 0 (y 0) (rowOf t (y 1)) := by
  refine Eq.trans (congrArg _ (ix2_eta y).symm) ?_
  generalize y 0 = j
  generalize y 1 = s
  change (Fin 8) at j
  change (Fin 256) at s
  frame_open
  frame_out
  pointwise [k0_pay3, k0_pay1]
  exact blk0 m c t s _

/-- Where each point writes its results. -/
theorem idxOut (t : Fin cfg0.N) : win0_1.index t 0 = t.val ∧ win0_1.index t 1 = 0 ∧ win0_2.index t 0 = t.val ∧ win0_2.index t 1 = 0
    ∧ win0_3.index t 0 = 0 ∧ win0_3.index t 1 = t.val :=
  (by decide +kernel : ∀ t : Fin grid0.N, win0_1.index t 0 = t.val ∧ win0_1.index t 1 = 0 ∧ win0_2.index t 0 = t.val ∧ win0_2.index t 1 = 0
    ∧ win0_3.index t 0 = 0 ∧ win0_3.index t 1 = t.val) t
/-- The columns before the gates', after the launch. -/
theorem arr1 (c : Dev nD) : (dats m 0 c).arrAt 1 cfg0.N = fun i => lower (wts m c) 0 (i 0) (i 1) := by
  refine (dats m 0 c).arrAt_eq_of_covers 1 _ (by decide +kernel) fun t hf y => ?_
  blk_simp
  rw [after0_1]
  refine (o1 m c t _).trans ?_
  obtain ⟨e0, e1, -⟩ := idxOut t
  have k0 : ((((cfg0.win 1).blk t).view.emb y) 0 : ℕ) = t.val * 256 + (y 0).val := by blk_simp [e0]
  have k1 : ((((cfg0.win 1).blk t).view.emb y) 1 : ℕ) = (y 1).val := by blk_simp [e1]
  exact congrArg₂ (lower (wts m c) 0) (Fin.ext k0.symm) (Fin.ext k1.symm)
/-- The columns after the gates', after the launch. -/
theorem arr2 (c : Dev nD) : (dats m 0 c).arrAt 2 cfg0.N = fun i => upper (wts m c) 0 (i 0) (i 1) := by
  refine (dats m 0 c).arrAt_eq_of_covers 2 _ (by decide +kernel) fun t hf y => ?_
  blk_simp
  rw [after0_2]
  refine (o2 m c t _).trans ?_
  obtain ⟨-, -, e0, e1, -⟩ := idxOut t
  have k0 : ((((cfg0.win 2).blk t).view.emb y) 0 : ℕ) = t.val * 256 + (y 0).val := by blk_simp [e0]
  have k1 : ((((cfg0.win 2).blk t).view.emb y) 1 : ℕ) = (y 1).val := by blk_simp [e1]
  exact congrArg₂ (upper (wts m c) 0) (Fin.ext k0.symm) (Fin.ext k1.symm)
/-- The gates' columns after the launch. -/
theorem arr3 (c : Dev nD) : (dats m 0 c).arrAt 3 cfg0.N = fun i => gates (wts m c) 0 (i 0) (i 1) := by
  refine (dats m 0 c).arrAt_eq_of_covers 3 _ (by decide +kernel) fun t hf y => ?_
  blk_simp
  rw [after0_3]
  refine (o3 m c t _).trans ?_
  obtain ⟨-, -, -, -, e0, e1⟩ := idxOut t
  have k0 : ((((cfg0.win 3).blk t).view.emb y) 0 : ℕ) = (y 0).val := by blk_simp [e0]
  have k1 : ((((cfg0.win 3).blk t).view.emb y) 1 : ℕ) = t.val * 256 + (y 1).val := by blk_simp [e1]
  exact congrArg₂ (gates (wts m c) 0) (Fin.ext k0.symm) (Fin.ext k1.symm)

/-- The kernel as run: its arrays as functions of its argument, which it leaves as it was. -/
theorem run_out (ρ : Dev nD → PrngReg) :
    θ_run (defs (F := Ideal)) (onTc (τ := τ) (main (F := Ideal))) ⟨m, fun _ => 0, ρ⟩ fun r => ∀ c : Dev nD,
      r.2.mem ((c : Thread nD τ).loc main_v0_0) = (fun i => lower (wts m c) 0 (i 0) (i 1))
      ∧ r.2.mem ((c : Thread nD τ).loc main_v0_1) = (fun i => upper (wts m c) 0 (i 0) (i 1))
      ∧ r.2.mem ((c : Thread nD τ).loc main_v0_2) = (fun i => gates (wts m c) 0 (i 0) (i 1))
      ∧ r.2.mem ((c : Thread nD τ).loc main_arg0) = m ((c : Thread nD τ).loc main_arg0) :=
  (θ_run defs _ _).mono (fun r h c => by
    obtain ⟨hw, -⟩ := h c
    refine ⟨(hw 1).trans (arr1 m c), (hw 2).trans (arr2 m c), (hw 3).trans (arr3 m c), (hw 0).trans ?_⟩
    rw [(dats m 0 c).arrAt_in 0 rfl]
    exact A_eq m c 0) (run_main m ρ)

end Cert.Kernel8Ideal.Value
end
-- ==== Proof.SplitR0.lean ====
module

public import proofs.«01_k».proof.Proof.AdaSpec
public import proofs.«01_k».proof.Proof.Gen.Reference8Ideal.Read
public import proofs.«01_k».proof.Proof.Gen.Reference8Ideal.Run
public import Idealize.ShloMosaic.Lib.Pipeline.ValueKit

/-! # The parts of the first layer's input weights as the reference lays them out -/

@[expose] public section
noncomputable section
namespace Cert.Reference8Ideal.Value
open Cert.Reference8Ideal Cert.Reference8Ideal.Gen Cert.Reference8Ideal.Read Idealize.ShloMosaic Idealize.ShloMosaic.TcCoe Idealize.SL.Sem Cert.Ada
set_option maxRecDepth 16384

/-- The columns before the gates'. -/
theorem r_lower (x0 : (⟨S2x1024x8456, .f32⟩ : BufTy).Contents (Elt Ideal)) (i : Fin 1024) (j : Fin 3584) :
    val_main_v3 (F := Ideal) x0 (ix2 i j) = lower (fun l i j => x0 (ix3 l i j)) 0 i j := by
  pointwise [val_main_v3, val_main_v2, val_main_v1, val_main_v0]
  rfl
/-- The columns after the gates'. -/
theorem r_upper (x0 : (⟨S2x1024x8456, .f32⟩ : BufTy).Contents (Elt Ideal)) (i : Fin 1024) (j : Fin 4864) :
    val_main_v4 (F := Ideal) x0 (ix2 i j) = upper (fun l i j => x0 (ix3 l i j)) 0 i j := by
  pointwise [val_main_v4, val_main_v2, val_main_v1, val_main_v0]
  rfl
/-- The gates' columns, as rows. -/
theorem r_gates (x0 : (⟨S2x1024x8456, .f32⟩ : BufTy).Contents (Elt Ideal)) (j : Fin 8) (i : Fin 1024) :
    val_main_v6 (F := Ideal) x0 (ix2 j i) = gates (fun l i j => x0 (ix3 l i j)) 0 j i := by
  pointwise [val_main_v6, val_main_v5, val_main_v2, val_main_v1, val_main_v0]
  rfl

variable (m : (ℓ : Loc nD τ sig) → Buf (Elt Ideal) ℓ)

/-- The weights as launched, entry by entry. -/
def wts (c : Dev nD) (l : Fin 2) (i : Fin 1024) (j : Fin 8456) : EReal := m ((c.tc : Thread nD τ).loc main_arg0) (ix3 l i j)

/-- The reference as run: its results as functions of its argument, which it leaves as it was. -/
theorem run_out (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = (fun i => lower (wts m c) 0 (i 0) (i 1))
      ∧ r.2.mem ((c.tc : Thread nD τ).loc main_v4) = (fun i => upper (wts m c) 0 (i 0) (i 1))
      ∧ r.2.mem ((c.tc : Thread nD τ).loc main_v6) = (fun i => gates (wts m c) 0 (i 0) (i 1))
      ∧ r.2.mem ((c.tc : Thread nD τ).loc main_arg0) = m ((c.tc : Thread nD τ).loc main_arg0) :=
  (θ_run defs _ _).mono (fun r h c => by
    obtain ⟨h0, h1, h2, hk⟩ := h c
    refine ⟨(h0.trans (val_main_v3_eq _)).trans ?_, (h1.trans (val_main_v4_eq _)).trans ?_, (h2.trans (val_main_v6_eq _)).trans ?_, hk⟩
    · funext i
      exact (congrArg _ (ix2_eta i).symm).trans (r_lower _ (i 0) (i 1))
    · funext i
      exact (congrArg _ (ix2_eta i).symm).trans (r_upper _ (i 0) (i 1))
    · funext i
      exact (congrArg _ (ix2_eta i).symm).trans (r_gates _ (i 0) (i 1)))
    (run m ρ)

end Cert.Reference8Ideal.Value
end
-- ==== Proof.AdaK1.lean ====
module

public import proofs.«01_k».proof.Proof.AdaSpec
public import proofs.«01_k».proof.Proof.Gen.Kernel9Ideal.Value
public import Idealize.ShloMosaic.Lib.Pipeline.ValueKit.Partial
public import Idealize.ShloMosaic.Lib.Pipeline.ReadBack
public import Idealize.ShloMosaic.Lib.StableHlo.ReadAt

/-! # The second layer's modulation as the kernel computes it -/

@[expose] public section
noncomputable section
namespace Cert.Kernel9Ideal.Value
open Cert.Kernel9Ideal Cert.Kernel9Ideal.Gen Idealize.ShloMosaic Idealize.ShloMosaic.TcCoe Idealize.SL.Sem Cert.Ada
set_option maxRecDepth 16384

variable (m : (ℓ : Loc nD τ sig) → Buf (Elt Ideal) ℓ)

/-- The conditioning as launched, entry by entry. -/
def cond (c : Dev nD) (i : Fin 16) (j : Fin 1024) : EReal := m ((c : Thread nD τ).loc main_arg0) (ix2 i j)
/-- The weights as launched, entry by entry. -/
def wts (c : Dev nD) (l : Fin 2) (i : Fin 1024) (j : Fin 6144) : EReal := m ((c : Thread nD τ).loc main_arg1) (ix3 l i j)
/-- The bias as launched, entry by entry. -/
def bias (c : Dev nD) (l : Fin 2) (j : Fin 6144) : EReal := m ((c : Thread nD τ).loc main_arg2) (ix2 l j)

/-- The launch has 4 grid points. -/
theorem lt4 (t : Fin cfg0.N) : t.val < 4 := t.isLt

/-- The bias, with a unit axis. -/
theorem V0 (c : Dev nD) (l : Fin 2) (j : Fin 6144) : V m c main_v0 (ix3 l 0 j) = bias m c l j := by
  unfold V
  after_reads_at
  rfl

/-- The blocks that the windows stage at a point. -/
theorem idx : ∀ t : Fin grid0.N, win0_0.index t = ![0, 0] ∧ win0_1.index t = ![1, 0, t.val] ∧ win0_2.index t = ![1, 0, t.val] := by decide +kernel

/-- The column of the array that a point's column is. -/
abbrev colOf (t : Fin cfg0.N) (j : Fin 1536) : Fin 6144 := ⟨t.val * 1536 + j.val, by have := lt4 t; omega⟩

/-- The conditioning. -/
theorem blk0 (c : Dev nD) (t : Fin cfg0.N) (i : Fin 16) (j : Fin 1024) : iblk m c 0 t (ix2 i j) = cond m c i j := by
  unfold cond
  blk_ext [iblk, V, idx t]
/-- The weights. -/
theorem blk1 (c : Dev nD) (t : Fin cfg0.N) (i : Fin 1024) (j : Fin 1536) : iblk m c 1 t (ix3 0 i j) = wts m c 1 i (colOf t j) := by
  unfold wts
  blk_ext [iblk, V, idx t]
/-- The bias. -/
theorem blk2 (c : Dev nD) (t : Fin cfg0.N) (j : Fin 1536) : iblk m c 2 t (ix3 0 0 j) = bias m c 1 (colOf t j) := by
  refine Eq.trans ?_ (V0 m c 1 (colOf t j))
  blk_ext [iblk, idx t]

/-- What one run of the body leaves in its output window. -/
theorem o3 (c : Dev nD) (t : Fin cfg0.N) (y : S16x1536.Idx) :
    out0_3 (iblk m c 0 t) (iblk m c 1 t) (iblk m c 2 t) y = modulation (cond m c) (wts m c) (bias m c) 1 (y 0) (colOf t (y 1)) := by
  refine Eq.trans (congrArg _ (ix2_eta y).symm) ?_
  generalize y 0 = s
  generalize y 1 = j
  change (Fin 16) at s
  change (Fin 1536) at j
  frame_open
  frame_out
  pointwise [k0_pay1]
  simp only [blk0, blk1, blk2]
  unfold modulation
  rfl

/-- Where each point writes its result. -/
theorem idxOut (t : Fin cfg0.N) : win0_3.index t 0 = 0 ∧ win0_3.index t 1 = t.val :=
  (by decide +kernel : ∀ t : Fin grid0.N, win0_3.index t 0 = 0 ∧ win0_3.index t 1 = t.val) t
/-- The output array after the launch. -/
theorem arr3 (c : Dev nD) : (dats m 0 c).arrAt 3 cfg0.N = fun i => modulation (cond m c) (wts m c) (bias m c) 1 (i 0) (i 1) := by
  refine (dats m 0 c).arrAt_eq_of_covers 3 _ (by decide +kernel) fun t hf y => ?_
  blk_simp
  rw [after0_3]
  refine (o3 m c t _).trans ?_
  obtain ⟨e0, e1⟩ := idxOut t
  have k0 : ((((cfg0.win 3).blk t).view.emb y) 0 : ℕ) = (y 0).val := by blk_simp [e0]
  have k1 : ((((cfg0.win 3).blk t).view.emb y) 1 : ℕ) = t.val * 1536 + (y 1).val := by blk_simp [e1]
  exact congrArg₂ (modulation (cond m c) (wts m c) (bias m c) 1) (Fin.ext k0.symm) (Fin.ext k1.symm)

/-- The kernel as run: its array as a function of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c : Thread nD τ).loc main_v1) = (fun i => modulation (cond m c) (wts m c) (bias m c) 1 (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2⟩) (run_blocks m ρ)

end Cert.Kernel9Ideal.Value
end
-- ==== Proof.AdaR1.lean ====
module

public import proofs.«01_k».proof.Proof.AdaSpec
public import proofs.«01_k».proof.Proof.Gen.Reference9Ideal.Read
public import proofs.«01_k».proof.Proof.Gen.Reference9Ideal.Run
public import Idealize.ShloMosaic.Lib.Pipeline.ValueKit

/-! # The second layer's modulation as the reference computes it -/

@[expose] public section
noncomputable section
namespace Cert.Reference9Ideal.Value
open Cert.Reference9Ideal Cert.Reference9Ideal.Gen Cert.Reference9Ideal.Read Idealize.ShloMosaic Idealize.ShloMosaic.TcCoe Idealize.SL.Sem Cert.Ada
set_option maxRecDepth 16384

/-- The reference's result, entry by entry. -/
theorem r_out (x0 : (⟨S16x1024, .f32⟩ : BufTy).Contents (Elt Ideal)) (x1 : (⟨S2x1024x6144, .f32⟩ : BufTy).Contents (Elt Ideal))
    (x2 : (⟨S2x6144, .f32⟩ : BufTy).Contents (Elt Ideal)) (r : Fin 16) (j : Fin 6144) :
    val_main_v8 (F := Ideal) x0 x1 x2 (ix2 r j)
      = modulation (fun i j => x0 (ix2 i j)) (fun l i j => x1 (ix3 l i j)) (fun l j => x2 (ix2 l j)) 1 r j := by
  pointwise [val_main_v8, val_main_v7, val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
  unfold modulation
  rfl

variable (m : (ℓ : Loc nD τ sig) → Buf (Elt Ideal) ℓ)

/-- The conditioning as launched, entry by entry. -/
def cond (c : Dev nD) (i : Fin 16) (j : Fin 1024) : EReal := m ((c.tc : Thread nD τ).loc main_arg0) (ix2 i j)
/-- The weights as launched, entry by entry. -/
def wts (c : Dev nD) (l : Fin 2) (i : Fin 1024) (j : Fin 6144) : EReal := m ((c.tc : Thread nD τ).loc main_arg1) (ix3 l i j)
/-- The bias as launched, entry by entry. -/
def bias (c : Dev nD) (l : Fin 2) (j : Fin 6144) : EReal := m ((c.tc : Thread nD τ).loc main_arg2) (ix2 l j)

/-- The reference as run: its result as a function of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c.tc : Thread nD τ).loc main_v8) = (fun i => modulation (cond m c) (wts m c) (bias m c) 1 (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, hk⟩ := h c
    refine ⟨(h0.trans (val_main_v8_eq _ _ _)).trans ?_, hk⟩
    funext i
    exact (congrArg _ (ix2_eta i).symm).trans (r_out _ _ _ (i 0) (i 1)))
    (run m ρ)

end Cert.Reference9Ideal.Value
end
-- ==== Proof.SplitK1.lean ====
module

public import proofs.«01_k».proof.Proof.AdaSpec
public import proofs.«01_k».proof.Proof.Gen.Kernel10Ideal.Frame
public import Idealize.ShloMosaic.Lib.Pipeline.Value
public import Idealize.ShloMosaic.Lib.Pipeline.ValueKit.Partial
public import Idealize.ShloMosaic.Lib.Pipeline.ReadBack
public import Idealize.ShloMosaic.Lib.StableHlo.ReadAt

/-! # The parts of the second layer's input weights as the kernel lays them out -/

@[expose] public section
noncomputable section
namespace Cert.Kernel10Ideal.Value
open Cert.Kernel10Ideal Cert.Kernel10Ideal.Gen Idealize.ShloMosaic Idealize.ShloMosaic.TcCoe Idealize.SL.Sem Cert.Ada
set_option maxRecDepth 16384

variable (m : (ℓ : Loc nD τ sig) → Buf (Elt Ideal) ℓ)

/-- The weights as launched, entry by entry. -/
def wts (c : Dev nD) (l : Fin 2) (i : Fin 1024) (j : Fin 8456) : EReal := m ((c : Thread nD τ).loc main_arg0) (ix3 l i j)

/-- The launch has 4 grid points. -/
theorem lt4 (t : Fin cfg0.N) : t.val < 4 := t.isLt

/-- The blocks that the windows stage at a point. -/
theorem idx : ∀ t : Fin grid0.N, win0_0.index t = ![1, t.val, 0] := by decide +kernel

/-- The row of the arrays that a point's row is. -/
abbrev rowOf (t : Fin cfg0.N) (s : Fin 256) : Fin 1024 := ⟨t.val * 256 + s.val, by have := lt4 t; omega⟩

/-- The weights that a point stages. -/
theorem blk0 (c : Dev nD) (t : Fin cfg0.N) (i : Fin 256) (j : Fin 8456) : iblk m c 0 t (ix3 0 i j) = wts m c 1 (rowOf t i) j := by
  unfold wts
  blk_ext [iblk, V, idx t]

/-- What one run of the body leaves of the columns before the gates'. -/
theorem o1 (c : Dev nD) (t : Fin cfg0.N) (y : S256x3584.Idx) : out0_1 (iblk m c 0 t) y = lower (wts m c) 1 (rowOf t (y 0)) (y 1) := by
  refine Eq.trans (congrArg _ (ix2_eta y).symm) ?_
  generalize y 0 = s
  generalize y 1 = j
  change (Fin 256) at s
  change (Fin 3584) at j
  frame_open
  frame_out
  pointwise [k0_pay2, k0_pay1]
  exact blk0 m c t s _
/-- What one run of the body leaves of the columns after the gates'. -/
theorem o2 (c : Dev nD) (t : Fin cfg0.N) (y : S256x4864.Idx) : out0_2 (iblk m c 0 t) y = upper (wts m c) 1 (rowOf t (y 0)) (y 1) := by
  refine Eq.trans (congrArg _ (ix2_eta y).symm) ?_
  generalize y 0 = s
  generalize y 1 = j
  change (Fin 256) at s
  change (Fin 4864) at j
  frame_open
  frame_out
  pointwise [k0_pay4, k0_pay1]
  exact blk0 m c t s _
/-- What one run of the body leaves of the gates' columns. -/
theorem o3 (c : Dev nD) (t : Fin cfg0.N) (y : S8x256.Idx) : out0_3 (iblk m c 0 t) y = gates (wts m c) 1 (y 0) (rowOf t (y 1)) := by
  refine Eq.trans (congrArg _ (ix2_eta y).symm) ?_
  generalize y 0 = j
  generalize y 1 = s
  change (Fin 8) at j
  change (Fin 256) at s
  frame_open
  frame_out
  pointwise [k0_pay3, k0_pay1]
  exact blk0 m c t s _

/-- Where each point writes its results. -/
theorem idxOut (t : Fin cfg0.N) : win0_1.index t 0 = t.val ∧ win0_1.index t 1 = 0 ∧ win0_2.index t 0 = t.val ∧ win0_2.index t 1 = 0
    ∧ win0_3.index t 0 = 0 ∧ win0_3.index t 1 = t.val :=
  (by decide +kernel : ∀ t : Fin grid0.N, win0_1.index t 0 = t.val ∧ win0_1.index t 1 = 0 ∧ win0_2.index t 0 = t.val ∧ win0_2.index t 1 = 0
    ∧ win0_3.index t 0 = 0 ∧ win0_3.index t 1 = t.val) t
/-- The columns before the gates', after the launch. -/
theorem arr1 (c : Dev nD) : (dats m 0 c).arrAt 1 cfg0.N = fun i => lower (wts m c) 1 (i 0) (i 1) := by
  refine (dats m 0 c).arrAt_eq_of_covers 1 _ (by decide +kernel) fun t hf y => ?_
  blk_simp
  rw [after0_1]
  refine (o1 m c t _).trans ?_
  obtain ⟨e0, e1, -⟩ := idxOut t
  have k0 : ((((cfg0.win 1).blk t).view.emb y) 0 : ℕ) = t.val * 256 + (y 0).val := by blk_simp [e0]
  have k1 : ((((cfg0.win 1).blk t).view.emb y) 1 : ℕ) = (y 1).val := by blk_simp [e1]
  exact congrArg₂ (lower (wts m c) 1) (Fin.ext k0.symm) (Fin.ext k1.symm)
/-- The columns after the gates', after the launch. -/
theorem arr2 (c : Dev nD) : (dats m 0 c).arrAt 2 cfg0.N = fun i => upper (wts m c) 1 (i 0) (i 1) := by
  refine (dats m 0 c).arrAt_eq_of_covers 2 _ (by decide +kernel) fun t hf y => ?_
  blk_simp
  rw [after0_2]
  refine (o2 m c t _).trans ?_
  obtain ⟨-, -, e0, e1, -⟩ := idxOut t
  have k0 : ((((cfg0.win 2).blk t).view.emb y) 0 : ℕ) = t.val * 256 + (y 0).val := by blk_simp [e0]
  have k1 : ((((cfg0.win 2).blk t).view.emb y) 1 : ℕ) = (y 1).val := by blk_simp [e1]
  exact congrArg₂ (upper (wts m c) 1) (Fin.ext k0.symm) (Fin.ext k1.symm)
/-- The gates' columns after the launch. -/
theorem arr3 (c : Dev nD) : (dats m 0 c).arrAt 3 cfg0.N = fun i => gates (wts m c) 1 (i 0) (i 1) := by
  refine (dats m 0 c).arrAt_eq_of_covers 3 _ (by decide +kernel) fun t hf y => ?_
  blk_simp
  rw [after0_3]
  refine (o3 m c t _).trans ?_
  obtain ⟨-, -, -, -, e0, e1⟩ := idxOut t
  have k0 : ((((cfg0.win 3).blk t).view.emb y) 0 : ℕ) = (y 0).val := by blk_simp [e0]
  have k1 : ((((cfg0.win 3).blk t).view.emb y) 1 : ℕ) = t.val * 256 + (y 1).val := by blk_simp [e1]
  exact congrArg₂ (gates (wts m c) 1) (Fin.ext k0.symm) (Fin.ext k1.symm)

/-- The kernel as run: its arrays as functions of its argument, which it leaves as it was. -/
theorem run_out (ρ : Dev nD → PrngReg) :
    θ_run (defs (F := Ideal)) (onTc (τ := τ) (main (F := Ideal))) ⟨m, fun _ => 0, ρ⟩ fun r => ∀ c : Dev nD,
      r.2.mem ((c : Thread nD τ).loc main_v0_0) = (fun i => lower (wts m c) 1 (i 0) (i 1))
      ∧ r.2.mem ((c : Thread nD τ).loc main_v0_1) = (fun i => upper (wts m c) 1 (i 0) (i 1))
      ∧ r.2.mem ((c : Thread nD τ).loc main_v0_2) = (fun i => gates (wts m c) 1 (i 0) (i 1))
      ∧ r.2.mem ((c : Thread nD τ).loc main_arg0) = m ((c : Thread nD τ).loc main_arg0) :=
  (θ_run defs _ _).mono (fun r h c => by
    obtain ⟨hw, -⟩ := h c
    refine ⟨(hw 1).trans (arr1 m c), (hw 2).trans (arr2 m c), (hw 3).trans (arr3 m c), (hw 0).trans ?_⟩
    rw [(dats m 0 c).arrAt_in 0 rfl]
    exact A_eq m c 0) (run_main m ρ)

end Cert.Kernel10Ideal.Value
end
-- ==== Proof.SplitR1.lean ====
module

public import proofs.«01_k».proof.Proof.AdaSpec
public import proofs.«01_k».proof.Proof.Gen.Reference10Ideal.Read
public import proofs.«01_k».proof.Proof.Gen.Reference10Ideal.Run
public import Idealize.ShloMosaic.Lib.Pipeline.ValueKit

/-! # The parts of the second layer's input weights as the reference lays them out -/

@[expose] public section
noncomputable section
namespace Cert.Reference10Ideal.Value
open Cert.Reference10Ideal Cert.Reference10Ideal.Gen Cert.Reference10Ideal.Read Idealize.ShloMosaic Idealize.ShloMosaic.TcCoe Idealize.SL.Sem Cert.Ada
set_option maxRecDepth 16384

/-- The columns before the gates'. -/
theorem r_lower (x0 : (⟨S2x1024x8456, .f32⟩ : BufTy).Contents (Elt Ideal)) (i : Fin 1024) (j : Fin 3584) :
    val_main_v3 (F := Ideal) x0 (ix2 i j) = lower (fun l i j => x0 (ix3 l i j)) 1 i j := by
  pointwise [val_main_v3, val_main_v2, val_main_v1, val_main_v0]
  rfl
/-- The columns after the gates'. -/
theorem r_upper (x0 : (⟨S2x1024x8456, .f32⟩ : BufTy).Contents (Elt Ideal)) (i : Fin 1024) (j : Fin 4864) :
    val_main_v4 (F := Ideal) x0 (ix2 i j) = upper (fun l i j => x0 (ix3 l i j)) 1 i j := by
  pointwise [val_main_v4, val_main_v2, val_main_v1, val_main_v0]
  rfl
/-- The gates' columns, as rows. -/
theorem r_gates (x0 : (⟨S2x1024x8456, .f32⟩ : BufTy).Contents (Elt Ideal)) (j : Fin 8) (i : Fin 1024) :
    val_main_v6 (F := Ideal) x0 (ix2 j i) = gates (fun l i j => x0 (ix3 l i j)) 1 j i := by
  pointwise [val_main_v6, val_main_v5, val_main_v2, val_main_v1, val_main_v0]
  rfl

variable (m : (ℓ : Loc nD τ sig) → Buf (Elt Ideal) ℓ)

/-- The weights as launched, entry by entry. -/
def wts (c : Dev nD) (l : Fin 2) (i : Fin 1024) (j : Fin 8456) : EReal := m ((c.tc : Thread nD τ).loc main_arg0) (ix3 l i j)

/-- The reference as run: its results as functions of its argument, which it leaves as it was. -/
theorem run_out (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = (fun i => lower (wts m c) 1 (i 0) (i 1))
      ∧ r.2.mem ((c.tc : Thread nD τ).loc main_v4) = (fun i => upper (wts m c) 1 (i 0) (i 1))
      ∧ r.2.mem ((c.tc : Thread nD τ).loc main_v6) = (fun i => gates (wts m c) 1 (i 0) (i 1))
      ∧ r.2.mem ((c.tc : Thread nD τ).loc main_arg0) = m ((c.tc : Thread nD τ).loc main_arg0) :=
  (θ_run defs _ _).mono (fun r h c => by
    obtain ⟨h0, h1, h2, hk⟩ := h c
    refine ⟨(h0.trans (val_main_v3_eq _)).trans ?_, (h1.trans (val_main_v4_eq _)).trans ?_, (h2.trans (val_main_v6_eq _)).trans ?_, hk⟩
    · funext i
      exact (congrArg _ (ix2_eta i).symm).trans (r_lower _ (i 0) (i 1))
    · funext i
      exact (congrArg _ (ix2_eta i).symm).trans (r_upper _ (i 0) (i 1))
    · funext i
      exact (congrArg _ (ix2_eta i).symm).trans (r_gates _ (i 0) (i 1)))
    (run m ρ)

end Cert.Reference10Ideal.Value
end
-- ==== Proof.RouterSpec.lean ====
module

public import proofs.«01_k».proof.Proof.Rows

/-! # The rows that the experts take -/

@[expose] public section
noncomputable section
namespace Cert.Rows

/-- The normalised row, with the scale and the shift of its sequence. -/
def expertRow (x : Fin 16896 → Fin 1024 → EReal) (mod : Fin 16 → Fin 6144 → EReal) (g : Fin 1024 → EReal) (r : Fin 16896) (k : Fin 1024) : EReal :=
  normRow (x r) g (fun k => mod (batch r) ⟨3072 + k.val, by omega⟩) (fun k => mod (batch r) ⟨4096 + k.val, by omega⟩) k
/-- The same, eight rows by eight. -/
def expertRows (x : Fin 16896 → Fin 1024 → EReal) (mod : Fin 16 → Fin 6144 → EReal) (g : Fin 1024 → EReal)
    (a : Fin 2112) (b : Fin 8) (k : Fin 1024) : EReal :=
  expertRow x mod g ⟨a.val * 8 + b.val, by omega⟩ k

end Cert.Rows
end
-- ==== Proof.RouterK.lean ====
module

public import proofs.«01_k».proof.Proof.RouterSpec
public import proofs.«01_k».proof.Proof.Gen.Kernel11Ideal.Frame
public import Idealize.ShloMosaic.Lib.Pipeline.Value
public import Idealize.ShloMosaic.Lib.Pipeline.ValueKit.Partial
public import Idealize.ShloMosaic.Lib.Pipeline.ReadBack
public import Idealize.ShloMosaic.Lib.StableHlo.ReadAt

/-! # The rows that the experts take, as the router's call computes them -/

@[expose] public section
noncomputable section
namespace Cert.Kernel11Ideal.Value
open Cert.Kernel11Ideal Cert.Kernel11Ideal.Gen Idealize.ShloMosaic Idealize.ShloMosaic.TcCoe Idealize.SL.Sem Cert.Rows
set_option maxRecDepth 16384

variable (m : (ℓ : Loc nD τ sig) → Buf (Elt Ideal) ℓ)

/-- The residual stream as launched, entry by entry. -/
def strm (c : Dev nD) (i : Fin 16896) (j : Fin 1024) : EReal := m ((c : Thread nD τ).loc main_arg0) (ix2 i j)
/-- The modulation as launched, entry by entry. -/
def modu (c : Dev nD) (i : Fin 16) (j : Fin 6144) : EReal := m ((c : Thread nD τ).loc main_arg1) (ix2 i j)
/-- The gain as launched, entry by entry. -/
def gain (c : Dev nD) (j : Fin 1024) : EReal := m ((c : Thread nD τ).loc main_arg2) (ix1 j)

/-- The launch has 33 grid points. -/
theorem lt33 (t : Fin cfg0.N) : t.val < 33 := t.isLt

/-- The table of groups. -/
theorem table : ∀ c : Fin 264, lit0 c = BitVec.ofNat 32 (group c).val := by decide +kernel

/-- The modulation row that the host code lays out for a group of 64 rows. -/
theorem V5 (c : Dev nD) (g : Fin 264) (l : Fin 6144) : V m c main_v5 (ix3 g 0 l) = modu m c (group g) l := by
  unfold V
  after_reads_at
  exact Routing.gather_row _ rfl rfl rfl rfl rfl _ _ g l (group g) ((congrArg lit0 (Fin.ext (Shape.rowMajor_val_one _))).trans (table g)) (by omega)
/-- The gain, as a row. -/
theorem V15 (c : Dev nD) (j : Fin 1024) : V m c main_v15 (ix2 0 j) = gain m c j := by
  unfold V
  after_reads_at
  rfl

/-- The blocks that the windows stage at a point. -/
theorem idx : ∀ t : Fin grid0.N, win0_0.index t = ![t.val, 0] ∧ win0_1.index t = ![t.val, 0, 3] ∧ win0_2.index t = ![t.val, 0, 4]
    ∧ win0_3.index t = ![0, 0] := by decide +kernel

/-- The row of the arrays that a point's row is. -/
abbrev rowOf (t : Fin cfg0.N) (s : Fin 512) : Fin 16896 := ⟨t.val * 512 + s.val, by have := lt33 t; omega⟩
/-- The group of 64 rows that a point's row is in. -/
abbrev groupOf (t : Fin cfg0.N) (g : Fin 8) : Fin 264 := ⟨t.val * 8 + g.val, by have := lt33 t; omega⟩
/-- A row's sequence is its group's. -/
theorem group_row (t : Fin cfg0.N) (s : Fin 512) : group (groupOf t ⟨s.val / 64, by omega⟩) = batch (rowOf t s) :=
  group_of _ _ (by simp only; omega)

/-- The rows. -/
theorem blk0 (c : Dev nD) (t : Fin cfg0.N) (s : Fin 512) (j : Fin 1024) : iblk m c 0 t (ix2 s j) = strm m c (rowOf t s) j := by
  unfold strm
  blk_ext [iblk, V, idx t]
/-- The shift. -/
theorem blk1 (c : Dev nD) (t : Fin cfg0.N) (g : Fin 8) (j : Fin 1024) :
    iblk m c 1 t (ix3 g 0 j) = modu m c (group (groupOf t g)) ⟨3072 + j.val, by omega⟩ := by
  refine Eq.trans ?_ (V5 m c (groupOf t g) ⟨3072 + j.val, by omega⟩)
  blk_ext [iblk, idx t]
/-- The scale. -/
theorem blk2 (c : Dev nD) (t : Fin cfg0.N) (g : Fin 8) (j : Fin 1024) :
    iblk m c 2 t (ix3 g 0 j) = modu m c (group (groupOf t g)) ⟨4096 + j.val, by omega⟩ := by
  refine Eq.trans ?_ (V5 m c (groupOf t g) ⟨4096 + j.val, by omega⟩)
  blk_ext [iblk, idx t]
/-- The gain. -/
theorem blk3 (c : Dev nD) (t : Fin cfg0.N) (j : Fin 1024) : iblk m c 3 t (ix2 0 j) = gain m c j := by
  refine Eq.trans ?_ (V15 m c j)
  blk_ext [iblk, idx t]

/-- The normalised rows of a point. -/
theorem hAt (c : Dev nD) (t : Fin cfg0.N) (s : Fin 512) (k : Fin 1024) :
    k0_pay2 (iblk m c 0 t) (iblk m c 3 t) (iblk m c 2 t) (iblk m c 1 t) (ix2 s k) = expertRow (strm m c) (modu m c) (gain m c) (rowOf t s) k := by
  pointwise [k0_pay2]
  simp only [blk0, blk1, blk2, blk3]
  rw [group_row]
  rfl

/-- What one run of the body leaves of the rows, at an entry. -/
theorem rowsAt (c : Dev nD) (t : Fin cfg0.N) (a : Fin 64) (b : Fin 8) (k : Fin 1024) :
    out0_6 (iblk m c 0 t) (iblk m c 1 t) (iblk m c 2 t) (iblk m c 3 t) (iblk m c 4 t) (iblk m c 5 t) (ix3 a b k)
      = expertRow (strm m c) (modu m c) (gain m c) (rowOf t ⟨a.val * 8 + b.val, by omega⟩) k := by
  frame_open
  frame_out
  pointwise [k0_pay3]
  exact hAt m c t ⟨a.val * 8 + b.val, by omega⟩ k
/-- What one run of the body leaves of the rows, eight by eight. -/
theorem o6 (c : Dev nD) (t : Fin cfg0.N) (y : S64x8x1024.Idx) :
    out0_6 (iblk m c 0 t) (iblk m c 1 t) (iblk m c 2 t) (iblk m c 3 t) (iblk m c 4 t) (iblk m c 5 t) y
      = expertRow (strm m c) (modu m c) (gain m c) (rowOf t ⟨(y 0).val * 8 + (y 1).val, by have h0 : (y 0).val < 64 := (y 0).isLt; have h1 : (y 1).val < 8 := (y 1).isLt; omega⟩) (y 2) :=
  (congrArg _ (ix3_eta y).symm).trans (rowsAt m c t (y 0) (y 1) (y 2))

/-- Where each point writes its rows. -/
theorem idxOut (t : Fin cfg0.N) : win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0) t
/-- The rows after the launch. -/
theorem arr6 (c : Dev nD) : (dats m 0 c).arrAt 6 cfg0.N = fun i => expertRows (strm m c) (modu m c) (gain m c) (i 0) (i 1) (i 2) := by
  refine (dats m 0 c).arrAt_eq_of_covers 6 _ (by decide +kernel) fun t hf y => ?_
  blk_simp
  rw [after0_6]
  refine (o6 m c t _).trans ?_
  obtain ⟨e0, e1, e2⟩ := idxOut t
  have k0 : ((((cfg0.win 6).blk t).view.emb y) 0 : ℕ) = t.val * 64 + (y 0).val := by blk_simp [e0]
  have k1 : ((((cfg0.win 6).blk t).view.emb y) 1 : ℕ) = (y 1).val := by blk_simp [e1]
  have k2 : ((((cfg0.win 6).blk t).view.emb y) 2 : ℕ) = (y 2).val := by blk_simp [e2]
  unfold expertRows
  refine congrArg₂ (expertRow (strm m c) (modu m c) (gain m c)) (Fin.ext ?_) (Fin.ext k2.symm)
  change t.val * 512 + ((y 0).val * 8 + (y 1).val) = ((((cfg0.win 6).blk t).view.emb y) 0 : ℕ) * 8 + ((((cfg0.win 6).blk t).view.emb y) 1 : ℕ)
  rw [k0, k1]
  omega

/-- The kernel as run: the rows it leaves as a function of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c : Thread nD τ).loc main_v16_0) = (fun i => expertRows (strm m c) (modu m c) (gain m c) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨hw, hr⟩ := h c
    refine ⟨(hw 6).trans (arr6 m c), (hw 0).trans ?_, (hr main_arg1 ?_).trans (V_main_arg1 m c), (hr main_arg2 ?_).trans (V_main_arg2 m c),
      (hr main_arg3 ?_).trans (V_main_arg3 m c), (hr main_arg4 ?_).trans (V_main_arg4 m c)⟩
    · rw [(dats m 0 c).arrAt_in 0 rfl]
      exact (A_eq m c 0).trans (V_main_arg0 m c)
    all_goals exact Pipeline.mem_restRefs_of _ (by decide) (by decide)) (run_main m ρ)

end Cert.Kernel11Ideal.Value
end
-- ==== Proof.RouterR.lean ====
module

public import proofs.«01_k».proof.Proof.RouterSpec
public import proofs.«01_k».proof.Proof.Gen.Reference11Ideal.Read
public import proofs.«01_k».proof.Proof.Gen.Reference11Ideal.Run
public import Idealize.ShloMosaic.Lib.Pipeline.ValueKit

/-! # The rows that the experts take, as the reference computes them -/

@[expose] public section
noncomputable section
namespace Cert.Reference11Ideal.Value
open Cert.Reference11Ideal Cert.Reference11Ideal.Gen Cert.Reference11Ideal.Read Idealize.ShloMosaic Idealize.ShloMosaic.TcCoe Idealize.SL.Sem Cert.Rows
set_option maxRecDepth 16384

section Read
variable (x0 : (⟨S16896x1024, .f32⟩ : BufTy).Contents (Elt Ideal)) (x1 : (⟨S16x6144, .f32⟩ : BufTy).Contents (Elt Ideal))
  (x2 : (⟨S1024, .f32⟩ : BufTy).Contents (Elt Ideal))

/-- The normalised rows of the first batch. -/
theorem h_lo (b : Fin 8) (s : Fin 2048) (k : Fin 1024) :
    val_main_v26 (F := Ideal) x0 x1 x2 (ix3 b s k) = expertRow (fun i j => x0 (ix2 i j)) (fun i j => x1 (ix2 i j)) (fun j => x2 (ix1 j)) (rowLo b s) k := by
  pointwise [val_main_v26, val_main_v25, val_main_v24, val_main_v23, val_main_v22, val_main_v21, val_main_v20, val_main_cst_2, val_main_v19, val_main_v18, val_main_v17, val_main_v16, val_main_v15, val_main_v14, val_main_v13, val_main_v12, val_main_v11, val_main_cst_1, val_main_v10, val_main_v9, val_main_cst_0, val_main_v8, val_main_v7, val_main_cst, val_main_v6, val_main_v5, val_main_v4, val_main_v1, val_main_v0]
  unfold expertRow
  rw [batch_lo b s (rowLo b s) rfl]
  rfl
/-- The normalised rows of the second batch. -/
theorem h_hi (b : Fin 8) (s : Fin 64) (k : Fin 1024) :
    val_main_v49 (F := Ideal) x0 x1 x2 (ix3 b s k) = expertRow (fun i j => x0 (ix2 i j)) (fun i j => x1 (ix2 i j)) (fun j => x2 (ix1 j)) (rowHi b s) k := by
  pointwise [val_main_v49, val_main_v48, val_main_v47, val_main_v46, val_main_v45, val_main_v44, val_main_v43, val_main_cst_6, val_main_v42, val_main_v41, val_main_v40, val_main_v39, val_main_v38, val_main_v37, val_main_v36, val_main_v35, val_main_v34, val_main_cst_5, val_main_v33, val_main_v32, val_main_cst_4, val_main_v31, val_main_v30, val_main_cst_3, val_main_v29, val_main_v28, val_main_v27, val_main_v3, val_main_v2]
  unfold expertRow
  rw [batch_hi b s (rowHi b s) rfl]
  rfl
/-- All rows, eight by eight. -/
theorem r_rows (a : Fin 2112) (b : Fin 8) (k : Fin 1024) :
    val_main_v52 (F := Ideal) x0 x1 x2 (ix3 a b k) = expertRows (fun i j => x0 (ix2 i j)) (fun i j => x1 (ix2 i j)) (fun j => x2 (ix1 j)) a b k := by
  unfold expertRows
  pointwise [val_main_v52, val_main_v51, val_main_v50]
  by_cases h : a.val < 2048
  · rw [dif_pos h, h_lo]
    exact congrArg (fun r => expertRow (fun i j => x0 (ix2 i j)) (fun i j => x1 (ix2 i j)) (fun j => x2 (ix1 j)) r k) (Fin.ext (by simp only; omega))
  · rw [dif_neg h, h_hi]
    exact congrArg (fun r => expertRow (fun i j => x0 (ix2 i j)) (fun i j => x1 (ix2 i j)) (fun j => x2 (ix1 j)) r k) (Fin.ext (by simp only; omega))
end Read

variable (m : (ℓ : Loc nD τ sig) → Buf (Elt Ideal) ℓ)

/-- The residual stream as launched, entry by entry. -/
def strm (c : Dev nD) (i : Fin 16896) (j : Fin 1024) : EReal := m ((c.tc : Thread nD τ).loc main_arg0) (ix2 i j)
/-- The modulation as launched, entry by entry. -/
def modu (c : Dev nD) (i : Fin 16) (j : Fin 6144) : EReal := m ((c.tc : Thread nD τ).loc main_arg1) (ix2 i j)
/-- The gain as launched, entry by entry. -/
def gain (c : Dev nD) (j : Fin 1024) : EReal := m ((c.tc : Thread nD τ).loc main_arg2) (ix1 j)

/-- The reference as run: its rows as a function of its arguments, which it leaves as they were. -/
theorem run_out (ρ : Dev nD → PrngReg) :
    θ_run (defs (F := Ideal)) (onTc (τ := τ) (main (F := Ideal))) ⟨m, fun _ => 0, ρ⟩ fun r => ∀ c : Dev nD,
      r.2.mem ((c.tc : Thread nD τ).loc main_v52) = (fun i => expertRows (strm m c) (modu m c) (gain m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, hk⟩ := h c
    refine ⟨(h0.trans (val_main_v52_eq _ _ _)).trans ?_, hk⟩
    funext i
    exact (congrArg _ (ix3_eta i).symm).trans (r_rows _ _ _ (i 0) (i 1) (i 2)))
    (run m ρ)

end Cert.Reference11Ideal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Frame
public import proofs.«01_k».proof.Proof.Gen.Kernel6Ideal.Points
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Frame
public import proofs.«01_k».proof.Proof.Gen.Kernel7Ideal.Points
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Frame
public import proofs.«01_k».proof.Proof.Gen.Kernel9Ideal.Points
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Pre_bounded
public import proofs.«01_k».proof.Proof.Gen.Pre_routed
public import proofs.«01_k».proof.Proof.Gen.On_occupied
public import proofs.«01_k».proof.Proof.Arrays
public import proofs.«01_k».proof.Proof.RefRun
public import proofs.«01_k».proof.Proof.InProjK
public import proofs.«01_k».proof.Proof.InProjRefRun
public import proofs.«01_k».proof.Proof.FfnK
public import proofs.«01_k».proof.Proof.FfnRefRun
public import proofs.«01_k».proof.Proof.MergeK
public import proofs.«01_k».proof.Proof.MergeRefRun
public import proofs.«01_k».proof.Proof.ExpLaunchK
public import proofs.«01_k».proof.Proof.ExpValue
public import proofs.«01_k».proof.Proof.ExpR
public import proofs.«01_k».proof.Proof.ExpMask
public import proofs.«01_k».proof.Proof.CKeys
public import proofs.«01_k».proof.Proof.CRefRun
public import proofs.«01_k».proof.Proof.AdaK0
public import proofs.«01_k».proof.Proof.AdaR0
public import proofs.«01_k».proof.Proof.SplitK0
public import proofs.«01_k».proof.Proof.SplitR0
public import proofs.«01_k».proof.Proof.AdaK1
public import proofs.«01_k».proof.Proof.AdaR1
public import proofs.«01_k».proof.Proof.SplitK1
public import proofs.«01_k».proof.Proof.SplitR1
public import proofs.«01_k».proof.Proof.RouterK
public import proofs.«01_k».proof.Proof.RouterR
public import Idealize.ShloMosaic.Adequacy
public import Idealize.ShloMosaic.Init

@[expose] public section

noncomputable section

namespace Cert.Proof

open Idealize.ShloMosaic Idealize.SL.Sem Cert.Kernel

/-- Where the two programs start from the same arguments, their entries are the same. -/
theorem same_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.inArgs m' c = Cert.KernelIdeal.Value.inK m c := by
  obtain ⟨e0, e1, e2, e3, e4, e5, e6, e7, e8, e9, e10, e11⟩ := h
  unfold Cert.ReferenceIdeal.Value.inArgs
  rw [e0, e1, e2, e3, e4, e5, e6, e7, e8, e9, e10, e11]
  rfl

/-- The two programs end with the same five arrays. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨_, _, _, _, _, Cert.KernelIdeal.Value.run_out m ρ,
    (θ_run Cert.ReferenceIdeal.defs _ _).mono (fun r h c => by
      have h' := h c
      rw [same_args m m' c (hag c)] at h'
      exact h') (Cert.ReferenceIdeal.Value.run_out m' ρ')⟩

/-- The reference keeps its arguments and declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run m ρ)

/-- The input projections: where the two programs start from the same arguments, their entries are the same. -/
theorem same_args2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0) ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1) ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2) ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3) ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4) ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    Cert.Reference2Ideal.Value.inArgs m' c = Cert.Kernel2Ideal.Value.inK m c := by
  obtain ⟨e0, e1, e2, e3, e4, e5⟩ := h
  unfold Cert.Reference2Ideal.Value.inArgs
  rw [e0, e1, e2, e3, e4, e5]
  rfl

/-- The input projections: the two programs end with the same results. -/
theorem algebraic2 : Cert.algebraic_Kernel2Ideal_Reference2Ideal (hKernel2Ideal := Cert.Kernel2Ideal.Gen.facts)
    (hReference2Ideal := Cert.Reference2Ideal.Gen.facts) := fun m ρ m' ρ' _ hag =>
  ⟨_, _, _, Cert.Kernel2Ideal.Value.run_out m ρ,
    (θ_run Cert.Reference2Ideal.defs _ _).mono (fun r h c => by
      have h' := h c
      rw [same_args2 m m' c (hag c)] at h'
      exact h') (Cert.Reference2Ideal.Value.run_out m' ρ')⟩

/-- The input projections: the reference keeps its arguments and declares no semaphore. -/
theorem frame_ref2 : Cert.quiescent_Reference2Ideal (hReference2Ideal := Cert.Reference2Ideal.Gen.facts) := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run m ρ)

/-- The dense feed-forward layer: where the two programs start from the same arguments, their entries are the same. -/
theorem same_args3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0) ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1) ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2) ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3) ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4) ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) :
    Cert.Reference3Ideal.Value.inArgs m' c = Cert.Kernel3Ideal.Value.inK m c := by
  obtain ⟨e0, e1, e2, e3, e4, e5⟩ := h
  unfold Cert.Reference3Ideal.Value.inArgs
  rw [e0, e1, e2, e3, e4, e5]
  rfl

/-- The dense feed-forward layer: the two programs end with the same results. -/
theorem algebraic3 : Cert.algebraic_Kernel3Ideal_Reference3Ideal (hKernel3Ideal := Cert.Kernel3Ideal.Gen.facts)
    (hReference3Ideal := Cert.Reference3Ideal.Gen.facts) := fun m ρ m' ρ' _ hag =>
  ⟨_, Cert.Kernel3Ideal.Value.run_out m ρ,
    (θ_run Cert.Reference3Ideal.defs _ _).mono (fun r h c => by
      have h' := h c
      rw [same_args3 m m' c (hag c)] at h'
      exact h') (Cert.Reference3Ideal.Value.run_out m' ρ')⟩

/-- The dense feed-forward layer: the reference keeps its arguments and declares no semaphore. -/
theorem frame_ref3 : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run m ρ)

/-- The merge of the three mixers: where the two programs start from the same arguments, their entries are the same. -/
theorem same_args4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0) ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1) ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2) ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3) ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4) ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5) ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6) ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7) ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8) ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) :
    Cert.Reference4Ideal.Value.inArgs m' c = Cert.Kernel4Ideal.Value.inK m c := by
  obtain ⟨e0, e1, e2, e3, e4, e5, e6, e7, e8, e9⟩ := h
  unfold Cert.Reference4Ideal.Value.inArgs
  rw [e0, e1, e2, e3, e4, e5, e6, e7, e8, e9]
  rfl

/-- The merge of the three mixers: the two programs end with the same results. -/
theorem algebraic4 : Cert.algebraic_Kernel4Ideal_Reference4Ideal (hKernel4Ideal := Cert.Kernel4Ideal.Gen.facts)
    (hReference4Ideal := Cert.Reference4Ideal.Gen.facts) := fun m ρ m' ρ' _ hag =>
  ⟨_, Cert.Kernel4Ideal.Value.run_out m ρ,
    (θ_run Cert.Reference4Ideal.defs _ _).mono (fun r h c => by
      have h' := h c
      rw [same_args4 m m' c (hag c)] at h'
      exact h') (Cert.Reference4Ideal.Value.run_out m' ρ')⟩

/-- The merge of the three mixers: the reference keeps its arguments and declares no semaphore. -/
theorem frame_ref4 : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run m ρ)

/-- The routed experts: the kernel as run keeps its arguments, where its tables name blocks there are. -/
theorem frame5 : Cert.quiescent_Kernel5 (hKernel5 := Cert.Kernel5.Gen.facts) (hPre_bounded := Cert.Pre_bounded.Gen.facts) := fun m ρ hp =>
  Cert.Kernel5.Exp.runs m (Cert.Experts.bounded_of (hp 0)) ρ

/-- The routed experts: the idealised kernel keeps its arguments, where its tables name blocks there are. -/
theorem frame_ideal5 : Cert.quiescent_Kernel5Ideal (hKernel5Ideal := Cert.Kernel5Ideal.Gen.facts) (hPre_bounded := Cert.Pre_bounded.Gen.facts) := fun m ρ hp =>
  Cert.Kernel5Ideal.Exp.runs m (Cert.Experts.bounded_of (hp 0)) ρ

/-- The routed experts: the same under the value claim's precondition. -/
theorem frame_ideal5_routed : Cert.quiescent_Kernel5Ideal_pre_routed (hKernel5Ideal := Cert.Kernel5Ideal.Gen.facts) (hPre_routed := Cert.Pre_routed.Gen.facts) := fun m ρ hp =>
  Cert.Kernel5Ideal.Exp.runs m (Cert.Experts.routed_of (hp 0)).toBounded ρ

/-- The routed experts: the reference keeps its arguments and declares no semaphore. -/
theorem frame_ref5 : Cert.quiescent_Reference5Ideal (hReference5Ideal := Cert.Reference5Ideal.Gen.facts) := fun m ρ _ =>
  (θ_run Cert.Reference5Ideal.defs _ _).mono (fun r h => ⟨fun c => (h c).2,
      Idealize.ShloMosaic.sem_eq_zero_of_no_sems (by decide) r.2⟩)
    (Cert.Reference5Ideal.Value.run m ρ)

/-- The routed experts: the same under the value claim's precondition. -/
theorem frame_ref5_routed : Cert.quiescent_Reference5Ideal_pre_routed (hReference5Ideal := Cert.Reference5Ideal.Gen.facts) (hPre_routed := Cert.Pre_routed.Gen.facts) := fun m ρ _ =>
  frame_ref5 m ρ trivial

/-- The routed experts: at a counted row of a tile the reference's result is what the kernel is to end at. -/
theorem same_rows5 (m : (ℓ : Loc Cert.Kernel5Ideal.nD Cert.Kernel5Ideal.τ Cert.Kernel5Ideal.sig) → Buf (Elt Ideal) ℓ)
    (h : Cert.Kernel5Ideal.Exp.Counted (Cert.Kernel5Ideal.Exp.tabs m)) (k : Fin 41) (s d : Fin 1024) :
    Cert.Reference5Ideal.Read.val_main_v116 (F := Ideal) (m (((0 : Dev Cert.Kernel5Ideal.nD).tc : Thread Cert.Kernel5Ideal.nD Cert.Kernel5Ideal.τ).loc Cert.Kernel5Ideal.main_arg0)) (m (((0 : Dev Cert.Kernel5Ideal.nD).tc : Thread Cert.Kernel5Ideal.nD Cert.Kernel5Ideal.τ).loc Cert.Kernel5Ideal.main_arg1)) (m (((0 : Dev Cert.Kernel5Ideal.nD).tc : Thread Cert.Kernel5Ideal.nD Cert.Kernel5Ideal.τ).loc Cert.Kernel5Ideal.main_arg4)) (m (((0 : Dev Cert.Kernel5Ideal.nD).tc : Thread Cert.Kernel5Ideal.nD Cert.Kernel5Ideal.τ).loc Cert.Kernel5Ideal.main_arg5)) (m (((0 : Dev Cert.Kernel5Ideal.nD).tc : Thread Cert.Kernel5Ideal.nD Cert.Kernel5Ideal.τ).loc Cert.Kernel5Ideal.main_arg6)) (ix2 (Cert.Kernel5Ideal.Exp.outRow k s) d)
      = Cert.Kernel5Ideal.Exp.final m h k s d := by
  have hk : Cert.Reference5Ideal.Read.tileOf (Cert.Kernel5Ideal.Exp.outRow k s) = k := Fin.ext (by
    show (1024 * k.val + s.val) / 1024 = k.val; omega)
  rw [Cert.Reference5Ideal.Read.r_out _ _ _ _ _ _ d (Cert.Kernel5Ideal.Exp.expertOf m h k) (by rw [hk]; rfl)]
  rfl

/-- The routed experts: the two programs end with the same results at the counted rows of the used tiles. -/
theorem algebraic5 : Cert.algebraic_Kernel5Ideal_Reference5Ideal_on_occupied_pre_routed (hKernel5Ideal := Cert.Kernel5Ideal.Gen.facts)
    (hReference5Ideal := Cert.Reference5Ideal.Gen.facts) (hPre_routed := Cert.Pre_routed.Gen.facts) (hOn_occupied := Cert.On_occupied.Gen.facts) := by
  intro m ρ m' ρ' hp hag
  have h : Cert.Kernel5Ideal.Exp.Counted (Cert.Kernel5Ideal.Exp.tabs m) := Cert.Experts.routed_of (hp 0)
  refine ⟨fun c => Cert.Reference5Ideal.Read.val_main_v116 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)), ?_, ?_⟩
  · refine (θ_run Cert.Kernel5Ideal.defs _ _).mono (fun r hr c => ⟨fun i hi => ?_, (hr c).2⟩) (Cert.Kernel5Ideal.Exp.run_out m h ρ)
    have hc : c = 0 := Subsingleton.elim (α := Fin 1) _ _
    subst hc
    obtain ⟨k, s, d, rfl⟩ := Cert.Kernel5Ideal.Exp.out_split i
    have hs := Cert.Experts.occupied_of (Cert.Kernel5Ideal.Exp.outRow k s) d k s rfl hi
    exact ((hr 0).1 k s (Cert.Kernel5Ideal.Exp.lt_count k s hs) d).trans (same_rows5 m h k s d).symm
  · refine (θ_run Cert.Reference5Ideal.defs _ _).mono (fun r hr c => ⟨fun i _ => ?_, (hr c).2⟩) (Cert.Reference5Ideal.Value.run m' ρ')
    obtain ⟨e0, e1, _, _, e4, e5, e6⟩ := hag c
    have h0 : r.2.mem ((c.tc : Thread Cert.Reference5Ideal.nD Cert.Reference5Ideal.τ).loc Cert.Reference5Ideal.main_v116) = Cert.Reference5Ideal.Read.val_main_v116 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) :=
      ((hr c).1).trans (Cert.Reference5Ideal.Read.val_main_v116_eq _)
    rw [e0, e1, e4, e5, e6] at h0
    exact congrFun h0 i

/-- The keys and values of the windowed attention: where the two programs start from the same projected rows, their entries
are the same. -/
theorem same_proj6 (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (h : m' ((c.tc : Thread Cert.Reference6Ideal.nD Cert.Reference6Ideal.τ).loc Cert.Reference6Ideal.main_arg0)
      = m ((c.tc : Thread Cert.Kernel6Ideal.nD Cert.Kernel6Ideal.τ).loc Cert.Kernel6Ideal.main_arg0)) :
    Cert.Reference6Ideal.Value.proj m' c = Cert.Kernel6Ideal.Value.proj m c := by
  unfold Cert.Reference6Ideal.Value.proj
  rw [h]
  rfl

/-- The keys and values of the windowed attention: the two programs end with the same results. -/
theorem algebraic6 : Cert.algebraic_Kernel6Ideal_Reference6Ideal (hKernel6Ideal := Cert.Kernel6Ideal.Gen.facts)
    (hReference6Ideal := Cert.Reference6Ideal.Gen.facts) := fun m ρ m' ρ' _ hag =>
  ⟨_, _, Cert.Kernel6Ideal.Value.run_out m ρ,
    (θ_run Cert.Reference6Ideal.defs _ _).mono (fun r h c => by
      have h' := h c
      rw [same_proj6 m m' c (hag c).1] at h'
      exact h') (Cert.Reference6Ideal.Value.run_out m' ρ')⟩

/-- The keys and values of the windowed attention: the reference keeps its arguments and declares no semaphore. -/
theorem frame_ref6 : Cert.quiescent_Reference6Ideal (hReference6Ideal := Cert.Reference6Ideal.Gen.facts) := fun m ρ _ =>
  (θ_run Cert.Reference6Ideal.defs _ _).mono (fun r h => ⟨fun c => (h c).2.2,
      Idealize.ShloMosaic.sem_eq_zero_of_no_sems (by decide) r.2⟩)
    (Cert.Reference6Ideal.Value.run m ρ)

/-- The modulation of the first layer: the two programs are read off the same arguments. -/
theorem same7 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev Cert.Kernel7Ideal.nD)
    (h : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) :
    Cert.Reference7Ideal.Value.cond m' c = Cert.Kernel7Ideal.Value.cond m c
    ∧ Cert.Reference7Ideal.Value.wts m' c = Cert.Kernel7Ideal.Value.wts m c
    ∧ Cert.Reference7Ideal.Value.bias m' c = Cert.Kernel7Ideal.Value.bias m c := by
  obtain ⟨e0, e1, e2⟩ := h
  refine ⟨?_, ?_, ?_⟩
  · unfold Cert.Reference7Ideal.Value.cond
    rw [e0]
    rfl
  · unfold Cert.Reference7Ideal.Value.wts
    rw [e1]
    rfl
  · unfold Cert.Reference7Ideal.Value.bias
    rw [e2]
    rfl

/-- The modulation of the first layer: the two programs end with the same results. -/
theorem algebraic7 : Cert.algebraic_Kernel7Ideal_Reference7Ideal (hKernel7Ideal := Cert.Kernel7Ideal.Gen.facts)
    (hReference7Ideal := Cert.Reference7Ideal.Gen.facts) := fun m ρ m' ρ' _ hag =>
  ⟨_, Cert.Kernel7Ideal.Value.run_out m ρ,
    (θ_run Cert.Reference7Ideal.defs _ _).mono (fun r h c => by
      have h' := h c
      obtain ⟨s0, s1, s2⟩ := same7 m m' c (hag c)
      rw [s0, s1, s2] at h'
      exact h') (Cert.Reference7Ideal.Value.run_out m' ρ')⟩

/-- The modulation of the first layer: the reference keeps its arguments and declares no semaphore. -/
theorem frame_ref7 : Cert.quiescent_Reference7Ideal (hReference7Ideal := Cert.Reference7Ideal.Gen.facts) := fun m ρ _ =>
  (θ_run Cert.Reference7Ideal.defs _ _).mono (fun r h => ⟨fun c => (h c).2,
      Idealize.ShloMosaic.sem_eq_zero_of_no_sems (by decide) r.2⟩)
    (Cert.Reference7Ideal.Value.run m ρ)

/-- The parts of the first layer's input weights: the two programs are read off the same arguments. -/
theorem same8 (m : (ℓ : Loc Cert.Kernel8Ideal.nD Cert.Kernel8Ideal.τ Cert.Kernel8Ideal.sig) → Buf (Elt Ideal) ℓ)
    (m' : (ℓ : Loc Cert.Reference8Ideal.nD Cert.Reference8Ideal.τ Cert.Reference8Ideal.sig) → Buf (Elt Ideal) ℓ) (c : Dev Cert.Kernel8Ideal.nD)
    (h : m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) :
    Cert.Reference8Ideal.Value.wts m' c = Cert.Kernel8Ideal.Value.wts m c := by
  unfold Cert.Reference8Ideal.Value.wts
  rw [h]
  rfl

/-- The parts of the first layer's input weights: the two programs end with the same results. -/
theorem algebraic8 : Cert.algebraic_Kernel8Ideal_Reference8Ideal (hKernel8Ideal := Cert.Kernel8Ideal.Gen.facts)
    (hReference8Ideal := Cert.Reference8Ideal.Gen.facts) := fun m ρ m' ρ' _ hag =>
  ⟨_, _, _, Cert.Kernel8Ideal.Value.run_out m ρ,
    (θ_run Cert.Reference8Ideal.defs _ _).mono (fun r h c => by
      have h' := h c
      rw [same8 m m' c (hag c)] at h'
      exact h') (Cert.Reference8Ideal.Value.run_out m' ρ')⟩

/-- The parts of the first layer's input weights: the reference keeps its arguments and declares no semaphore. -/
theorem frame_ref8 : Cert.quiescent_Reference8Ideal (hReference8Ideal := Cert.Reference8Ideal.Gen.facts) := fun m ρ _ =>
  (θ_run Cert.Reference8Ideal.defs _ _).mono (fun r h => ⟨fun c => (h c).2.2.2,
      Idealize.ShloMosaic.sem_eq_zero_of_no_sems (by decide) r.2⟩)
    (Cert.Reference8Ideal.Value.run m ρ)

/-- The modulation of the second layer: the two programs are read off the same arguments. -/
theorem same9 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev Cert.Kernel9Ideal.nD)
    (h : m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) :
    Cert.Reference9Ideal.Value.cond m' c = Cert.Kernel9Ideal.Value.cond m c
    ∧ Cert.Reference9Ideal.Value.wts m' c = Cert.Kernel9Ideal.Value.wts m c
    ∧ Cert.Reference9Ideal.Value.bias m' c = Cert.Kernel9Ideal.Value.bias m c := by
  obtain ⟨e0, e1, e2⟩ := h
  refine ⟨?_, ?_, ?_⟩
  · unfold Cert.Reference9Ideal.Value.cond
    rw [e0]
    rfl
  · unfold Cert.Reference9Ideal.Value.wts
    rw [e1]
    rfl
  · unfold Cert.Reference9Ideal.Value.bias
    rw [e2]
    rfl

/-- The modulation of the second layer: the two programs end with the same results. -/
theorem algebraic9 : Cert.algebraic_Kernel9Ideal_Reference9Ideal (hKernel9Ideal := Cert.Kernel9Ideal.Gen.facts)
    (hReference9Ideal := Cert.Reference9Ideal.Gen.facts) := fun m ρ m' ρ' _ hag =>
  ⟨_, Cert.Kernel9Ideal.Value.run_out m ρ,
    (θ_run Cert.Reference9Ideal.defs _ _).mono (fun r h c => by
      have h' := h c
      obtain ⟨s0, s1, s2⟩ := same9 m m' c (hag c)
      rw [s0, s1, s2] at h'
      exact h') (Cert.Reference9Ideal.Value.run_out m' ρ')⟩

/-- The modulation of the second layer: the reference keeps its arguments and declares no semaphore. -/
theorem frame_ref9 : Cert.quiescent_Reference9Ideal (hReference9Ideal := Cert.Reference9Ideal.Gen.facts) := fun m ρ _ =>
  (θ_run Cert.Reference9Ideal.defs _ _).mono (fun r h => ⟨fun c => (h c).2,
      Idealize.ShloMosaic.sem_eq_zero_of_no_sems (by decide) r.2⟩)
    (Cert.Reference9Ideal.Value.run m ρ)

/-- The parts of the second layer's input weights: the two programs are read off the same arguments. -/
theorem same10 (m : (ℓ : Loc Cert.Kernel10Ideal.nD Cert.Kernel10Ideal.τ Cert.Kernel10Ideal.sig) → Buf (Elt Ideal) ℓ)
    (m' : (ℓ : Loc Cert.Reference10Ideal.nD Cert.Reference10Ideal.τ Cert.Reference10Ideal.sig) → Buf (Elt Ideal) ℓ) (c : Dev Cert.Kernel10Ideal.nD)
    (h : m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) :
    Cert.Reference10Ideal.Value.wts m' c = Cert.Kernel10Ideal.Value.wts m c := by
  unfold Cert.Reference10Ideal.Value.wts
  rw [h]
  rfl

/-- The parts of the second layer's input weights: the two programs end with the same results. -/
theorem algebraic10 : Cert.algebraic_Kernel10Ideal_Reference10Ideal (hKernel10Ideal := Cert.Kernel10Ideal.Gen.facts)
    (hReference10Ideal := Cert.Reference10Ideal.Gen.facts) := fun m ρ m' ρ' _ hag =>
  ⟨_, _, _, Cert.Kernel10Ideal.Value.run_out m ρ,
    (θ_run Cert.Reference10Ideal.defs _ _).mono (fun r h c => by
      have h' := h c
      rw [same10 m m' c (hag c)] at h'
      exact h') (Cert.Reference10Ideal.Value.run_out m' ρ')⟩

/-- The parts of the second layer's input weights: the reference keeps its arguments and declares no semaphore. -/
theorem frame_ref10 : Cert.quiescent_Reference10Ideal (hReference10Ideal := Cert.Reference10Ideal.Gen.facts) := fun m ρ _ =>
  (θ_run Cert.Reference10Ideal.defs _ _).mono (fun r h => ⟨fun c => (h c).2.2.2,
      Idealize.ShloMosaic.sem_eq_zero_of_no_sems (by decide) r.2⟩)
    (Cert.Reference10Ideal.Value.run m ρ)

/-- The rows that the experts take: the two programs are read off the same arguments. -/
theorem same11 (m : (ℓ : Loc Cert.Kernel11Ideal.nD Cert.Kernel11Ideal.τ Cert.Kernel11Ideal.sig) → Buf (Elt Ideal) ℓ)
    (m' : (ℓ : Loc Cert.Reference11Ideal.nD Cert.Reference11Ideal.τ Cert.Reference11Ideal.sig) → Buf (Elt Ideal) ℓ) (c : Dev Cert.Kernel11Ideal.nD)
    (h0 : m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0))
    (h1 : m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1))
    (h2 : m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) :
    Cert.Reference11Ideal.Value.strm m' c = Cert.Kernel11Ideal.Value.strm m c
    ∧ Cert.Reference11Ideal.Value.modu m' c = Cert.Kernel11Ideal.Value.modu m c
    ∧ Cert.Reference11Ideal.Value.gain m' c = Cert.Kernel11Ideal.Value.gain m c := by
  refine ⟨?_, ?_, ?_⟩
  · unfold Cert.Reference11Ideal.Value.strm
    rw [h0]
    rfl
  · unfold Cert.Reference11Ideal.Value.modu
    rw [h1]
    rfl
  · unfold Cert.Reference11Ideal.Value.gain
    rw [h2]
    rfl

/-- The rows that the experts take: the two programs end with the same rows. -/
theorem algebraic11 : Cert.algebraic_Kernel11Ideal_Reference11Ideal (hKernel11Ideal := Cert.Kernel11Ideal.Gen.facts)
    (hReference11Ideal := Cert.Reference11Ideal.Gen.facts) := fun m ρ m' ρ' _ hag =>
  ⟨_, Cert.Kernel11Ideal.Value.run_out m ρ,
    (θ_run Cert.Reference11Ideal.defs _ _).mono (fun r h c => by
      have h' := h c
      obtain ⟨s0, s1, s2⟩ := same11 m m' c (hag c).1 (hag c).2.1 (hag c).2.2.1
      rw [s0, s1, s2] at h'
      exact h') (Cert.Reference11Ideal.Value.run_out m' ρ')⟩

/-- The rows that the experts take: the reference keeps its arguments and declares no semaphore. -/
theorem frame_ref11 : Cert.quiescent_Reference11Ideal (hReference11Ideal := Cert.Reference11Ideal.Gen.facts) := fun m ρ _ =>
  (θ_run Cert.Reference11Ideal.defs _ _).mono (fun r h => ⟨fun c => (h c).2,
      Idealize.ShloMosaic.sem_eq_zero_of_no_sems (by decide) r.2⟩)
    (Cert.Reference11Ideal.Value.run m ρ)

/-- The frames, the idealisations and the value claims of the eleven programs. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_bounded.Gen.facts, Cert.Pre_routed.Gen.facts, Cert.On_occupied.Gen.facts,
  fun m ρ _ => Cert.Kernel.Gen.frame m ρ, fun m ρ _ => Cert.KernelIdeal.Gen.frame m ρ, frame_ref,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  frame5, frame_ideal5, frame_ideal5_routed, frame_ref5, frame_ref5_routed,
  fun m ρ _ => Cert.Kernel6.Gen.frame m ρ, fun m ρ _ => Cert.Kernel6Ideal.Gen.frame m ρ, frame_ref6,
  fun m ρ _ => Cert.Kernel7.Gen.frame m ρ, fun m ρ _ => Cert.Kernel7Ideal.Gen.frame m ρ, frame_ref7,
  fun m ρ _ => Cert.Kernel8.Gen.frame m ρ, fun m ρ _ => Cert.Kernel8Ideal.Gen.frame m ρ, frame_ref8,
  fun m ρ _ => Cert.Kernel9.Gen.frame m ρ, fun m ρ _ => Cert.Kernel9Ideal.Gen.frame m ρ, frame_ref9,
  fun m ρ _ => Cert.Kernel10.Gen.frame m ρ, fun m ρ _ => Cert.Kernel10Ideal.Gen.frame m ρ, frame_ref10,
  fun m ρ _ => Cert.Kernel11.Gen.frame m ρ, fun m ρ _ => Cert.Kernel11Ideal.Gen.frame m ρ, frame_ref11,
  trivial, algebraic, trivial, algebraic2, trivial, algebraic3, trivial, algebraic4, trivial, algebraic5, trivial, algebraic6,
  trivial, algebraic7, trivial, algebraic8, trivial, algebraic9, trivial, algebraic10, trivial, algebraic11⟩

end Cert.Proof

end
